-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 1024, 128, 128]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 1024, 128, 128]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x16384 : Shape := ⟨2, ![1024, 16384]⟩
abbrev S1x1024x8x128 : Shape := ⟨4, ![1, 1024, 8, 128]⟩
abbrev S16384x1024 : Shape := ⟨2, ![16384, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn {F : FTy → Type} [FloatOps F] (main_arg0 : FVec F S1x1024x1024 .f32) (main_arg1 : FVec F S1024x16384 .f32) (main_arg2 : FVec F S1x1024x8x128 .f32) (main_arg3 : FVec F S1x1024x8x128 .f32) (main_arg4 : FVec F S16384x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1x1024x8x128 .f32 := Host.absf main_arg2
  let main_cst_2 : FVec F S_ .f32 := constant S_ .f32 0x7F800000#32
  let main_v10 : FVec F S1x1024x8x128 .f32 := broadcastInDim S1x1024x8x128 ![] bcast_S_S1x1024x8x128 main_cst_2
  let main_v11 : IVec S1x1024x8x128 1 := cmpf .olt main_v9 main_v10
  let main_c_3 : IVec S_ 1 := constantI S_ 1 1#1
  let main_v12 : IVec S_ 1 := (fun x v => Host.reduce IntOp.andi x v reducesTo_S1x1024x8x128_S_d0_1_2_3 h_S_) main_v11 main_c_3
  let main_v13 : IVec S_ 1 := andi main_v8 main_v12
  main_v13
-- ==== Pre_finite_ReferenceIdeal.lean ====
abbrev S1x1024x1024 : Shape := ⟨3, ![1, 1024, 1024]⟩
abbrev S1024x16384 : Shape := ⟨2, ![1024, 16384]⟩
abbrev S1x1024x128x128 : Shape := ⟨4, ![1, 1024, 128, 128]⟩
abbrev S16384x1024 : Shape := ⟨2, ![16384, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x1024x128x128 : S_.BroadcastsInDim S1x1024x128x128 (![] : Fin 0 → Fin S1x1024x128x128.rank)
  reducesTo_S1x1024x128x128_S_d0_1_2_3 : S1x1024x128x128.ReducesTo [0, 1, 2, 3] S_

variable [Facts]

def fn {F : FTy → Type} [FloatOps F] (main_arg0 : FVec F S1x1024x1024 .f32) (main_arg1 : FVec F S1024x16384 .f32) (main_arg2 : FVec F S1x1024x128x128 .f32) (main_arg3 : FVec F S1x1024x128x128 .f32) (main_arg4 : FVec F S16384x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1x1024x128x128 .f32 := Host.absf main_arg2
  let main_cst_2 : FVec F S_ .f32 := constant S_ .f32 0x7F800000#32
  let main_v10 : FVec F S1x1024x128x128 .f32 := broadcastInDim S1x1024x128x128 ![] bcast_S_S1x1024x128x128 main_cst_2
  let main_v11 : IVec S1x1024x128x128 1 := cmpf .olt main_v9 main_v10
  let main_c_3 : IVec S_ 1 := constantI S_ 1 1#1
  let main_v12 : IVec S_ 1 := (fun x v => Host.reduce IntOp.andi x v reducesTo_S1x1024x128x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x16384 : Shape := ⟨2, ![1024, 16384]⟩
abbrev S1x1024x8x128 : Shape := ⟨4, ![1, 1024, 8, 128]⟩
abbrev S16384x1024 : Shape := ⟨2, ![16384, 1024]⟩
abbrev S1024x1024 : Shape := ⟨2, ![1024, 1024]⟩
abbrev S2x1024x128 : Shape := ⟨3, ![2, 1024, 128]⟩
abbrev S2x256x512 : Shape := ⟨3, ![2, 256, 512]⟩
abbrev S4x128x1024 : Shape := ⟨3, ![4, 128, 1024]⟩
abbrev S4x2 : Shape := ⟨2, ![4, 2]⟩
abbrev S2x4 : Shape := ⟨2, ![2, 4]⟩
abbrev S6 : Shape := ⟨1, ![6]⟩
abbrev S1 : Shape := ⟨1, ![1]⟩
abbrev S_ : Shape := ⟨0, ![]⟩
abbrev S1x1024x128 : Shape := ⟨3, ![1, 1024, 128]⟩
abbrev S1024x128 : Shape := ⟨2, ![1024, 128]⟩
abbrev S1x1024x1x128 : Shape := ⟨4, ![1, 1024, 1, 128]⟩
abbrev S1024 : Shape := ⟨1, ![1024]⟩
abbrev S1024x1 : Shape := ⟨2, ![1024, 1]⟩
abbrev S1x256x512 : Shape := ⟨3, ![1, 256, 512]⟩
abbrev S256x512 : Shape := ⟨2, ![256, 512]⟩
abbrev S1x1 : Shape := ⟨2, ![1, 1]⟩
abbrev S1x128x512 : Shape := ⟨3, ![1, 128, 512]⟩
abbrev S128x512 : Shape := ⟨2, ![128, 512]⟩
abbrev S1x128x1024 : Shape := ⟨3, ![1, 128, 1024]⟩
abbrev S128x1024 : Shape := ⟨2, ![128, 1024]⟩
abbrev S1x64x512 : Shape := ⟨3, ![1, 64, 512]⟩
abbrev S64x512 : Shape := ⟨2, ![64, 512]⟩
abbrev S1x64x1024 : Shape := ⟨3, ![1, 64, 1024]⟩
abbrev S64x1024 : Shape := ⟨2, ![64, 1024]⟩

abbrev nBuf : Space → Nat
  | .hbm => 6
  | .vmem => 17
  | .smem => 0
  | _ => 0

abbrev bufTy : (tb : Table) → Fin (tcTables nBuf tb) → BufTy
  | .hbm, ⟨0, _⟩ => ⟨S1x1024x1024, .f32⟩
  | .hbm, ⟨1, _⟩ => ⟨S1024x16384, .f32⟩
  | .hbm, ⟨2, _⟩ => ⟨S1x1024x8x128, .f32⟩
  | .hbm, ⟨3, _⟩ => ⟨S1x1024x8x128, .f32⟩
  | .hbm, ⟨4, _⟩ => ⟨S16384x1024, .f32⟩
  | .hbm, ⟨5, _⟩ => ⟨S1x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .f32⟩
  | .local _ .vmem, ⟨3, _⟩ => ⟨S1024x1024, .f32⟩
  | .local _ .vmem, ⟨4, _⟩ => ⟨S2x1024x128, .f32⟩
  | .local _ .vmem, ⟨5, _⟩ => ⟨S2x1024x128, .f32⟩
  | .local _ .vmem, ⟨6, _⟩ => ⟨S1024x1024, .bf16⟩
  | .local _ .vmem, ⟨7, _⟩ => ⟨S2x256x512, .bf16⟩
  | .local _ .vmem, ⟨8, _⟩ => ⟨S2x256x512, .bf16⟩
  | .local _ .vmem, ⟨9, _⟩ => ⟨S2x256x512, .bf16⟩
  | .local _ .vmem, ⟨10, _⟩ => ⟨S2x256x512, .bf16⟩
  | .local _ .vmem, ⟨11, _⟩ => ⟨S4x128x1024, .bf16⟩
  | .local _ .vmem, ⟨12, _⟩ => ⟨S4x128x1024, .bf16⟩
  | .local _ .vmem, ⟨13, _⟩ => ⟨S2x256x512, .bf16⟩
  | .local _ .vmem, ⟨14, _⟩ => ⟨S2x256x512, .bf16⟩
  | .local _ .vmem, ⟨15, _⟩ => ⟨S2x256x512, .bf16⟩
  | .local _ .vmem, ⟨16, _⟩ => ⟨S2x256x512, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_scratch13 : Ref sig .tc := ⟨.vmem, 15, rfl⟩
abbrev cc0_scratch14 : Ref sig .tc := ⟨.vmem, 16, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1024_i32 : BitVec 32 := 1024#32
  let v58 : BitVec 32 := Scalar.muli v2 c1024_i32
  ![0, v58.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1024_i32_25 : BitVec 32 := 1024#32
  let v59 : BitVec 32 := Scalar.muli v2 c1024_i32_25
  let c0_i32_29 : BitVec 32 := 0#32
  ![v59.toNat, 0]
def k0_dev1 (d0 : Dev nD) : Nat :=
  let c0_i32_48 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_47 : BitVec 32 := 1#32
  let v79 : BitVec 32 := Scalar.muli v28 c1_i32_47
  let v80 : BitVec 32 := Scalar.addi c0_i32_48 v79
  v80.toNat
def k0_dev2 (d0 : Dev nD) : Nat :=
  let c0_i32_51 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_50 : BitVec 32 := 1#32
  let v81 : BitVec 32 := Scalar.muli v24 c1_i32_50
  let v82 : BitVec 32 := Scalar.addi c0_i32_51 v81
  v82.toNat
def k0_dev3 (d0 : Dev nD) : Nat :=
  let c0_i32_54 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_19 : BitVec 32 := 1#32
  let v48 : BitVec 32 := Scalar.addi v20 c1_i32_19
  let c2_i32_20 : BitVec 32 := 2#32
  let c2_i32 : BitVec 32 := 2#32
  let v29 : BitVec 32 := Scalar.remsi v20 c2_i32
  let v49 : BitVec 32 := Scalar.muli c2_i32_20 v29
  let v50 : BitVec 32 := Scalar.subi v48 v49
  let v51 : BitVec 32 := Scalar.muli c4_i32_21 v50
  let c4_i32 : BitVec 32 := 4#32
  let v3 : BitVec 32 := Scalar.remsi v2 c4_i32
  let v52 : BitVec 32 := Scalar.addi v51 v3
  let c1_i32_53 : BitVec 32 := 1#32
  let v83 : BitVec 32 := Scalar.muli v52 c1_i32_53
  let v84 : BitVec 32 := Scalar.addi c0_i32_54 v83
  v84.toNat
def k0_dev4 (d0 : Dev nD) : Nat :=
  let c0_i32_57 : BitVec 32 := 0#32
  let c4_i32_24 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_22 : BitVec 32 := 2#32
  let v53 : BitVec 32 := Scalar.addi v20 c2_i32_22
  let c4_i32_23 : BitVec 32 := 4#32
  let c0_i32_12 : BitVec 32 := 0#32
  let v31 : BitVec 1 := Scalar.cmpi .sgt v20 c0_i32_12
  let v32 : BitVec 32 := Scalar.extui v31
  let c0_i32_13 : BitVec 32 := 0#32
  let v33 : BitVec 1 := Scalar.cmpi .slt v20 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi v20 c2_i32_11
  let c0_i32_16 : BitVec 32 := 0#32
  let v43 : BitVec 1 := Scalar.cmpi .ne v42 c0_i32_16
  let v44 : BitVec 1 := Scalar.andi v41 v43
  let v30 : BitVec 32 := Scalar.divsi v20 c2_i32_11
  let c1_i32_17 : BitVec 32 := 1#32
  let v45 : BitVec 32 := Scalar.subi v30 c1_i32_17
  let v46 : BitVec 32 := Scalar.select v44 v45 v30
  let c2_i32_18 : BitVec 32 := 2#32
  let v47 : BitVec 32 := Scalar.remsi v46 c2_i32_18
  let v54 : BitVec 32 := Scalar.muli c4_i32_23 v47
  let v55 : BitVec 32 := Scalar.subi v53 v54
  let v56 : BitVec 32 := Scalar.muli c4_i32_24 v55
  let c4_i32 : BitVec 32 := 4#32
  let v3 : BitVec 32 := Scalar.remsi v2 c4_i32
  let v57 : BitVec 32 := Scalar.addi v56 v3
  let c1_i32_56 : BitVec 32 := 1#32
  let v85 : BitVec 32 := Scalar.muli v57 c1_i32_56
  let v86 : BitVec 32 := Scalar.addi c0_i32_57 v85
  v86.toNat
def k0_off3 (d0 : Dev nD) : Fin 3 → Nat :=
  let c0_426 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c256_i32 : BitVec 32 := 256#32
  let v549 : BitVec 32 := Scalar.muli v3 c256_i32
  let v550 : Index := Scalar.indexCast v549
  let c0_427 : Index := 0#32
  ![0, v550.toNat, 0]
def k0_off4 (d0 : Dev nD) : Fin 3 → Nat :=
  let c0_432 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c256_i32_431 : BitVec 32 := 256#32
  let v557 : BitVec 32 := Scalar.muli v3 c256_i32_431
  let v558 : Index := Scalar.indexCast v557
  let c512_433 : Index := 512#32
  ![0, v558.toNat, 512]
def k0_dev5 (d0 : Dev nD) : Nat :=
  let c0_i32_444 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_443 : BitVec 32 := 1#32
  let v565 : BitVec 32 := Scalar.muli v24 c1_i32_443
  let v566 : BitVec 32 := Scalar.addi c0_i32_444 v565
  v566.toNat
def k0_dev6 (d0 : Dev nD) : Nat :=
  let c0_i32_456 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_455 : BitVec 32 := 1#32
  let v575 : BitVec 32 := Scalar.muli v28 c1_i32_455
  let v576 : BitVec 32 := Scalar.addi c0_i32_456 v575
  v576.toNat
def k0_off5 (d0 : Dev nD) (c7_i32_507 : BitVec 32) (c0_i32_508 : BitVec 32) : Fin 3 → Nat :=
  let c0_517 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v613 : BitVec 32 := Scalar.addi v3 c7_i32_507
  let v614 : BitVec 32 := Scalar.subi v613 c0_i32_508
  let c4_i32_509 : BitVec 32 := 4#32
  let v615 : BitVec 32 := Scalar.remsi v614 c4_i32_509
  let c256_i32_516 : BitVec 32 := 256#32
  let v622 : BitVec 32 := Scalar.muli v615 c256_i32_516
  let v623 : Index := Scalar.indexCast v622
  let c0_518 : Index := 0#32
  ![0, v623.toNat, 0]
def k0_off6 (d0 : Dev nD) (c0_i32_511 : BitVec 32) : Fin 3 → Nat :=
  let c0_523 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_510 : BitVec 32 := 1#32
  let v616 : BitVec 32 := Scalar.addi v3 c1_i32_510
  let v617 : BitVec 32 := Scalar.addi v616 c0_i32_511
  let c4_i32_512 : BitVec 32 := 4#32
  let v618 : BitVec 32 := Scalar.remsi v617 c4_i32_512
  let c256_i32_522 : BitVec 32 := 256#32
  let v630 : BitVec 32 := Scalar.muli v618 c256_i32_522
  let v631 : Index := Scalar.indexCast v630
  let c512_524 : Index := 512#32
  ![0, v631.toNat, 512]
def k0_dev7 (d0 : Dev nD) : Nat :=
  let c0_i32_538 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_537 : BitVec 32 := 1#32
  let v643 : BitVec 32 := Scalar.muli v24 c1_i32_537
  let v644 : BitVec 32 := Scalar.addi c0_i32_538 v643
  v644.toNat
def k0_dev8 (d0 : Dev nD) : Nat :=
  let c0_i32_550 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_549 : BitVec 32 := 1#32
  let v653 : BitVec 32 := Scalar.muli v28 c1_i32_549
  let v654 : BitVec 32 := Scalar.addi c0_i32_550 v653
  v654.toNat
def k0_dev9 (d0 : Dev nD) : Nat :=
  let c0_i32_632 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_631 : BitVec 32 := 1#32
  let v721 : BitVec 32 := Scalar.muli v24 c1_i32_631
  let v722 : BitVec 32 := Scalar.addi c0_i32_632 v721
  v722.toNat
def k0_dev10 (d0 : Dev nD) : Nat :=
  let c0_i32_644 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_643 : BitVec 32 := 1#32
  let v731 : BitVec 32 := Scalar.muli v28 c1_i32_643
  let v732 : BitVec 32 := Scalar.addi c0_i32_644 v731
  v732.toNat
def k0_off7 (d0 : Dev nD) : Fin 3 → Nat :=
  let c0_730 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_719 : BitVec 32 := 1#32
  let v801 : BitVec 32 := Scalar.addi v3 c1_i32_719
  let c4_i32_720 : BitVec 32 := 4#32
  let v802 : BitVec 32 := Scalar.remsi v801 c4_i32_720
  let c256_i32_721 : BitVec 32 := 256#32
  let v803 : BitVec 32 := Scalar.muli v802 c256_i32_721
  let c1_i32_725 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32 : BitVec 32 := 2#32
  let v29 : BitVec 32 := Scalar.remsi v20 c2_i32
  let v808 : BitVec 32 := Scalar.subi c1_i32_725 v29
  let c128_i32_726 : BitVec 32 := 128#32
  let v809 : BitVec 32 := Scalar.muli v808 c128_i32_726
  let v815 : BitVec 32 := Scalar.addi v803 v809
  let v816 : Index := Scalar.indexCast v815
  let c0_731 : Index := 0#32
  ![0, v816.toNat, 0]
def k0_off8 (d0 : Dev nD) : Fin 3 → Nat :=
  let c0_735 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32_722 : BitVec 32 := 3#32
  let v804 : BitVec 32 := Scalar.addi v3 c3_i32_722
  let c4_i32_723 : BitVec 32 := 4#32
  let v805 : BitVec 32 := Scalar.remsi v804 c4_i32_723
  let c256_i32_724 : BitVec 32 := 256#32
  let v806 : BitVec 32 := Scalar.muli v805 c256_i32_724
  let c1_i32_725 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32 : BitVec 32 := 2#32
  let v29 : BitVec 32 := Scalar.remsi v20 c2_i32
  let v808 : BitVec 32 := Scalar.subi c1_i32_725 v29
  let c128_i32_726 : BitVec 32 := 128#32
  let v809 : BitVec 32 := Scalar.muli v808 c128_i32_726
  let v823 : BitVec 32 := Scalar.addi v806 v809
  let v824 : Index := Scalar.indexCast v823
  let c512_736 : Index := 512#32
  ![0, v824.toNat, 512]
def k0_dev11 (d0 : Dev nD) : Nat :=
  let c0_i32_747 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_19 : BitVec 32 := 1#32
  let v48 : BitVec 32 := Scalar.addi v20 c1_i32_19
  let c2_i32_20 : BitVec 32 := 2#32
  let c2_i32 : BitVec 32 := 2#32
  let v29 : BitVec 32 := Scalar.remsi v20 c2_i32
  let v49 : BitVec 32 := Scalar.muli c2_i32_20 v29
  let v50 : BitVec 32 := Scalar.subi v48 v49
  let v51 : BitVec 32 := Scalar.muli c4_i32_21 v50
  let c4_i32 : BitVec 32 := 4#32
  let v3 : BitVec 32 := Scalar.remsi v2 c4_i32
  let v52 : BitVec 32 := Scalar.addi v51 v3
  let c1_i32_746 : BitVec 32 := 1#32
  let v831 : BitVec 32 := Scalar.muli v52 c1_i32_746
  let v832 : BitVec 32 := Scalar.addi c0_i32_747 v831
  v832.toNat
def k0_off9 (d0 : Dev nD) : Fin 3 → Nat :=
  let c0_775 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_719 : BitVec 32 := 1#32
  let v801 : BitVec 32 := Scalar.addi v3 c1_i32_719
  let c4_i32_720 : BitVec 32 := 4#32
  let v802 : BitVec 32 := Scalar.remsi v801 c4_i32_720
  let c256_i32_721 : BitVec 32 := 256#32
  let v803 : BitVec 32 := Scalar.muli v802 c256_i32_721
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32 : BitVec 32 := 2#32
  let v29 : BitVec 32 := Scalar.remsi v20 c2_i32
  let c128_i32 : BitVec 32 := 128#32
  let v807 : BitVec 32 := Scalar.muli v29 c128_i32
  let v855 : BitVec 32 := Scalar.addi v803 v807
  let v856 : Index := Scalar.indexCast v855
  let c0_776 : Index := 0#32
  ![0, v856.toNat, 0]
def k0_off10 (d0 : Dev nD) : Fin 3 → Nat :=
  let c0_782 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32_722 : BitVec 32 := 3#32
  let v804 : BitVec 32 := Scalar.addi v3 c3_i32_722
  let c4_i32_723 : BitVec 32 := 4#32
  let v805 : BitVec 32 := Scalar.remsi v804 c4_i32_723
  let c256_i32_724 : BitVec 32 := 256#32
  let v806 : BitVec 32 := Scalar.muli v805 c256_i32_724
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32 : BitVec 32 := 2#32
  let v29 : BitVec 32 := Scalar.remsi v20 c2_i32
  let c128_i32 : BitVec 32 := 128#32
  let v807 : BitVec 32 := Scalar.muli v29 c128_i32
  let v868 : BitVec 32 := Scalar.addi v806 v807
  let v869 : Index := Scalar.indexCast v868
  let c512_783 : Index := 512#32
  ![0, v869.toNat, 512]
def k0_off11 (d0 : Dev nD) : Fin 3 → Nat :=
  let c0_789 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_719 : BitVec 32 := 1#32
  let v801 : BitVec 32 := Scalar.addi v3 c1_i32_719
  let c4_i32_720 : BitVec 32 := 4#32
  let v802 : BitVec 32 := Scalar.remsi v801 c4_i32_720
  let c256_i32_721 : BitVec 32 := 256#32
  let v803 : BitVec 32 := Scalar.muli v802 c256_i32_721
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32 : BitVec 32 := 2#32
  let v29 : BitVec 32 := Scalar.remsi v20 c2_i32
  let c128_i32 : BitVec 32 := 128#32
  let v807 : BitVec 32 := Scalar.muli v29 c128_i32
  let c1_i32_728 : BitVec 32 := 1#32
  let c0_i32_12 : BitVec 32 := 0#32
  let v31 : BitVec 1 := Scalar.cmpi .sgt v20 c0_i32_12
  let v32 : BitVec 32 := Scalar.extui v31
  let c0_i32_13 : BitVec 32 := 0#32
  let v33 : BitVec 1 := Scalar.cmpi .slt v20 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi v20 c2_i32_11
  let c0_i32_16 : BitVec 32 := 0#32
  let v43 : BitVec 1 := Scalar.cmpi .ne v42 c0_i32_16
  let v44 : BitVec 1 := Scalar.andi v41 v43
  let v30 : BitVec 32 := Scalar.divsi v20 c2_i32_11
  let c1_i32_17 : BitVec 32 := 1#32
  let v45 : BitVec 32 := Scalar.subi v30 c1_i32_17
  let v46 : BitVec 32 := Scalar.select v44 v45 v30
  let c2_i32_18 : BitVec 32 := 2#32
  let v47 : BitVec 32 := Scalar.remsi v46 c2_i32_18
  let v812 : BitVec 32 := Scalar.subi c1_i32_728 v47
  let c64_i32_729 : BitVec 32 := 64#32
  let v813 : BitVec 32 := Scalar.muli v812 c64_i32_729
  let v814 : BitVec 32 := Scalar.addi v807 v813
  let v881 : BitVec 32 := Scalar.addi v803 v814
  let v882 : Index := Scalar.indexCast v881
  let c0_790 : Index := 0#32
  ![0, v882.toNat, 0]
def k0_off12 (d0 : Dev nD) : Fin 3 → Nat :=
  let c0_794 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32_722 : BitVec 32 := 3#32
  let v804 : BitVec 32 := Scalar.addi v3 c3_i32_722
  let c4_i32_723 : BitVec 32 := 4#32
  let v805 : BitVec 32 := Scalar.remsi v804 c4_i32_723
  let c256_i32_724 : BitVec 32 := 256#32
  let v806 : BitVec 32 := Scalar.muli v805 c256_i32_724
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32 : BitVec 32 := 2#32
  let v29 : BitVec 32 := Scalar.remsi v20 c2_i32
  let c128_i32 : BitVec 32 := 128#32
  let v807 : BitVec 32 := Scalar.muli v29 c128_i32
  let c1_i32_728 : BitVec 32 := 1#32
  let c0_i32_12 : BitVec 32 := 0#32
  let v31 : BitVec 1 := Scalar.cmpi .sgt v20 c0_i32_12
  let v32 : BitVec 32 := Scalar.extui v31
  let c0_i32_13 : BitVec 32 := 0#32
  let v33 : BitVec 1 := Scalar.cmpi .slt v20 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi v20 c2_i32_11
  let c0_i32_16 : BitVec 32 := 0#32
  let v43 : BitVec 1 := Scalar.cmpi .ne v42 c0_i32_16
  let v44 : BitVec 1 := Scalar.andi v41 v43
  let v30 : BitVec 32 := Scalar.divsi v20 c2_i32_11
  let c1_i32_17 : BitVec 32 := 1#32
  let v45 : BitVec 32 := Scalar.subi v30 c1_i32_17
  let v46 : BitVec 32 := Scalar.select v44 v45 v30
  let c2_i32_18 : BitVec 32 := 2#32
  let v47 : BitVec 32 := Scalar.remsi v46 c2_i32_18
  let v812 : BitVec 32 := Scalar.subi c1_i32_728 v47
  let c64_i32_729 : BitVec 32 := 64#32
  let v813 : BitVec 32 := Scalar.muli v812 c64_i32_729
  let v814 : BitVec 32 := Scalar.addi v807 v813
  let v889 : BitVec 32 := Scalar.addi v806 v814
  let v890 : Index := Scalar.indexCast v889
  let c512_795 : Index := 512#32
  ![0, v890.toNat, 512]
def k0_dev12 (d0 : Dev nD) : Nat :=
  let c0_i32_806 : BitVec 32 := 0#32
  let c4_i32_24 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_22 : BitVec 32 := 2#32
  let v53 : BitVec 32 := Scalar.addi v20 c2_i32_22
  let c4_i32_23 : BitVec 32 := 4#32
  let c0_i32_12 : BitVec 32 := 0#32
  let v31 : BitVec 1 := Scalar.cmpi .sgt v20 c0_i32_12
  let v32 : BitVec 32 := Scalar.extui v31
  let c0_i32_13 : BitVec 32 := 0#32
  let v33 : BitVec 1 := Scalar.cmpi .slt v20 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi v20 c2_i32_11
  let c0_i32_16 : BitVec 32 := 0#32
  let v43 : BitVec 1 := Scalar.cmpi .ne v42 c0_i32_16
  let v44 : BitVec 1 := Scalar.andi v41 v43
  let v30 : BitVec 32 := Scalar.divsi v20 c2_i32_11
  let c1_i32_17 : BitVec 32 := 1#32
  let v45 : BitVec 32 := Scalar.subi v30 c1_i32_17
  let v46 : BitVec 32 := Scalar.select v44 v45 v30
  let c2_i32_18 : BitVec 32 := 2#32
  let v47 : BitVec 32 := Scalar.remsi v46 c2_i32_18
  let v54 : BitVec 32 := Scalar.muli c4_i32_23 v47
  let v55 : BitVec 32 := Scalar.subi v53 v54
  let v56 : BitVec 32 := Scalar.muli c4_i32_24 v55
  let c4_i32 : BitVec 32 := 4#32
  let v3 : BitVec 32 := Scalar.remsi v2 c4_i32
  let v57 : BitVec 32 := Scalar.addi v56 v3
  let c1_i32_805 : BitVec 32 := 1#32
  let v897 : BitVec 32 := Scalar.muli v57 c1_i32_805
  let v898 : BitVec 32 := Scalar.addi c0_i32_806 v897
  v898.toNat
def k0_off13 (d0 : Dev nD) : Fin 3 → Nat :=
  let c0_834 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_719 : BitVec 32 := 1#32
  let v801 : BitVec 32 := Scalar.addi v3 c1_i32_719
  let c4_i32_720 : BitVec 32 := 4#32
  let v802 : BitVec 32 := Scalar.remsi v801 c4_i32_720
  let c256_i32_721 : BitVec 32 := 256#32
  let v803 : BitVec 32 := Scalar.muli v802 c256_i32_721
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32 : BitVec 32 := 2#32
  let v29 : BitVec 32 := Scalar.remsi v20 c2_i32
  let c128_i32 : BitVec 32 := 128#32
  let v807 : BitVec 32 := Scalar.muli v29 c128_i32
  let c0_i32_12 : BitVec 32 := 0#32
  let v31 : BitVec 1 := Scalar.cmpi .sgt v20 c0_i32_12
  let v32 : BitVec 32 := Scalar.extui v31
  let c0_i32_13 : BitVec 32 := 0#32
  let v33 : BitVec 1 := Scalar.cmpi .slt v20 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi v20 c2_i32_11
  let c0_i32_16 : BitVec 32 := 0#32
  let v43 : BitVec 1 := Scalar.cmpi .ne v42 c0_i32_16
  let v44 : BitVec 1 := Scalar.andi v41 v43
  let v30 : BitVec 32 := Scalar.divsi v20 c2_i32_11
  let c1_i32_17 : BitVec 32 := 1#32
  let v45 : BitVec 32 := Scalar.subi v30 c1_i32_17
  let v46 : BitVec 32 := Scalar.select v44 v45 v30
  let c2_i32_18 : BitVec 32 := 2#32
  let v47 : BitVec 32 := Scalar.remsi v46 c2_i32_18
  let c64_i32_727 : BitVec 32 := 64#32
  let v810 : BitVec 32 := Scalar.muli v47 c64_i32_727
  let v811 : BitVec 32 := Scalar.addi v807 v810
  let v921 : BitVec 32 := Scalar.addi v803 v811
  let v922 : Index := Scalar.indexCast v921
  let c0_835 : Index := 0#32
  ![0, v922.toNat, 0]
def k0_off14 (d0 : Dev nD) : Fin 3 → Nat :=
  let c0_841 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32_722 : BitVec 32 := 3#32
  let v804 : BitVec 32 := Scalar.addi v3 c3_i32_722
  let c4_i32_723 : BitVec 32 := 4#32
  let v805 : BitVec 32 := Scalar.remsi v804 c4_i32_723
  let c256_i32_724 : BitVec 32 := 256#32
  let v806 : BitVec 32 := Scalar.muli v805 c256_i32_724
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32 : BitVec 32 := 2#32
  let v29 : BitVec 32 := Scalar.remsi v20 c2_i32
  let c128_i32 : BitVec 32 := 128#32
  let v807 : BitVec 32 := Scalar.muli v29 c128_i32
  let c0_i32_12 : BitVec 32 := 0#32
  let v31 : BitVec 1 := Scalar.cmpi .sgt v20 c0_i32_12
  let v32 : BitVec 32 := Scalar.extui v31
  let c0_i32_13 : BitVec 32 := 0#32
  let v33 : BitVec 1 := Scalar.cmpi .slt v20 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi v20 c2_i32_11
  let c0_i32_16 : BitVec 32 := 0#32
  let v43 : BitVec 1 := Scalar.cmpi .ne v42 c0_i32_16
  let v44 : BitVec 1 := Scalar.andi v41 v43
  let v30 : BitVec 32 := Scalar.divsi v20 c2_i32_11
  let c1_i32_17 : BitVec 32 := 1#32
  let v45 : BitVec 32 := Scalar.subi v30 c1_i32_17
  let v46 : BitVec 32 := Scalar.select v44 v45 v30
  let c2_i32_18 : BitVec 32 := 2#32
  let v47 : BitVec 32 := Scalar.remsi v46 c2_i32_18
  let c64_i32_727 : BitVec 32 := 64#32
  let v810 : BitVec 32 := Scalar.muli v47 c64_i32_727
  let v811 : BitVec 32 := Scalar.addi v807 v810
  let v934 : BitVec 32 := Scalar.addi v806 v811
  let v935 : Index := Scalar.indexCast v934
  let c512_842 : Index := 512#32
  ![0, v935.toNat, 512]
def k0_dev13 (d0 : Dev nD) : Nat :=
  let c0_i32_864 : BitVec 32 := 0#32
  let c4_i32_24 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_22 : BitVec 32 := 2#32
  let v53 : BitVec 32 := Scalar.addi v20 c2_i32_22
  let c4_i32_23 : BitVec 32 := 4#32
  let c0_i32_12 : BitVec 32 := 0#32
  let v31 : BitVec 1 := Scalar.cmpi .sgt v20 c0_i32_12
  let v32 : BitVec 32 := Scalar.extui v31
  let c0_i32_13 : BitVec 32 := 0#32
  let v33 : BitVec 1 := Scalar.cmpi .slt v20 c0_i32_13
  let v34 : BitVec 32 := Scalar.extui v33
  let v35 : BitVec 32 := Scalar.subi v32 v34
  let c2_i32_11 : BitVec 32 := 2#32
  let c0_i32_14 : BitVec 32 := 0#32
  let v36 : BitVec 1 := Scalar.cmpi .sgt c2_i32_11 c0_i32_14
  let v37 : BitVec 32 := Scalar.extui v36
  let c0_i32_15 : BitVec 32 := 0#32
  let v38 : BitVec 1 := Scalar.cmpi .slt c2_i32_11 c0_i32_15
  let v39 : BitVec 32 := Scalar.extui v38
  let v40 : BitVec 32 := Scalar.subi v37 v39
  let v41 : BitVec 1 := Scalar.cmpi .ne v35 v40
  let v42 : BitVec 32 := Scalar.remsi v20 c2_i32_11
  let c0_i32_16 : BitVec 32 := 0#32
  let v43 : BitVec 1 := Scalar.cmpi .ne v42 c0_i32_16
  let v44 : BitVec 1 := Scalar.andi v41 v43
  let v30 : BitVec 32 := Scalar.divsi v20 c2_i32_11
  let c1_i32_17 : BitVec 32 := 1#32
  let v45 : BitVec 32 := Scalar.subi v30 c1_i32_17
  let v46 : BitVec 32 := Scalar.select v44 v45 v30
  let c2_i32_18 : BitVec 32 := 2#32
  let v47 : BitVec 32 := Scalar.remsi v46 c2_i32_18
  let v54 : BitVec 32 := Scalar.muli c4_i32_23 v47
  let v55 : BitVec 32 := Scalar.subi v53 v54
  let v56 : BitVec 32 := Scalar.muli c4_i32_24 v55
  let c4_i32 : BitVec 32 := 4#32
  let v3 : BitVec 32 := Scalar.remsi v2 c4_i32
  let v57 : BitVec 32 := Scalar.addi v56 v3
  let c1_i32_863 : BitVec 32 := 1#32
  let v963 : BitVec 32 := Scalar.muli v57 c1_i32_863
  let v964 : BitVec 32 := Scalar.addi c0_i32_864 v963
  v964.toNat
def k0_dev14 (d0 : Dev nD) : Nat :=
  let c0_i32_918 : BitVec 32 := 0#32
  let c4_i32_21 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_19 : BitVec 32 := 1#32
  let v48 : BitVec 32 := Scalar.addi v20 c1_i32_19
  let c2_i32_20 : BitVec 32 := 2#32
  let c2_i32 : BitVec 32 := 2#32
  let v29 : BitVec 32 := Scalar.remsi v20 c2_i32
  let v49 : BitVec 32 := Scalar.muli c2_i32_20 v29
  let v50 : BitVec 32 := Scalar.subi v48 v49
  let v51 : BitVec 32 := Scalar.muli c4_i32_21 v50
  let c4_i32 : BitVec 32 := 4#32
  let v3 : BitVec 32 := Scalar.remsi v2 c4_i32
  let v52 : BitVec 32 := Scalar.addi v51 v3
  let c1_i32_917 : BitVec 32 := 1#32
  let v1019 : BitVec 32 := Scalar.muli v52 c1_i32_917
  let v1020 : BitVec 32 := Scalar.addi c0_i32_918 v1019
  v1020.toNat
def k0_off15 (d0 : Dev nD) : Fin 3 → Nat :=
  let c0_959 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_956 : BitVec 32 := 1#32
  let v1059 : BitVec 32 := Scalar.addi v3 c1_i32_956
  let c4_i32_957 : BitVec 32 := 4#32
  let v1060 : BitVec 32 := Scalar.remsi v1059 c4_i32_957
  let c256_i32_958 : BitVec 32 := 256#32
  let v1061 : BitVec 32 := Scalar.muli v1060 c256_i32_958
  let v1062 : Index := Scalar.indexCast v1061
  let c0_960 : Index := 0#32
  ![0, v1062.toNat, 0]
def k0_off16 (d0 : Dev nD) (c3_i32_964 : BitVec 32) : Fin 3 → Nat :=
  let c0_967 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v1069 : BitVec 32 := Scalar.addi v3 c3_i32_964
  let c4_i32_965 : BitVec 32 := 4#32
  let v1070 : BitVec 32 := Scalar.remsi v1069 c4_i32_965
  let c256_i32_966 : BitVec 32 := 256#32
  let v1071 : BitVec 32 := Scalar.muli v1070 c256_i32_966
  let v1072 : Index := Scalar.indexCast v1071
  let c512_968 : Index := 512#32
  ![0, v1072.toNat, 512]
def k0_dev15 (d0 : Dev nD) : Nat :=
  let c0_i32_979 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_978 : BitVec 32 := 1#32
  let v1079 : BitVec 32 := Scalar.muli v24 c1_i32_978
  let v1080 : BitVec 32 := Scalar.addi c0_i32_979 v1079
  v1080.toNat
def k0_dev16 (d0 : Dev nD) : Nat :=
  let c0_i32_991 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_990 : BitVec 32 := 1#32
  let v1089 : BitVec 32 := Scalar.muli v28 c1_i32_990
  let v1090 : BitVec 32 := Scalar.addi c0_i32_991 v1089
  v1090.toNat
def k0_dev17 (d0 : Dev nD) : Nat :=
  let c0_i32_1078 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_1077 : BitVec 32 := 1#32
  let v1158 : BitVec 32 := Scalar.muli v24 c1_i32_1077
  let v1159 : BitVec 32 := Scalar.addi c0_i32_1078 v1158
  v1159.toNat
def k0_dev18 (d0 : Dev nD) : Nat :=
  let c0_i32_1090 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_1089 : BitVec 32 := 1#32
  let v1168 : BitVec 32 := Scalar.muli v28 c1_i32_1089
  let v1169 : BitVec 32 := Scalar.addi c0_i32_1090 v1168
  v1169.toNat
def k0_dev19 (d0 : Dev nD) : Nat :=
  let c0_i32_1177 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_1176 : BitVec 32 := 1#32
  let v1237 : BitVec 32 := Scalar.muli v24 c1_i32_1176
  let v1238 : BitVec 32 := Scalar.addi c0_i32_1177 v1237
  v1238.toNat
def k0_dev20 (d0 : Dev nD) : Nat :=
  let c0_i32_1189 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_1188 : BitVec 32 := 1#32
  let v1247 : BitVec 32 := Scalar.muli v28 c1_i32_1188
  let v1248 : BitVec 32 := Scalar.addi c0_i32_1189 v1247
  v1248.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x16384 : Shape := ⟨2, ![1024, 16384]⟩
abbrev S1x1024x128x128 : Shape := ⟨4, ![1, 1024, 128, 128]⟩
abbrev S16384x1024 : Shape := ⟨2, ![16384, 1024]⟩
abbrev S1x1024x16384 : Shape := ⟨3, ![1, 1024, 16384]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x128x1024x1024 : Shape := ⟨4, ![1, 128, 1024, 1024]⟩
abbrev S1x1x1024x1024 : Shape := ⟨4, ![1, 1, 1024, 1024]⟩
abbrev S1x128x1024 : Shape := ⟨3, ![1, 128, 1024]⟩
abbrev S1x128x1024x1 : Shape := ⟨4, ![1, 128, 1024, 1]⟩
abbrev S1x1x1024x1 : Shape := ⟨4, ![1, 1, 1024, 1]⟩
abbrev S1x128x128x1024 : Shape := ⟨4, ![1, 128, 128, 1024]⟩

abbrev nBuf : Space → Nat
  | .hbm => 123
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x16384, .f32⟩
  | .hbm, ⟨2, _⟩ => ⟨S1x1024x128x128, .f32⟩
  | .hbm, ⟨3, _⟩ => ⟨S1x1024x128x128, .f32⟩
  | .hbm, ⟨4, _⟩ => ⟨S16384x1024, .f32⟩
  | .hbm, ⟨5, _⟩ => ⟨S1x1024x16384, .f32⟩
  | .hbm, ⟨6, _⟩ => ⟨S1x1024x128x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S_, .i32⟩
  | .hbm, ⟨51, _⟩ => ⟨S1x1024, .i32⟩
  | .hbm, ⟨52, _⟩ => ⟨S1x1024, .i1⟩
  | .hbm, ⟨53, _⟩ => ⟨S1024x1024, .i1⟩
  | .hbm, ⟨54, _⟩ => ⟨S1024x1024, .i1⟩
  | .hbm, ⟨55, _⟩ => ⟨S1024x1024, .i32⟩
  | .hbm, ⟨56, _⟩ => ⟨S1024x1024, .i32⟩
  | .hbm, ⟨57, _⟩ => ⟨S1024x1024, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S1024x1024, .i32⟩
  | .hbm, ⟨65, _⟩ => ⟨S1024x1024, .i32⟩
  | .hbm, ⟨66, _⟩ => ⟨S_, .i32⟩
  | .hbm, ⟨67, _⟩ => ⟨S1024x1024, .i32⟩
  | .hbm, ⟨68, _⟩ => ⟨S1024x1024, .i1⟩
  | .hbm, ⟨69, _⟩ => ⟨S_, .i32⟩
  | .hbm, ⟨70, _⟩ => ⟨S1024x1024, .i32⟩
  | .hbm, ⟨71, _⟩ => ⟨S1024x1024, .i1⟩
  | .hbm, ⟨72, _⟩ => ⟨S_, .i32⟩
  | .hbm, ⟨73, _⟩ => ⟨S_, .i1⟩
  | .hbm, ⟨74, _⟩ => ⟨S1024x1024, .i1⟩
  | .hbm, ⟨75, _⟩ => ⟨S1024x1024, .i1⟩
  | .hbm, ⟨76, _⟩ => ⟨S1024x1024, .i1⟩
  | .hbm, ⟨77, _⟩ => ⟨S1024x1024, .i32⟩
  | .hbm, ⟨78, _⟩ => ⟨S1024x1024, .i32⟩
  | .hbm, ⟨79, _⟩ => ⟨S1024x1024, .i32⟩
  | .hbm, ⟨80, _⟩ => ⟨S_, .i32⟩
  | .hbm, ⟨81, _⟩ => ⟨S1024x1024, .i32⟩
  | .hbm, ⟨82, _⟩ => ⟨S1024x1024, .i1⟩
  | .hbm, ⟨83, _⟩ => ⟨S1024x1024, .i1⟩
  | .hbm, ⟨84, _⟩ => ⟨S1x128x1024x1024, .f32⟩
  | .hbm, ⟨85, _⟩ => ⟨S_, .f32⟩
  | .hbm, ⟨86, _⟩ => ⟨S1x128x1024x1024, .f32⟩
  | .hbm, ⟨87, _⟩ => ⟨S1x128x1024x1024, .f32⟩
  | .hbm, ⟨88, _⟩ => ⟨S1x1x1024x1024, .i1⟩
  | .hbm, ⟨89, _⟩ => ⟨S_, .f32⟩
  | .hbm, ⟨90, _⟩ => ⟨S_, .f32⟩
  | .hbm, ⟨91, _⟩ => ⟨S1x128x1024x1024, .i1⟩
  | .hbm, ⟨92, _⟩ => ⟨S1x128x1024x1024, .f32⟩
  | .hbm, ⟨93, _⟩ => ⟨S1x128x1024x1024, .f32⟩
  | .hbm, ⟨94, _⟩ => ⟨S_, .f32⟩
  | .hbm, ⟨95, _⟩ => ⟨S1x128x1024, .f32⟩
  | .hbm, ⟨96, _⟩ => ⟨S1x128x1024x1, .f32⟩
  | .hbm, ⟨97, _⟩ => ⟨S1x128x1024x1024, .f32⟩
  | .hbm, ⟨98, _⟩ => ⟨S1x128x1024x1024, .f32⟩
  | .hbm, ⟨99, _⟩ => ⟨S1x128x1024x1024, .f32⟩
  | .hbm, ⟨100, _⟩ => ⟨S_, .i1⟩
  | .hbm, ⟨101, _⟩ => ⟨S1024, .i1⟩
  | .hbm, ⟨102, _⟩ => ⟨S1x1x1024x1, .i1⟩
  | .hbm, ⟨103, _⟩ => ⟨S_, .f32⟩
  | .hbm, ⟨104, _⟩ => ⟨S1x128x1024, .f32⟩
  | .hbm, ⟨105, _⟩ => ⟨S1x128x1024x1, .f32⟩
  | .hbm, ⟨106, _⟩ => ⟨S_, .f32⟩
  | .hbm, ⟨107, _⟩ => ⟨S_, .f32⟩
  | .hbm, ⟨108, _⟩ => ⟨S1x128x1024x1, .i1⟩
  | .hbm, ⟨109, _⟩ => ⟨S1x128x1024x1, .f32⟩
  | .hbm, ⟨110, _⟩ => ⟨S1x128x1024x1, .f32⟩
  | .hbm, ⟨111, _⟩ => ⟨S1x128x1024x1024, .f32⟩
  | .hbm, ⟨112, _⟩ => ⟨S1x128x1024x1024, .f32⟩
  | .hbm, ⟨113, _⟩ => ⟨S1x1x1024x1, .i1⟩
  | .hbm, ⟨114, _⟩ => ⟨S_, .f32⟩
  | .hbm, ⟨115, _⟩ => ⟨S_, .f32⟩
  | .hbm, ⟨116, _⟩ => ⟨S1x128x1024x1024, .i1⟩
  | .hbm, ⟨117, _⟩ => ⟨S1x128x1024x1024, .f32⟩
  | .hbm, ⟨118, _⟩ => ⟨S1x128x1024x1024, .f32⟩
  | .hbm, ⟨119, _⟩ => ⟨S1x128x128x1024, .f32⟩
  | .hbm, ⟨120, _⟩ => ⟨S1x1024x128x128, .f32⟩
  | .hbm, ⟨121, _⟩ => ⟨S1x1024x16384, .f32⟩
  | .hbm, ⟨122, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Contents.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The mesh: device `4 z + q` stands at place `q` of the ring of plane `z` -/

set_option backward.proofsInPublic true in
/-- The next device on the ring of four. -/
def R (c : Dev nD) : Dev nD := ⟨4 * (c.val / 4) + (c.val % 4 + 1) % 4, by have := c.isLt; have h : nD = 16 := rfl; omega⟩
set_option backward.proofsInPublic true in
/-- The device before it. -/
def L (c : Dev nD) : Dev nD := ⟨4 * (c.val / 4) + (c.val % 4 + 3) % 4, by have := c.isLt; have h : nD = 16 := rfl; omega⟩
set_option backward.proofsInPublic true in
/-- The partner across bit 0 of the plane. -/
def p1 (c : Dev nD) : Dev nD := ⟨4 * (2 * (c.val / 8) + (c.val / 4 + 1) % 2) + c.val % 4, by have := c.isLt; have h : nD = 16 := rfl; omega⟩
set_option backward.proofsInPublic true in
/-- The partner across bit 1 of the plane. -/
def p2 (c : Dev nD) : Dev nD := ⟨(c.val + 8) % 16, by have := c.isLt; have h : nD = 16 := rfl; omega⟩

theorem L_R (c : Dev nD) : L (R c) = c := by revert c; decide
theorem R_L (c : Dev nD) : R (L c) = c := by revert c; decide
theorem p1_p1 (c : Dev nD) : p1 (p1 c) = c := by revert c; decide
theorem p2_p2 (c : Dev nD) : p2 (p2 c) = c := by revert c; decide

theorem dev1_eq (c : Dev nD) : (⟨k0_dev1 c, k0_dev1_lt c⟩ : Dev nD) = L c := by
  refine Fin.ext ?_; revert c; decide +kernel
theorem dev2_eq (c : Dev nD) : (⟨k0_dev2 c, k0_dev2_lt c⟩ : Dev nD) = R c := by
  refine Fin.ext ?_; revert c; decide +kernel
theorem dev3_eq (c : Dev nD) : (⟨k0_dev3 c, k0_dev3_lt c⟩ : Dev nD) = p1 c := by
  refine Fin.ext ?_; revert c; decide +kernel
theorem dev4_eq (c : Dev nD) : (⟨k0_dev4 c, k0_dev4_lt c⟩ : Dev nD) = p2 c := by
  refine Fin.ext ?_; revert c; decide +kernel
theorem dev5_eq (c : Dev nD) : (⟨k0_dev5 c, k0_dev5_lt c⟩ : Dev nD) = R c := by
  refine Fin.ext ?_; revert c; decide +kernel
theorem dev6_eq (c : Dev nD) : (⟨k0_dev6 c, k0_dev6_lt c⟩ : Dev nD) = L c := by
  refine Fin.ext ?_; revert c; decide +kernel
theorem dev7_eq (c : Dev nD) : (⟨k0_dev7 c, k0_dev7_lt c⟩ : Dev nD) = R c := by
  refine Fin.ext ?_; revert c; decide +kernel
theorem dev8_eq (c : Dev nD) : (⟨k0_dev8 c, k0_dev8_lt c⟩ : Dev nD) = L c := by
  refine Fin.ext ?_; revert c; decide +kernel
theorem dev9_eq (c : Dev nD) : (⟨k0_dev9 c, k0_dev9_lt c⟩ : Dev nD) = R c := by
  refine Fin.ext ?_; revert c; decide +kernel
theorem dev10_eq (c : Dev nD) : (⟨k0_dev10 c, k0_dev10_lt c⟩ : Dev nD) = L c := by
  refine Fin.ext ?_; revert c; decide +kernel
theorem dev11_eq (c : Dev nD) : (⟨k0_dev11 c, k0_dev11_lt c⟩ : Dev nD) = p1 c := by
  refine Fin.ext ?_; revert c; decide +kernel
theorem dev12_eq (c : Dev nD) : (⟨k0_dev12 c, k0_dev12_lt c⟩ : Dev nD) = p2 c := by
  refine Fin.ext ?_; revert c; decide +kernel
theorem dev13_eq (c : Dev nD) : (⟨k0_dev13 c, k0_dev13_lt c⟩ : Dev nD) = p2 c := by
  refine Fin.ext ?_; revert c; decide +kernel
theorem dev14_eq (c : Dev nD) : (⟨k0_dev14 c, k0_dev14_lt c⟩ : Dev nD) = p1 c := by
  refine Fin.ext ?_; revert c; decide +kernel
theorem dev15_eq (c : Dev nD) : (⟨k0_dev15 c, k0_dev15_lt c⟩ : Dev nD) = R c := by
  refine Fin.ext ?_; revert c; decide +kernel
theorem dev16_eq (c : Dev nD) : (⟨k0_dev16 c, k0_dev16_lt c⟩ : Dev nD) = L c := by
  refine Fin.ext ?_; revert c; decide +kernel
theorem dev17_eq (c : Dev nD) : (⟨k0_dev17 c, k0_dev17_lt c⟩ : Dev nD) = R c := by
  refine Fin.ext ?_; revert c; decide +kernel
theorem dev18_eq (c : Dev nD) : (⟨k0_dev18 c, k0_dev18_lt c⟩ : Dev nD) = L c := by
  refine Fin.ext ?_; revert c; decide +kernel
theorem dev19_eq (c : Dev nD) : (⟨k0_dev19 c, k0_dev19_lt c⟩ : Dev nD) = R c := by
  refine Fin.ext ?_; revert c; decide +kernel
theorem dev20_eq (c : Dev nD) : (⟨k0_dev20 c, k0_dev20_lt c⟩ : Dev nD) = L c := by
  refine Fin.ext ?_; revert c; decide +kernel

/-- The ring as a permutation, and the two exchanges. -/
def ringE : Dev nD ≃ Dev nD := ⟨R, L, L_R, R_L⟩
def p1E : Dev nD ≃ Dev nD := ⟨p1, p1, p1_p1, p1_p1⟩
def p2E : Dev nD ≃ Dev nD := ⟨p2, p2, p2_p2, p2_p2⟩

/-! ## The buffers and their parts -/

abbrev xM : Memref sig .tc .vmem S1x1024x1024 .f32 := Memref.whole cc0_stg0_0
abbrev oM : Memref sig .tc .vmem S1x1024x1024 .f32 := Memref.whole cc0_stg1_0
abbrev wqM : Memref sig .tc .vmem S1024x1024 .f32 := Memref.whole cc0_scratch0
abbrev woM : Memref sig .tc .vmem S1024x1024 .f32 := Memref.whole cc0_scratch1
abbrev kM : Memref sig .tc .vmem S2x1024x128 .f32 := Memref.whole cc0_scratch2
abbrev vM : Memref sig .tc .vmem S2x1024x128 .f32 := Memref.whole cc0_scratch3
abbrev ctxM : Memref sig .tc .vmem S1024x1024 .bf16 := Memref.whole cc0_scratch4
abbrev saCw : Memref sig .tc .vmem S2x256x512 .bf16 := Memref.whole cc0_scratch5
abbrev raCw : Memref sig .tc .vmem S2x256x512 .bf16 := Memref.whole cc0_scratch6
abbrev saCc : Memref sig .tc .vmem S2x256x512 .bf16 := Memref.whole cc0_scratch7
abbrev raCc : Memref sig .tc .vmem S2x256x512 .bf16 := Memref.whole cc0_scratch8
abbrev sbX : Memref sig .tc .vmem S4x128x1024 .bf16 := Memref.whole cc0_scratch9
abbrev rbX : Memref sig .tc .vmem S4x128x1024 .bf16 := Memref.whole cc0_scratch10
abbrev scCw : Memref sig .tc .vmem S2x256x512 .bf16 := Memref.whole cc0_scratch11
abbrev rcCw : Memref sig .tc .vmem S2x256x512 .bf16 := Memref.whole cc0_scratch12
abbrev scCc : Memref sig .tc .vmem S2x256x512 .bf16 := Memref.whole cc0_scratch13
abbrev rcCc : Memref sig .tc .vmem S2x256x512 .bf16 := Memref.whole cc0_scratch14

/-- The two slots of a buffer of two ring messages, as the copies name them. -/
abbrev rg0 : Rect S2x256x512 := Rect.unit (s := S2x256x512) ![0, 0, 0] S1x256x512.size inb_S2x256x512_S1x256x512_0_0_0
abbrev sl0 (M : Memref sig .tc .vmem S2x256x512 .bf16) : Memref sig .tc .vmem S256x512 .bf16 :=
  (M.slice rg0 (fun _ => rfl)).squeeze S256x512 squeezes_S1x256x512_S256x512
abbrev rg1 : Rect S2x256x512 := Rect.unit (s := S2x256x512) ![1, 0, 0] S1x256x512.size inb_S2x256x512_S1x256x512_1_0_0
abbrev sl1 (M : Memref sig .tc .vmem S2x256x512 .bf16) : Memref sig .tc .vmem S256x512 .bf16 :=
  (M.slice rg1 (fun _ => rfl)).squeeze S256x512 squeezes_S1x256x512_S256x512
/-- The four slots of a buffer of exchange messages, as the copies name them, and the left and right halves that are loaded and stored. -/
abbrev bg0 : Rect S4x128x1024 := Rect.unit (s := S4x128x1024) ![0, 0, 0] S1x128x1024.size inb_S4x128x1024_S1x128x1024_0_0_0
abbrev bl0 : Rect S4x128x1024 := Rect.unit (s := S4x128x1024) ![0, 0, 0] S1x128x512.size inb_S4x128x1024_S1x128x512_0_0_0
abbrev br0 : Rect S4x128x1024 := Rect.unit (s := S4x128x1024) ![0, 0, 512] S1x128x512.size inb_S4x128x1024_S1x128x512_0_0_512
abbrev sb0 (M : Memref sig .tc .vmem S4x128x1024 .bf16) : Memref sig .tc .vmem S128x1024 .bf16 :=
  (M.slice bg0 (fun _ => rfl)).squeeze S128x1024 squeezes_S1x128x1024_S128x1024
abbrev bg1 : Rect S4x128x1024 := Rect.unit (s := S4x128x1024) ![1, 0, 0] S1x64x1024.size inb_S4x128x1024_S1x64x1024_1_0_0
abbrev bl1 : Rect S4x128x1024 := Rect.unit (s := S4x128x1024) ![1, 0, 0] S1x64x512.size inb_S4x128x1024_S1x64x512_1_0_0
abbrev br1 : Rect S4x128x1024 := Rect.unit (s := S4x128x1024) ![1, 0, 512] S1x64x512.size inb_S4x128x1024_S1x64x512_1_0_512
abbrev sb1 (M : Memref sig .tc .vmem S4x128x1024 .bf16) : Memref sig .tc .vmem S64x1024 .bf16 :=
  (M.slice bg1 (fun _ => rfl)).squeeze S64x1024 squeezes_S1x64x1024_S64x1024
abbrev bg2 : Rect S4x128x1024 := Rect.unit (s := S4x128x1024) ![2, 0, 0] S1x64x1024.size inb_S4x128x1024_S1x64x1024_2_0_0
abbrev bl2 : Rect S4x128x1024 := Rect.unit (s := S4x128x1024) ![2, 0, 0] S1x64x512.size inb_S4x128x1024_S1x64x512_2_0_0
abbrev br2 : Rect S4x128x1024 := Rect.unit (s := S4x128x1024) ![2, 0, 512] S1x64x512.size inb_S4x128x1024_S1x64x512_2_0_512
abbrev sb2 (M : Memref sig .tc .vmem S4x128x1024 .bf16) : Memref sig .tc .vmem S64x1024 .bf16 :=
  (M.slice bg2 (fun _ => rfl)).squeeze S64x1024 squeezes_S1x64x1024_S64x1024
abbrev bg3 : Rect S4x128x1024 := Rect.unit (s := S4x128x1024) ![3, 0, 0] S1x128x1024.size inb_S4x128x1024_S1x128x1024_3_0_0
abbrev bl3 : Rect S4x128x1024 := Rect.unit (s := S4x128x1024) ![3, 0, 0] S1x128x512.size inb_S4x128x1024_S1x128x512_3_0_0
abbrev br3 : Rect S4x128x1024 := Rect.unit (s := S4x128x1024) ![3, 0, 512] S1x128x512.size inb_S4x128x1024_S1x128x512_3_0_512
abbrev sb3 (M : Memref sig .tc .vmem S4x128x1024 .bf16) : Memref sig .tc .vmem S128x1024 .bf16 :=
  (M.slice bg3 (fun _ => rfl)).squeeze S128x1024 squeezes_S1x128x1024_S128x1024

/-! ## The rectangles of the result buffer -/

abbrev OutC (F : FTy → Type) : Type := (cc0_stg1_0 : Ref sig .tc).ty.Contents (Elt F)

abbrev o3 (c : Dev nD) : Rect S1x1024x1024 := Rect.unit (s := S1x1024x1024) (k0_off3 c) S1x256x512.size (k0_off3_inb c)
abbrev o4 (c : Dev nD) : Rect S1x1024x1024 := Rect.unit (s := S1x1024x1024) (k0_off4 c) S1x256x512.size (k0_off4_inb c)
abbrev o570 (c : Dev nD) : Rect S1x1024x1024 := Rect.unit (s := S1x1024x1024) (k0_off5 c 7#32 0#32) S1x256x512.size (k0_off5_inb c 1 0)
abbrev o571 (c : Dev nD) : Rect S1x1024x1024 := Rect.unit (s := S1x1024x1024) (k0_off5 c 7#32 1#32) S1x256x512.size (k0_off5_inb c 1 1)
abbrev o572 (c : Dev nD) : Rect S1x1024x1024 := Rect.unit (s := S1x1024x1024) (k0_off5 c 7#32 2#32) S1x256x512.size (k0_off5_inb c 1 2)
abbrev o540 (c : Dev nD) : Rect S1x1024x1024 := Rect.unit (s := S1x1024x1024) (k0_off5 c 4#32 0#32) S1x256x512.size (k0_off5_inb c 0 0)
abbrev o541 (c : Dev nD) : Rect S1x1024x1024 := Rect.unit (s := S1x1024x1024) (k0_off5 c 4#32 1#32) S1x256x512.size (k0_off5_inb c 0 1)
abbrev o542 (c : Dev nD) : Rect S1x1024x1024 := Rect.unit (s := S1x1024x1024) (k0_off5 c 4#32 2#32) S1x256x512.size (k0_off5_inb c 0 2)
abbrev o60 (c : Dev nD) : Rect S1x1024x1024 := Rect.unit (s := S1x1024x1024) (k0_off6 c 0#32) S1x256x512.size (k0_off6_inb c 0)
abbrev o61 (c : Dev nD) : Rect S1x1024x1024 := Rect.unit (s := S1x1024x1024) (k0_off6 c 1#32) S1x256x512.size (k0_off6_inb c 1)
abbrev o62 (c : Dev nD) : Rect S1x1024x1024 := Rect.unit (s := S1x1024x1024) (k0_off6 c 2#32) S1x256x512.size (k0_off6_inb c 2)
abbrev o7 (c : Dev nD) : Rect S1x1024x1024 := Rect.unit (s := S1x1024x1024) (k0_off7 c) S1x128x512.size (k0_off7_inb c)
abbrev o8 (c : Dev nD) : Rect S1x1024x1024 := Rect.unit (s := S1x1024x1024) (k0_off8 c) S1x128x512.size (k0_off8_inb c)
abbrev o9 (c : Dev nD) : Rect S1x1024x1024 := Rect.unit (s := S1x1024x1024) (k0_off9 c) S1x128x512.size (k0_off9_inb c)
abbrev o10 (c : Dev nD) : Rect S1x1024x1024 := Rect.unit (s := S1x1024x1024) (k0_off10 c) S1x128x512.size (k0_off10_inb c)
abbrev o11 (c : Dev nD) : Rect S1x1024x1024 := Rect.unit (s := S1x1024x1024) (k0_off11 c) S1x64x512.size (k0_off11_inb c)
abbrev o12 (c : Dev nD) : Rect S1x1024x1024 := Rect.unit (s := S1x1024x1024) (k0_off12 c) S1x64x512.size (k0_off12_inb c)
abbrev o13 (c : Dev nD) : Rect S1x1024x1024 := Rect.unit (s := S1x1024x1024) (k0_off13 c) S1x64x512.size (k0_off13_inb c)
abbrev o14 (c : Dev nD) : Rect S1x1024x1024 := Rect.unit (s := S1x1024x1024) (k0_off14 c) S1x64x512.size (k0_off14_inb c)
abbrev o15 (c : Dev nD) : Rect S1x1024x1024 := Rect.unit (s := S1x1024x1024) (k0_off15 c) S1x256x512.size (k0_off15_inb c)
abbrev o160 (c : Dev nD) : Rect S1x1024x1024 := Rect.unit (s := S1x1024x1024) (k0_off16 c 0#32) S1x256x512.size (k0_off16_inb c 0)
abbrev o161 (c : Dev nD) : Rect S1x1024x1024 := Rect.unit (s := S1x1024x1024) (k0_off16 c 1#32) S1x256x512.size (k0_off16_inb c 1)
abbrev o162 (c : Dev nD) : Rect S1x1024x1024 := Rect.unit (s := S1x1024x1024) (k0_off16 c 2#32) S1x256x512.size (k0_off16_inb c 2)
abbrev o163 (c : Dev nD) : Rect S1x1024x1024 := Rect.unit (s := S1x1024x1024) (k0_off16 c 3#32) S1x256x512.size (k0_off16_inb c 3)

/-- What a load of the result buffer through a rectangle reads, and what a store through one leaves. -/
abbrev rdO (r : Rect S1x1024x1024) (f : OutC F) : r.shape.Idx → Elt F .f32 := oM.view.readAt (Elt F) r.toLoadRect f
abbrev wrO (r : Rect S1x1024x1024) (f : OutC F) (w : r.shape.Idx → Elt F .f32) : OutC F := (oM.access r).write (Elt F) f w Finset.univ

/-! ## The contents that travel

`P c` is the result buffer of device `c` when the heads are done: its part of the sum. `mA…`, `mB…`, `mC…` are the messages `c` sends
in the three phases; `OA`, `OB…`, `OC…` its result buffer after their stores. -/

section Msgs
variable (P : Dev nD → OutC F)

def mAw0 (c : Dev nD) : Vec F S1x256x512 .bf16 := k0_pay27 (rdO (o3 c) (P c))
def mAw1 (c : Dev nD) : Vec F S1x256x512 .bf16 := k0_pay29 (mAw0 P (L c)) (rdO (o570 c) (P c))
def mAw2 (c : Dev nD) : Vec F S1x256x512 .bf16 := k0_pay31 (mAw1 P (L c)) (rdO (o571 c) (P c))
def mAc0 (c : Dev nD) : Vec F S1x256x512 .bf16 := k0_pay28 (rdO (o4 c) (P c))
def mAc1 (c : Dev nD) : Vec F S1x256x512 .bf16 := k0_pay30 (mAc0 P (R c)) (rdO (o60 c) (P c))
def mAc2 (c : Dev nD) : Vec F S1x256x512 .bf16 := k0_pay32 (mAc1 P (R c)) (rdO (o61 c) (P c))
def OAa (c : Dev nD) : OutC F := wrO (o572 c) (P c) (k0_pay33 (mAw2 P (L c)) (rdO (o572 c) (P c)))
def OA (c : Dev nD) : OutC F := wrO (o62 c) (OAa P c) (k0_pay34 (mAc2 P (R c)) (rdO (o62 c) (P c)))
def mB0l (c : Dev nD) : Vec F S1x128x512 .bf16 := k0_pay35 (rdO (o7 c) (OA P c))
def mB0r (c : Dev nD) : Vec F S1x128x512 .bf16 := k0_pay36 (rdO (o8 c) (OA P c))
def OB0a (c : Dev nD) : OutC F := wrO (o9 c) (OA P c) (k0_pay37 (rdO (o9 c) (OA P c)) (mB0l P (p1 c)))
def OB0 (c : Dev nD) : OutC F := wrO (o10 c) (OB0a P c) (k0_pay38 (rdO (o10 c) (OB0a P c)) (mB0r P (p1 c)))
def mB1l (c : Dev nD) : Vec F S1x64x512 .bf16 := k0_pay39 (rdO (o11 c) (OB0 P c))
def mB1r (c : Dev nD) : Vec F S1x64x512 .bf16 := k0_pay41 (k0_pay40 (rdO (o12 c) (OB0 P c)))
def OB1a (c : Dev nD) : OutC F := wrO (o13 c) (OB0 P c) (k0_pay42 (rdO (o13 c) (OB0 P c)) (mB1l P (p2 c)))
def OB1 (c : Dev nD) : OutC F := wrO (o14 c) (OB1a P c) (k0_pay43 (rdO (o14 c) (OB1a P c)) (mB1r P (p2 c)))
def mB2l (c : Dev nD) : Vec F S1x64x512 .bf16 := k0_pay45 (k0_pay44 (rdO (o13 c) (OB1 P c)))
def mB2r (c : Dev nD) : Vec F S1x64x512 .bf16 := k0_pay46 (rdO (o14 c) (OB1 P c))
def OB2a (c : Dev nD) : OutC F := wrO (o11 c) (OB1 P c) (k0_pay47 (mB2l P (p2 c)))
def OB2 (c : Dev nD) : OutC F := wrO (o12 c) (OB2a P c) (k0_pay48 (mB2r P (p2 c)))
def mB3l (c : Dev nD) : Vec F S1x128x512 .bf16 := k0_pay50 (k0_pay49 (rdO (o9 c) (OB2 P c)))
def mB3r (c : Dev nD) : Vec F S1x128x512 .bf16 := k0_pay51 (rdO (o10 c) (OB2 P c))
def OB3a (c : Dev nD) : OutC F := wrO (o7 c) (OB2 P c) (k0_pay52 (mB3l P (p1 c)))
def OB3 (c : Dev nD) : OutC F := wrO (o8 c) (OB3a P c) (k0_pay53 (mB3r P (p1 c)))
def mCw0 (c : Dev nD) : Vec F S1x256x512 .bf16 := k0_pay55 (k0_pay54 (rdO (o15 c) (OB3 P c)))
def mCc0 (c : Dev nD) : Vec F S1x256x512 .bf16 := k0_pay56 (rdO (o163 c) (OB3 P c))
def mCw1 (c : Dev nD) : Vec F S1x256x512 .bf16 := k0_pay60 (mCw0 P (L c))
def mCc1 (c : Dev nD) : Vec F S1x256x512 .bf16 := k0_pay61 (mCc0 P (R c))
def mCw2 (c : Dev nD) : Vec F S1x256x512 .bf16 := k0_pay64 (mCw1 P (L c))
def mCc2 (c : Dev nD) : Vec F S1x256x512 .bf16 := k0_pay65 (mCc1 P (R c))
def OC0a (c : Dev nD) : OutC F := wrO (o540 c) (OB3 P c) (k0_pay57 (mCw0 P (L c)))
def OC0 (c : Dev nD) : OutC F := wrO (o160 c) (OC0a P c) (k0_pay59 (k0_pay58 (mCc0 P (R c))))
def OC1a (c : Dev nD) : OutC F := wrO (o541 c) (OC0 P c) (k0_pay62 (mCw1 P (L c)))
def OC1 (c : Dev nD) : OutC F := wrO (o161 c) (OC1a P c) (k0_pay63 (mCc1 P (R c)))
def OC2a (c : Dev nD) : OutC F := wrO (o542 c) (OC1 P c) (k0_pay67 (k0_pay66 (mCw2 P (L c))))
def OC2 (c : Dev nD) : OutC F := wrO (o162 c) (OC2a P c) (k0_pay1 (k0_pay68 (mCc2 P (R c))))

end Msgs

end Cert.KP

end
-- ==== Proof.Proto.lean ====
module

public import proofs.«01_k».proof.Proof.Contents
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline's rounds (duties `Unit`), the kernel's rounds (duties `Fin 4`), the counters of the local copies -/

abbrev UB : Type := URounds (GSem nD τ sig) (Fin 4)
abbrev UC : Type := Counters
abbrev UU : Type := UR sig nD τ × (UB × UC)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) := (Emb.inl : Emb UB (UB × UC)).trans embR
instance ER_lands : (ER : Emb UB (MT nD τ sig ℕ (Elt F) ℕ UU ℕ)).LandsIn upEmb := by unfold ER; infer_instance

/-! ## The semaphores and their cells -/

/-- The barrier semaphore (unscoped), and the DMA semaphores by number. -/
abbrev barS : Sem sig := (SemArray.scalar (sig.barrier 0 rfl) : Sems sig S_).sem
abbrev dS (n : ℕ) (h : n < 32 := by decide) : DmaSem sig := ⟨n, h⟩
abbrev barC (c : Dev nD) : GSem nD τ sig := ((c : Thread nD τ), .reg barS)
abbrev dC (c : Dev nD) (n : ℕ) (h : n < 32 := by decide) : GSem nD τ sig := ((c : Thread nD τ), .dma (dS n h))

theorem semA00 : ((cc0_scratch15.slice (Rect.unit (s := S4x2) ![0, 0] S1x1.size inb_S4x2_S1x1_0_0)).squeeze S_ squeezes_S1x1_S_).sem = dS 2 := rfl
theorem semA01 : ((cc0_scratch15.slice (Rect.unit (s := S4x2) ![0, 1] S1x1.size inb_S4x2_S1x1_0_1)).squeeze S_ squeezes_S1x1_S_).sem = dS 3 := rfl
theorem semA10 : ((cc0_scratch15.slice (Rect.unit (s := S4x2) ![1, 0] S1x1.size inb_S4x2_S1x1_1_0)).squeeze S_ squeezes_S1x1_S_).sem = dS 4 := rfl
theorem semA11 : ((cc0_scratch15.slice (Rect.unit (s := S4x2) ![1, 1] S1x1.size inb_S4x2_S1x1_1_1)).squeeze S_ squeezes_S1x1_S_).sem = dS 5 := rfl
theorem semA20 : ((cc0_scratch15.slice (Rect.unit (s := S4x2) ![2, 0] S1x1.size inb_S4x2_S1x1_2_0)).squeeze S_ squeezes_S1x1_S_).sem = dS 6 := rfl
theorem semA21 : ((cc0_scratch15.slice (Rect.unit (s := S4x2) ![2, 1] S1x1.size inb_S4x2_S1x1_2_1)).squeeze S_ squeezes_S1x1_S_).sem = dS 7 := rfl
theorem semA30 : ((cc0_scratch15.slice (Rect.unit (s := S4x2) ![3, 0] S1x1.size inb_S4x2_S1x1_3_0)).squeeze S_ squeezes_S1x1_S_).sem = dS 8 := rfl
theorem semA31 : ((cc0_scratch15.slice (Rect.unit (s := S4x2) ![3, 1] S1x1.size inb_S4x2_S1x1_3_1)).squeeze S_ squeezes_S1x1_S_).sem = dS 9 := rfl
theorem semB00 : ((cc0_scratch16.slice (Rect.unit (s := S2x4) ![0, 0] S1x1.size inb_S2x4_S1x1_0_0)).squeeze S_ squeezes_S1x1_S_).sem = dS 10 := rfl
theorem semB01 : ((cc0_scratch16.slice (Rect.unit (s := S2x4) ![0, 1] S1x1.size inb_S2x4_S1x1_0_1)).squeeze S_ squeezes_S1x1_S_).sem = dS 11 := rfl
theorem semB02 : ((cc0_scratch16.slice (Rect.unit (s := S2x4) ![0, 2] S1x1.size inb_S2x4_S1x1_0_2)).squeeze S_ squeezes_S1x1_S_).sem = dS 12 := rfl
theorem semB03 : ((cc0_scratch16.slice (Rect.unit (s := S2x4) ![0, 3] S1x1.size inb_S2x4_S1x1_0_3)).squeeze S_ squeezes_S1x1_S_).sem = dS 13 := rfl
theorem semB10 : ((cc0_scratch16.slice (Rect.unit (s := S2x4) ![1, 0] S1x1.size inb_S2x4_S1x1_1_0)).squeeze S_ squeezes_S1x1_S_).sem = dS 14 := rfl
theorem semB11 : ((cc0_scratch16.slice (Rect.unit (s := S2x4) ![1, 1] S1x1.size inb_S2x4_S1x1_1_1)).squeeze S_ squeezes_S1x1_S_).sem = dS 15 := rfl
theorem semB12 : ((cc0_scratch16.slice (Rect.unit (s := S2x4) ![1, 2] S1x1.size inb_S2x4_S1x1_1_2)).squeeze S_ squeezes_S1x1_S_).sem = dS 16 := rfl
theorem semB13 : ((cc0_scratch16.slice (Rect.unit (s := S2x4) ![1, 3] S1x1.size inb_S2x4_S1x1_1_3)).squeeze S_ squeezes_S1x1_S_).sem = dS 17 := rfl
theorem semC00 : ((cc0_scratch17.slice (Rect.unit (s := S4x2) ![0, 0] S1x1.size inb_S4x2_S1x1_0_0)).squeeze S_ squeezes_S1x1_S_).sem = dS 18 := rfl
theorem semC01 : ((cc0_scratch17.slice (Rect.unit (s := S4x2) ![0, 1] S1x1.size inb_S4x2_S1x1_0_1)).squeeze S_ squeezes_S1x1_S_).sem = dS 19 := rfl
theorem semC10 : ((cc0_scratch17.slice (Rect.unit (s := S4x2) ![1, 0] S1x1.size inb_S4x2_S1x1_1_0)).squeeze S_ squeezes_S1x1_S_).sem = dS 20 := rfl
theorem semC11 : ((cc0_scratch17.slice (Rect.unit (s := S4x2) ![1, 1] S1x1.size inb_S4x2_S1x1_1_1)).squeeze S_ squeezes_S1x1_S_).sem = dS 21 := rfl
theorem semC20 : ((cc0_scratch17.slice (Rect.unit (s := S4x2) ![2, 0] S1x1.size inb_S4x2_S1x1_2_0)).squeeze S_ squeezes_S1x1_S_).sem = dS 22 := rfl
theorem semC21 : ((cc0_scratch17.slice (Rect.unit (s := S4x2) ![2, 1] S1x1.size inb_S4x2_S1x1_2_1)).squeeze S_ squeezes_S1x1_S_).sem = dS 23 := rfl
theorem semC30 : ((cc0_scratch17.slice (Rect.unit (s := S4x2) ![3, 0] S1x1.size inb_S4x2_S1x1_3_0)).squeeze S_ squeezes_S1x1_S_).sem = dS 24 := rfl
theorem semC31 : ((cc0_scratch17.slice (Rect.unit (s := S4x2) ![3, 1] S1x1.size inb_S4x2_S1x1_3_1)).squeeze S_ squeezes_S1x1_S_).sem = dS 25 := rfl

/-- What a ring message credits, and the two sizes of exchange message. -/
abbrev NA : ℕ := (sl0 raCw).view.dmaCredit
abbrev NB : ℕ := (sb0 rbX).view.dmaCredit
abbrev NH : ℕ := (sb1 rbX).view.dmaCredit
theorem NA_pos : 0 < NA := View.dmaCredit_pos _ (by decide)
theorem NB_pos : 0 < NB := View.dmaCredit_pos _ (by decide)
theorem NH_pos : 0 < NH := View.dmaCredit_pos _ (by decide)

/-! ## Assertions: a device's slot of a buffer at given contents -/

abbrev S0 (M : Memref sig .tc .vmem S2x256x512 .bf16) (c : Dev nD) (f : Buf (Elt F) ((sl0 M).view.loc (c : Thread nD τ))) : sProp 𝕄 :=
  (sl0 M).view.loc (c : Thread nD τ) ↦[(sl0 M).view.set]{fullShare} f
abbrev rd0 (M : Memref sig .tc .vmem S2x256x512 .bf16) (f : M.view.ty.Contents (Elt F)) : Vec F S1x256x512 .bf16 := M.view.readAt (Elt F) (Rect.toLoadRect rg0) f
abbrev S1 (M : Memref sig .tc .vmem S2x256x512 .bf16) (c : Dev nD) (f : Buf (Elt F) ((sl1 M).view.loc (c : Thread nD τ))) : sProp 𝕄 :=
  (sl1 M).view.loc (c : Thread nD τ) ↦[(sl1 M).view.set]{fullShare} f
abbrev rd1 (M : Memref sig .tc .vmem S2x256x512 .bf16) (f : M.view.ty.Contents (Elt F)) : Vec F S1x256x512 .bf16 := M.view.readAt (Elt F) (Rect.toLoadRect rg1) f
abbrev B0 (M : Memref sig .tc .vmem S4x128x1024 .bf16) (c : Dev nD) (f : Buf (Elt F) ((sb0 M).view.loc (c : Thread nD τ))) : sProp 𝕄 :=
  (sb0 M).view.loc (c : Thread nD τ) ↦[(sb0 M).view.set]{fullShare} f
abbrev rl0 (M : Memref sig .tc .vmem S4x128x1024 .bf16) (f : M.view.ty.Contents (Elt F)) : Vec F S1x128x512 .bf16 := M.view.readAt (Elt F) (Rect.toLoadRect bl0) f
abbrev rr0 (M : Memref sig .tc .vmem S4x128x1024 .bf16) (f : M.view.ty.Contents (Elt F)) : Vec F S1x128x512 .bf16 := M.view.readAt (Elt F) (Rect.toLoadRect br0) f
abbrev B1 (M : Memref sig .tc .vmem S4x128x1024 .bf16) (c : Dev nD) (f : Buf (Elt F) ((sb1 M).view.loc (c : Thread nD τ))) : sProp 𝕄 :=
  (sb1 M).view.loc (c : Thread nD τ) ↦[(sb1 M).view.set]{fullShare} f
abbrev rl1 (M : Memref sig .tc .vmem S4x128x1024 .bf16) (f : M.view.ty.Contents (Elt F)) : Vec F S1x64x512 .bf16 := M.view.readAt (Elt F) (Rect.toLoadRect bl1) f
abbrev rr1 (M : Memref sig .tc .vmem S4x128x1024 .bf16) (f : M.view.ty.Contents (Elt F)) : Vec F S1x64x512 .bf16 := M.view.readAt (Elt F) (Rect.toLoadRect br1) f
abbrev B2 (M : Memref sig .tc .vmem S4x128x1024 .bf16) (c : Dev nD) (f : Buf (Elt F) ((sb2 M).view.loc (c : Thread nD τ))) : sProp 𝕄 :=
  (sb2 M).view.loc (c : Thread nD τ) ↦[(sb2 M).view.set]{fullShare} f
abbrev rl2 (M : Memref sig .tc .vmem S4x128x1024 .bf16) (f : M.view.ty.Contents (Elt F)) : Vec F S1x64x512 .bf16 := M.view.readAt (Elt F) (Rect.toLoadRect bl2) f
abbrev rr2 (M : Memref sig .tc .vmem S4x128x1024 .bf16) (f : M.view.ty.Contents (Elt F)) : Vec F S1x64x512 .bf16 := M.view.readAt (Elt F) (Rect.toLoadRect br2) f
abbrev B3 (M : Memref sig .tc .vmem S4x128x1024 .bf16) (c : Dev nD) (f : Buf (Elt F) ((sb3 M).view.loc (c : Thread nD τ))) : sProp 𝕄 :=
  (sb3 M).view.loc (c : Thread nD τ) ↦[(sb3 M).view.set]{fullShare} f
abbrev rl3 (M : Memref sig .tc .vmem S4x128x1024 .bf16) (f : M.view.ty.Contents (Elt F)) : Vec F S1x128x512 .bf16 := M.view.readAt (Elt F) (Rect.toLoadRect bl3) f
abbrev rr3 (M : Memref sig .tc .vmem S4x128x1024 .bf16) (f : M.view.ty.Contents (Elt F)) : Vec F S1x128x512 .bf16 := M.view.readAt (Elt F) (Rect.toLoadRect br3) f
/-- Slot 0 at some contents; slot 0 reading a given message. -/
def eS0 (M : Memref sig .tc .vmem S2x256x512 .bf16) (c : Dev nD) : sProp 𝕄 := iprop(∃ f, S0 (F := F) M c f)
def gS0 (M : Memref sig .tc .vmem S2x256x512 .bf16) (c : Dev nD) (w : Vec F S1x256x512 .bf16) : sProp 𝕄 := iprop(∃ f, ⌜rd0 M f = w⌝ ∗ S0 M c f)
instance eS0_storable (M : Memref sig .tc .vmem S2x256x512 .bf16) (c : Dev nD) : BI.Storable (upEmb : UEmb _ 𝕄) (eS0 (F := F) M c) := by unfold eS0; infer_instance
instance gS0_storable (M : Memref sig .tc .vmem S2x256x512 .bf16) (c : Dev nD) (w) : BI.Storable (upEmb : UEmb _ 𝕄) (gS0 (F := F) M c w) := by unfold gS0; infer_instance
/-- Slot 1 at some contents; slot 1 reading a given message. -/
def eS1 (M : Memref sig .tc .vmem S2x256x512 .bf16) (c : Dev nD) : sProp 𝕄 := iprop(∃ f, S1 (F := F) M c f)
def gS1 (M : Memref sig .tc .vmem S2x256x512 .bf16) (c : Dev nD) (w : Vec F S1x256x512 .bf16) : sProp 𝕄 := iprop(∃ f, ⌜rd1 M f = w⌝ ∗ S1 M c f)
instance eS1_storable (M : Memref sig .tc .vmem S2x256x512 .bf16) (c : Dev nD) : BI.Storable (upEmb : UEmb _ 𝕄) (eS1 (F := F) M c) := by unfold eS1; infer_instance
instance gS1_storable (M : Memref sig .tc .vmem S2x256x512 .bf16) (c : Dev nD) (w) : BI.Storable (upEmb : UEmb _ 𝕄) (gS1 (F := F) M c w) := by unfold gS1; infer_instance
def eB0 (M : Memref sig .tc .vmem S4x128x1024 .bf16) (c : Dev nD) : sProp 𝕄 := iprop(∃ f, B0 (F := F) M c f)
def gB0 (M : Memref sig .tc .vmem S4x128x1024 .bf16) (c : Dev nD) (wl wr : Vec F S1x128x512 .bf16) : sProp 𝕄 := iprop(∃ f, ⌜rl0 M f = wl ∧ rr0 M f = wr⌝ ∗ B0 M c f)
instance eB0_storable (M : Memref sig .tc .vmem S4x128x1024 .bf16) (c : Dev nD) : BI.Storable (upEmb : UEmb _ 𝕄) (eB0 (F := F) M c) := by unfold eB0; infer_instance
instance gB0_storable (M : Memref sig .tc .vmem S4x128x1024 .bf16) (c : Dev nD) (wl wr) : BI.Storable (upEmb : UEmb _ 𝕄) (gB0 (F := F) M c wl wr) := by unfold gB0; infer_instance
def eB1 (M : Memref sig .tc .vmem S4x128x1024 .bf16) (c : Dev nD) : sProp 𝕄 := iprop(∃ f, B1 (F := F) M c f)
def gB1 (M : Memref sig .tc .vmem S4x128x1024 .bf16) (c : Dev nD) (wl wr : Vec F S1x64x512 .bf16) : sProp 𝕄 := iprop(∃ f, ⌜rl1 M f = wl ∧ rr1 M f = wr⌝ ∗ B1 M c f)
instance eB1_storable (M : Memref sig .tc .vmem S4x128x1024 .bf16) (c : Dev nD) : BI.Storable (upEmb : UEmb _ 𝕄) (eB1 (F := F) M c) := by unfold eB1; infer_instance
instance gB1_storable (M : Memref sig .tc .vmem S4x128x1024 .bf16) (c : Dev nD) (wl wr) : BI.Storable (upEmb : UEmb _ 𝕄) (gB1 (F := F) M c wl wr) := by unfold gB1; infer_instance
def eB2 (M : Memref sig .tc .vmem S4x128x1024 .bf16) (c : Dev nD) : sProp 𝕄 := iprop(∃ f, B2 (F := F) M c f)
def gB2 (M : Memref sig .tc .vmem S4x128x1024 .bf16) (c : Dev nD) (wl wr : Vec F S1x64x512 .bf16) : sProp 𝕄 := iprop(∃ f, ⌜rl2 M f = wl ∧ rr2 M f = wr⌝ ∗ B2 M c f)
instance eB2_storable (M : Memref sig .tc .vmem S4x128x1024 .bf16) (c : Dev nD) : BI.Storable (upEmb : UEmb _ 𝕄) (eB2 (F := F) M c) := by unfold eB2; infer_instance
instance gB2_storable (M : Memref sig .tc .vmem S4x128x1024 .bf16) (c : Dev nD) (wl wr) : BI.Storable (upEmb : UEmb _ 𝕄) (gB2 (F := F) M c wl wr) := by unfold gB2; infer_instance
def eB3 (M : Memref sig .tc .vmem S4x128x1024 .bf16) (c : Dev nD) : sProp 𝕄 := iprop(∃ f, B3 (F := F) M c f)
def gB3 (M : Memref sig .tc .vmem S4x128x1024 .bf16) (c : Dev nD) (wl wr : Vec F S1x128x512 .bf16) : sProp 𝕄 := iprop(∃ f, ⌜rl3 M f = wl ∧ rr3 M f = wr⌝ ∗ B3 M c f)
instance eB3_storable (M : Memref sig .tc .vmem S4x128x1024 .bf16) (c : Dev nD) : BI.Storable (upEmb : UEmb _ 𝕄) (eB3 (F := F) M c) := by unfold eB3; infer_instance
instance gB3_storable (M : Memref sig .tc .vmem S4x128x1024 .bf16) (c : Dev nD) (wl wr) : BI.Storable (upEmb : UEmb _ 𝕄) (gB3 (F := F) M c wl wr) := by unfold gB3; infer_instance

/-! ## The schedule

Who waits, who pays, how much, in what order, and what each landing hands over. Device `c`, with `R c`, `L c` its ring neighbours and
`p1 c`, `p2 c` its partners:

* barrier cell: `c` waits for four units, one from each of `R c` (duty 0), `L c` (duty 1), `p1 c` (duty 2), `p2 c` (duty 3); each hands `c`
  the landing slots `c` copies into.
* cells 2, 3 (A) and 18, 19 (C): `c`'s own departures to `R c`, slots 0 and 1; 6, 7 and 22, 23: to `L c`; 10 to 13 (B): to `p1`, `p2`, `p2`,
  `p1`. Each hands the source slot back.
* cells 4, 5 and 20, 21: arrivals from `L c`; 8, 9 and 24, 25: from `R c`; 14 to 17: from `p1`, `p2`, `p2`, `p1`. Each hands over the landing slot at
  the message. Slot 0 of the ring phases is used twice (steps 0 and 2: rounds 0 and 1); the message of step 1 from a neighbour
  also hands over that neighbour's landing slot 0 of the opposite direction, which it has read, with the fact that it has reached round 1 of
  that cell: what the copy of step 2 towards it needs.
-/

/-- The rounds at which a DMA cell has its one duty. -/
def live (n r : ℕ) : Prop :=
  (r = 0 ∧ 2 ≤ n ∧ n < 26) ∨ (r = 1 ∧ (n = 2 ∨ n = 4 ∨ n = 6 ∨ n = 8 ∨ n = 18 ∨ n = 20 ∨ n = 22 ∨ n = 24))
instance (n r : ℕ) : Decidable (live n r) := by unfold live; infer_instance

/-- What a DMA cell's duty credits. -/
def amt (n : ℕ) : ℕ := if n = 10 ∨ n = 13 ∨ n = 14 ∨ n = 17 then NB else if n = 11 ∨ n = 12 ∨ n = 15 ∨ n = 16 then NH else NA
theorem amt_pos (n : ℕ) : 0 < amt n := by
  unfold amt; split
  · exact NB_pos
  · split
    · exact NH_pos
    · exact NA_pos

section Sch
variable (P : Dev nD → OutC F)

/-- What a unit on the barrier cell of `c` hands over. -/
def barPay (c : Dev nD) : Fin 4 → sProp 𝕄
  | 0 => iprop(eS0 raCw (R c) ∗ eS1 raCw (R c) ∗ eS0 rcCw (R c) ∗ eS1 rcCw (R c))
  | 1 => iprop(eS0 raCc (L c) ∗ eS1 raCc (L c) ∗ eS0 rcCc (L c) ∗ eS1 rcCc (L c))
  | 2 => iprop(eB0 rbX (p1 c) ∗ eB3 rbX (p1 c))
  | 3 => iprop(eB1 rbX (p2 c) ∗ eB2 rbX (p2 c))

abbrev pay2_0 (c : Dev nD) : sProp 𝕄 := eS0 (F := F) saCw c
abbrev pay3_0 (c : Dev nD) : sProp 𝕄 := eS1 (F := F) saCw c
abbrev pay4_0 (c : Dev nD) : sProp 𝕄 := gS0 raCw c (mAw0 P (L c))
abbrev pay4_1 (c : Dev nD) : sProp 𝕄 := gS0 raCw c (mAw2 P (L c))
abbrev pay5_0 (c : Dev nD) : sProp 𝕄 := iprop(gS1 raCw c (mAw1 P (L c)) ∗ eS0 raCc (L c) ∗ reached ER (dC (L c) 8) 1)
abbrev pay6_0 (c : Dev nD) : sProp 𝕄 := eS0 (F := F) saCc c
abbrev pay7_0 (c : Dev nD) : sProp 𝕄 := eS1 (F := F) saCc c
abbrev pay8_0 (c : Dev nD) : sProp 𝕄 := gS0 raCc c (mAc0 P (R c))
abbrev pay8_1 (c : Dev nD) : sProp 𝕄 := gS0 raCc c (mAc2 P (R c))
abbrev pay9_0 (c : Dev nD) : sProp 𝕄 := iprop(gS1 raCc c (mAc1 P (R c)) ∗ eS0 raCw (R c) ∗ reached ER (dC (R c) 4) 1)
abbrev pay10_0 (c : Dev nD) : sProp 𝕄 := eB0 (F := F) sbX c
abbrev pay11_0 (c : Dev nD) : sProp 𝕄 := eB1 (F := F) sbX c
abbrev pay12_0 (c : Dev nD) : sProp 𝕄 := eB2 (F := F) sbX c
abbrev pay13_0 (c : Dev nD) : sProp 𝕄 := eB3 (F := F) sbX c
abbrev pay14_0 (c : Dev nD) : sProp 𝕄 := gB0 rbX c (mB0l P (p1 c)) (mB0r P (p1 c))
abbrev pay15_0 (c : Dev nD) : sProp 𝕄 := gB1 rbX c (mB1l P (p2 c)) (mB1r P (p2 c))
abbrev pay16_0 (c : Dev nD) : sProp 𝕄 := gB2 rbX c (mB2l P (p2 c)) (mB2r P (p2 c))
abbrev pay17_0 (c : Dev nD) : sProp 𝕄 := gB3 rbX c (mB3l P (p1 c)) (mB3r P (p1 c))
abbrev pay18_0 (c : Dev nD) : sProp 𝕄 := eS0 (F := F) scCw c
abbrev pay19_0 (c : Dev nD) : sProp 𝕄 := eS1 (F := F) scCw c
abbrev pay20_0 (c : Dev nD) : sProp 𝕄 := gS0 rcCw c (mCw0 P (L c))
abbrev pay20_1 (c : Dev nD) : sProp 𝕄 := gS0 rcCw c (mCw2 P (L c))
abbrev pay21_0 (c : Dev nD) : sProp 𝕄 := iprop(gS1 rcCw c (mCw1 P (L c)) ∗ eS0 rcCc (L c) ∗ reached ER (dC (L c) 24) 1)
abbrev pay22_0 (c : Dev nD) : sProp 𝕄 := eS0 (F := F) scCc c
abbrev pay23_0 (c : Dev nD) : sProp 𝕄 := eS1 (F := F) scCc c
abbrev pay24_0 (c : Dev nD) : sProp 𝕄 := gS0 rcCc c (mCc0 P (R c))
abbrev pay24_1 (c : Dev nD) : sProp 𝕄 := gS0 rcCc c (mCc2 P (R c))
abbrev pay25_0 (c : Dev nD) : sProp 𝕄 := iprop(gS1 rcCc c (mCc1 P (R c)) ∗ eS0 rcCw (R c) ∗ reached ER (dC (R c) 20) 1)

/-- What the duty of round `r` of DMA cell `n` of `c` hands over. -/
def dmaPay (c : Dev nD) (n r : ℕ) : sProp 𝕄 :=
  if n = 2 then pay2_0 c else
  if n = 3 then pay3_0 c else
  if n = 4 then (if r = 0 then pay4_0 P c else pay4_1 P c) else
  if n = 5 then pay5_0 P c else
  if n = 6 then pay6_0 c else
  if n = 7 then pay7_0 c else
  if n = 8 then (if r = 0 then pay8_0 P c else pay8_1 P c) else
  if n = 9 then pay9_0 P c else
  if n = 10 then pay10_0 c else
  if n = 11 then pay11_0 c else
  if n = 12 then pay12_0 c else
  if n = 13 then pay13_0 c else
  if n = 14 then pay14_0 P c else
  if n = 15 then pay15_0 P c else
  if n = 16 then pay16_0 P c else
  if n = 17 then pay17_0 P c else
  if n = 18 then pay18_0 c else
  if n = 19 then pay19_0 c else
  if n = 20 then (if r = 0 then pay20_0 P c else pay20_1 P c) else
  if n = 21 then pay21_0 P c else
  if n = 22 then pay22_0 c else
  if n = 23 then pay23_0 c else
  if n = 24 then (if r = 0 then pay24_0 P c else pay24_1 P c) else
  if n = 25 then pay25_0 P c else
  iprop(emp)

/-- The schedule of the kernel's cells. -/
def Rd : Rounds.Schedule (GSem nD τ sig) (Fin 4) 𝕄 where
  duties g r := match g.2 with
    | .reg s => if g.1.2 = .tc ∧ s = barS ∧ r = 0 then Finset.univ else ∅
    | .dma s => if g.1.2 = .tc ∧ live s.val r then {0} else ∅
  unitless _ := False
  amount g _ _ := match g.2 with
    | .reg _ => 1
    | .dma s => amt s.val
  payload g r d := match g.2 with
    | .reg _ => barPay g.1.1 d
    | .dma s => dmaPay P g.1.1 s.val r
  amount_pos g _ _ _ := by
    rcases g with ⟨t, (s | s)⟩
    · exact Nat.one_pos
    · exact amt_pos _

instance barPay_storable (c : Dev nD) (d : Fin 4) : BI.Storable (upEmb : UEmb _ 𝕄) (barPay (F := F) c d) := by
  fin_cases d <;> (dsimp only [barPay]; infer_instance)

set_option maxHeartbeats 1000000 in
theorem ite_st (p : Prop) [Decidable p] (a b : sProp 𝕄) (ha : BI.Storable (upEmb : UEmb _ 𝕄) a) (hb : BI.Storable (upEmb : UEmb _ 𝕄) b) : BI.Storable (upEmb : UEmb _ 𝕄) (if p then a else b) := by
  by_cases h : p
  · rw [if_pos h]; exact ha
  · rw [if_neg h]; exact hb
instance dmaPay_storable (c : Dev nD) (n r : ℕ) : BI.Storable (upEmb : UEmb _ 𝕄) (dmaPay (F := F) P c n r) := by
  unfold dmaPay
  repeat' refine ite_st _ _ _ ?_ ?_
  all_goals infer_instance

instance Rd_payload_storable (g : GSem nD τ sig) (r : ℕ) (d : Fin 4) : BI.Storable (upEmb : UEmb _ 𝕄) ((Rd (F := F) P).payload g r d) := by
  rcases g with ⟨t, (s | s)⟩
  · exact barPay_storable _ _
  · exact dmaPay_storable P _ _ _

theorem duties_bar (c : Dev nD) : (Rd (F := F) P).duties (barC c) 0 = Finset.univ := by
  dsimp only [Rd]; exact if_pos ⟨rfl, rfl, rfl⟩
theorem duties_dma (c : Dev nD) (n r : ℕ) (h : n < 32) (hl : live n r) : (Rd (F := F) P).duties (dC c n h) r = {0} := by
  dsimp only [Rd]; exact if_pos ⟨rfl, hl⟩
theorem duties_mem (c : Dev nD) (n r : ℕ) (h : n < 32) (hl : live n r) : (0 : Fin 4) ∈ (Rd (F := F) P).duties (dC c n h) r := by
  rw [duties_dma P c n r h hl]; exact Finset.mem_singleton_self _
theorem duties_bar_later (c : Dev nD) : ∀ r, 1 ≤ r → (Rd (F := F) P).duties (barC c) r = ∅ :=
  fun r hr => by dsimp only [Rd]; exact if_neg fun h => by omega
theorem duties_dma_later (c : Dev nD) (n : ℕ) (h : n < 32) (m : ℕ) (hm : ∀ r, m ≤ r → ¬ live n r) : ∀ r, m ≤ r → (Rd (F := F) P).duties (dC c n h) r = ∅ :=
  fun r hr => by dsimp only [Rd]; exact if_neg fun h => hm r hr h.2
theorem amount_dma (c : Dev nD) (n r : ℕ) (h : n < 32) (d : Fin 4) : (Rd (F := F) P).amount (dC c n h) r d = amt n := rfl
theorem amount_bar (c : Dev nD) (r : ℕ) (d : Fin 4) : (Rd (F := F) P).amount (barC c) r d = 1 := rfl
theorem payload_dma (c : Dev nD) (n r : ℕ) (h : n < 32) (d : Fin 4) : (Rd (F := F) P).payload (dC c n h) r d = dmaPay P c n r := rfl
theorem payload_bar (c : Dev nD) (r : ℕ) (d : Fin 4) : (Rd (F := F) P).payload (barC c) r d = barPay c d := rfl
theorem expect_dma (c : Dev nD) (n r : ℕ) (h : n < 32) (hl : live n r) : (Rd (F := F) P).expect (dC c n h) r = amt n := by
  unfold Schedule.expect Schedule.amountOf; rw [duties_dma P c n r h hl, Finset.sum_singleton]; rfl
theorem expect_bar (c : Dev nD) : (Rd (F := F) P).expect (barC c) 0 = 4 := by
  unfold Schedule.expect Schedule.amountOf
  rw [duties_bar, Finset.sum_congr rfl fun d _ => amount_bar P c 0 d, Finset.sum_const, Finset.card_univ, Fintype.card_fin, smul_eq_mul]
theorem rest_bar (c : Dev nD) : bigSep ((Rd (F := F) P).duties (barC c) 0 \ ∅) (fun d => (Rd (F := F) P).payload (barC c) 0 d)
    = iprop(barPay c 0 ∗ barPay c 1 ∗ barPay c 2 ∗ barPay c 3) := by
  rw [Finset.sdiff_empty, duties_bar, bigSep_univ_eq_bigSepL [0, 1, 2, 3] (by decide) (by decide), bigSepL_cons_cons, bigSepL_cons_cons, bigSepL_cons_cons, bigSepL_singleton]
  rfl
theorem rest_dma (c : Dev nD) (n r : ℕ) (h : n < 32) (hl : live n r) :
    bigSep ((Rd (F := F) P).duties (dC c n h) r \ ∅) (fun d => (Rd (F := F) P).payload (dC c n h) r d) = dmaPay P c n r := by
  rw [Finset.sdiff_empty, duties_dma P c n r h hl, bigSep_singleton, payload_dma]

theorem dmaPay2_0 (c : Dev nD) : dmaPay (F := F) P c 2 0 = pay2_0 c := rfl
theorem dmaPay3_0 (c : Dev nD) : dmaPay (F := F) P c 3 0 = pay3_0 c := rfl
theorem dmaPay4_0 (c : Dev nD) : dmaPay (F := F) P c 4 0 = pay4_0 P c := rfl
theorem dmaPay4_1 (c : Dev nD) : dmaPay (F := F) P c 4 1 = pay4_1 P c := rfl
theorem dmaPay5_0 (c : Dev nD) : dmaPay (F := F) P c 5 0 = pay5_0 P c := rfl
theorem dmaPay6_0 (c : Dev nD) : dmaPay (F := F) P c 6 0 = pay6_0 c := rfl
theorem dmaPay7_0 (c : Dev nD) : dmaPay (F := F) P c 7 0 = pay7_0 c := rfl
theorem dmaPay8_0 (c : Dev nD) : dmaPay (F := F) P c 8 0 = pay8_0 P c := rfl
theorem dmaPay8_1 (c : Dev nD) : dmaPay (F := F) P c 8 1 = pay8_1 P c := rfl
theorem dmaPay9_0 (c : Dev nD) : dmaPay (F := F) P c 9 0 = pay9_0 P c := rfl
theorem dmaPay10_0 (c : Dev nD) : dmaPay (F := F) P c 10 0 = pay10_0 c := rfl
theorem dmaPay11_0 (c : Dev nD) : dmaPay (F := F) P c 11 0 = pay11_0 c := rfl
theorem dmaPay12_0 (c : Dev nD) : dmaPay (F := F) P c 12 0 = pay12_0 c := rfl
theorem dmaPay13_0 (c : Dev nD) : dmaPay (F := F) P c 13 0 = pay13_0 c := rfl
theorem dmaPay14_0 (c : Dev nD) : dmaPay (F := F) P c 14 0 = pay14_0 P c := rfl
theorem dmaPay15_0 (c : Dev nD) : dmaPay (F := F) P c 15 0 = pay15_0 P c := rfl
theorem dmaPay16_0 (c : Dev nD) : dmaPay (F := F) P c 16 0 = pay16_0 P c := rfl
theorem dmaPay17_0 (c : Dev nD) : dmaPay (F := F) P c 17 0 = pay17_0 P c := rfl
theorem dmaPay18_0 (c : Dev nD) : dmaPay (F := F) P c 18 0 = pay18_0 c := rfl
theorem dmaPay19_0 (c : Dev nD) : dmaPay (F := F) P c 19 0 = pay19_0 c := rfl
theorem dmaPay20_0 (c : Dev nD) : dmaPay (F := F) P c 20 0 = pay20_0 P c := rfl
theorem dmaPay20_1 (c : Dev nD) : dmaPay (F := F) P c 20 1 = pay20_1 P c := rfl
theorem dmaPay21_0 (c : Dev nD) : dmaPay (F := F) P c 21 0 = pay21_0 P c := rfl
theorem dmaPay22_0 (c : Dev nD) : dmaPay (F := F) P c 22 0 = pay22_0 c := rfl
theorem dmaPay23_0 (c : Dev nD) : dmaPay (F := F) P c 23 0 = pay23_0 c := rfl
theorem dmaPay24_0 (c : Dev nD) : dmaPay (F := F) P c 24 0 = pay24_0 P c := rfl
theorem dmaPay24_1 (c : Dev nD) : dmaPay (F := F) P c 24 1 = pay24_1 P c := rfl
theorem dmaPay25_0 (c : Dev nD) : dmaPay (F := F) P c 25 0 = pay25_0 P c := rfl

end Sch

/-! ## What each device owes, in the order in which it pays; the levels

An index is its level: 0 the staging copies, the local copies and the departures; 1 the barrier; 2, 3, 4 the steps of phase A; 5 to 8 the
exchanges of phase B; 9, 10, 11 the steps of phase C. -/

/-- What is owed by a list of payments, the first of them outermost. -/
def osum : List (GSem nD τ sig × ℕ × ℕ) → CellTallies nD τ sig ℕ
  | [] => 0
  | x :: l => osum l + tallyAt x.1 x.2.1 x.2.2

/-- The payments of device `c`. -/
def dues (c : Dev nD) : List (GSem nD τ sig × ℕ × ℕ) :=
  [(barC (L c), 1, 1), (barC (R c), 1, 1), (barC (p1 c), 1, 1), (barC (p2 c), 1, 1),
   (dC (R c) 4, 2, NA), (dC (L c) 8, 2, NA), (dC (R c) 5, 3, NA), (dC (L c) 9, 3, NA), (dC (R c) 4, 4, NA), (dC (L c) 8, 4, NA),
   (dC (p1 c) 14, 5, NB), (dC (p2 c) 15, 6, NH), (dC (p2 c) 16, 7, NH), (dC (p1 c) 17, 8, NB),
   (dC (R c) 20, 9, NA), (dC (L c) 24, 9, NA), (dC (R c) 21, 10, NA), (dC (L c) 25, 10, NA), (dC (R c) 20, 11, NA), (dC (L c) 24, 11, NA)]

/-- What `c` owes after its first `k` payments. -/
def Ow (c : Dev nD) (k : ℕ) : CellTallies nD τ sig ℕ := osum ((dues c).drop k)

def Lv (g : GSem nD τ sig) : Finset ℕ := if g.1.2 = .tc then Finset.range 12 else ∅
def lv (_ : GSem nD τ sig) (i : ℕ) : ℕ := i
theorem Lv_of_ne (g : GSem nD τ sig) (h : g.1.2 ≠ .tc) : Lv g = ∅ := if_neg h
theorem mem_Lv {g : GSem nD τ sig} (hg : g.1.2 = .tc) {i : ℕ} (hi : i < 12) : i ∈ Lv g := by
  unfold Lv; rw [if_pos hg]; exact Finset.mem_range.mpr hi

theorem osum_pos (i : ℕ) (l : List (GSem nD τ sig × ℕ × ℕ)) (hl : l.Forall fun x => x.1.1.2 = .tc ∧ i < x.2.1 ∧ x.2.1 < 12) :
    ∀ g (k : ℕ), 0 < osum l g k → k ∈ Lv g ∧ i < k := by
  induction l with
  | nil => intro g k h; exact absurd h (Nat.lt_irrefl 0)
  | cons x l ih =>
    intro g k h
    rw [List.forall_cons] at hl
    unfold osum at h
    rw [Pi.add_apply, Finsupp.add_apply, tallyAt_apply] at h
    split at h
    · rename_i he
      obtain ⟨rfl, rfl⟩ := he
      exact ⟨mem_Lv hl.1.1 hl.1.2.2, hl.1.2.1⟩
    · exact ih hl.2 g k (by simpa using h)

/-- A wait at index `i` may be made while what is owed is a list of payments at higher indices. -/
theorem mayWait_osum (c : Dev nD) (sm : SemLoc sig) (i : ℕ) (hi : i < 12) (l : List (GSem nD τ sig × ℕ × ℕ))
    (hl : l.Forall fun x => x.1.1.2 = .tc ∧ i < x.2.1 ∧ x.2.1 < 12) :
    (levAts Lv lv : sProp 𝕄) ⊢ MayWait (c : Thread nD τ) sm i (osum l) :=
  MayOwe.of_cut (lev := lv) i
    (fun p hp => by rw [Finset.mem_singleton.mp hp]; exact mem_Lv rfl hi)
    (fun g k h => (osum_pos i l hl g k h).1)
    (fun p hp => by rw [Finset.mem_singleton.mp hp]; exact le_refl _)
    (fun g k h => (osum_pos i l hl g k h).2)

end Cert.KP

end
-- ==== Proof.Ops.lean ====
module

public import proofs.«01_k».proof.Proof.Proto
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

abbrev 𝒱₀ : Variants := Variants.none
/-- The weakest precondition of a device's program. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The records every device holds: the cells' invariants, their first rounds reached, the levels -/

/-- The cells by number: the barrier's, then the DMA cells 2 to 25. -/
def kcell (ck : Dev nD × Fin 25) : GSem nD τ sig :=
  if h : ck.2.val = 0 then barC ck.1 else dC ck.1 (ck.2.val + 1) (by have := ck.2.isLt; omega)

/-- The number of DMA cell `n`. -/
abbrev ki (n : ℕ) (h2 : 2 ≤ n := by decide) (h : n < 26 := by decide) : Fin 25 := ⟨n - 1, by omega⟩
theorem kcell_dma (c : Dev nD) (n : ℕ) (h2 : 2 ≤ n) (h : n < 26) : kcell (c, ki n h2 h) = dC c n (by omega) := by
  unfold kcell
  rw [dif_neg (by show ¬ (n - 1 = 0); omega)]
  have e : n - 1 + 1 = n := by omega
  show (((c : Thread nD τ), SemLoc.dma (⟨n - 1 + 1, _⟩ : DmaSem sig)) : GSem nD τ sig) = _
  congr 2
  exact Fin.ext e
theorem kcell_bar (c : Dev nD) : kcell (c, 0) = barC c := dif_pos rfl

section Recs
variable (P : Dev nD → OutC F) (K : Dev nD × Fin 25 → ℕ)

def recs : sProp 𝕄 :=
  iprop((bigSep Finset.univ fun ck : Dev nD × Fin 25 => cellInv ER (Rd P) (K ck) (kcell ck))
    ∗ (bigSep Finset.univ fun ck : Dev nD × Fin 25 => reached ER (kcell ck) 0) ∗ levAts Lv lv)
instance recs_persistent : BI.Persistent (recs (F := F) P K) := by unfold recs; infer_instance

theorem recs_inv (ck : Dev nD × Fin 25) : recs (F := F) P K ⊢ cellInv ER (Rd P) (K ck) (kcell ck) := by
  unfold recs
  iintro ⟨H, -⟩
  iapply (show (bigSep Finset.univ fun ck : Dev nD × Fin 25 => (cellInv ER (Rd P) (K ck) (kcell ck) : sProp 𝕄)) ⊢ cellInv ER (Rd P) (K ck) (kcell ck) from bigSep_elim (Finset.mem_univ ck)); iexact H
theorem recs_reached (ck : Dev nD × Fin 25) : recs (F := F) P K ⊢ reached ER (kcell ck) 0 := by
  unfold recs
  iintro ⟨-, H, -⟩
  iapply (show (bigSep Finset.univ fun ck : Dev nD × Fin 25 => (reached ER (kcell ck) 0 : sProp 𝕄)) ⊢ reached ER (kcell ck) 0 from bigSep_elim (Finset.mem_univ ck)); iexact H
theorem recs_lev : recs (F := F) P K ⊢ levAts Lv lv := by
  unfold recs
  iintro ⟨-, -, H⟩
  iexact H
theorem inv_bar (c : Dev nD) : recs (F := F) P K ⊢ cellInv ER (Rd P) (K (c, 0)) (barC c) := by
  have h := recs_inv P K (c, 0); rwa [kcell_bar] at h
theorem inv_dma (c : Dev nD) (n : ℕ) (h2 : 2 ≤ n) (h : n < 26) : recs (F := F) P K ⊢ cellInv ER (Rd P) (K (c, ki n h2 h)) (dC c n (by omega)) := by
  have h := recs_inv P K (c, ki n h2 h); rwa [kcell_dma] at h
theorem reached_dma (c : Dev nD) (n : ℕ) (h2 : 2 ≤ n) (h : n < 26) : recs (F := F) P K ⊢ reached ER (dC c n (by omega)) 0 := by
  have h := recs_reached P K (c, ki n h2 h); rwa [kcell_dma] at h
theorem reached_bar (c : Dev nD) : recs (F := F) P K ⊢ reached ER (barC c) 0 := by
  have h := recs_reached P K (c, 0); rwa [kcell_bar] at h

/-! ## What is owed, and waiting under it -/

/-- `c` after its first `k` payments. -/
def own (c : Dev nD) (k : ℕ) : sProp 𝕄 := iprop(∃ W, owes (c : Thread nD τ) (Ow c k) W)

/-- The indices of the payments. -/
def duesIx : List ℕ := [1, 1, 1, 1, 2, 2, 3, 3, 4, 4, 5, 6, 7, 8, 9, 9, 10, 10, 11, 11]
theorem dues_forall (c : Dev nD) (i : ℕ) (k : ℕ) (h : ∀ j ∈ duesIx.drop k, i < j ∧ j < 12) :
    ((dues c).drop k).Forall fun x => x.1.1.2 = .tc ∧ i < x.2.1 ∧ x.2.1 < 12 := by
  have hm : (dues c).map (fun x => x.2.1) = duesIx := rfl
  have ht : ∀ x ∈ dues c, x.1.1.2 = .tc := by
    intro x hx
    simp only [dues, List.mem_cons, List.not_mem_nil, or_false] at hx
    rcases hx with h | h | h | h | h | h | h | h | h | h | h | h | h | h | h | h | h | h | h | h <;> rw [h]
  rw [List.forall_iff_forall_mem]
  intro x hx
  refine ⟨ht x (List.mem_of_mem_drop hx), h _ ?_⟩
  rw [← hm, ← List.map_drop]
  exact List.mem_map_of_mem hx
set_option maxRecDepth 20000 in
theorem mayWait_list (c : Dev nD) (sm : SemLoc sig) (i : ℕ) (hi : i < 12) (l : List (GSem nD τ sig × ℕ × ℕ))
    (h : l.Forall fun x => x.1.1.2 = .tc ∧ i < x.2.1 ∧ x.2.1 < 12) :
    recs (F := F) P K ⊢ MayWait (c : Thread nD τ) sm i (osum l) := by
  iintro H
  ihave H2 := (recs_lev P K) $$ H
  iapply (mayWait_osum c sm i hi l h); iexact H2
theorem Ow_eq (c : Dev nD) (k : ℕ) : Ow c k = osum ((dues c).drop k) := rfl
theorem mayWait (c : Dev nD) (sm : SemLoc sig) (i k : ℕ) (hi : i < 12) (h : ∀ j ∈ duesIx.drop k, i < j ∧ j < 12) :
    recs (F := F) P K ⊢ MayWait (c : Thread nD τ) sm i (Ow c k) := by
  have h2 := dues_forall c i k h
  rw [Ow_eq]
  exact mayWait_list P K c sm i hi _ h2

variable {P K}
variable {α : Type}

theorem wp_end {Q : α → sProp 𝕄} (c : Dev nD) {a : α} : Q a ⊢ WP c (.ret a) Q := by
  iintro H
  unfold WP
  rw [wp_ret]; imodintro; iexact H

/-- A wait of a device on its DMA cell `n`, in round `r`, after `k` payments: the payload of the round's one duty. -/
theorem wait_dma {Q : α → sProp 𝕄} (c : Dev nD) (n r k i : ℕ) (h2 : 2 ≤ n) (h : n < 26) (hl : live n r) (hi : i < 12) (hk : ∀ j ∈ duesIx.drop k, i < j ∧ j < 12)
    {sp sp' : Space} {s s' : Shape} {e e' : EltTy} {src : Memref sig .tc sp s e} {dst : Memref sig .tc sp' s' e'}
    {hsrc : src.view.WordExact} {hdst : dst.view.WordExact} (hN : dst.view.dmaCredit = amt n)
    {kk : PUnit → Prog (TpuEff nD τ sig (Elt F) Λ₀ .tc) α} :
    iprop(recs P K ∗ cred (tallyAt (dC c n (by omega)) i (amt n)) ∗ own c k ∗ atPos ER (dC c n (by omega)) r ∅ 0)
      ⊢ iprop(((own c k ∗ atPos ER (dC c n (by omega)) (r + 1) ∅ 0 ∗ reached ER (dC c n (by omega)) (r + 1) ∗ dmaPay P c n r) -∗ WP c (kk ⟨⟩) Q)
          -∗ WP c (.op (.waitDma2 (dS n (by omega)) src dst hsrc hdst) kk) Q) := by
  unfold own
  iintro ⟨#HR, Hc, ⟨%W, HO⟩, Hat⟩ Hk
  ihave #HI := (inv_dma P K c n h2 h) $$ HR
  iapply (Rounds.wp_wait_rest_token 𝒱₀ ER (Rd P) (c : Thread nD τ) none (κ := K (c, ki n h2 h))
      (wpE_waitDma2_eq 𝒱₀ (c : Thread nD τ) none Set.univ) (Set.mem_univ _) i (O := Ow c k) (W := W) (R := r) (m := 0) (T := ∅)
      (by rw [Nat.zero_add, hN, expect_dma P c n r (by omega) hl])) $$ [Hc HO Hat]
  · isplitr; · iexact HI
    isplitl [Hc]; · rw [← hN]; iexact Hc
    isplitl [HO]; · iexact HO
    isplitr; · iapply (mayWait P K c _ i k hi hk); iexact HR
    iexact Hat
  iintro ⟨HO, Hat, Hr, Hpay⟩
  iapply Hk
  isplitl [HO]; · iexists _; iexact HO
  isplitl [Hat]; · iexact Hat
  isplitl [Hr]; · iexact Hr
  iapply (Entails.of_eq (rest_dma P c n r (by omega) hl)); iexact Hpay

/-- A copy to device `e`, crediting `c`'s cell `n1` and `e`'s cell `n2`: the `k`-th payment. -/
theorem send {Q : α → sProp 𝕄} (c e : Dev nD) (k n1 r1 n2 r2 i : ℕ) (h12 : 2 ≤ n1) (h1 : n1 < 26) (h22 : 2 ≤ n2) (h2 : n2 < 26) (hl1 : live n1 r1) (hl2 : live n2 r2)
    {s : Shape} {ty : EltTy} {src dst : Memref sig .tc .vmem s ty} {hsc : (dst : Memref sig (Dev.tc e : Thread nD τ).2.kind .vmem s ty).view.ref.isScScratch = false}
    {hsrc : src.view.WordExact} {hdst : dst.view.WordExact}
    {hsem : DmaTarget.Typed .vmem (.dma (dS n2 (by omega))) (.remote (Dev.tc e : Thread nD τ) dst (.dma (dS n1 (by omega))) hsc)}
    {kk : PUnit → Prog (TpuEff nD τ sig (Elt F) Λ₀ .tc) α} (N : ℕ)
    (hN : (dst.view.amount (.dma (dS n2 (by omega)) : SemLoc sig)) = N) (hn1 : amt n1 = N) (hn2 : amt n2 = N)
    (hO : Ow c k = Ow c (k + 1) + tallyAt (dC e n2 (by omega)) i N)
    {fs : Buf (Elt F) (src.view.loc (c : Thread nD τ))} {fd : Buf (Elt F) (dst.view.loc (e : Thread nD τ))} {X : sProp 𝕄}
    (hp1 : (src.view.loc (c : Thread nD τ) ↦[src.view.set]{fullShare} fs) ⊢ dmaPay P c n1 r1)
    (hp2 : iprop((dst.view.loc (e : Thread nD τ) ↦[dst.view.set]{fullShare} (dst.view.write (Elt F) fd (src.view.read (Elt F) fs) Finset.univ)) ∗ X) ⊢ dmaPay P e n2 r2) :
    iprop(recs P K ∗ (src.view.loc (c : Thread nD τ) ↦[src.view.set]{fullShare} fs) ∗ ((dst.view.loc (e : Thread nD τ) ↦[dst.view.set]{fullShare} fd) ∗ X)
        ∗ own c k ∗ dutyTok ER (dC c n1 (by omega)) r1 0 ∗ reached ER (dC c n1 (by omega)) r1 ∗ dutyTok ER (dC e n2 (by omega)) r2 0 ∗ reached ER (dC e n2 (by omega)) r2)
      ⊢ iprop(((cred (tallyAt (dC c n1 (by omega)) 0 N) ∗ own c (k + 1)) -∗ WP c (kk ⟨⟩) Q)
          -∗ WP c (.op (.enqueueDma src (.remote (Dev.tc e : Thread nD τ) dst (.dma (dS n1 (by omega))) hsc) (.dma (dS n2 (by omega))) hsrc hdst hsem) kk) Q) := by
  unfold own
  iintro ⟨#HR, Hs, Hd, ⟨%W, HO⟩, Ht1, Hr1, Ht2, Hr2⟩ Hk
  ihave #HI1 := (inv_dma P K c n1 h12 h1) $$ HR
  ihave #HI2 := (inv_dma P K e n2 h22 h2) $$ HR
  iapply (Rounds.wp_send_pointsTo_with 𝒱₀ ER (Rd P) (c : Thread nD τ) none (κ₁ := K (c, ki n1 h12 h1)) (κ₂ := K (e, ki n2 h22 h2))
    (r₁ := r1) (r₂ := r2) (d₁ := 0) (d₂ := 0) (fd := fd) (fs := fs) (F := X)
    (duties_mem P c n1 r1 _ hl1) (duties_mem P e n2 r2 _ hl2)
    i 0 N hN ((amount_dma P c n1 r1 _ 0).trans hn1) ((amount_dma P e n2 r2 _ 0).trans hn2) (Ow c (k + 1)) hO (W := W)
    hp1 hp2) $$ [Hs Hd HO Ht1 Hr1 Ht2 Hr2]
  · isplitr; · iexact HI1
    isplitr; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists _; iexact HO

/-! ## What a copy between slots leaves -/

omit [FloatOps F] [Named F] in
/-- A copy of a rectangle of one buffer onto the same rectangle of another makes their readings through any part of it equal. -/
theorem land {s s' : Shape} {ty : EltTy} (M M' : View sig .tc .vmem s ty) (r r' : Rect s) (hsub : r'.set ⊆ r.set) (h : s'.numel = r.shape.numel)
    (fd : M'.ty.Contents (Elt F)) (fs : M.ty.Contents (Elt F)) :
    (M'.slice r').read (Elt F) (((M'.slice r).reshape s' h).write (Elt F) fd (((M.slice r).reshape s' h).read (Elt F) fs) Finset.univ)
      = (M.slice r').read (Elt F) fs := by
  funext y
  have hy : r'.emb y ∈ r.set := hsub (by rw [← Rect.map_emb_univ]; exact Finset.mem_map_of_mem _ (Finset.mem_univ y))
  rw [← Rect.map_emb_univ] at hy
  obtain ⟨z, -, hz⟩ := Finset.mem_map.mp hy
  have e : ∀ N : View sig .tc .vmem s ty, (N.slice r').emb y = ((N.slice r).reshape s' h).emb ((Shape.reshapeEquiv h).symm z) := by
    intro N
    show N.emb (r'.emb y) = N.emb (r.emb (Shape.reshapeEquiv h ((Shape.reshapeEquiv h).symm z)))
    rw [Equiv.apply_symm_apply, hz]
  rw [View.read_apply, View.read_apply, e M', e M, View.write_emb_of_mem _ _ (Finset.mem_univ _), cast_cast, View.read_apply, cast_cast]

omit [FloatOps F] [Named F] in
theorem land0 (M M' : Memref sig .tc .vmem S2x256x512 .bf16) (fd : M'.view.ty.Contents (Elt F)) (fs : M.view.ty.Contents (Elt F)) :
    rd0 M' ((sl0 M').view.write (Elt F) fd ((sl0 M).view.read (Elt F) fs) Finset.univ) = rd0 M fs :=
  land M.view M'.view rg0 rg0 (Finset.Subset.refl _) _ fd fs
omit [FloatOps F] [Named F] in
theorem land1 (M M' : Memref sig .tc .vmem S2x256x512 .bf16) (fd : M'.view.ty.Contents (Elt F)) (fs : M.view.ty.Contents (Elt F)) :
    rd1 M' ((sl1 M').view.write (Elt F) fd ((sl1 M).view.read (Elt F) fs) Finset.univ) = rd1 M fs :=
  land M.view M'.view rg1 rg1 (Finset.Subset.refl _) _ fd fs
omit [FloatOps F] [Named F] in
theorem bl0_sub : (bl0 : Rect S4x128x1024).set ⊆ bg0.set := by
  intro i hi
  rw [Rect.mem_set_unit] at hi ⊢
  intro a
  have := hi a
  fin_cases a <;> simp at this ⊢ <;> omega
omit [FloatOps F] [Named F] in
theorem landl0 (M M' : Memref sig .tc .vmem S4x128x1024 .bf16) (fd : M'.view.ty.Contents (Elt F)) (fs : M.view.ty.Contents (Elt F)) :
    rl0 M' ((sb0 M').view.write (Elt F) fd ((sb0 M).view.read (Elt F) fs) Finset.univ) = rl0 M fs :=
  land M.view M'.view bg0 bl0 bl0_sub _ fd fs
omit [FloatOps F] [Named F] in
theorem br0_sub : (br0 : Rect S4x128x1024).set ⊆ bg0.set := by
  intro i hi
  rw [Rect.mem_set_unit] at hi ⊢
  intro a
  have := hi a
  fin_cases a <;> simp at this ⊢ <;> omega
omit [FloatOps F] [Named F] in
theorem landr0 (M M' : Memref sig .tc .vmem S4x128x1024 .bf16) (fd : M'.view.ty.Contents (Elt F)) (fs : M.view.ty.Contents (Elt F)) :
    rr0 M' ((sb0 M').view.write (Elt F) fd ((sb0 M).view.read (Elt F) fs) Finset.univ) = rr0 M fs :=
  land M.view M'.view bg0 br0 br0_sub _ fd fs
omit [FloatOps F] [Named F] in
theorem bl1_sub : (bl1 : Rect S4x128x1024).set ⊆ bg1.set := by
  intro i hi
  rw [Rect.mem_set_unit] at hi ⊢
  intro a
  have := hi a
  fin_cases a <;> simp at this ⊢ <;> omega
omit [FloatOps F] [Named F] in
theorem landl1 (M M' : Memref sig .tc .vmem S4x128x1024 .bf16) (fd : M'.view.ty.Contents (Elt F)) (fs : M.view.ty.Contents (Elt F)) :
    rl1 M' ((sb1 M').view.write (Elt F) fd ((sb1 M).view.read (Elt F) fs) Finset.univ) = rl1 M fs :=
  land M.view M'.view bg1 bl1 bl1_sub _ fd fs
omit [FloatOps F] [Named F] in
theorem br1_sub : (br1 : Rect S4x128x1024).set ⊆ bg1.set := by
  intro i hi
  rw [Rect.mem_set_unit] at hi ⊢
  intro a
  have := hi a
  fin_cases a <;> simp at this ⊢ <;> omega
omit [FloatOps F] [Named F] in
theorem landr1 (M M' : Memref sig .tc .vmem S4x128x1024 .bf16) (fd : M'.view.ty.Contents (Elt F)) (fs : M.view.ty.Contents (Elt F)) :
    rr1 M' ((sb1 M').view.write (Elt F) fd ((sb1 M).view.read (Elt F) fs) Finset.univ) = rr1 M fs :=
  land M.view M'.view bg1 br1 br1_sub _ fd fs
omit [FloatOps F] [Named F] in
theorem bl2_sub : (bl2 : Rect S4x128x1024).set ⊆ bg2.set := by
  intro i hi
  rw [Rect.mem_set_unit] at hi ⊢
  intro a
  have := hi a
  fin_cases a <;> simp at this ⊢ <;> omega
omit [FloatOps F] [Named F] in
theorem landl2 (M M' : Memref sig .tc .vmem S4x128x1024 .bf16) (fd : M'.view.ty.Contents (Elt F)) (fs : M.view.ty.Contents (Elt F)) :
    rl2 M' ((sb2 M').view.write (Elt F) fd ((sb2 M).view.read (Elt F) fs) Finset.univ) = rl2 M fs :=
  land M.view M'.view bg2 bl2 bl2_sub _ fd fs
omit [FloatOps F] [Named F] in
theorem br2_sub : (br2 : Rect S4x128x1024).set ⊆ bg2.set := by
  intro i hi
  rw [Rect.mem_set_unit] at hi ⊢
  intro a
  have := hi a
  fin_cases a <;> simp at this ⊢ <;> omega
omit [FloatOps F] [Named F] in
theorem landr2 (M M' : Memref sig .tc .vmem S4x128x1024 .bf16) (fd : M'.view.ty.Contents (Elt F)) (fs : M.view.ty.Contents (Elt F)) :
    rr2 M' ((sb2 M').view.write (Elt F) fd ((sb2 M).view.read (Elt F) fs) Finset.univ) = rr2 M fs :=
  land M.view M'.view bg2 br2 br2_sub _ fd fs
omit [FloatOps F] [Named F] in
theorem bl3_sub : (bl3 : Rect S4x128x1024).set ⊆ bg3.set := by
  intro i hi
  rw [Rect.mem_set_unit] at hi ⊢
  intro a
  have := hi a
  fin_cases a <;> simp at this ⊢ <;> omega
omit [FloatOps F] [Named F] in
theorem landl3 (M M' : Memref sig .tc .vmem S4x128x1024 .bf16) (fd : M'.view.ty.Contents (Elt F)) (fs : M.view.ty.Contents (Elt F)) :
    rl3 M' ((sb3 M').view.write (Elt F) fd ((sb3 M).view.read (Elt F) fs) Finset.univ) = rl3 M fs :=
  land M.view M'.view bg3 bl3 bl3_sub _ fd fs
omit [FloatOps F] [Named F] in
theorem br3_sub : (br3 : Rect S4x128x1024).set ⊆ bg3.set := by
  intro i hi
  rw [Rect.mem_set_unit] at hi ⊢
  intro a
  have := hi a
  fin_cases a <;> simp at this ⊢ <;> omega
omit [FloatOps F] [Named F] in
theorem landr3 (M M' : Memref sig .tc .vmem S4x128x1024 .bf16) (fd : M'.view.ty.Contents (Elt F)) (fs : M.view.ty.Contents (Elt F)) :
    rr3 M' ((sb3 M').view.write (Elt F) fd ((sb3 M).view.read (Elt F) fs) Finset.univ) = rr3 M fs :=
  land M.view M'.view bg3 br3 br3_sub _ fd fs

/-! ## Copies of whole slots, and the loads and stores of slots and of the result buffer -/

theorem send_gS0 {Q : α → sProp 𝕄} (c e e' : Dev nD) (he : e' = e) (k n1 r1 n2 r2 i : ℕ) (h12 : 2 ≤ n1) (h1 : n1 < 26) (h22 : 2 ≤ n2) (h2 : n2 < 26) (hl1 : live n1 r1) (hl2 : live n2 r2)
    {M M' : Memref sig .tc .vmem S2x256x512 .bf16} {hsc : (sl0 M' : Memref sig (Dev.tc e' : Thread nD τ).2.kind .vmem _ .bf16).view.ref.isScScratch = false}
    {hsrc : (sl0 M).view.WordExact} {hdst : (sl0 M').view.WordExact}
    {hsem : DmaTarget.Typed .vmem (.dma (dS n2 (by omega))) (.remote (Dev.tc e' : Thread nD τ) (sl0 M') (.dma (dS n1 (by omega))) hsc)}
    {kk : PUnit → Prog (TpuEff nD τ sig (Elt F) Λ₀ .tc) α}
    (N : ℕ) (hN : (sl0 M').view.amount (.dma (dS n2 (by omega)) : SemLoc sig) = N) (hn1 : amt n1 = N) (hn2 : amt n2 = N)
    (hO : Ow c k = Ow c (k + 1) + tallyAt (dC e n2 (by omega)) i N)
    (w) {X : sProp 𝕄} (hp1 : eS0 M c ⊢ dmaPay P c n1 r1) (hp2 : iprop(gS0 M' e w ∗ X) ⊢ dmaPay P e n2 r2) :
    iprop(recs P K ∗ gS0 M c w ∗ eS0 M' e ∗ X
        ∗ own c k ∗ dutyTok ER (dC c n1 (by omega)) r1 0 ∗ reached ER (dC c n1 (by omega)) r1 ∗ dutyTok ER (dC e n2 (by omega)) r2 0 ∗ reached ER (dC e n2 (by omega)) r2)
      ⊢ iprop(((cred (tallyAt (dC c n1 (by omega)) 0 N) ∗ own c (k + 1)) -∗ WP c (kk ⟨⟩) Q)
          -∗ WP c (.op (.enqueueDma (sl0 M) (.remote (Dev.tc e' : Thread nD τ) (sl0 M') (.dma (dS n1 (by omega))) hsc) (.dma (dS n2 (by omega))) hsrc hdst hsem) kk) Q) := by
  subst he
  unfold gS0 eS0
  iintro ⟨#HR, ⟨%fs, %hf, Hs⟩, ⟨%fd, Hd⟩, HX, HO, Ht1, Hr1, Ht2, Hr2⟩
  iapply (send c e' k n1 r1 n2 r2 i h12 h1 h22 h2 hl1 hl2 N hN hn1 hn2 hO (fs := fs) (fd := fd) (X := X) (by unfold eS0 at hp1; exact (exists_intro fs).trans hp1) ?_) $$ [Hs Hd HX HO Ht1 Hr1 Ht2 Hr2]
  · refine BIBase.Entails.trans ?_ hp2
    unfold gS0
    iintro ⟨Hd, HX⟩
    isplitl [Hd]
    · iexists _; isplitr
      · ipureintro; rw [land0 M M' fd fs]; exact hf
      iexact Hd
    iexact HX
  isplitr; · iexact HR
  isplitl [Hs]; · iexact Hs
  isplitl [Hd HX]; · isplitl [Hd] <;> iassumption
  isplitl [HO]; · iexact HO
  isplitl [Ht1]; · iexact Ht1
  isplitl [Hr1]; · iexact Hr1
  isplitl [Ht2]; · iexact Ht2
  iexact Hr2
theorem send_gS1 {Q : α → sProp 𝕄} (c e e' : Dev nD) (he : e' = e) (k n1 r1 n2 r2 i : ℕ) (h12 : 2 ≤ n1) (h1 : n1 < 26) (h22 : 2 ≤ n2) (h2 : n2 < 26) (hl1 : live n1 r1) (hl2 : live n2 r2)
    {M M' : Memref sig .tc .vmem S2x256x512 .bf16} {hsc : (sl1 M' : Memref sig (Dev.tc e' : Thread nD τ).2.kind .vmem _ .bf16).view.ref.isScScratch = false}
    {hsrc : (sl1 M).view.WordExact} {hdst : (sl1 M').view.WordExact}
    {hsem : DmaTarget.Typed .vmem (.dma (dS n2 (by omega))) (.remote (Dev.tc e' : Thread nD τ) (sl1 M') (.dma (dS n1 (by omega))) hsc)}
    {kk : PUnit → Prog (TpuEff nD τ sig (Elt F) Λ₀ .tc) α}
    (N : ℕ) (hN : (sl1 M').view.amount (.dma (dS n2 (by omega)) : SemLoc sig) = N) (hn1 : amt n1 = N) (hn2 : amt n2 = N)
    (hO : Ow c k = Ow c (k + 1) + tallyAt (dC e n2 (by omega)) i N)
    (w) {X : sProp 𝕄} (hp1 : eS1 M c ⊢ dmaPay P c n1 r1) (hp2 : iprop(gS1 M' e w ∗ X) ⊢ dmaPay P e n2 r2) :
    iprop(recs P K ∗ gS1 M c w ∗ eS1 M' e ∗ X
        ∗ own c k ∗ dutyTok ER (dC c n1 (by omega)) r1 0 ∗ reached ER (dC c n1 (by omega)) r1 ∗ dutyTok ER (dC e n2 (by omega)) r2 0 ∗ reached ER (dC e n2 (by omega)) r2)
      ⊢ iprop(((cred (tallyAt (dC c n1 (by omega)) 0 N) ∗ own c (k + 1)) -∗ WP c (kk ⟨⟩) Q)
          -∗ WP c (.op (.enqueueDma (sl1 M) (.remote (Dev.tc e' : Thread nD τ) (sl1 M') (.dma (dS n1 (by omega))) hsc) (.dma (dS n2 (by omega))) hsrc hdst hsem) kk) Q) := by
  subst he
  unfold gS1 eS1
  iintro ⟨#HR, ⟨%fs, %hf, Hs⟩, ⟨%fd, Hd⟩, HX, HO, Ht1, Hr1, Ht2, Hr2⟩
  iapply (send c e' k n1 r1 n2 r2 i h12 h1 h22 h2 hl1 hl2 N hN hn1 hn2 hO (fs := fs) (fd := fd) (X := X) (by unfold eS1 at hp1; exact (exists_intro fs).trans hp1) ?_) $$ [Hs Hd HX HO Ht1 Hr1 Ht2 Hr2]
  · refine BIBase.Entails.trans ?_ hp2
    unfold gS1
    iintro ⟨Hd, HX⟩
    isplitl [Hd]
    · iexists _; isplitr
      · ipureintro; rw [land1 M M' fd fs]; exact hf
      iexact Hd
    iexact HX
  isplitr; · iexact HR
  isplitl [Hs]; · iexact Hs
  isplitl [Hd HX]; · isplitl [Hd] <;> iassumption
  isplitl [HO]; · iexact HO
  isplitl [Ht1]; · iexact Ht1
  isplitl [Hr1]; · iexact Hr1
  isplitl [Ht2]; · iexact Ht2
  iexact Hr2
theorem send_gB0 {Q : α → sProp 𝕄} (c e e' : Dev nD) (he : e' = e) (k n1 r1 n2 r2 i : ℕ) (h12 : 2 ≤ n1) (h1 : n1 < 26) (h22 : 2 ≤ n2) (h2 : n2 < 26) (hl1 : live n1 r1) (hl2 : live n2 r2)
    {M M' : Memref sig .tc .vmem S4x128x1024 .bf16} {hsc : (sb0 M' : Memref sig (Dev.tc e' : Thread nD τ).2.kind .vmem _ .bf16).view.ref.isScScratch = false}
    {hsrc : (sb0 M).view.WordExact} {hdst : (sb0 M').view.WordExact}
    {hsem : DmaTarget.Typed .vmem (.dma (dS n2 (by omega))) (.remote (Dev.tc e' : Thread nD τ) (sb0 M') (.dma (dS n1 (by omega))) hsc)}
    {kk : PUnit → Prog (TpuEff nD τ sig (Elt F) Λ₀ .tc) α}
    (N : ℕ) (hN : (sb0 M').view.amount (.dma (dS n2 (by omega)) : SemLoc sig) = N) (hn1 : amt n1 = N) (hn2 : amt n2 = N)
    (hO : Ow c k = Ow c (k + 1) + tallyAt (dC e n2 (by omega)) i N)
    (wl wr) {X : sProp 𝕄} (hp1 : eB0 M c ⊢ dmaPay P c n1 r1) (hp2 : iprop(gB0 M' e wl wr ∗ X) ⊢ dmaPay P e n2 r2) :
    iprop(recs P K ∗ gB0 M c wl wr ∗ eB0 M' e ∗ X
        ∗ own c k ∗ dutyTok ER (dC c n1 (by omega)) r1 0 ∗ reached ER (dC c n1 (by omega)) r1 ∗ dutyTok ER (dC e n2 (by omega)) r2 0 ∗ reached ER (dC e n2 (by omega)) r2)
      ⊢ iprop(((cred (tallyAt (dC c n1 (by omega)) 0 N) ∗ own c (k + 1)) -∗ WP c (kk ⟨⟩) Q)
          -∗ WP c (.op (.enqueueDma (sb0 M) (.remote (Dev.tc e' : Thread nD τ) (sb0 M') (.dma (dS n1 (by omega))) hsc) (.dma (dS n2 (by omega))) hsrc hdst hsem) kk) Q) := by
  subst he
  unfold gB0 eB0
  iintro ⟨#HR, ⟨%fs, %hf, Hs⟩, ⟨%fd, Hd⟩, HX, HO, Ht1, Hr1, Ht2, Hr2⟩
  iapply (send c e' k n1 r1 n2 r2 i h12 h1 h22 h2 hl1 hl2 N hN hn1 hn2 hO (fs := fs) (fd := fd) (X := X) (by unfold eB0 at hp1; exact (exists_intro fs).trans hp1) ?_) $$ [Hs Hd HX HO Ht1 Hr1 Ht2 Hr2]
  · refine BIBase.Entails.trans ?_ hp2
    unfold gB0
    iintro ⟨Hd, HX⟩
    isplitl [Hd]
    · iexists _; isplitr
      · ipureintro; rw [landl0 M M' fd fs, landr0 M M' fd fs]; exact hf
      iexact Hd
    iexact HX
  isplitr; · iexact HR
  isplitl [Hs]; · iexact Hs
  isplitl [Hd HX]; · isplitl [Hd] <;> iassumption
  isplitl [HO]; · iexact HO
  isplitl [Ht1]; · iexact Ht1
  isplitl [Hr1]; · iexact Hr1
  isplitl [Ht2]; · iexact Ht2
  iexact Hr2
theorem send_gB1 {Q : α → sProp 𝕄} (c e e' : Dev nD) (he : e' = e) (k n1 r1 n2 r2 i : ℕ) (h12 : 2 ≤ n1) (h1 : n1 < 26) (h22 : 2 ≤ n2) (h2 : n2 < 26) (hl1 : live n1 r1) (hl2 : live n2 r2)
    {M M' : Memref sig .tc .vmem S4x128x1024 .bf16} {hsc : (sb1 M' : Memref sig (Dev.tc e' : Thread nD τ).2.kind .vmem _ .bf16).view.ref.isScScratch = false}
    {hsrc : (sb1 M).view.WordExact} {hdst : (sb1 M').view.WordExact}
    {hsem : DmaTarget.Typed .vmem (.dma (dS n2 (by omega))) (.remote (Dev.tc e' : Thread nD τ) (sb1 M') (.dma (dS n1 (by omega))) hsc)}
    {kk : PUnit → Prog (TpuEff nD τ sig (Elt F) Λ₀ .tc) α}
    (N : ℕ) (hN : (sb1 M').view.amount (.dma (dS n2 (by omega)) : SemLoc sig) = N) (hn1 : amt n1 = N) (hn2 : amt n2 = N)
    (hO : Ow c k = Ow c (k + 1) + tallyAt (dC e n2 (by omega)) i N)
    (wl wr) {X : sProp 𝕄} (hp1 : eB1 M c ⊢ dmaPay P c n1 r1) (hp2 : iprop(gB1 M' e wl wr ∗ X) ⊢ dmaPay P e n2 r2) :
    iprop(recs P K ∗ gB1 M c wl wr ∗ eB1 M' e ∗ X
        ∗ own c k ∗ dutyTok ER (dC c n1 (by omega)) r1 0 ∗ reached ER (dC c n1 (by omega)) r1 ∗ dutyTok ER (dC e n2 (by omega)) r2 0 ∗ reached ER (dC e n2 (by omega)) r2)
      ⊢ iprop(((cred (tallyAt (dC c n1 (by omega)) 0 N) ∗ own c (k + 1)) -∗ WP c (kk ⟨⟩) Q)
          -∗ WP c (.op (.enqueueDma (sb1 M) (.remote (Dev.tc e' : Thread nD τ) (sb1 M') (.dma (dS n1 (by omega))) hsc) (.dma (dS n2 (by omega))) hsrc hdst hsem) kk) Q) := by
  subst he
  unfold gB1 eB1
  iintro ⟨#HR, ⟨%fs, %hf, Hs⟩, ⟨%fd, Hd⟩, HX, HO, Ht1, Hr1, Ht2, Hr2⟩
  iapply (send c e' k n1 r1 n2 r2 i h12 h1 h22 h2 hl1 hl2 N hN hn1 hn2 hO (fs := fs) (fd := fd) (X := X) (by unfold eB1 at hp1; exact (exists_intro fs).trans hp1) ?_) $$ [Hs Hd HX HO Ht1 Hr1 Ht2 Hr2]
  · refine BIBase.Entails.trans ?_ hp2
    unfold gB1
    iintro ⟨Hd, HX⟩
    isplitl [Hd]
    · iexists _; isplitr
      · ipureintro; rw [landl1 M M' fd fs, landr1 M M' fd fs]; exact hf
      iexact Hd
    iexact HX
  isplitr; · iexact HR
  isplitl [Hs]; · iexact Hs
  isplitl [Hd HX]; · isplitl [Hd] <;> iassumption
  isplitl [HO]; · iexact HO
  isplitl [Ht1]; · iexact Ht1
  isplitl [Hr1]; · iexact Hr1
  isplitl [Ht2]; · iexact Ht2
  iexact Hr2
theorem send_gB2 {Q : α → sProp 𝕄} (c e e' : Dev nD) (he : e' = e) (k n1 r1 n2 r2 i : ℕ) (h12 : 2 ≤ n1) (h1 : n1 < 26) (h22 : 2 ≤ n2) (h2 : n2 < 26) (hl1 : live n1 r1) (hl2 : live n2 r2)
    {M M' : Memref sig .tc .vmem S4x128x1024 .bf16} {hsc : (sb2 M' : Memref sig (Dev.tc e' : Thread nD τ).2.kind .vmem _ .bf16).view.ref.isScScratch = false}
    {hsrc : (sb2 M).view.WordExact} {hdst : (sb2 M').view.WordExact}
    {hsem : DmaTarget.Typed .vmem (.dma (dS n2 (by omega))) (.remote (Dev.tc e' : Thread nD τ) (sb2 M') (.dma (dS n1 (by omega))) hsc)}
    {kk : PUnit → Prog (TpuEff nD τ sig (Elt F) Λ₀ .tc) α}
    (N : ℕ) (hN : (sb2 M').view.amount (.dma (dS n2 (by omega)) : SemLoc sig) = N) (hn1 : amt n1 = N) (hn2 : amt n2 = N)
    (hO : Ow c k = Ow c (k + 1) + tallyAt (dC e n2 (by omega)) i N)
    (wl wr) {X : sProp 𝕄} (hp1 : eB2 M c ⊢ dmaPay P c n1 r1) (hp2 : iprop(gB2 M' e wl wr ∗ X) ⊢ dmaPay P e n2 r2) :
    iprop(recs P K ∗ gB2 M c wl wr ∗ eB2 M' e ∗ X
        ∗ own c k ∗ dutyTok ER (dC c n1 (by omega)) r1 0 ∗ reached ER (dC c n1 (by omega)) r1 ∗ dutyTok ER (dC e n2 (by omega)) r2 0 ∗ reached ER (dC e n2 (by omega)) r2)
      ⊢ iprop(((cred (tallyAt (dC c n1 (by omega)) 0 N) ∗ own c (k + 1)) -∗ WP c (kk ⟨⟩) Q)
          -∗ WP c (.op (.enqueueDma (sb2 M) (.remote (Dev.tc e' : Thread nD τ) (sb2 M') (.dma (dS n1 (by omega))) hsc) (.dma (dS n2 (by omega))) hsrc hdst hsem) kk) Q) := by
  subst he
  unfold gB2 eB2
  iintro ⟨#HR, ⟨%fs, %hf, Hs⟩, ⟨%fd, Hd⟩, HX, HO, Ht1, Hr1, Ht2, Hr2⟩
  iapply (send c e' k n1 r1 n2 r2 i h12 h1 h22 h2 hl1 hl2 N hN hn1 hn2 hO (fs := fs) (fd := fd) (X := X) (by unfold eB2 at hp1; exact (exists_intro fs).trans hp1) ?_) $$ [Hs Hd HX HO Ht1 Hr1 Ht2 Hr2]
  · refine BIBase.Entails.trans ?_ hp2
    unfold gB2
    iintro ⟨Hd, HX⟩
    isplitl [Hd]
    · iexists _; isplitr
      · ipureintro; rw [landl2 M M' fd fs, landr2 M M' fd fs]; exact hf
      iexact Hd
    iexact HX
  isplitr; · iexact HR
  isplitl [Hs]; · iexact Hs
  isplitl [Hd HX]; · isplitl [Hd] <;> iassumption
  isplitl [HO]; · iexact HO
  isplitl [Ht1]; · iexact Ht1
  isplitl [Hr1]; · iexact Hr1
  isplitl [Ht2]; · iexact Ht2
  iexact Hr2
theorem send_gB3 {Q : α → sProp 𝕄} (c e e' : Dev nD) (he : e' = e) (k n1 r1 n2 r2 i : ℕ) (h12 : 2 ≤ n1) (h1 : n1 < 26) (h22 : 2 ≤ n2) (h2 : n2 < 26) (hl1 : live n1 r1) (hl2 : live n2 r2)
    {M M' : Memref sig .tc .vmem S4x128x1024 .bf16} {hsc : (sb3 M' : Memref sig (Dev.tc e' : Thread nD τ).2.kind .vmem _ .bf16).view.ref.isScScratch = false}
    {hsrc : (sb3 M).view.WordExact} {hdst : (sb3 M').view.WordExact}
    {hsem : DmaTarget.Typed .vmem (.dma (dS n2 (by omega))) (.remote (Dev.tc e' : Thread nD τ) (sb3 M') (.dma (dS n1 (by omega))) hsc)}
    {kk : PUnit → Prog (TpuEff nD τ sig (Elt F) Λ₀ .tc) α}
    (N : ℕ) (hN : (sb3 M').view.amount (.dma (dS n2 (by omega)) : SemLoc sig) = N) (hn1 : amt n1 = N) (hn2 : amt n2 = N)
    (hO : Ow c k = Ow c (k + 1) + tallyAt (dC e n2 (by omega)) i N)
    (wl wr) {X : sProp 𝕄} (hp1 : eB3 M c ⊢ dmaPay P c n1 r1) (hp2 : iprop(gB3 M' e wl wr ∗ X) ⊢ dmaPay P e n2 r2) :
    iprop(recs P K ∗ gB3 M c wl wr ∗ eB3 M' e ∗ X
        ∗ own c k ∗ dutyTok ER (dC c n1 (by omega)) r1 0 ∗ reached ER (dC c n1 (by omega)) r1 ∗ dutyTok ER (dC e n2 (by omega)) r2 0 ∗ reached ER (dC e n2 (by omega)) r2)
      ⊢ iprop(((cred (tallyAt (dC c n1 (by omega)) 0 N) ∗ own c (k + 1)) -∗ WP c (kk ⟨⟩) Q)
          -∗ WP c (.op (.enqueueDma (sb3 M) (.remote (Dev.tc e' : Thread nD τ) (sb3 M') (.dma (dS n1 (by omega))) hsc) (.dma (dS n2 (by omega))) hsrc hdst hsem) kk) Q) := by
  subst he
  unfold gB3 eB3
  iintro ⟨#HR, ⟨%fs, %hf, Hs⟩, ⟨%fd, Hd⟩, HX, HO, Ht1, Hr1, Ht2, Hr2⟩
  iapply (send c e' k n1 r1 n2 r2 i h12 h1 h22 h2 hl1 hl2 N hN hn1 hn2 hO (fs := fs) (fd := fd) (X := X) (by unfold eB3 at hp1; exact (exists_intro fs).trans hp1) ?_) $$ [Hs Hd HX HO Ht1 Hr1 Ht2 Hr2]
  · refine BIBase.Entails.trans ?_ hp2
    unfold gB3
    iintro ⟨Hd, HX⟩
    isplitl [Hd]
    · iexists _; isplitr
      · ipureintro; rw [landl3 M M' fd fs, landr3 M M' fd fs]; exact hf
      iexact Hd
    iexact HX
  isplitr; · iexact HR
  isplitl [Hs]; · iexact Hs
  isplitl [Hd HX]; · isplitl [Hd] <;> iassumption
  isplitl [HO]; · iexact HO
  isplitl [Ht1]; · iexact Ht1
  isplitl [Hr1]; · iexact Hr1
  isplitl [Ht2]; · iexact Ht2
  iexact Hr2

/-- The result buffer of `c` at contents `f`. -/
def oP (c : Dev nD) (f : OutC F) : sProp 𝕄 := ((c : Thread nD τ).loc cc0_stg1_0) ↦{fullShare} f

theorem load_o {Q : α → sProp 𝕄} (c : Dev nD) (r : Rect S1x1024x1024) (f : OutC F) {hl : (oM : Memref sig .tc .vmem S1x1024x1024 .f32).view.LoadsAt r.toLoadRect}
    {kk : (r.shape.Idx → Elt F .f32) → Prog (TpuEff nD τ sig (Elt F) Λ₀ .tc) α} :
    oP c f ⊢ iprop((oP c f -∗ WP c (kk (rdO r f)) Q) -∗ WP c (.op (.load oM r.toLoadRect hl) kk) Q) :=
  wp_load 𝒱₀ (c : Thread nD τ) none Set.univ (m := oM) (Finset.subset_univ _)
theorem store_o {Q : α → sProp 𝕄} (c : Dev nD) (r : Rect S1x1024x1024) (f : OutC F) (w : r.shape.Idx → Elt F .f32)
    {hx : ((oM : Memref sig .tc .vmem S1x1024x1024 .f32).access r).Stores Finset.univ} {hm : (Finset.univ : Finset r.shape.Idx) = Finset.univ ∨ ∀ a, r.stride a = 1}
    {kk : PUnit → Prog (TpuEff nD τ sig (Elt F) Λ₀ .tc) α} :
    oP c f ⊢ iprop((oP c (wrO r f w) -∗ WP c (kk ⟨⟩) Q) -∗ WP c (.op (.store oM r w Finset.univ hx hm) kk) Q) :=
  wp_store 𝒱₀ (c : Thread nD τ) none Set.univ (m := oM) (r := r) (Mk := Finset.univ) (Finset.subset_univ _)
theorem store_o_to {Q : α → sProp 𝕄} (c : Dev nD) (r : Rect S1x1024x1024) (f g : OutC F) (w : r.shape.Idx → Elt F .f32) (hg : wrO r f w = g)
    {hx : ((oM : Memref sig .tc .vmem S1x1024x1024 .f32).access r).Stores Finset.univ} {hm : (Finset.univ : Finset r.shape.Idx) = Finset.univ ∨ ∀ a, r.stride a = 1}
    {kk : PUnit → Prog (TpuEff nD τ sig (Elt F) Λ₀ .tc) α} :
    oP c f ⊢ iprop((oP c g -∗ WP c (kk ⟨⟩) Q) -∗ WP c (.op (.store oM r w Finset.univ hx hm) kk) Q) :=
  hg ▸ store_o c r f w

omit [FloatOps F] [Named F] in
theorem sl0_set (M : Memref sig .tc .vmem S2x256x512 .bf16) : (M.access rg0).set = (sl0 M).view.set := (View.set_reshape _ _).symm
theorem load_gS0 {Q : α → sProp 𝕄} (c : Dev nD) (M : Memref sig .tc .vmem S2x256x512 .bf16) (w) {hl : M.view.LoadsAt (Rect.toLoadRect rg0)}
    {kk : ((Rect.toLoadRect rg0).shape.Idx → Elt F .bf16) → Prog (TpuEff nD τ sig (Elt F) Λ₀ .tc) α} :
    gS0 M c w ⊢ iprop((gS0 M c w -∗ WP c (kk w) Q) -∗ WP c (.op (.load M (Rect.toLoadRect rg0) hl) kk) Q) := by
  unfold gS0
  iintro ⟨%f, %hf, H⟩ Hk
  iapply (wp_load_rect 𝒱₀ (c : Thread nD τ) none Set.univ (m := M) (r := rg0) (S := (sl0 M).view.set) (f := f) (by rw [sl0_set])) $$ H
  iintro H
  rw [show (M.access rg0).read (Elt F) f = w from hf]
  iapply Hk
  iexists f; isplitr; · ipureintro; exact hf
  iexact H
theorem load_eS0 {Q : α → sProp 𝕄} (c : Dev nD) (M : Memref sig .tc .vmem S2x256x512 .bf16) {hl : M.view.LoadsAt (Rect.toLoadRect rg0)}
    {kk : ((Rect.toLoadRect rg0).shape.Idx → Elt F .bf16) → Prog (TpuEff nD τ sig (Elt F) Λ₀ .tc) α} :
    eS0 M c ⊢ iprop((∀ v, eS0 M c -∗ WP c (kk v) Q) -∗ WP c (.op (.load M (Rect.toLoadRect rg0) hl) kk) Q) := by
  unfold eS0
  iintro ⟨%f, H⟩ Hk
  iapply (wp_load_rect 𝒱₀ (c : Thread nD τ) none Set.univ (m := M) (r := rg0) (S := (sl0 M).view.set) (f := f) (by rw [sl0_set])) $$ H
  iintro H
  iapply Hk
  iexists f; iexact H
theorem store_eS0 {Q : α → sProp 𝕄} (c : Dev nD) (M : Memref sig .tc .vmem S2x256x512 .bf16) (w : Vec F S1x256x512 .bf16)
    {hx : (M.access rg0).Stores Finset.univ} {hm : (Finset.univ : Finset (rg0 : Rect S2x256x512).shape.Idx) = Finset.univ ∨ ∀ a, (rg0 : Rect S2x256x512).stride a = 1}
    {kk : PUnit → Prog (TpuEff nD τ sig (Elt F) Λ₀ .tc) α} :
    eS0 M c ⊢ iprop((gS0 M c w -∗ WP c (kk ⟨⟩) Q) -∗ WP c (.op (.store M rg0 w Finset.univ hx hm) kk) Q) := by
  unfold eS0 gS0
  iintro ⟨%f, H⟩ Hk
  iapply (wp_store 𝒱₀ (c : Thread nD τ) none Set.univ (m := M) (r := rg0) (Mk := Finset.univ) (S := (sl0 M).view.set) (f := f)
    (by rw [← sl0_set]; exact Finset.Subset.refl _)) $$ H
  iintro H
  iapply Hk
  iexists _; isplitr
  swap; · iexact H
  ipureintro; exact View.read_write_univ _ _

omit [FloatOps F] [Named F] in
theorem sl1_set (M : Memref sig .tc .vmem S2x256x512 .bf16) : (M.access rg1).set = (sl1 M).view.set := (View.set_reshape _ _).symm
theorem load_gS1 {Q : α → sProp 𝕄} (c : Dev nD) (M : Memref sig .tc .vmem S2x256x512 .bf16) (w) {hl : M.view.LoadsAt (Rect.toLoadRect rg1)}
    {kk : ((Rect.toLoadRect rg1).shape.Idx → Elt F .bf16) → Prog (TpuEff nD τ sig (Elt F) Λ₀ .tc) α} :
    gS1 M c w ⊢ iprop((gS1 M c w -∗ WP c (kk w) Q) -∗ WP c (.op (.load M (Rect.toLoadRect rg1) hl) kk) Q) := by
  unfold gS1
  iintro ⟨%f, %hf, H⟩ Hk
  iapply (wp_load_rect 𝒱₀ (c : Thread nD τ) none Set.univ (m := M) (r := rg1) (S := (sl1 M).view.set) (f := f) (by rw [sl1_set])) $$ H
  iintro H
  rw [show (M.access rg1).read (Elt F) f = w from hf]
  iapply Hk
  iexists f; isplitr; · ipureintro; exact hf
  iexact H
theorem load_eS1 {Q : α → sProp 𝕄} (c : Dev nD) (M : Memref sig .tc .vmem S2x256x512 .bf16) {hl : M.view.LoadsAt (Rect.toLoadRect rg1)}
    {kk : ((Rect.toLoadRect rg1).shape.Idx → Elt F .bf16) → Prog (TpuEff nD τ sig (Elt F) Λ₀ .tc) α} :
    eS1 M c ⊢ iprop((∀ v, eS1 M c -∗ WP c (kk v) Q) -∗ WP c (.op (.load M (Rect.toLoadRect rg1) hl) kk) Q) := by
  unfold eS1
  iintro ⟨%f, H⟩ Hk
  iapply (wp_load_rect 𝒱₀ (c : Thread nD τ) none Set.univ (m := M) (r := rg1) (S := (sl1 M).view.set) (f := f) (by rw [sl1_set])) $$ H
  iintro H
  iapply Hk
  iexists f; iexact H
theorem store_eS1 {Q : α → sProp 𝕄} (c : Dev nD) (M : Memref sig .tc .vmem S2x256x512 .bf16) (w : Vec F S1x256x512 .bf16)
    {hx : (M.access rg1).Stores Finset.univ} {hm : (Finset.univ : Finset (rg1 : Rect S2x256x512).shape.Idx) = Finset.univ ∨ ∀ a, (rg1 : Rect S2x256x512).stride a = 1}
    {kk : PUnit → Prog (TpuEff nD τ sig (Elt F) Λ₀ .tc) α} :
    eS1 M c ⊢ iprop((gS1 M c w -∗ WP c (kk ⟨⟩) Q) -∗ WP c (.op (.store M rg1 w Finset.univ hx hm) kk) Q) := by
  unfold eS1 gS1
  iintro ⟨%f, H⟩ Hk
  iapply (wp_store 𝒱₀ (c : Thread nD τ) none Set.univ (m := M) (r := rg1) (Mk := Finset.univ) (S := (sl1 M).view.set) (f := f)
    (by rw [← sl1_set]; exact Finset.Subset.refl _)) $$ H
  iintro H
  iapply Hk
  iexists _; isplitr
  swap; · iexact H
  ipureintro; exact View.read_write_univ _ _

/-- Slot 0 with its left half stored. -/
def hB0 (M : Memref sig .tc .vmem S4x128x1024 .bf16) (c : Dev nD) (wl : Vec F S1x128x512 .bf16) : sProp 𝕄 := iprop(∃ f, ⌜rl0 M f = wl⌝ ∗ B0 (F := F) M c f)
omit [FloatOps F] [Named F] in
theorem sb0_set (M : Memref sig .tc .vmem S4x128x1024 .bf16) : (M.access bg0).set = (sb0 M).view.set := (View.set_reshape _ _).symm
omit [FloatOps F] [Named F] in
theorem bl0_set (M : Memref sig .tc .vmem S4x128x1024 .bf16) : (M.access bl0).set ⊆ (sb0 M).view.set := by
  rw [← sb0_set, View.set_slice, View.set_slice]; exact Finset.map_subset_map.mpr bl0_sub
omit [FloatOps F] [Named F] in
theorem br0_set (M : Memref sig .tc .vmem S4x128x1024 .bf16) : (M.access br0).set ⊆ (sb0 M).view.set := by
  rw [← sb0_set, View.set_slice, View.set_slice]; exact Finset.map_subset_map.mpr br0_sub
theorem load_gBl0 {Q : α → sProp 𝕄} (c : Dev nD) (M : Memref sig .tc .vmem S4x128x1024 .bf16) (wl wr) {hl : M.view.LoadsAt (Rect.toLoadRect bl0)}
    {kk : ((Rect.toLoadRect bl0).shape.Idx → Elt F .bf16) → Prog (TpuEff nD τ sig (Elt F) Λ₀ .tc) α} :
    gB0 M c wl wr ⊢ iprop((gB0 M c wl wr -∗ WP c (kk wl) Q) -∗ WP c (.op (.load M (Rect.toLoadRect bl0) hl) kk) Q) := by
  unfold gB0
  iintro ⟨%f, %hf, H⟩ Hk
  iapply (wp_load_rect 𝒱₀ (c : Thread nD τ) none Set.univ (m := M) (r := bl0) (S := (sb0 M).view.set) (f := f) (bl0_set M)) $$ H
  iintro H
  rw [show (M.access bl0).read (Elt F) f = wl from hf.1]
  iapply Hk
  iexists f; isplitr; · ipureintro; exact hf
  iexact H
theorem load_gBr0 {Q : α → sProp 𝕄} (c : Dev nD) (M : Memref sig .tc .vmem S4x128x1024 .bf16) (wl wr) {hl : M.view.LoadsAt (Rect.toLoadRect br0)}
    {kk : ((Rect.toLoadRect br0).shape.Idx → Elt F .bf16) → Prog (TpuEff nD τ sig (Elt F) Λ₀ .tc) α} :
    gB0 M c wl wr ⊢ iprop((gB0 M c wl wr -∗ WP c (kk wr) Q) -∗ WP c (.op (.load M (Rect.toLoadRect br0) hl) kk) Q) := by
  unfold gB0
  iintro ⟨%f, %hf, H⟩ Hk
  iapply (wp_load_rect 𝒱₀ (c : Thread nD τ) none Set.univ (m := M) (r := br0) (S := (sb0 M).view.set) (f := f) (br0_set M)) $$ H
  iintro H
  rw [show (M.access br0).read (Elt F) f = wr from hf.2]
  iapply Hk
  iexists f; isplitr; · ipureintro; exact hf
  iexact H
theorem load_eBl0 {Q : α → sProp 𝕄} (c : Dev nD) (M : Memref sig .tc .vmem S4x128x1024 .bf16) {hl : M.view.LoadsAt (Rect.toLoadRect bl0)}
    {kk : ((Rect.toLoadRect bl0).shape.Idx → Elt F .bf16) → Prog (TpuEff nD τ sig (Elt F) Λ₀ .tc) α} :
    eB0 M c ⊢ iprop((∀ v, eB0 M c -∗ WP c (kk v) Q) -∗ WP c (.op (.load M (Rect.toLoadRect bl0) hl) kk) Q) := by
  unfold eB0
  iintro ⟨%f, H⟩ Hk
  iapply (wp_load_rect 𝒱₀ (c : Thread nD τ) none Set.univ (m := M) (r := bl0) (S := (sb0 M).view.set) (f := f) (bl0_set M)) $$ H
  iintro H
  iapply Hk
  iexists f; iexact H
theorem store_eBl0 {Q : α → sProp 𝕄} (c : Dev nD) (M : Memref sig .tc .vmem S4x128x1024 .bf16) (w : Vec F S1x128x512 .bf16)
    {hx : (M.access bl0).Stores Finset.univ} {hm : (Finset.univ : Finset (bl0 : Rect S4x128x1024).shape.Idx) = Finset.univ ∨ ∀ a, (bl0 : Rect S4x128x1024).stride a = 1}
    {kk : PUnit → Prog (TpuEff nD τ sig (Elt F) Λ₀ .tc) α} :
    eB0 M c ⊢ iprop((hB0 M c w -∗ WP c (kk ⟨⟩) Q) -∗ WP c (.op (.store M bl0 w Finset.univ hx hm) kk) Q) := by
  unfold eB0 hB0
  iintro ⟨%f, H⟩ Hk
  iapply (wp_store 𝒱₀ (c : Thread nD τ) none Set.univ (m := M) (r := bl0) (Mk := Finset.univ) (S := (sb0 M).view.set) (f := f) (bl0_set M)) $$ H
  iintro H
  iapply Hk
  iexists _; isplitr
  swap; · iexact H
  ipureintro; exact View.read_write_univ _ _
theorem load_hBr0 {Q : α → sProp 𝕄} (c : Dev nD) (M : Memref sig .tc .vmem S4x128x1024 .bf16) (wl) {hl : M.view.LoadsAt (Rect.toLoadRect br0)}
    {kk : ((Rect.toLoadRect br0).shape.Idx → Elt F .bf16) → Prog (TpuEff nD τ sig (Elt F) Λ₀ .tc) α} :
    hB0 M c wl ⊢ iprop((∀ v, hB0 M c wl -∗ WP c (kk v) Q) -∗ WP c (.op (.load M (Rect.toLoadRect br0) hl) kk) Q) := by
  unfold hB0
  iintro ⟨%f, %hf, H⟩ Hk
  iapply (wp_load_rect 𝒱₀ (c : Thread nD τ) none Set.univ (m := M) (r := br0) (S := (sb0 M).view.set) (f := f) (br0_set M)) $$ H
  iintro H
  iapply Hk
  iexists f; isplitr; · ipureintro; exact hf
  iexact H
omit [FloatOps F] [Named F] in
theorem halves0 (M : Memref sig .tc .vmem S4x128x1024 .bf16) : Disjoint (M.view.slice bl0).set ((M.view.slice br0).setOn Finset.univ) := by
  show Disjoint (M.view.slice bl0).set (M.view.slice br0).set
  rw [View.set_slice, View.set_slice]
  refine (Finset.disjoint_map M.view.emb).mpr ?_
  exact Rect.unit_disjoint (2 : Fin 3) (Or.inl (by decide))
theorem store_hBr0 {Q : α → sProp 𝕄} (c : Dev nD) (M : Memref sig .tc .vmem S4x128x1024 .bf16) (wl w : Vec F S1x128x512 .bf16)
    {hx : (M.access br0).Stores Finset.univ} {hm : (Finset.univ : Finset (br0 : Rect S4x128x1024).shape.Idx) = Finset.univ ∨ ∀ a, (br0 : Rect S4x128x1024).stride a = 1}
    {kk : PUnit → Prog (TpuEff nD τ sig (Elt F) Λ₀ .tc) α} :
    hB0 M c wl ⊢ iprop((gB0 M c wl w -∗ WP c (kk ⟨⟩) Q) -∗ WP c (.op (.store M br0 w Finset.univ hx hm) kk) Q) := by
  unfold hB0 gB0
  iintro ⟨%f, %hf, H⟩ Hk
  iapply (wp_store 𝒱₀ (c : Thread nD τ) none Set.univ (m := M) (r := br0) (Mk := Finset.univ) (S := (sb0 M).view.set) (f := f) (br0_set M)) $$ H
  iintro H
  iapply Hk
  iexists _; isplitr
  swap; · iexact H
  ipureintro
  exact ⟨(View.read_slice_write_slice_of_disjoint bl0 br0 f w Finset.univ (halves0 M)).trans hf, View.read_write_univ _ _⟩

/-- Slot 1 with its left half stored. -/
def hB1 (M : Memref sig .tc .vmem S4x128x1024 .bf16) (c : Dev nD) (wl : Vec F S1x64x512 .bf16) : sProp 𝕄 := iprop(∃ f, ⌜rl1 M f = wl⌝ ∗ B1 (F := F) M c f)
omit [FloatOps F] [Named F] in
theorem sb1_set (M : Memref sig .tc .vmem S4x128x1024 .bf16) : (M.access bg1).set = (sb1 M).view.set := (View.set_reshape _ _).symm
omit [FloatOps F] [Named F] in
theorem bl1_set (M : Memref sig .tc .vmem S4x128x1024 .bf16) : (M.access bl1).set ⊆ (sb1 M).view.set := by
  rw [← sb1_set, View.set_slice, View.set_slice]; exact Finset.map_subset_map.mpr bl1_sub
omit [FloatOps F] [Named F] in
theorem br1_set (M : Memref sig .tc .vmem S4x128x1024 .bf16) : (M.access br1).set ⊆ (sb1 M).view.set := by
  rw [← sb1_set, View.set_slice, View.set_slice]; exact Finset.map_subset_map.mpr br1_sub
theorem load_gBl1 {Q : α → sProp 𝕄} (c : Dev nD) (M : Memref sig .tc .vmem S4x128x1024 .bf16) (wl wr) {hl : M.view.LoadsAt (Rect.toLoadRect bl1)}
    {kk : ((Rect.toLoadRect bl1).shape.Idx → Elt F .bf16) → Prog (TpuEff nD τ sig (Elt F) Λ₀ .tc) α} :
    gB1 M c wl wr ⊢ iprop((gB1 M c wl wr -∗ WP c (kk wl) Q) -∗ WP c (.op (.load M (Rect.toLoadRect bl1) hl) kk) Q) := by
  unfold gB1
  iintro ⟨%f, %hf, H⟩ Hk
  iapply (wp_load_rect 𝒱₀ (c : Thread nD τ) none Set.univ (m := M) (r := bl1) (S := (sb1 M).view.set) (f := f) (bl1_set M)) $$ H
  iintro H
  rw [show (M.access bl1).read (Elt F) f = wl from hf.1]
  iapply Hk
  iexists f; isplitr; · ipureintro; exact hf
  iexact H
theorem load_gBr1 {Q : α → sProp 𝕄} (c : Dev nD) (M : Memref sig .tc .vmem S4x128x1024 .bf16) (wl wr) {hl : M.view.LoadsAt (Rect.toLoadRect br1)}
    {kk : ((Rect.toLoadRect br1).shape.Idx → Elt F .bf16) → Prog (TpuEff nD τ sig (Elt F) Λ₀ .tc) α} :
    gB1 M c wl wr ⊢ iprop((gB1 M c wl wr -∗ WP c (kk wr) Q) -∗ WP c (.op (.load M (Rect.toLoadRect br1) hl) kk) Q) := by
  unfold gB1
  iintro ⟨%f, %hf, H⟩ Hk
  iapply (wp_load_rect 𝒱₀ (c : Thread nD τ) none Set.univ (m := M) (r := br1) (S := (sb1 M).view.set) (f := f) (br1_set M)) $$ H
  iintro H
  rw [show (M.access br1).read (Elt F) f = wr from hf.2]
  iapply Hk
  iexists f; isplitr; · ipureintro; exact hf
  iexact H
theorem load_eBl1 {Q : α → sProp 𝕄} (c : Dev nD) (M : Memref sig .tc .vmem S4x128x1024 .bf16) {hl : M.view.LoadsAt (Rect.toLoadRect bl1)}
    {kk : ((Rect.toLoadRect bl1).shape.Idx → Elt F .bf16) → Prog (TpuEff nD τ sig (Elt F) Λ₀ .tc) α} :
    eB1 M c ⊢ iprop((∀ v, eB1 M c -∗ WP c (kk v) Q) -∗ WP c (.op (.load M (Rect.toLoadRect bl1) hl) kk) Q) := by
  unfold eB1
  iintro ⟨%f, H⟩ Hk
  iapply (wp_load_rect 𝒱₀ (c : Thread nD τ) none Set.univ (m := M) (r := bl1) (S := (sb1 M).view.set) (f := f) (bl1_set M)) $$ H
  iintro H
  iapply Hk
  iexists f; iexact H
theorem store_eBl1 {Q : α → sProp 𝕄} (c : Dev nD) (M : Memref sig .tc .vmem S4x128x1024 .bf16) (w : Vec F S1x64x512 .bf16)
    {hx : (M.access bl1).Stores Finset.univ} {hm : (Finset.univ : Finset (bl1 : Rect S4x128x1024).shape.Idx) = Finset.univ ∨ ∀ a, (bl1 : Rect S4x128x1024).stride a = 1}
    {kk : PUnit → Prog (TpuEff nD τ sig (Elt F) Λ₀ .tc) α} :
    eB1 M c ⊢ iprop((hB1 M c w -∗ WP c (kk ⟨⟩) Q) -∗ WP c (.op (.store M bl1 w Finset.univ hx hm) kk) Q) := by
  unfold eB1 hB1
  iintro ⟨%f, H⟩ Hk
  iapply (wp_store 𝒱₀ (c : Thread nD τ) none Set.univ (m := M) (r := bl1) (Mk := Finset.univ) (S := (sb1 M).view.set) (f := f) (bl1_set M)) $$ H
  iintro H
  iapply Hk
  iexists _; isplitr
  swap; · iexact H
  ipureintro; exact View.read_write_univ _ _
theorem load_hBr1 {Q : α → sProp 𝕄} (c : Dev nD) (M : Memref sig .tc .vmem S4x128x1024 .bf16) (wl) {hl : M.view.LoadsAt (Rect.toLoadRect br1)}
    {kk : ((Rect.toLoadRect br1).shape.Idx → Elt F .bf16) → Prog (TpuEff nD τ sig (Elt F) Λ₀ .tc) α} :
    hB1 M c wl ⊢ iprop((∀ v, hB1 M c wl -∗ WP c (kk v) Q) -∗ WP c (.op (.load M (Rect.toLoadRect br1) hl) kk) Q) := by
  unfold hB1
  iintro ⟨%f, %hf, H⟩ Hk
  iapply (wp_load_rect 𝒱₀ (c : Thread nD τ) none Set.univ (m := M) (r := br1) (S := (sb1 M).view.set) (f := f) (br1_set M)) $$ H
  iintro H
  iapply Hk
  iexists f; isplitr; · ipureintro; exact hf
  iexact H
omit [FloatOps F] [Named F] in
theorem halves1 (M : Memref sig .tc .vmem S4x128x1024 .bf16) : Disjoint (M.view.slice bl1).set ((M.view.slice br1).setOn Finset.univ) := by
  show Disjoint (M.view.slice bl1).set (M.view.slice br1).set
  rw [View.set_slice, View.set_slice]
  refine (Finset.disjoint_map M.view.emb).mpr ?_
  exact Rect.unit_disjoint (2 : Fin 3) (Or.inl (by decide))
theorem store_hBr1 {Q : α → sProp 𝕄} (c : Dev nD) (M : Memref sig .tc .vmem S4x128x1024 .bf16) (wl w : Vec F S1x64x512 .bf16)
    {hx : (M.access br1).Stores Finset.univ} {hm : (Finset.univ : Finset (br1 : Rect S4x128x1024).shape.Idx) = Finset.univ ∨ ∀ a, (br1 : Rect S4x128x1024).stride a = 1}
    {kk : PUnit → Prog (TpuEff nD τ sig (Elt F) Λ₀ .tc) α} :
    hB1 M c wl ⊢ iprop((gB1 M c wl w -∗ WP c (kk ⟨⟩) Q) -∗ WP c (.op (.store M br1 w Finset.univ hx hm) kk) Q) := by
  unfold hB1 gB1
  iintro ⟨%f, %hf, H⟩ Hk
  iapply (wp_store 𝒱₀ (c : Thread nD τ) none Set.univ (m := M) (r := br1) (Mk := Finset.univ) (S := (sb1 M).view.set) (f := f) (br1_set M)) $$ H
  iintro H
  iapply Hk
  iexists _; isplitr
  swap; · iexact H
  ipureintro
  exact ⟨(View.read_slice_write_slice_of_disjoint bl1 br1 f w Finset.univ (halves1 M)).trans hf, View.read_write_univ _ _⟩

/-- Slot 2 with its left half stored. -/
def hB2 (M : Memref sig .tc .vmem S4x128x1024 .bf16) (c : Dev nD) (wl : Vec F S1x64x512 .bf16) : sProp 𝕄 := iprop(∃ f, ⌜rl2 M f = wl⌝ ∗ B2 (F := F) M c f)
omit [FloatOps F] [Named F] in
theorem sb2_set (M : Memref sig .tc .vmem S4x128x1024 .bf16) : (M.access bg2).set = (sb2 M).view.set := (View.set_reshape _ _).symm
omit [FloatOps F] [Named F] in
theorem bl2_set (M : Memref sig .tc .vmem S4x128x1024 .bf16) : (M.access bl2).set ⊆ (sb2 M).view.set := by
  rw [← sb2_set, View.set_slice, View.set_slice]; exact Finset.map_subset_map.mpr bl2_sub
omit [FloatOps F] [Named F] in
theorem br2_set (M : Memref sig .tc .vmem S4x128x1024 .bf16) : (M.access br2).set ⊆ (sb2 M).view.set := by
  rw [← sb2_set, View.set_slice, View.set_slice]; exact Finset.map_subset_map.mpr br2_sub
theorem load_gBl2 {Q : α → sProp 𝕄} (c : Dev nD) (M : Memref sig .tc .vmem S4x128x1024 .bf16) (wl wr) {hl : M.view.LoadsAt (Rect.toLoadRect bl2)}
    {kk : ((Rect.toLoadRect bl2).shape.Idx → Elt F .bf16) → Prog (TpuEff nD τ sig (Elt F) Λ₀ .tc) α} :
    gB2 M c wl wr ⊢ iprop((gB2 M c wl wr -∗ WP c (kk wl) Q) -∗ WP c (.op (.load M (Rect.toLoadRect bl2) hl) kk) Q) := by
  unfold gB2
  iintro ⟨%f, %hf, H⟩ Hk
  iapply (wp_load_rect 𝒱₀ (c : Thread nD τ) none Set.univ (m := M) (r := bl2) (S := (sb2 M).view.set) (f := f) (bl2_set M)) $$ H
  iintro H
  rw [show (M.access bl2).read (Elt F) f = wl from hf.1]
  iapply Hk
  iexists f; isplitr; · ipureintro; exact hf
  iexact H
theorem load_gBr2 {Q : α → sProp 𝕄} (c : Dev nD) (M : Memref sig .tc .vmem S4x128x1024 .bf16) (wl wr) {hl : M.view.LoadsAt (Rect.toLoadRect br2)}
    {kk : ((Rect.toLoadRect br2).shape.Idx → Elt F .bf16) → Prog (TpuEff nD τ sig (Elt F) Λ₀ .tc) α} :
    gB2 M c wl wr ⊢ iprop((gB2 M c wl wr -∗ WP c (kk wr) Q) -∗ WP c (.op (.load M (Rect.toLoadRect br2) hl) kk) Q) := by
  unfold gB2
  iintro ⟨%f, %hf, H⟩ Hk
  iapply (wp_load_rect 𝒱₀ (c : Thread nD τ) none Set.univ (m := M) (r := br2) (S := (sb2 M).view.set) (f := f) (br2_set M)) $$ H
  iintro H
  rw [show (M.access br2).read (Elt F) f = wr from hf.2]
  iapply Hk
  iexists f; isplitr; · ipureintro; exact hf
  iexact H
theorem load_eBl2 {Q : α → sProp 𝕄} (c : Dev nD) (M : Memref sig .tc .vmem S4x128x1024 .bf16) {hl : M.view.LoadsAt (Rect.toLoadRect bl2)}
    {kk : ((Rect.toLoadRect bl2).shape.Idx → Elt F .bf16) → Prog (TpuEff nD τ sig (Elt F) Λ₀ .tc) α} :
    eB2 M c ⊢ iprop((∀ v, eB2 M c -∗ WP c (kk v) Q) -∗ WP c (.op (.load M (Rect.toLoadRect bl2) hl) kk) Q) := by
  unfold eB2
  iintro ⟨%f, H⟩ Hk
  iapply (wp_load_rect 𝒱₀ (c : Thread nD τ) none Set.univ (m := M) (r := bl2) (S := (sb2 M).view.set) (f := f) (bl2_set M)) $$ H
  iintro H
  iapply Hk
  iexists f; iexact H
theorem store_eBl2 {Q : α → sProp 𝕄} (c : Dev nD) (M : Memref sig .tc .vmem S4x128x1024 .bf16) (w : Vec F S1x64x512 .bf16)
    {hx : (M.access bl2).Stores Finset.univ} {hm : (Finset.univ : Finset (bl2 : Rect S4x128x1024).shape.Idx) = Finset.univ ∨ ∀ a, (bl2 : Rect S4x128x1024).stride a = 1}
    {kk : PUnit → Prog (TpuEff nD τ sig (Elt F) Λ₀ .tc) α} :
    eB2 M c ⊢ iprop((hB2 M c w -∗ WP c (kk ⟨⟩) Q) -∗ WP c (.op (.store M bl2 w Finset.univ hx hm) kk) Q) := by
  unfold eB2 hB2
  iintro ⟨%f, H⟩ Hk
  iapply (wp_store 𝒱₀ (c : Thread nD τ) none Set.univ (m := M) (r := bl2) (Mk := Finset.univ) (S := (sb2 M).view.set) (f := f) (bl2_set M)) $$ H
  iintro H
  iapply Hk
  iexists _; isplitr
  swap; · iexact H
  ipureintro; exact View.read_write_univ _ _
theorem load_hBr2 {Q : α → sProp 𝕄} (c : Dev nD) (M : Memref sig .tc .vmem S4x128x1024 .bf16) (wl) {hl : M.view.LoadsAt (Rect.toLoadRect br2)}
    {kk : ((Rect.toLoadRect br2).shape.Idx → Elt F .bf16) → Prog (TpuEff nD τ sig (Elt F) Λ₀ .tc) α} :
    hB2 M c wl ⊢ iprop((∀ v, hB2 M c wl -∗ WP c (kk v) Q) -∗ WP c (.op (.load M (Rect.toLoadRect br2) hl) kk) Q) := by
  unfold hB2
  iintro ⟨%f, %hf, H⟩ Hk
  iapply (wp_load_rect 𝒱₀ (c : Thread nD τ) none Set.univ (m := M) (r := br2) (S := (sb2 M).view.set) (f := f) (br2_set M)) $$ H
  iintro H
  iapply Hk
  iexists f; isplitr; · ipureintro; exact hf
  iexact H
omit [FloatOps F] [Named F] in
theorem halves2 (M : Memref sig .tc .vmem S4x128x1024 .bf16) : Disjoint (M.view.slice bl2).set ((M.view.slice br2).setOn Finset.univ) := by
  show Disjoint (M.view.slice bl2).set (M.view.slice br2).set
  rw [View.set_slice, View.set_slice]
  refine (Finset.disjoint_map M.view.emb).mpr ?_
  exact Rect.unit_disjoint (2 : Fin 3) (Or.inl (by decide))
theorem store_hBr2 {Q : α → sProp 𝕄} (c : Dev nD) (M : Memref sig .tc .vmem S4x128x1024 .bf16) (wl w : Vec F S1x64x512 .bf16)
    {hx : (M.access br2).Stores Finset.univ} {hm : (Finset.univ : Finset (br2 : Rect S4x128x1024).shape.Idx) = Finset.univ ∨ ∀ a, (br2 : Rect S4x128x1024).stride a = 1}
    {kk : PUnit → Prog (TpuEff nD τ sig (Elt F) Λ₀ .tc) α} :
    hB2 M c wl ⊢ iprop((gB2 M c wl w -∗ WP c (kk ⟨⟩) Q) -∗ WP c (.op (.store M br2 w Finset.univ hx hm) kk) Q) := by
  unfold hB2 gB2
  iintro ⟨%f, %hf, H⟩ Hk
  iapply (wp_store 𝒱₀ (c : Thread nD τ) none Set.univ (m := M) (r := br2) (Mk := Finset.univ) (S := (sb2 M).view.set) (f := f) (br2_set M)) $$ H
  iintro H
  iapply Hk
  iexists _; isplitr
  swap; · iexact H
  ipureintro
  exact ⟨(View.read_slice_write_slice_of_disjoint bl2 br2 f w Finset.univ (halves2 M)).trans hf, View.read_write_univ _ _⟩

/-- Slot 3 with its left half stored. -/
def hB3 (M : Memref sig .tc .vmem S4x128x1024 .bf16) (c : Dev nD) (wl : Vec F S1x128x512 .bf16) : sProp 𝕄 := iprop(∃ f, ⌜rl3 M f = wl⌝ ∗ B3 (F := F) M c f)
omit [FloatOps F] [Named F] in
theorem sb3_set (M : Memref sig .tc .vmem S4x128x1024 .bf16) : (M.access bg3).set = (sb3 M).view.set := (View.set_reshape _ _).symm
omit [FloatOps F] [Named F] in
theorem bl3_set (M : Memref sig .tc .vmem S4x128x1024 .bf16) : (M.access bl3).set ⊆ (sb3 M).view.set := by
  rw [← sb3_set, View.set_slice, View.set_slice]; exact Finset.map_subset_map.mpr bl3_sub
omit [FloatOps F] [Named F] in
theorem br3_set (M : Memref sig .tc .vmem S4x128x1024 .bf16) : (M.access br3).set ⊆ (sb3 M).view.set := by
  rw [← sb3_set, View.set_slice, View.set_slice]; exact Finset.map_subset_map.mpr br3_sub
theorem load_gBl3 {Q : α → sProp 𝕄} (c : Dev nD) (M : Memref sig .tc .vmem S4x128x1024 .bf16) (wl wr) {hl : M.view.LoadsAt (Rect.toLoadRect bl3)}
    {kk : ((Rect.toLoadRect bl3).shape.Idx → Elt F .bf16) → Prog (TpuEff nD τ sig (Elt F) Λ₀ .tc) α} :
    gB3 M c wl wr ⊢ iprop((gB3 M c wl wr -∗ WP c (kk wl) Q) -∗ WP c (.op (.load M (Rect.toLoadRect bl3) hl) kk) Q) := by
  unfold gB3
  iintro ⟨%f, %hf, H⟩ Hk
  iapply (wp_load_rect 𝒱₀ (c : Thread nD τ) none Set.univ (m := M) (r := bl3) (S := (sb3 M).view.set) (f := f) (bl3_set M)) $$ H
  iintro H
  rw [show (M.access bl3).read (Elt F) f = wl from hf.1]
  iapply Hk
  iexists f; isplitr; · ipureintro; exact hf
  iexact H
theorem load_gBr3 {Q : α → sProp 𝕄} (c : Dev nD) (M : Memref sig .tc .vmem S4x128x1024 .bf16) (wl wr) {hl : M.view.LoadsAt (Rect.toLoadRect br3)}
    {kk : ((Rect.toLoadRect br3).shape.Idx → Elt F .bf16) → Prog (TpuEff nD τ sig (Elt F) Λ₀ .tc) α} :
    gB3 M c wl wr ⊢ iprop((gB3 M c wl wr -∗ WP c (kk wr) Q) -∗ WP c (.op (.load M (Rect.toLoadRect br3) hl) kk) Q) := by
  unfold gB3
  iintro ⟨%f, %hf, H⟩ Hk
  iapply (wp_load_rect 𝒱₀ (c : Thread nD τ) none Set.univ (m := M) (r := br3) (S := (sb3 M).view.set) (f := f) (br3_set M)) $$ H
  iintro H
  rw [show (M.access br3).read (Elt F) f = wr from hf.2]
  iapply Hk
  iexists f; isplitr; · ipureintro; exact hf
  iexact H
theorem load_eBl3 {Q : α → sProp 𝕄} (c : Dev nD) (M : Memref sig .tc .vmem S4x128x1024 .bf16) {hl : M.view.LoadsAt (Rect.toLoadRect bl3)}
    {kk : ((Rect.toLoadRect bl3).shape.Idx → Elt F .bf16) → Prog (TpuEff nD τ sig (Elt F) Λ₀ .tc) α} :
    eB3 M c ⊢ iprop((∀ v, eB3 M c -∗ WP c (kk v) Q) -∗ WP c (.op (.load M (Rect.toLoadRect bl3) hl) kk) Q) := by
  unfold eB3
  iintro ⟨%f, H⟩ Hk
  iapply (wp_load_rect 𝒱₀ (c : Thread nD τ) none Set.univ (m := M) (r := bl3) (S := (sb3 M).view.set) (f := f) (bl3_set M)) $$ H
  iintro H
  iapply Hk
  iexists f; iexact H
theorem store_eBl3 {Q : α → sProp 𝕄} (c : Dev nD) (M : Memref sig .tc .vmem S4x128x1024 .bf16) (w : Vec F S1x128x512 .bf16)
    {hx : (M.access bl3).Stores Finset.univ} {hm : (Finset.univ : Finset (bl3 : Rect S4x128x1024).shape.Idx) = Finset.univ ∨ ∀ a, (bl3 : Rect S4x128x1024).stride a = 1}
    {kk : PUnit → Prog (TpuEff nD τ sig (Elt F) Λ₀ .tc) α} :
    eB3 M c ⊢ iprop((hB3 M c w -∗ WP c (kk ⟨⟩) Q) -∗ WP c (.op (.store M bl3 w Finset.univ hx hm) kk) Q) := by
  unfold eB3 hB3
  iintro ⟨%f, H⟩ Hk
  iapply (wp_store 𝒱₀ (c : Thread nD τ) none Set.univ (m := M) (r := bl3) (Mk := Finset.univ) (S := (sb3 M).view.set) (f := f) (bl3_set M)) $$ H
  iintro H
  iapply Hk
  iexists _; isplitr
  swap; · iexact H
  ipureintro; exact View.read_write_univ _ _
theorem load_hBr3 {Q : α → sProp 𝕄} (c : Dev nD) (M : Memref sig .tc .vmem S4x128x1024 .bf16) (wl) {hl : M.view.LoadsAt (Rect.toLoadRect br3)}
    {kk : ((Rect.toLoadRect br3).shape.Idx → Elt F .bf16) → Prog (TpuEff nD τ sig (Elt F) Λ₀ .tc) α} :
    hB3 M c wl ⊢ iprop((∀ v, hB3 M c wl -∗ WP c (kk v) Q) -∗ WP c (.op (.load M (Rect.toLoadRect br3) hl) kk) Q) := by
  unfold hB3
  iintro ⟨%f, %hf, H⟩ Hk
  iapply (wp_load_rect 𝒱₀ (c : Thread nD τ) none Set.univ (m := M) (r := br3) (S := (sb3 M).view.set) (f := f) (br3_set M)) $$ H
  iintro H
  iapply Hk
  iexists f; isplitr; · ipureintro; exact hf
  iexact H
omit [FloatOps F] [Named F] in
theorem halves3 (M : Memref sig .tc .vmem S4x128x1024 .bf16) : Disjoint (M.view.slice bl3).set ((M.view.slice br3).setOn Finset.univ) := by
  show Disjoint (M.view.slice bl3).set (M.view.slice br3).set
  rw [View.set_slice, View.set_slice]
  refine (Finset.disjoint_map M.view.emb).mpr ?_
  exact Rect.unit_disjoint (2 : Fin 3) (Or.inl (by decide))
theorem store_hBr3 {Q : α → sProp 𝕄} (c : Dev nD) (M : Memref sig .tc .vmem S4x128x1024 .bf16) (wl w : Vec F S1x128x512 .bf16)
    {hx : (M.access br3).Stores Finset.univ} {hm : (Finset.univ : Finset (br3 : Rect S4x128x1024).shape.Idx) = Finset.univ ∨ ∀ a, (br3 : Rect S4x128x1024).stride a = 1}
    {kk : PUnit → Prog (TpuEff nD τ sig (Elt F) Λ₀ .tc) α} :
    hB3 M c wl ⊢ iprop((gB3 M c wl w -∗ WP c (kk ⟨⟩) Q) -∗ WP c (.op (.store M br3 w Finset.univ hx hm) kk) Q) := by
  unfold hB3 gB3
  iintro ⟨%f, %hf, H⟩ Hk
  iapply (wp_store 𝒱₀ (c : Thread nD τ) none Set.univ (m := M) (r := br3) (Mk := Finset.univ) (S := (sb3 M).view.set) (f := f) (br3_set M)) $$ H
  iintro H
  iapply Hk
  iexists _; isplitr
  swap; · iexact H
  ipureintro
  exact ⟨(View.read_slice_write_slice_of_disjoint bl3 br3 f w Finset.univ (halves3 M)).trans hf, View.read_write_univ _ _⟩

/-! The contents of a slot may be forgotten. -/
theorem gS0_e (c : Dev nD) (M : Memref sig .tc .vmem S2x256x512 .bf16) (w : Vec F S1x256x512 .bf16) : gS0 M c w ⊢ eS0 M c := by
  unfold gS0 eS0
  iintro ⟨%f, -, H⟩
  iexists f; iexact H
theorem gS1_e (c : Dev nD) (M : Memref sig .tc .vmem S2x256x512 .bf16) (w : Vec F S1x256x512 .bf16) : gS1 M c w ⊢ eS1 M c := by
  unfold gS1 eS1
  iintro ⟨%f, -, H⟩
  iexists f; iexact H
theorem gB0_e (c : Dev nD) (M : Memref sig .tc .vmem S4x128x1024 .bf16) (w w') : gB0 (F := F) M c w w' ⊢ eB0 M c := by
  unfold gB0 eB0
  iintro ⟨%f, -, H⟩
  iexists f; iexact H
theorem gB1_e (c : Dev nD) (M : Memref sig .tc .vmem S4x128x1024 .bf16) (w w') : gB1 (F := F) M c w w' ⊢ eB1 M c := by
  unfold gB1 eB1
  iintro ⟨%f, -, H⟩
  iexists f; iexact H
theorem gB2_e (c : Dev nD) (M : Memref sig .tc .vmem S4x128x1024 .bf16) (w w') : gB2 (F := F) M c w w' ⊢ eB2 M c := by
  unfold gB2 eB2
  iintro ⟨%f, -, H⟩
  iexists f; iexact H
theorem gB3_e (c : Dev nD) (M : Memref sig .tc .vmem S4x128x1024 .bf16) (w w') : gB3 (F := F) M c w w' ⊢ eB3 M c := by
  unfold gB3 eB3
  iintro ⟨%f, -, H⟩
  iexists f; iexact H

end Recs

end Cert.KP

end
-- ==== Proof.Local.lean ====
module

public import proofs.«01_k».proof.Proof.Ops
public import proofs.«01_k».proof.Proof.Gen.KernelIdeal.Skeleton
public import Idealize.ShloMosaic.Lib.Transfers
public import Idealize.ShloMosaic.Lib.ValueIdxCore
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KP

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

/-! # The device's own part before the exchange: the inputs' contents, what attention leaves in the result buffer, and the steps of the
    local copies, the loads and stores, the barrier -/

/-- The contents of the five inputs on every device. -/
structure Ins (F : FTy → Type) where
  x : Dev nD → Vec F S1x1024x1024 .f32
  wq : Dev nD → Vec F S1024x16384 .f32
  k : Dev nD → Vec F S1x1024x8x128 .f32
  v : Dev nD → Vec F S1x1024x8x128 .f32
  wo : Dev nD → Vec F S16384x1024 .f32

abbrev rx : Rect S1x1024x1024 := Rect.unit ![0, 0, 0] S1x1024x1024.size inb_S1x1024x1024_S1x1024x1024_0_0_0
abbrev rw2 : Rect S1024x1024 := Rect.unit ![0, 0] S1024x1024.size inb_S1024x1024_S1024x1024_0_0
abbrev rk0 : Rect S2x1024x128 := Rect.unit ![0, 0, 0] S1x1024x128.size inb_S2x1024x128_S1x1024x128_0_0_0
abbrev rk1 : Rect S2x1024x128 := Rect.unit ![1, 0, 0] S1x1024x128.size inb_S2x1024x128_S1x1024x128_1_0_0
abbrev kl0 (M : Memref sig .tc .vmem S2x1024x128 .f32) : Memref sig .tc .vmem S1024x128 .f32 := (M.slice rk0 (fun _ => rfl)).squeeze S1024x128 squeezes_S1x1024x128_S1024x128
abbrev kl1 (M : Memref sig .tc .vmem S2x1024x128 .f32) : Memref sig .tc .vmem S1024x128 .f32 := (M.slice rk1 (fun _ => rfl)).squeeze S1024x128 squeezes_S1x1024x128_S1024x128
abbrev aK : Memref sig .tc .hbm S1x1024x8x128 .f32 := Memref.whole main_arg2
abbrev aV : Memref sig .tc .hbm S1x1024x8x128 .f32 := Memref.whole main_arg3
/-- Head `h` of an array of keys or values. -/
abbrev ah0 (A : Memref sig .tc .hbm S1x1024x8x128 .f32) : Memref sig .tc .hbm S1024x128 .f32 :=
  (A.slice (Rect.unit (s := S1x1024x8x128) ![0, 0, 0, 0] S1x1024x1x128.size inb_S1x1024x8x128_S1x1024x1x128_0_0_0_0) (fun _ => rfl)).squeeze S1024x128 squeezes_S1x1024x1x128_S1024x128
abbrev ah1 (A : Memref sig .tc .hbm S1x1024x8x128 .f32) : Memref sig .tc .hbm S1024x128 .f32 :=
  (A.slice (Rect.unit (s := S1x1024x8x128) ![0, 0, 1, 0] S1x1024x1x128.size inb_S1x1024x8x128_S1x1024x1x128_0_0_1_0) (fun _ => rfl)).squeeze S1024x128 squeezes_S1x1024x1x128_S1024x128
abbrev ah2 (A : Memref sig .tc .hbm S1x1024x8x128 .f32) : Memref sig .tc .hbm S1024x128 .f32 :=
  (A.slice (Rect.unit (s := S1x1024x8x128) ![0, 0, 2, 0] S1x1024x1x128.size inb_S1x1024x8x128_S1x1024x1x128_0_0_2_0) (fun _ => rfl)).squeeze S1024x128 squeezes_S1x1024x1x128_S1024x128
abbrev ah3 (A : Memref sig .tc .hbm S1x1024x8x128 .f32) : Memref sig .tc .hbm S1024x128 .f32 :=
  (A.slice (Rect.unit (s := S1x1024x8x128) ![0, 0, 3, 0] S1x1024x1x128.size inb_S1x1024x8x128_S1x1024x1x128_0_0_3_0) (fun _ => rfl)).squeeze S1024x128 squeezes_S1x1024x1x128_S1024x128
abbrev ah4 (A : Memref sig .tc .hbm S1x1024x8x128 .f32) : Memref sig .tc .hbm S1024x128 .f32 :=
  (A.slice (Rect.unit (s := S1x1024x8x128) ![0, 0, 4, 0] S1x1024x1x128.size inb_S1x1024x8x128_S1x1024x1x128_0_0_4_0) (fun _ => rfl)).squeeze S1024x128 squeezes_S1x1024x1x128_S1024x128
abbrev ah5 (A : Memref sig .tc .hbm S1x1024x8x128 .f32) : Memref sig .tc .hbm S1024x128 .f32 :=
  (A.slice (Rect.unit (s := S1x1024x8x128) ![0, 0, 5, 0] S1x1024x1x128.size inb_S1x1024x8x128_S1x1024x1x128_0_0_5_0) (fun _ => rfl)).squeeze S1024x128 squeezes_S1x1024x1x128_S1024x128
abbrev ah6 (A : Memref sig .tc .hbm S1x1024x8x128 .f32) : Memref sig .tc .hbm S1024x128 .f32 :=
  (A.slice (Rect.unit (s := S1x1024x8x128) ![0, 0, 6, 0] S1x1024x1x128.size inb_S1x1024x8x128_S1x1024x1x128_0_0_6_0) (fun _ => rfl)).squeeze S1024x128 squeezes_S1x1024x1x128_S1024x128
abbrev ah7 (A : Memref sig .tc .hbm S1x1024x8x128 .f32) : Memref sig .tc .hbm S1024x128 .f32 :=
  (A.slice (Rect.unit (s := S1x1024x8x128) ![0, 0, 7, 0] S1x1024x1x128.size inb_S1x1024x8x128_S1x1024x1x128_0_0_7_0) (fun _ => rfl)).squeeze S1024x128 squeezes_S1x1024x1x128_S1024x128
/-- The columns of `Wq`, the rows of `Wo` that are the device's. -/
abbrev aWq (c : Dev nD) : Memref sig .tc .hbm S1024x1024 .f32 :=
  (Memref.whole main_arg1 : Memref sig .tc .hbm S1024x16384 .f32).slice (Rect.unit (s := S1024x16384) (k0_off1 c) S1024x1024.size (k0_off1_inb c)) (fun _ => rfl)
abbrev aWo (c : Dev nD) : Memref sig .tc .hbm S1024x1024 .f32 :=
  (Memref.whole main_arg4 : Memref sig .tc .hbm S16384x1024 .f32).slice (Rect.unit (s := S16384x1024) (k0_off2 c) S1024x1024.size (k0_off2_inb c)) (fun _ => rfl)
/-- A head's block with a leading axis of length one. -/
def up (u : S1024x128.Idx → Elt F .f32) : Vec F S1x1024x128 .f32 := fun y => u ((Shape.reshapeEquiv squeezes_S1x1024x128_S1024x128.numel_eq).symm y)

section Vals
variable (A : Ins F)
abbrev kH0 (c : Dev nD) : Vec F S1x1024x128 .f32 := up ((ah0 aK).view.read (Elt F) (A.k c))
abbrev vH0 (c : Dev nD) : Vec F S1x1024x128 .f32 := up ((ah0 aV).view.read (Elt F) (A.v c))
abbrev kH1 (c : Dev nD) : Vec F S1x1024x128 .f32 := up ((ah1 aK).view.read (Elt F) (A.k c))
abbrev vH1 (c : Dev nD) : Vec F S1x1024x128 .f32 := up ((ah1 aV).view.read (Elt F) (A.v c))
abbrev kH2 (c : Dev nD) : Vec F S1x1024x128 .f32 := up ((ah2 aK).view.read (Elt F) (A.k c))
abbrev vH2 (c : Dev nD) : Vec F S1x1024x128 .f32 := up ((ah2 aV).view.read (Elt F) (A.v c))
abbrev kH3 (c : Dev nD) : Vec F S1x1024x128 .f32 := up ((ah3 aK).view.read (Elt F) (A.k c))
abbrev vH3 (c : Dev nD) : Vec F S1x1024x128 .f32 := up ((ah3 aV).view.read (Elt F) (A.v c))
abbrev kH4 (c : Dev nD) : Vec F S1x1024x128 .f32 := up ((ah4 aK).view.read (Elt F) (A.k c))
abbrev vH4 (c : Dev nD) : Vec F S1x1024x128 .f32 := up ((ah4 aV).view.read (Elt F) (A.v c))
abbrev kH5 (c : Dev nD) : Vec F S1x1024x128 .f32 := up ((ah5 aK).view.read (Elt F) (A.k c))
abbrev vH5 (c : Dev nD) : Vec F S1x1024x128 .f32 := up ((ah5 aV).view.read (Elt F) (A.v c))
abbrev kH6 (c : Dev nD) : Vec F S1x1024x128 .f32 := up ((ah6 aK).view.read (Elt F) (A.k c))
abbrev vH6 (c : Dev nD) : Vec F S1x1024x128 .f32 := up ((ah6 aV).view.read (Elt F) (A.v c))
abbrev kH7 (c : Dev nD) : Vec F S1x1024x128 .f32 := up ((ah7 aK).view.read (Elt F) (A.k c))
abbrev vH7 (c : Dev nD) : Vec F S1x1024x128 .f32 := up ((ah7 aV).view.read (Elt F) (A.v c))
abbrev wqB (c : Dev nD) : Vec F S1024x1024 .f32 := (aWq c).view.read (Elt F) (A.wq c)
abbrev woB (c : Dev nD) : Vec F S1024x1024 .f32 := (aWo c).view.read (Elt F) (A.wo c)
/-- The queries' product and the bias of the mask. -/
abbrev qV (c : Dev nD) : FVec F S1024x1024 .f32 := k0_pay4 (k0_pay2 (A.x c)) (k0_pay3 (wqB A c))
abbrev biasV : FVec F S1024x1024 .f32 := k0_pay10 (F := F) k0_pay5 k0_pay6 k0_pay7 k0_pay8 k0_pay9
/-- What each head writes into its columns of the context. -/
def hO (c : Dev nD) : Fin 8 → Vec F S1024x128 .bf16
  | 0 => k0_pay12 (k0_pay11 (qV A c) biasV (kH0 A c) (vH0 A c))
  | 1 => k0_pay13 (qV A c) biasV (kH1 A c) (vH1 A c)
  | 2 => k0_pay17 biasV (k0_pay14 (vH2 A c)) (k0_pay15 (qV A c) (kH2 A c)) k0_pay16
  | 3 => k0_pay18 (qV A c) biasV (kH3 A c) (vH3 A c)
  | 4 => k0_pay19 (qV A c) biasV (kH4 A c) (vH4 A c)
  | 5 => k0_pay22 (k0_pay20 (vH5 A c)) (k0_pay21 (qV A c) biasV (kH5 A c))
  | 6 => k0_pay23 (qV A c) biasV (kH6 A c) (vH6 A c)
  | 7 => k0_pay25 (k0_pay24 (qV A c) biasV (kH7 A c) (vH7 A c))
/-- The context: column `i` is column `i % 128` of head `i / 128`. -/
def ctxV (c : Dev nD) : Vec F S1024x1024 .bf16 := fun i =>
  hO A c ⟨(i 1).val / 128, Nat.div_lt_of_lt_mul (by have : (i 1).val < 1024 := (i 1).isLt; omega)⟩
    (ix2 (⟨(i 0).val, (i 0).isLt⟩ : Fin 1024) (⟨(i 1).val % 128, Nat.mod_lt _ (by decide)⟩ : Fin 128))
/-- The partial result that the device brings into the exchange. -/
def PV (c : Dev nD) : OutC F := k0_pay26 (woB A c) (ctxV A c)
end Vals

/-! ## Assertions -/

abbrev EC : UEmb Counters 𝕄 := countersEmb (U := UU)
/-- The slots of the two-slot buffers; the weight buffers; the context; the staged input. -/
def eK0 (M : Memref sig .tc .vmem S2x1024x128 .f32) (c : Dev nD) : sProp 𝕄 := iprop(∃ f, (kl0 M).view.loc (c : Thread nD τ) ↦[(kl0 M).view.set]{fullShare} f)
def gK0 (M : Memref sig .tc .vmem S2x1024x128 .f32) (c : Dev nD) (w : Vec F S1x1024x128 .f32) : sProp 𝕄 :=
  iprop(∃ f, ⌜M.view.readAt (Elt F) (Rect.toLoadRect rk0) f = w⌝ ∗ (kl0 M).view.loc (c : Thread nD τ) ↦[(kl0 M).view.set]{fullShare} f)
instance gK0_storable (M : Memref sig .tc .vmem S2x1024x128 .f32) (c : Dev nD) (w) : BI.Storable (upEmb : UEmb _ 𝕄) (gK0 (F := F) M c w) := by unfold gK0; infer_instance
def eK1 (M : Memref sig .tc .vmem S2x1024x128 .f32) (c : Dev nD) : sProp 𝕄 := iprop(∃ f, (kl1 M).view.loc (c : Thread nD τ) ↦[(kl1 M).view.set]{fullShare} f)
def gK1 (M : Memref sig .tc .vmem S2x1024x128 .f32) (c : Dev nD) (w : Vec F S1x1024x128 .f32) : sProp 𝕄 :=
  iprop(∃ f, ⌜M.view.readAt (Elt F) (Rect.toLoadRect rk1) f = w⌝ ∗ (kl1 M).view.loc (c : Thread nD τ) ↦[(kl1 M).view.set]{fullShare} f)
instance gK1_storable (M : Memref sig .tc .vmem S2x1024x128 .f32) (c : Dev nD) (w) : BI.Storable (upEmb : UEmb _ 𝕄) (gK1 (F := F) M c w) := by unfold gK1; infer_instance
def eW (M : Memref sig .tc .vmem S1024x1024 .f32) (c : Dev nD) : sProp 𝕄 := iprop(∃ f, M.view.loc (c : Thread nD τ) ↦[M.view.set]{fullShare} f)
def gW (M : Memref sig .tc .vmem S1024x1024 .f32) (c : Dev nD) (w : Vec F S1024x1024 .f32) : sProp 𝕄 :=
  iprop(∃ f, ⌜M.view.readAt (Elt F) (Rect.toLoadRect rw2) f = w⌝ ∗ M.view.loc (c : Thread nD τ) ↦[M.view.set]{fullShare} f)
instance gW_storable (M : Memref sig .tc .vmem S1024x1024 .f32) (c : Dev nD) (w) : BI.Storable (upEmb : UEmb _ 𝕄) (gW (F := F) M c w) := by unfold gW; infer_instance
def cP (c : Dev nD) (f : Vec F S1024x1024 .bf16) : sProp 𝕄 := ((c : Thread nD τ).loc cc0_scratch4) ↦{fullShare} f
/-- The context whose first `n` heads hold their values. -/
def cS (n : ℕ) (c : Dev nD) (V : Vec F S1024x1024 .bf16) : sProp 𝕄 := iprop(∃ f, ⌜∀ i : S1024x1024.Idx, (i 1).val < 128 * n → f i = V i⌝ ∗ cP c f)
def xP (c : Dev nD) (f : Vec F S1x1024x1024 .f32) : sProp 𝕄 := ((c : Thread nD τ).loc cc0_stg0_0) ↦{fullShare} f
/-- An array of which a window is read by a copy. -/
def aP {s : Shape} (src : Memref sig .tc .hbm s .f32) (c : Dev nD) (fs : Buf (Elt F) (src.view.loc (c : Thread nD τ))) : sProp 𝕄 := src.view.loc (c : Thread nD τ) ↦{fullShare} fs
/-- A local copy in flight on semaphore `n`, out of a window of `src`, that lands `D`. -/
def fly {s : Shape} (src : Memref sig .tc .hbm s .f32) (c : Dev nD) (n : ℕ) (h : n < 32) (N : ℕ) (D : sProp 𝕄) (fs : Buf (Elt F) (src.view.loc (c : Thread nD τ))) : sProp 𝕄 :=
  iprop(Transfers.Flight EC (c : Thread nD τ) (.dma (dS n h)) 0 N iprop(D ∗ (src.view.loc (c : Thread nD τ) ↦[src.view.set]{fullShare} fs))
    ∗ (src.view.loc (c : Thread nD τ) ↦[Finset.univ \ src.view.set]{fullShare} fs))
def sv0 (c : Dev nD) (n : ℕ) (h : n < 32) : sProp 𝕄 := semVal ((c : Thread nD τ), .dma (dS n h)) 0

/-! ## The steps -/

section Steps
variable {P : Dev nD → OutC F} {K : Dev nD × Fin 25 → ℕ} {α : Type}

theorem start {Q : α → sProp 𝕄} (c : Dev nD) (n : ℕ) (h : n < 32) {s : Shape} {src : Memref sig .tc .hbm s .f32} {dst : Memref sig .tc .vmem s .f32}
    {hsrc : src.view.WordExact} {hdst : dst.view.WordExact} {hsem : DmaTarget.Typed (nD := nD) .hbm (.dma (dS n h)) (DmaTarget.here (p := .tc) dst)}
    {kk : PUnit → Prog (TpuEff nD τ sig (Elt F) Λ₀ .tc) α} (N : ℕ) (hN : dst.view.amount (.dma (dS n h) : SemLoc sig) = N) (hN0 : 0 < N)
    (fs : Buf (Elt F) (src.view.loc (c : Thread nD τ))) {D : sProp 𝕄}
    (hD : ∀ fd, (dst.view.loc (c : Thread nD τ) ↦[dst.view.set]{fullShare} (dst.view.write (Elt F) fd (src.view.read (Elt F) fs) Finset.univ)) ⊢ D) :
    iprop(aP src c fs ∗ (∃ f, dst.view.loc (c : Thread nD τ) ↦[dst.view.set]{fullShare} f) ∗ sv0 c n h)
      ⊢ iprop((fly src c n h N D fs -∗ WP c (kk ⟨⟩) Q) -∗ WP c (.op (.enqueueDma src (.here dst) (.dma (dS n h)) hsrc hdst hsem) kk) Q) := by
  unfold aP fly sv0
  iintro ⟨Ha, ⟨%fd, Hd⟩, Hv⟩ Hk
  ihave Ha := (pointsTo_split_subset (Finset.subset_univ src.view.set)).1 $$ Ha
  icases Ha with ⟨Ha, Hr⟩
  iapply (Transfers.wp_dmaLocal EC 𝒱₀ (c : Thread nD τ) none (via := .same) 0 N hN hN0 (Finset.Subset.refl _)) $$ [Ha Hd Hv]
  · isplitl [Ha]; · iexact Ha
    isplitl [Hd]; · iexact Hd
    iexact Hv
  iintro Hf
  iapply Hk
  isplitl [Hf]
  · iapply (Transfers.Flight_mono EC (c : Thread nD τ) (sep_mono_left (hD fd))) $$ Hf
  iexact Hr
theorem arrive {Q : α → sProp 𝕄} (c : Dev nD) (n : ℕ) (h : n < 32) (k : ℕ) (hk : ∀ j ∈ duesIx.drop k, 0 < j ∧ j < 12) {s : Shape} {src : Memref sig .tc .hbm s .f32}
    {s' : Shape} {e' : EltTy} {sp' : Space} {srcw : Memref sig .tc sp' s' e'} {dstw : Memref sig .tc .vmem s .f32} {hsrc : srcw.view.WordExact} {hdst : dstw.view.WordExact}
    {kk : PUnit → Prog (TpuEff nD τ sig (Elt F) Λ₀ .tc) α} (N : ℕ) (hN : dstw.view.dmaCredit = N)
    (fs : Buf (Elt F) (src.view.loc (c : Thread nD τ))) {D : sProp 𝕄} :
    iprop(recs P K ∗ fly src c n h N D fs ∗ own c k)
      ⊢ iprop((iprop(D ∗ aP src c fs ∗ sv0 c n h ∗ own c k) -∗ WP c (kk ⟨⟩) Q) -∗ WP c (.op (.waitDma2 (dS n h) srcw dstw hsrc hdst) kk) Q) := by
  unfold aP fly sv0 own
  iintro ⟨#HR, ⟨Hf, Hr⟩, ⟨%W, HO⟩⟩ Hk
  iapply (Transfers.wp_waitLocalO EC 𝒱₀ (c : Thread nD τ) none 0 hN) $$ [Hf HO]
  · isplitl [Hf]; · iexact Hf
    isplitl [HO]; · iexact HO
    iapply (mayWait P K c _ 0 k (by decide) hk); iexact HR
  iintro ⟨⟨HD, Ha⟩, Hv, HO⟩
  iapply Hk
  isplitl [HD]; · iexact HD
  isplitl [Ha Hr]
  · iapply (pointsTo_split_subset (Finset.subset_univ src.view.set)).2
    isplitl [Ha]; · iexact Ha
    iexact Hr
  isplitl [Hv]; · iexact Hv
  iexists _; iexact HO

omit [FloatOps F] [Named F] in
theorem land_up (M : View sig .tc .vmem S2x1024x128 .f32) (r : Rect S2x1024x128) (hr : r.shape = S1x1024x128) (h : S1024x128.numel = r.shape.numel) (fd : M.ty.Contents (Elt F)) (u : S1024x128.Idx → Elt F .f32) (y : r.shape.Idx) :
    (M.slice r).read (Elt F) (((M.slice r).reshape S1024x128 h).write (Elt F) fd u Finset.univ) y = u ((Shape.reshapeEquiv h).symm y) := by
  have e : (M.slice r).emb y = ((M.slice r).reshape S1024x128 h).emb ((Shape.reshapeEquiv h).symm y) := by
    show _ = (M.slice r).emb (Shape.reshapeEquiv h ((Shape.reshapeEquiv h).symm y))
    rw [Equiv.apply_symm_apply]
  rw [View.read_apply, e, View.write_emb_of_mem _ _ (Finset.mem_univ _), cast_cast]
  rfl
omit [FloatOps F] [Named F] in
theorem land_k0 (M : Memref sig .tc .vmem S2x1024x128 .f32) (c : Dev nD) (u : S1024x128.Idx → Elt F .f32) (fd) :
    ((kl0 M).view.loc (c : Thread nD τ) ↦[(kl0 M).view.set]{fullShare} ((kl0 M).view.write (Elt F) fd u Finset.univ)) ⊢ gK0 M c (up u) := by
  unfold gK0
  iintro H
  iexists _; isplitr
  swap; · iexact H
  ipureintro
  funext y
  exact land_up M.view rk0 rfl _ fd u y
theorem start_k0 {Q : α → sProp 𝕄} (c : Dev nD) (n : ℕ) (h : n < 32) {src : Memref sig .tc .hbm S1024x128 .f32} (M : Memref sig .tc .vmem S2x1024x128 .f32)
    {hsrc : src.view.WordExact} {hdst : (kl0 M).view.WordExact} {hsem : DmaTarget.Typed (nD := nD) .hbm (.dma (dS n h)) (DmaTarget.here (p := .tc) (kl0 M))}
    {kk : PUnit → Prog (TpuEff nD τ sig (Elt F) Λ₀ .tc) α}
    (fs : Buf (Elt F) (src.view.loc (c : Thread nD τ))) :
    iprop(aP src c fs ∗ eK0 M c ∗ sv0 c n h)
      ⊢ iprop((fly src c n h (kl0 M).view.dmaCredit (gK0 M c (up (src.view.read (Elt F) fs))) fs -∗ WP c (kk ⟨⟩) Q)
          -∗ WP c (.op (.enqueueDma src (.here (kl0 M)) (.dma (dS n h)) hsrc hdst hsem) kk) Q) := by
  unfold eK0
  exact start c n h _ rfl (View.dmaCredit_pos _ (by decide)) fs (fun fd => land_k0 M c _ fd)
omit [FloatOps F] [Named F] in
theorem kl0_set (M : Memref sig .tc .vmem S2x1024x128 .f32) : (M.access rk0).set = (kl0 M).view.set := (View.set_reshape _ _).symm
omit [FloatOps F] [Named F] in
theorem gK0_e (c : Dev nD) (M : Memref sig .tc .vmem S2x1024x128 .f32) (w : Vec F S1x1024x128 .f32) : gK0 M c w ⊢ eK0 M c := by
  unfold gK0 eK0
  iintro ⟨%f, -, H⟩
  iexists f; iexact H
theorem load_k0 {Q : α → sProp 𝕄} (c : Dev nD) (M : Memref sig .tc .vmem S2x1024x128 .f32) (w) {hl : M.view.LoadsAt (Rect.toLoadRect rk0)}
    {kk : ((Rect.toLoadRect rk0).shape.Idx → Elt F .f32) → Prog (TpuEff nD τ sig (Elt F) Λ₀ .tc) α} :
    gK0 M c w ⊢ iprop((gK0 M c w -∗ WP c (kk w) Q) -∗ WP c (.op (.load M (Rect.toLoadRect rk0) hl) kk) Q) := by
  unfold gK0
  iintro ⟨%f, %hf, H⟩ Hk
  iapply (wp_load_rect 𝒱₀ (c : Thread nD τ) none Set.univ (m := M) (r := rk0) (S := (kl0 M).view.set) (f := f) (by rw [kl0_set])) $$ H
  iintro H
  rw [show (M.access rk0).read (Elt F) f = w from hf]
  iapply Hk
  iexists f; isplitr; · ipureintro; exact hf
  iexact H
omit [FloatOps F] [Named F] in
theorem land_k1 (M : Memref sig .tc .vmem S2x1024x128 .f32) (c : Dev nD) (u : S1024x128.Idx → Elt F .f32) (fd) :
    ((kl1 M).view.loc (c : Thread nD τ) ↦[(kl1 M).view.set]{fullShare} ((kl1 M).view.write (Elt F) fd u Finset.univ)) ⊢ gK1 M c (up u) := by
  unfold gK1
  iintro H
  iexists _; isplitr
  swap; · iexact H
  ipureintro
  funext y
  exact land_up M.view rk1 rfl _ fd u y
theorem start_k1 {Q : α → sProp 𝕄} (c : Dev nD) (n : ℕ) (h : n < 32) {src : Memref sig .tc .hbm S1024x128 .f32} (M : Memref sig .tc .vmem S2x1024x128 .f32)
    {hsrc : src.view.WordExact} {hdst : (kl1 M).view.WordExact} {hsem : DmaTarget.Typed (nD := nD) .hbm (.dma (dS n h)) (DmaTarget.here (p := .tc) (kl1 M))}
    {kk : PUnit → Prog (TpuEff nD τ sig (Elt F) Λ₀ .tc) α}
    (fs : Buf (Elt F) (src.view.loc (c : Thread nD τ))) :
    iprop(aP src c fs ∗ eK1 M c ∗ sv0 c n h)
      ⊢ iprop((fly src c n h (kl1 M).view.dmaCredit (gK1 M c (up (src.view.read (Elt F) fs))) fs -∗ WP c (kk ⟨⟩) Q)
          -∗ WP c (.op (.enqueueDma src (.here (kl1 M)) (.dma (dS n h)) hsrc hdst hsem) kk) Q) := by
  unfold eK1
  exact start c n h _ rfl (View.dmaCredit_pos _ (by decide)) fs (fun fd => land_k1 M c _ fd)
omit [FloatOps F] [Named F] in
theorem kl1_set (M : Memref sig .tc .vmem S2x1024x128 .f32) : (M.access rk1).set = (kl1 M).view.set := (View.set_reshape _ _).symm
omit [FloatOps F] [Named F] in
theorem gK1_e (c : Dev nD) (M : Memref sig .tc .vmem S2x1024x128 .f32) (w : Vec F S1x1024x128 .f32) : gK1 M c w ⊢ eK1 M c := by
  unfold gK1 eK1
  iintro ⟨%f, -, H⟩
  iexists f; iexact H
theorem load_k1 {Q : α → sProp 𝕄} (c : Dev nD) (M : Memref sig .tc .vmem S2x1024x128 .f32) (w) {hl : M.view.LoadsAt (Rect.toLoadRect rk1)}
    {kk : ((Rect.toLoadRect rk1).shape.Idx → Elt F .f32) → Prog (TpuEff nD τ sig (Elt F) Λ₀ .tc) α} :
    gK1 M c w ⊢ iprop((gK1 M c w -∗ WP c (kk w) Q) -∗ WP c (.op (.load M (Rect.toLoadRect rk1) hl) kk) Q) := by
  unfold gK1
  iintro ⟨%f, %hf, H⟩ Hk
  iapply (wp_load_rect 𝒱₀ (c : Thread nD τ) none Set.univ (m := M) (r := rk1) (S := (kl1 M).view.set) (f := f) (by rw [kl1_set])) $$ H
  iintro H
  rw [show (M.access rk1).read (Elt F) f = w from hf]
  iapply Hk
  iexists f; isplitr; · ipureintro; exact hf
  iexact H
omit [FloatOps F] [Named F] in
theorem rw2_emb (y : S1024x1024.Idx) : (rw2 : Rect S1024x1024).emb y = y := by
  funext a
  apply Fin.ext
  fin_cases a
  · show 0 + 1 * (y 0).val = _; exact (Nat.zero_add _).trans (Nat.one_mul _)
  · show 0 + 1 * (y 1).val = _; exact (Nat.zero_add _).trans (Nat.one_mul _)
omit [FloatOps F] [Named F] in
theorem rx_emb (y : S1x1024x1024.Idx) : (rx : Rect S1x1024x1024).emb y = y := by
  funext a
  apply Fin.ext
  fin_cases a
  · show 0 + 1 * (y 0).val = _; exact (Nat.zero_add _).trans (Nat.one_mul _)
  · show 0 + 1 * (y 1).val = _; exact (Nat.zero_add _).trans (Nat.one_mul _)
  · show 0 + 1 * (y 2).val = _; exact (Nat.zero_add _).trans (Nat.one_mul _)
omit [FloatOps F] [Named F] in
theorem land_w (M : Memref sig .tc .vmem S1024x1024 .f32) (c : Dev nD) (u : S1024x1024.Idx → Elt F .f32) (fd) :
    (M.view.loc (c : Thread nD τ) ↦[M.view.set]{fullShare} (M.view.write (Elt F) fd u Finset.univ)) ⊢ gW M c u := by
  unfold gW
  iintro H
  iexists _; isplitr
  swap; · iexact H
  ipureintro
  funext y
  have e : (M.view.slice rw2).emb y = M.view.emb y := by show M.view.emb ((rw2 : Rect S1024x1024).emb y) = _; rw [rw2_emb]
  show (M.view.slice rw2).read (Elt F) _ y = _
  rw [View.read_apply, e, View.write_emb_of_mem _ _ (Finset.mem_univ _), cast_cast]
  rfl
theorem start_w {Q : α → sProp 𝕄} (c : Dev nD) (n : ℕ) (h : n < 32) {src : Memref sig .tc .hbm S1024x1024 .f32} (M : Memref sig .tc .vmem S1024x1024 .f32)
    {hsrc : src.view.WordExact} {hdst : M.view.WordExact} {hsem : DmaTarget.Typed (nD := nD) .hbm (.dma (dS n h)) (DmaTarget.here (p := .tc) M)}
    {kk : PUnit → Prog (TpuEff nD τ sig (Elt F) Λ₀ .tc) α}
    (fs : Buf (Elt F) (src.view.loc (c : Thread nD τ))) :
    iprop(aP src c fs ∗ eW M c ∗ sv0 c n h)
      ⊢ iprop((fly src c n h M.view.dmaCredit (gW M c (src.view.read (Elt F) fs)) fs -∗ WP c (kk ⟨⟩) Q)
          -∗ WP c (.op (.enqueueDma src (.here M) (.dma (dS n h)) hsrc hdst hsem) kk) Q) := by
  unfold eW
  exact start c n h _ rfl (View.dmaCredit_pos _ (by decide)) fs (fun fd => land_w M c _ fd)
omit [FloatOps F] [Named F] in
theorem gW_e (c : Dev nD) (M : Memref sig .tc .vmem S1024x1024 .f32) (w : Vec F S1024x1024 .f32) : gW M c w ⊢ eW M c := by
  unfold gW eW
  iintro ⟨%f, -, H⟩
  iexists f; iexact H
omit [FloatOps F] [Named F] in
theorem rw2_set (M : Memref sig .tc .vmem S1024x1024 .f32) : (M.access rw2).set ⊆ M.view.set := View.set_slice_subset _ _
theorem load_w {Q : α → sProp 𝕄} (c : Dev nD) (M : Memref sig .tc .vmem S1024x1024 .f32) (w) {hl : M.view.LoadsAt (Rect.toLoadRect rw2)}
    {kk : ((Rect.toLoadRect rw2).shape.Idx → Elt F .f32) → Prog (TpuEff nD τ sig (Elt F) Λ₀ .tc) α} :
    gW M c w ⊢ iprop((gW M c w -∗ WP c (kk w) Q) -∗ WP c (.op (.load M (Rect.toLoadRect rw2) hl) kk) Q) := by
  unfold gW
  iintro ⟨%f, %hf, H⟩ Hk
  iapply (wp_load_rect 𝒱₀ (c : Thread nD τ) none Set.univ (m := M) (r := rw2) (S := M.view.set) (f := f) (rw2_set M)) $$ H
  iintro H
  rw [show (M.access rw2).read (Elt F) f = w from hf]
  iapply Hk
  iexists f; isplitr; · ipureintro; exact hf
  iexact H

/-- The staged input, the context. -/
theorem load_x {Q : α → sProp 𝕄} (c : Dev nD) (f : Vec F S1x1024x1024 .f32) {hl : xM.view.LoadsAt (Rect.toLoadRect rx)}
    {kk : ((Rect.toLoadRect rx).shape.Idx → Elt F .f32) → Prog (TpuEff nD τ sig (Elt F) Λ₀ .tc) α} :
    xP c f ⊢ iprop((xP c f -∗ WP c (kk f) Q) -∗ WP c (.op (.load xM (Rect.toLoadRect rx) hl) kk) Q) := by
  have e : xM.view.readAt (Elt F) (Rect.toLoadRect rx) f = f := by
    funext y
    show f ((rx : Rect S1x1024x1024).emb y) = f y
    rw [rx_emb]
  have h : xP c f ⊢ iprop((xP c f -∗ WP c (kk (xM.view.readAt (Elt F) (Rect.toLoadRect rx) f)) Q) -∗ WP c (.op (.load xM (Rect.toLoadRect rx) hl) kk) Q) :=
    wp_load 𝒱₀ (c : Thread nD τ) none Set.univ (m := xM) (Finset.subset_univ _)
  rw [e] at h
  exact h
theorem load_c {Q : α → sProp 𝕄} (c : Dev nD) (f : Vec F S1024x1024 .bf16) {hl : ctxM.view.LoadsAt (Rect.toLoadRect rw2)}
    {kk : ((Rect.toLoadRect rw2).shape.Idx → Elt F .bf16) → Prog (TpuEff nD τ sig (Elt F) Λ₀ .tc) α} :
    cP c f ⊢ iprop((cP c f -∗ WP c (kk f) Q) -∗ WP c (.op (.load ctxM (Rect.toLoadRect rw2) hl) kk) Q) := by
  have e : ctxM.view.readAt (Elt F) (Rect.toLoadRect rw2) f = f := by
    funext y
    show f ((rw2 : Rect S1024x1024).emb y) = f y
    rw [rw2_emb]
  have h : cP c f ⊢ iprop((cP c f -∗ WP c (kk (ctxM.view.readAt (Elt F) (Rect.toLoadRect rw2) f)) Q) -∗ WP c (.op (.load ctxM (Rect.toLoadRect rw2) hl) kk) Q) :=
    wp_load 𝒱₀ (c : Thread nD τ) none Set.univ (m := ctxM) (Finset.subset_univ _)
  rw [e] at h
  exact h
theorem load_c0 {Q : α → sProp 𝕄} (c : Dev nD) (f : Vec F S1024x1024 .bf16) (r : LoadRect S1024x1024) {hl : ctxM.view.LoadsAt r}
    {kk : (r.shape.Idx → Elt F .bf16) → Prog (TpuEff nD τ sig (Elt F) Λ₀ .tc) α} :
    cP c f ⊢ iprop((cP c f -∗ WP c (kk (ctxM.view.readAt (Elt F) r f)) Q) -∗ WP c (.op (.load ctxM r hl) kk) Q) :=
  wp_load 𝒱₀ (c : Thread nD τ) none Set.univ (m := ctxM) (Finset.subset_univ _)
theorem store_c0 {Q : α → sProp 𝕄} (c : Dev nD) (f : Vec F S1024x1024 .bf16) (r : Rect S1024x1024) (w : r.shape.Idx → Elt F .bf16)
    {hx : (ctxM.access r).Stores Finset.univ} {hm : (Finset.univ : Finset r.shape.Idx) = Finset.univ ∨ ∀ a, r.stride a = 1}
    {kk : PUnit → Prog (TpuEff nD τ sig (Elt F) Λ₀ .tc) α} :
    cP c f ⊢ iprop((cP c ((ctxM.access r).write (Elt F) f w Finset.univ) -∗ WP c (kk ⟨⟩) Q) -∗ WP c (.op (.store ctxM r w Finset.univ hx hm) kk) Q) :=
  wp_store 𝒱₀ (c : Thread nD τ) none Set.univ (m := ctxM) (r := r) (Mk := Finset.univ) (Finset.subset_univ _)
theorem load_cS {Q : α → sProp 𝕄} (n : ℕ) (c : Dev nD) (V : Vec F S1024x1024 .bf16) (r : LoadRect S1024x1024) {hl : ctxM.view.LoadsAt r}
    {kk : (r.shape.Idx → Elt F .bf16) → Prog (TpuEff nD τ sig (Elt F) Λ₀ .tc) α} :
    cS n c V ⊢ iprop((∀ v, cS n c V -∗ WP c (kk v) Q) -∗ WP c (.op (.load ctxM r hl) kk) Q) := by
  unfold cS
  iintro ⟨%f, %hf, H⟩ Hk
  iapply (load_c0 c f r) $$ H
  iintro H
  iapply Hk
  iexists f; isplitr; · ipureintro; exact hf
  iexact H
theorem store_cS {Q : α → sProp 𝕄} (n : ℕ) (hn : n < 8) (c : Dev nD) (A : Ins F) (o : ℕ) (ho : o = 128 * n) {inb : ∀ a, ![0, o] a + S1024x128.size a ≤ S1024x1024.size a}
    (w : S1024x128.Idx → Elt F .bf16) (hw : hO A c ⟨n, hn⟩ = w)
    {hx : (ctxM.access (Rect.unit (s := S1024x1024) ![0, o] S1024x128.size inb)).Stores Finset.univ}
    {hm : (Finset.univ : Finset (Rect.unit (s := S1024x1024) ![0, o] S1024x128.size inb).shape.Idx) = Finset.univ ∨ ∀ a, (Rect.unit (s := S1024x1024) ![0, o] S1024x128.size inb).stride a = 1}
    {kk : PUnit → Prog (TpuEff nD τ sig (Elt F) Λ₀ .tc) α} :
    cS n c (ctxV A c) ⊢ iprop((cS (n + 1) c (ctxV A c) -∗ WP c (kk ⟨⟩) Q)
      -∗ WP c (.op (.store ctxM (Rect.unit (s := S1024x1024) ![0, o] S1024x128.size inb) w Finset.univ hx hm) kk) Q) := by
  subst ho
  unfold cS
  iintro ⟨%f, %hf, H⟩ Hk
  iapply (store_c0 c f _ w) $$ H
  iintro H
  iapply Hk
  iexists _; isplitr
  swap; · iexact H
  ipureintro
  intro i hi
  by_cases hlt : (i 1).val < 128 * n
  · rw [View.write_of_not_mem]
    · exact hf i hlt
    · intro hm2
      obtain ⟨y, -, hy⟩ := Finset.mem_map.mp hm2
      have h1 : 128 * n + 1 * (y 1).val = (i 1).val := congrArg (fun z : S1024x1024.Idx => (z 1).val) hy
      omega
  · have h0 : (i 0).val < 1024 := (i 0).isLt
    set y : S1024x128.Idx := ix2 (⟨(i 0).val, h0⟩ : Fin 1024) (⟨(i 1).val % 128, Nat.mod_lt _ (by decide)⟩ : Fin 128) with hyd
    have hq : (i 1).val / 128 = n := by omega
    have e : (ctxM.access (Rect.unit (s := S1024x1024) ![0, 128 * n] S1024x128.size inb)).emb y = i := by
      funext a
      apply Fin.ext
      fin_cases a
      · show 0 + 1 * (i 0).val = (i 0).val; omega
      · show 128 * n + 1 * ((i 1).val % 128) = (i 1).val; omega
    have hv : ctxV A c i = w y := by
      unfold ctxV
      rw [← hw]
      exact congrFun (congrArg (hO A c) (Fin.ext hq)) y
    rw [hv]
    conv_lhs => rw [← e]
    rw [View.write_emb_of_mem _ _ (Finset.mem_univ _)]
    rfl
omit [FloatOps F] [Named F] in
theorem cS_zero (c : Dev nD) (V f : Vec F S1024x1024 .bf16) : cP c f ⊢ cS 0 c V := by
  unfold cS
  iintro H
  iexists f; isplitr
  · ipureintro; intro i hi; omega
  iexact H
omit [FloatOps F] [Named F] in
theorem cS_full (c : Dev nD) (V : Vec F S1024x1024 .bf16) : cS 8 c V ⊢ cP c V := by
  unfold cS
  iintro ⟨%f, %hf, H⟩
  have e : f = V := funext fun i => hf i (by have : (i 1).val < 1024 := (i 1).isLt; omega)
  subst e
  iexact H
theorem store_oW {Q : α → sProp 𝕄} (c : Dev nD) (f w : OutC F)
    {hx : ((oM : Memref sig .tc .vmem S1x1024x1024 .f32).access rx).Stores Finset.univ} {hm : (Finset.univ : Finset (rx : Rect S1x1024x1024).shape.Idx) = Finset.univ ∨ ∀ a, (rx : Rect S1x1024x1024).stride a = 1}
    {kk : PUnit → Prog (TpuEff nD τ sig (Elt F) Λ₀ .tc) α} :
    oP c f ⊢ iprop((oP c w -∗ WP c (kk ⟨⟩) Q) -∗ WP c (.op (.store oM rx w Finset.univ hx hm) kk) Q) := by
  refine store_o_to c rx f w w ?_
  funext i
  have e : (oM.access rx).emb i = i := rx_emb i
  show (oM.access rx).write (Elt F) f w Finset.univ i = w i
  conv_lhs => rw [← e]
  rw [View.write_emb_of_mem _ _ (Finset.mem_univ _)]
  rfl

/-- A barrier signal: the `k`-th payment. -/
theorem signal {Q : α → sProp 𝕄} (c e e' : Dev nD) (he : e' = e) (k : ℕ) (d : Fin 4) {n : ℕ} (hn : n = 1) {sm : Sem sig} (hsm : sm = barS) (hO : Ow c k = Ow c (k + 1) + tallyAt (barC e) 1 1)
    {kk : PUnit → Prog (TpuEff nD τ sig (Elt F) Λ₀ .tc) α} :
    iprop(recs P K ∗ own c k ∗ dutyTok ER (barC e) 0 d ∗ barPay e d)
      ⊢ iprop((own c (k + 1) -∗ WP c (kk ⟨⟩) Q) -∗ WP c (.op (.semSignal (Dev.tc e' : Thread nD τ) sm n) kk) Q) := by
  subst he hn hsm
  unfold own
  iintro ⟨#HR, ⟨%W, HO⟩, Ht, Hp⟩ Hk
  ihave #HI := (inv_bar P K e') $$ HR
  ihave #Hr := (reached_bar P K e') $$ HR
  iapply (Rounds.wp_signal 𝒱₀ ER (Rd P) (c : Thread nD τ) none (dst := (e' : Thread nD τ)) (sem := barS) (κ := K (e', 0)) (r := 0) (d := d)
    (by rw [duties_bar P e']; exact Finset.mem_univ _) (amount_bar P e' 0 d) 1 (Ow c (k + 1)) hO) $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO
/-- The barrier's wait: the four neighbours have entered and handed their landing slots over. -/
theorem wait_bar {Q : α → sProp 𝕄} (c : Dev nD) {n : ℕ} (hn : n = 4) {sm : Sem sig} (hsm : sm = barS)
    {kk : PUnit → Prog (TpuEff nD τ sig (Elt F) Λ₀ .tc) α} :
    iprop(recs P K ∗ cred (tallyAt (barC c) 1 4) ∗ own c 4 ∗ atPos ER (barC c) 0 ∅ 0)
      ⊢ iprop(((own c 4 ∗ atPos ER (barC c) 1 ∅ 0 ∗ barPay c 0 ∗ barPay c 1 ∗ barPay c 2 ∗ barPay c 3) -∗ WP c (kk ⟨⟩) Q)
          -∗ WP c (.op (.semWait sm n) kk) Q) := by
  subst hn hsm
  unfold own
  iintro ⟨#HR, Hc, ⟨%W, HO⟩, Hat⟩ Hk
  ihave #HI := (inv_bar P K c) $$ HR
  iapply (Rounds.wp_wait_rest_token 𝒱₀ ER (Rd P) (c : Thread nD τ) none (κ := K (c, 0))
      (wpE_semWait_eq 𝒱₀ (c : Thread nD τ) none Set.univ) (Set.mem_univ _) 1 (O := Ow c 4) (W := W) (R := 0) (m := 0) (T := ∅)
      (by rw [expect_bar])) $$ [Hc HO Hat]
  · isplitr; · iexact HI
    isplitl [Hc]; · iexact Hc
    isplitl [HO]; · iexact HO
    isplitr; · iapply (mayWait P K c _ 1 4 (by decide) (by decide)); iexact HR
    iexact Hat
  iintro ⟨HO, Hat, -, Hpay⟩
  iapply Hk
  isplitl [HO]; · iexists _; iexact HO
  isplitl [Hat]; · iexact Hat
  iapply (Entails.of_eq (rest_bar P c)); iexact Hpay
end Steps

end Cert.KP

end
-- ==== Proof.Parts0.lean ====
module

public import proofs.«01_k».proof.Proof.Local
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

/-! # Before the exchange: the barrier, attention on the device's heads, the partial result; each part of the kernel's program as a step -/

section Parts
variable (A : Ins F) (K : Dev nD × Fin 25 → ℕ)

theorem semL0 : ((cc0_scratch18.slice (Rect.unit (s := S6) ![0] Cert.KernelIdeal.S1.size inb_S6_S1_0)).squeeze S_ squeezes_S1_S_).sem = dS 26 := rfl
theorem semL1 : ((cc0_scratch18.slice (Rect.unit (s := S6) ![1] Cert.KernelIdeal.S1.size inb_S6_S1_1)).squeeze S_ squeezes_S1_S_).sem = dS 27 := rfl
theorem semL2 : ((cc0_scratch18.slice (Rect.unit (s := S6) ![2] Cert.KernelIdeal.S1.size inb_S6_S1_2)).squeeze S_ squeezes_S1_S_).sem = dS 28 := rfl
theorem semL3 : ((cc0_scratch18.slice (Rect.unit (s := S6) ![3] Cert.KernelIdeal.S1.size inb_S6_S1_3)).squeeze S_ squeezes_S1_S_).sem = dS 29 := rfl
theorem semL4 : ((cc0_scratch18.slice (Rect.unit (s := S6) ![4] Cert.KernelIdeal.S1.size inb_S6_S1_4)).squeeze S_ squeezes_S1_S_).sem = dS 30 := rfl
theorem semL5 : ((cc0_scratch18.slice (Rect.unit (s := S6) ![5] Cert.KernelIdeal.S1.size inb_S6_S1_5)).squeeze S_ squeezes_S1_S_).sem = dS 31 := rfl

/-! What a signal on a neighbour's barrier hands over. -/

theorem barPay_to0 (c : Dev nD) : iprop(eS0 raCw c ∗ eS1 raCw c ∗ eS0 rcCw c ∗ eS1 rcCw c) ⊢ barPay (F := F) (L c) 0 := by
  show _ ⊢ iprop(eS0 raCw (R (L c)) ∗ eS1 raCw (R (L c)) ∗ eS0 rcCw (R (L c)) ∗ eS1 rcCw (R (L c)))
  rw [R_L]
theorem barPay_to1 (c : Dev nD) : iprop(eS0 raCc c ∗ eS1 raCc c ∗ eS0 rcCc c ∗ eS1 rcCc c) ⊢ barPay (F := F) (R c) 1 := by
  show _ ⊢ iprop(eS0 raCc (L (R c)) ∗ eS1 raCc (L (R c)) ∗ eS0 rcCc (L (R c)) ∗ eS1 rcCc (L (R c)))
  rw [L_R]
theorem barPay_to2 (c : Dev nD) : iprop(eB0 rbX c ∗ eB3 rbX c) ⊢ barPay (F := F) (p1 c) 2 := by
  show _ ⊢ iprop(eB0 rbX (p1 (p1 c)) ∗ eB3 rbX (p1 (p1 c)))
  rw [p1_p1]
theorem barPay_to3 (c : Dev nD) : iprop(eB1 rbX c ∗ eB2 rbX c) ⊢ barPay (F := F) (p2 c) 3 := by
  show _ ⊢ iprop(eB1 rbX (p2 (p2 c)) ∗ eB2 rbX (p2 (p2 c)))
  rw [p2_p2]

/-! The parts. -/

set_option maxHeartbeats 1000000 in
theorem part1 (c : Dev nD)  {Q : (Σ' (d0 : Dev nD) (v2 : BitVec 32) (v3 : BitVec 32) (v20 : BitVec 32) (v24 : BitVec 32) (v28 : BitVec 32) (v29 : BitVec 32) (c2_i32_11 : BitVec 32) (v30 : BitVec 32) (v35 : BitVec 32), BitVec 32) → sProp 𝕄} :
    iprop(recs (PV A) K)
      ⊢ iprop((∀ v2 : BitVec 32, ∀ v3 : BitVec 32, ∀ v20 : BitVec 32, ∀ v24 : BitVec 32, ∀ v28 : BitVec 32, ∀ v29 : BitVec 32, ∀ v30 : BitVec 32, ∀ v35 : BitVec 32, ∀ v37 : BitVec 32, Q (⟨c, v2, v3, v20, v24, v28, v29, 2#32, v30, v35, v37⟩)) -∗ WP c (k0_part1 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 ) Q) := by
  simp only [k0_part1_eq_skeleton]; unfold k0_part1_skel
  simp only [Prog.lift, Prog.bind_op, Prog.bind_ret, Prog.pure_eq_ret, Prog.bind_assoc, semSignalWord, semWaitWord, wp_deviceId, semL0, semL1, semL2, semL3, semL4, semL5]
  iintro #HR Hk
  iapply (wp_end c)
  iapply Hk

set_option maxHeartbeats 1000000 in
theorem part2 (c : Dev nD) (v2 : BitVec 32) (v3 : BitVec 32) (v20 : BitVec 32) (v29 : BitVec 32) (c2_i32_11 : BitVec 32) (v30 : BitVec 32) (v35 : BitVec 32) (v37 : BitVec 32) {Q : (Σ' (v47 : BitVec 32) (v52 : BitVec 32), BitVec 32) → sProp 𝕄} :
    iprop(recs (PV A) K ∗ aP (aWq c) c (A.wq c) ∗ eW wqM c ∗ sv0 c 26 (by decide) ∗ aP (aWo c) c (A.wo c) ∗ eW woM c ∗ sv0 c 27 (by decide))
      ⊢ iprop((∀ v47 : BitVec 32, ∀ v52 : BitVec 32, ∀ v57 : BitVec 32, iprop(fly (aWq c) c 26 (by decide) wqM.view.dmaCredit (gW wqM c (wqB A c)) (A.wq c) ∗ fly (aWo c) c 27 (by decide) woM.view.dmaCredit (gW woM c (woB A c)) (A.wo c)) -∗ Q (⟨v47, v52, v57⟩)) -∗ WP c (k0_part2 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v2 v3 v20 v29 c2_i32_11 v30 v35 v37) Q) := by
  simp only [k0_part2_eq_skeleton]; unfold k0_part2_skel
  simp only [Prog.lift, Prog.bind_op, Prog.bind_ret, Prog.pure_eq_ret, Prog.bind_assoc, semSignalWord, semWaitWord, wp_deviceId, semL0, semL1, semL2, semL3, semL4, semL5]
  iintro ⟨#HR, HaWq, HWq, Hs26, HaWo, HWo, Hs27⟩ Hk
  iapply (start_w c 26 (by decide) (src := (aWq c)) wqM (A.wq c)) $$ [HaWq HWq Hs26]
  · isplitl [HaWq]; · iexact HaWq
    isplitl [HWq]; · iexact HWq
    iexact Hs26
  iintro Hf26
  iapply (start_w c 27 (by decide) (src := (aWo c)) woM (A.wo c)) $$ [HaWo HWo Hs27]
  · isplitl [HaWo]; · iexact HaWo
    isplitl [HWo]; · iexact HWo
    iexact Hs27
  iintro Hf27
  iapply (wp_end c)
  iapply Hk
  isplitl [Hf26]; · iexact Hf26
  iexact Hf27

set_option maxHeartbeats 1000000 in
theorem part3 (c : Dev nD) (v24 : BitVec 32) (v28 : BitVec 32) (v52 : BitVec 32) (v57 : BitVec 32) {Q : (Σ' (v92 : FVec F S1024x1024 .bf16), FVec F S1024x1024 .bf16) → sProp 𝕄} :
    iprop(recs (PV A) K ∗ aP aK c (A.k c) ∗ eK0 kM c ∗ sv0 c 28 (by decide) ∗ aP aV c (A.v c) ∗ eK0 vM c ∗ sv0 c 29 (by decide) ∗ eS0 raCw c ∗ eS1 raCw c ∗ eS0 rcCw c ∗ eS1 rcCw c ∗ own c 0 ∗ dutyTok ER (barC (L c)) 0 0 ∗ eS0 raCc c ∗ eS1 raCc c ∗ eS0 rcCc c ∗ eS1 rcCc c ∗ dutyTok ER (barC (R c)) 0 1 ∗ eB0 rbX c ∗ eB3 rbX c ∗ dutyTok ER (barC (p1 c)) 0 2 ∗ eB1 rbX c ∗ eB2 rbX c ∗ dutyTok ER (barC (p2 c)) 0 3 ∗ cred (tallyAt (barC c) 1 4) ∗ atPos ER (barC c) 0 ∅ 0 ∗ fly (aWq c) c 26 (by decide) wqM.view.dmaCredit (gW wqM c (wqB A c)) (A.wq c) ∗ xP c (A.x c))
      ⊢ iprop((iprop(own c 4 ∗ xP c (A.x c) ∗ atPos ER (barC c) 1 ∅ 0 ∗ fly (ah0 aK) c 28 (by decide) (kl0 kM).view.dmaCredit (gK0 kM c (kH0 A c)) (A.k c) ∗ fly (ah0 aV) c 29 (by decide) (kl0 vM).view.dmaCredit (gK0 vM c (vH0 A c)) (A.v c) ∗ eS0 raCw (R c) ∗ eS1 raCw (R c) ∗ eS0 rcCw (R c) ∗ eS1 rcCw (R c) ∗ eS0 raCc (L c) ∗ eS1 raCc (L c) ∗ eS0 rcCc (L c) ∗ eS1 rcCc (L c) ∗ eB0 rbX (p1 c) ∗ eB3 rbX (p1 c) ∗ eB1 rbX (p2 c) ∗ eB2 rbX (p2 c) ∗ gW wqM c (wqB A c) ∗ aP (aWq c) c (A.wq c) ∗ sv0 c 26 (by decide)) -∗ Q (⟨k0_pay2 (A.x c), k0_pay3 (wqB A c)⟩)) -∗ WP c (k0_part3 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v24 v28 v52 v57) Q) := by
  simp only [k0_part3_eq_skeleton]; unfold k0_part3_skel
  simp only [Prog.lift, Prog.bind_op, Prog.bind_ret, Prog.pure_eq_ret, Prog.bind_assoc, semSignalWord, semWaitWord, wp_deviceId, semL0, semL1, semL2, semL3, semL4, semL5]
  iintro ⟨#HR, HaK, HK0, Hs28, HaV, HV0, Hs29, HraCw0, HraCw1, HrcCw0, HrcCw1, Hown, Htb0, HraCc0, HraCc1, HrcCc0, HrcCc1, Htb1, Hrb0, Hrb3, Htb2, Hrb1, Hrb2, Htb3, Hcb, Hatb, Hf26, Hx⟩ Hk
  ihave HaK := (show aP aK c (A.k c) ⊢ aP (ah0 aK) c (A.k c) from Entails.of_eq rfl) $$ HaK
  iapply (start_k0 c 28 (by decide) (src := (ah0 aK)) kM (A.k c)) $$ [HaK HK0 Hs28]
  · isplitl [HaK]; · iexact HaK
    isplitl [HK0]; · iexact HK0
    iexact Hs28
  iintro Hf28
  ihave HaV := (show aP aV c (A.v c) ⊢ aP (ah0 aV) c (A.v c) from Entails.of_eq rfl) $$ HaV
  iapply (start_k0 c 29 (by decide) (src := (ah0 aV)) vM (A.v c)) $$ [HaV HV0 Hs29]
  · isplitl [HaV]; · iexact HaV
    isplitl [HV0]; · iexact HV0
    iexact Hs29
  iintro Hf29
  iapply (signal (P := PV A) (K := K) c (L c) _ (dev1_eq c) 0 0 (by decide) rfl rfl) $$ [Hown Htb0 HraCw0 HraCw1 HrcCw0 HrcCw1]
  · isplitr; · iexact HR
    isplitl [Hown]; · iexact Hown
    isplitl [Htb0]; · iexact Htb0
    iapply (barPay_to0 c)
    isplitl [HraCw0]; · iexact HraCw0
    isplitl [HraCw1]; · iexact HraCw1
    isplitl [HrcCw0]; · iexact HrcCw0
    iexact HrcCw1
  iintro Hown
  iapply (signal (P := PV A) (K := K) c (R c) _ (dev2_eq c) 1 1 (by decide) rfl rfl) $$ [Hown Htb1 HraCc0 HraCc1 HrcCc0 HrcCc1]
  · isplitr; · iexact HR
    isplitl [Hown]; · iexact Hown
    isplitl [Htb1]; · iexact Htb1
    iapply (barPay_to1 c)
    isplitl [HraCc0]; · iexact HraCc0
    isplitl [HraCc1]; · iexact HraCc1
    isplitl [HrcCc0]; · iexact HrcCc0
    iexact HrcCc1
  iintro Hown
  iapply (signal (P := PV A) (K := K) c (p1 c) _ (dev3_eq c) 2 2 (by decide) rfl rfl) $$ [Hown Htb2 Hrb0 Hrb3]
  · isplitr; · iexact HR
    isplitl [Hown]; · iexact Hown
    isplitl [Htb2]; · iexact Htb2
    iapply (barPay_to2 c)
    isplitl [Hrb0]; · iexact Hrb0
    iexact Hrb3
  iintro Hown
  iapply (signal (P := PV A) (K := K) c (p2 c) _ (dev4_eq c) 3 3 (by decide) rfl rfl) $$ [Hown Htb3 Hrb1 Hrb2]
  · isplitr; · iexact HR
    isplitl [Hown]; · iexact Hown
    isplitl [Htb3]; · iexact Htb3
    iapply (barPay_to3 c)
    isplitl [Hrb1]; · iexact Hrb1
    iexact Hrb2
  iintro Hown
  iapply (wait_bar (P := PV A) (K := K) c (by decide) rfl) $$ [Hcb Hown Hatb]
  · isplitr; · iexact HR
    isplitl [Hcb]; · iexact Hcb
    isplitl [Hown]; · iexact Hown
    iexact Hatb
  iintro ⟨Hown, Hatb, Hb0, Hb1, Hb2, Hb3⟩
  ihave Hb0 := (show barPay (F := F) c 0 ⊢ iprop(eS0 raCw (R c) ∗ eS1 raCw (R c) ∗ eS0 rcCw (R c) ∗ eS1 rcCw (R c)) from Entails.of_eq rfl) $$ Hb0
  icases Hb0 with ⟨HdraCw0, HdraCw1, HdrcCw0, HdrcCw1⟩
  ihave Hb1 := (show barPay (F := F) c 1 ⊢ iprop(eS0 raCc (L c) ∗ eS1 raCc (L c) ∗ eS0 rcCc (L c) ∗ eS1 rcCc (L c)) from Entails.of_eq rfl) $$ Hb1
  icases Hb1 with ⟨HdraCc0, HdraCc1, HdrcCc0, HdrcCc1⟩
  ihave Hb2 := (show barPay (F := F) c 2 ⊢ iprop(eB0 rbX (p1 c) ∗ eB3 rbX (p1 c)) from Entails.of_eq rfl) $$ Hb2
  icases Hb2 with ⟨Hdb0, Hdb3⟩
  ihave Hb3 := (show barPay (F := F) c 3 ⊢ iprop(eB1 rbX (p2 c) ∗ eB2 rbX (p2 c)) from Entails.of_eq rfl) $$ Hb3
  icases Hb3 with ⟨Hdb1, Hdb2⟩
  iapply (arrive (P := PV A) (K := K) c 26 (by decide) 4 (by decide) (src := (aWq c)) (wqM.view.dmaCredit) rfl (A.wq c) (D := gW wqM c (wqB A c))) $$ [Hf26 Hown]
  · isplitr; · iexact HR
    isplitl [Hf26]; · iexact Hf26
    iexact Hown
  iintro ⟨HWq, HaWq, Hs26, Hown⟩
  iapply (load_x c _) $$ Hx; iintro Hx
  iapply (load_w c wqM _) $$ HWq; iintro HWq
  iapply (wp_end c)
  iapply Hk
  isplitl [Hown]; · iexact Hown
  isplitl [Hx]; · iexact Hx
  isplitl [Hatb]; · iexact Hatb
  isplitl [Hf28]; · iexact Hf28
  isplitl [Hf29]; · iexact Hf29
  isplitl [HdraCw0]; · iexact HdraCw0
  isplitl [HdraCw1]; · iexact HdraCw1
  isplitl [HdrcCw0]; · iexact HdrcCw0
  isplitl [HdrcCw1]; · iexact HdrcCw1
  isplitl [HdraCc0]; · iexact HdraCc0
  isplitl [HdraCc1]; · iexact HdraCc1
  isplitl [HdrcCc0]; · iexact HdrcCc0
  isplitl [HdrcCc1]; · iexact HdrcCc1
  isplitl [Hdb0]; · iexact Hdb0
  isplitl [Hdb3]; · iexact Hdb3
  isplitl [Hdb1]; · iexact Hdb1
  isplitl [Hdb2]; · iexact Hdb2
  isplitl [HWq]; · iexact HWq
  isplitl [HaWq]; · iexact HaWq
  iexact Hs26

set_option maxHeartbeats 1000000 in
theorem part4 (c : Dev nD)  {Q : (Σ' (v95 : FVec F S1024x1024 .f32) (v120 : IVec S1024x1024 32) (v123 : IVec S1024x1024 32) (v137 : IVec S1024x1024 1) (v139 : IVec S1024x1024 32), IVec S1024x1024 32) → sProp 𝕄} :
    iprop(recs (PV A) K)
      ⊢ iprop((Q (⟨qV A c, k0_pay5, k0_pay6, k0_pay7, k0_pay8, k0_pay9⟩)) -∗ WP c (k0_part4 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 (k0_pay2 (A.x c)) (k0_pay3 (wqB A c))) Q) := by
  simp only [k0_part4_eq_skeleton]; unfold k0_part4_skel
  simp only [Prog.lift, Prog.bind_op, Prog.bind_ret, Prog.pure_eq_ret, Prog.bind_assoc, semSignalWord, semWaitWord, wp_deviceId, semL0, semL1, semL2, semL3, semL4, semL5]
  iintro #HR Hk
  iapply (wp_end c)
  iapply Hk

set_option maxHeartbeats 1000000 in
theorem part5 (c : Dev nD)  {Q : (FVec F S1024x1024 .f32) → sProp 𝕄} :
    iprop(recs (PV A) K ∗ fly (ah0 aK) c 28 (by decide) (kl0 kM).view.dmaCredit (gK0 kM c (kH0 A c)) (A.k c) ∗ own c 4 ∗ fly (ah0 aV) c 29 (by decide) (kl0 vM).view.dmaCredit (gK0 vM c (vH0 A c)) (A.v c))
      ⊢ iprop((iprop(own c 4 ∗ gK0 kM c (kH0 A c) ∗ aP aK c (A.k c) ∗ sv0 c 28 (by decide) ∗ gK0 vM c (vH0 A c) ∗ aP aV c (A.v c) ∗ sv0 c 29 (by decide)) -∗ Q (biasV)) -∗ WP c (k0_part5 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 (k0_pay5) (k0_pay6) (k0_pay7) (k0_pay8) (k0_pay9)) Q) := by
  simp only [k0_part5_eq_skeleton]; unfold k0_part5_skel
  simp only [Prog.lift, Prog.bind_op, Prog.bind_ret, Prog.pure_eq_ret, Prog.bind_assoc, semSignalWord, semWaitWord, wp_deviceId, semL0, semL1, semL2, semL3, semL4, semL5]
  iintro ⟨#HR, Hf28, Hown, Hf29⟩ Hk
  iapply (arrive (P := PV A) (K := K) c 28 (by decide) 4 (by decide) (src := (ah0 aK)) ((kl0 kM).view.dmaCredit) rfl (A.k c) (D := gK0 kM c (kH0 A c))) $$ [Hf28 Hown]
  · isplitr; · iexact HR
    isplitl [Hf28]; · iexact Hf28
    iexact Hown
  iintro ⟨HK0, HaK, Hs28, Hown⟩
  ihave HaK := (show aP (ah0 aK) c (A.k c) ⊢ aP aK c (A.k c) from Entails.of_eq rfl) $$ HaK
  iapply (arrive (P := PV A) (K := K) c 29 (by decide) 4 (by decide) (src := (ah0 aV)) ((kl0 vM).view.dmaCredit) rfl (A.v c) (D := gK0 vM c (vH0 A c))) $$ [Hf29 Hown]
  · isplitr; · iexact HR
    isplitl [Hf29]; · iexact Hf29
    iexact Hown
  iintro ⟨HV0, HaV, Hs29, Hown⟩
  ihave HaV := (show aP (ah0 aV) c (A.v c) ⊢ aP aV c (A.v c) from Entails.of_eq rfl) $$ HaV
  iapply (wp_end c)
  iapply Hk
  isplitl [Hown]; · iexact Hown
  isplitl [HK0]; · iexact HK0
  isplitl [HaK]; · iexact HaK
  isplitl [Hs28]; · iexact Hs28
  isplitl [HV0]; · iexact HV0
  isplitl [HaV]; · iexact HaV
  iexact Hs29

set_option maxHeartbeats 1000000 in
theorem part6 (c : Dev nD)  {Q : (Σ' (v204 : FVec F S1024x128 .bf16), Vec F S1024x128 .bf16) → sProp 𝕄} :
    iprop(recs (PV A) K ∗ aP aK c (A.k c) ∗ eK1 kM c ∗ sv0 c 30 (by decide) ∗ aP aV c (A.v c) ∗ eK1 vM c ∗ sv0 c 31 (by decide) ∗ gK0 kM c (kH0 A c) ∗ gK0 vM c (vH0 A c) ∗ cS 0 c (ctxV A c))
      ⊢ iprop((∀ v205 : Vec F S1024x128 .bf16, iprop(cS 0 c (ctxV A c) ∗ eK0 kM c ∗ eK0 vM c ∗ fly (ah1 aK) c 30 (by decide) (kl1 kM).view.dmaCredit (gK1 kM c (kH1 A c)) (A.k c) ∗ fly (ah1 aV) c 31 (by decide) (kl1 vM).view.dmaCredit (gK1 vM c (vH1 A c)) (A.v c)) -∗ Q (⟨k0_pay11 (qV A c) biasV (kH0 A c) (vH0 A c), v205⟩)) -∗ WP c (k0_part6 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 (qV A c) (biasV)) Q) := by
  simp only [k0_part6_eq_skeleton]; unfold k0_part6_skel
  simp only [Prog.lift, Prog.bind_op, Prog.bind_ret, Prog.pure_eq_ret, Prog.bind_assoc, semSignalWord, semWaitWord, wp_deviceId, semL0, semL1, semL2, semL3, semL4, semL5]
  iintro ⟨#HR, HaK, HK1, Hs30, HaV, HV1, Hs31, HK0, HV0, Hcx⟩ Hk
  ihave HaK := (show aP aK c (A.k c) ⊢ aP (ah1 aK) c (A.k c) from Entails.of_eq rfl) $$ HaK
  iapply (start_k1 c 30 (by decide) (src := (ah1 aK)) kM (A.k c)) $$ [HaK HK1 Hs30]
  · isplitl [HaK]; · iexact HaK
    isplitl [HK1]; · iexact HK1
    iexact Hs30
  iintro Hf30
  ihave HaV := (show aP aV c (A.v c) ⊢ aP (ah1 aV) c (A.v c) from Entails.of_eq rfl) $$ HaV
  iapply (start_k1 c 31 (by decide) (src := (ah1 aV)) vM (A.v c)) $$ [HaV HV1 Hs31]
  · isplitl [HaV]; · iexact HaV
    isplitl [HV1]; · iexact HV1
    iexact Hs31
  iintro Hf31
  iapply (load_k0 c kM _) $$ HK0; iintro HK0
  iapply (load_k0 c vM _) $$ HV0; iintro HV0
  iapply (load_cS 0 c _ _) $$ Hcx; iintro %v205 Hcx
  ihave HK0 := (gK0_e c kM _) $$ HK0
  ihave HV0 := (gK0_e c vM _) $$ HV0
  iapply (wp_end c)
  iapply Hk
  isplitl [Hcx]; · iexact Hcx
  isplitl [HK0]; · iexact HK0
  isplitl [HV0]; · iexact HV0
  isplitl [Hf30]; · iexact Hf30
  iexact Hf31

set_option maxHeartbeats 1000000 in
theorem part7 (c : Dev nD) (v205 : Vec F S1024x128 .bf16) {Q : (PUnit) → sProp 𝕄} :
    iprop(recs (PV A) K ∗ cS 0 c (ctxV A c) ∗ fly (ah1 aK) c 30 (by decide) (kl1 kM).view.dmaCredit (gK1 kM c (kH1 A c)) (A.k c) ∗ own c 4 ∗ fly (ah1 aV) c 31 (by decide) (kl1 vM).view.dmaCredit (gK1 vM c (vH1 A c)) (A.v c) ∗ eK0 kM c ∗ sv0 c 28 (by decide))
      ⊢ iprop((iprop(own c 4 ∗ cS 1 c (ctxV A c) ∗ gK1 kM c (kH1 A c) ∗ sv0 c 30 (by decide) ∗ gK1 vM c (vH1 A c) ∗ aP aV c (A.v c) ∗ sv0 c 31 (by decide) ∗ fly (ah2 aK) c 28 (by decide) (kl0 kM).view.dmaCredit (gK0 kM c (kH2 A c)) (A.k c)) -∗ Q (⟨⟩)) -∗ WP c (k0_part7 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 (k0_pay11 (qV A c) biasV (kH0 A c) (vH0 A c)) v205) Q) := by
  simp only [k0_part7_eq_skeleton]; unfold k0_part7_skel
  simp only [Prog.lift, Prog.bind_op, Prog.bind_ret, Prog.pure_eq_ret, Prog.bind_assoc, semSignalWord, semWaitWord, wp_deviceId, semL0, semL1, semL2, semL3, semL4, semL5]
  iintro ⟨#HR, Hcx, Hf30, Hown, Hf31, HK0, Hs28⟩ Hk
  iapply (store_cS 0 (by decide) c A 0 rfl (k0_pay12 (k0_pay11 (qV A c) biasV (kH0 A c) (vH0 A c))) rfl) $$ Hcx; iintro Hcx
  iapply (arrive (P := PV A) (K := K) c 30 (by decide) 4 (by decide) (src := (ah1 aK)) ((kl1 kM).view.dmaCredit) rfl (A.k c) (D := gK1 kM c (kH1 A c))) $$ [Hf30 Hown]
  · isplitr; · iexact HR
    isplitl [Hf30]; · iexact Hf30
    iexact Hown
  iintro ⟨HK1, HaK, Hs30, Hown⟩
  ihave HaK := (show aP (ah1 aK) c (A.k c) ⊢ aP aK c (A.k c) from Entails.of_eq rfl) $$ HaK
  iapply (arrive (P := PV A) (K := K) c 31 (by decide) 4 (by decide) (src := (ah1 aV)) ((kl1 vM).view.dmaCredit) rfl (A.v c) (D := gK1 vM c (vH1 A c))) $$ [Hf31 Hown]
  · isplitr; · iexact HR
    isplitl [Hf31]; · iexact Hf31
    iexact Hown
  iintro ⟨HV1, HaV, Hs31, Hown⟩
  ihave HaV := (show aP (ah1 aV) c (A.v c) ⊢ aP aV c (A.v c) from Entails.of_eq rfl) $$ HaV
  ihave HaK := (show aP aK c (A.k c) ⊢ aP (ah2 aK) c (A.k c) from Entails.of_eq rfl) $$ HaK
  iapply (start_k0 c 28 (by decide) (src := (ah2 aK)) kM (A.k c)) $$ [HaK HK0 Hs28]
  · isplitl [HaK]; · iexact HaK
    isplitl [HK0]; · iexact HK0
    iexact Hs28
  iintro Hf28
  iapply (wp_end c)
  iapply Hk
  isplitl [Hown]; · iexact Hown
  isplitl [Hcx]; · iexact Hcx
  isplitl [HK1]; · iexact HK1
  isplitl [Hs30]; · iexact Hs30
  isplitl [HV1]; · iexact HV1
  isplitl [HaV]; · iexact HaV
  isplitl [Hs31]; · iexact Hs31
  iexact Hf28

set_option maxHeartbeats 1000000 in
theorem part8 (c : Dev nD)  {Q : (PUnit) → sProp 𝕄} :
    iprop(recs (PV A) K ∗ aP aV c (A.v c) ∗ eK0 vM c ∗ sv0 c 29 (by decide) ∗ gK1 kM c (kH1 A c) ∗ gK1 vM c (vH1 A c) ∗ cS 1 c (ctxV A c) ∗ fly (ah2 aK) c 28 (by decide) (kl0 kM).view.dmaCredit (gK0 kM c (kH2 A c)) (A.k c) ∗ own c 4)
      ⊢ iprop((iprop(own c 4 ∗ cS 2 c (ctxV A c) ∗ eK1 kM c ∗ eK1 vM c ∗ fly (ah2 aV) c 29 (by decide) (kl0 vM).view.dmaCredit (gK0 vM c (vH2 A c)) (A.v c) ∗ gK0 kM c (kH2 A c) ∗ aP aK c (A.k c) ∗ sv0 c 28 (by decide)) -∗ Q (⟨⟩)) -∗ WP c (k0_part8 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 (qV A c) (biasV)) Q) := by
  simp only [k0_part8_eq_skeleton]; unfold k0_part8_skel
  simp only [Prog.lift, Prog.bind_op, Prog.bind_ret, Prog.pure_eq_ret, Prog.bind_assoc, semSignalWord, semWaitWord, wp_deviceId, semL0, semL1, semL2, semL3, semL4, semL5]
  iintro ⟨#HR, HaV, HV0, Hs29, HK1, HV1, Hcx, Hf28, Hown⟩ Hk
  ihave HaV := (show aP aV c (A.v c) ⊢ aP (ah2 aV) c (A.v c) from Entails.of_eq rfl) $$ HaV
  iapply (start_k0 c 29 (by decide) (src := (ah2 aV)) vM (A.v c)) $$ [HaV HV0 Hs29]
  · isplitl [HaV]; · iexact HaV
    isplitl [HV0]; · iexact HV0
    iexact Hs29
  iintro Hf29
  iapply (load_k1 c kM _) $$ HK1; iintro HK1
  iapply (load_k1 c vM _) $$ HV1; iintro HV1
  iapply (load_cS 1 c _ _) $$ Hcx; iintro %_ Hcx
  iapply (store_cS 1 (by decide) c A 128 rfl (k0_pay13 (qV A c) biasV (kH1 A c) (vH1 A c)) rfl) $$ Hcx; iintro Hcx
  iapply (arrive (P := PV A) (K := K) c 28 (by decide) 4 (by decide) (src := (ah2 aK)) ((kl0 kM).view.dmaCredit) rfl (A.k c) (D := gK0 kM c (kH2 A c))) $$ [Hf28 Hown]
  · isplitr; · iexact HR
    isplitl [Hf28]; · iexact Hf28
    iexact Hown
  iintro ⟨HK0, HaK, Hs28, Hown⟩
  ihave HaK := (show aP (ah2 aK) c (A.k c) ⊢ aP aK c (A.k c) from Entails.of_eq rfl) $$ HaK
  ihave HK1 := (gK1_e c kM _) $$ HK1
  ihave HV1 := (gK1_e c vM _) $$ HV1
  iapply (wp_end c)
  iapply Hk
  isplitl [Hown]; · iexact Hown
  isplitl [Hcx]; · iexact Hcx
  isplitl [HK1]; · iexact HK1
  isplitl [HV1]; · iexact HV1
  isplitl [Hf29]; · iexact Hf29
  isplitl [HK0]; · iexact HK0
  isplitl [HaK]; · iexact HaK
  iexact Hs28

set_option maxHeartbeats 1000000 in
theorem part9 (c : Dev nD)  {Q : (Σ' (v288 : FVec F S1024x128 .bf16) (v289 : FVec F S1024x1024 .f32), FVec F S1024x1024 .f32) → sProp 𝕄} :
    iprop(recs (PV A) K ∗ fly (ah2 aV) c 29 (by decide) (kl0 vM).view.dmaCredit (gK0 vM c (vH2 A c)) (A.v c) ∗ own c 4 ∗ aP aK c (A.k c) ∗ eK1 kM c ∗ sv0 c 30 (by decide) ∗ eK1 vM c ∗ sv0 c 31 (by decide) ∗ gK0 kM c (kH2 A c))
      ⊢ iprop((iprop(own c 4 ∗ eK0 kM c ∗ eK0 vM c ∗ sv0 c 29 (by decide) ∗ fly (ah3 aK) c 30 (by decide) (kl1 kM).view.dmaCredit (gK1 kM c (kH3 A c)) (A.k c) ∗ fly (ah3 aV) c 31 (by decide) (kl1 vM).view.dmaCredit (gK1 vM c (vH3 A c)) (A.v c)) -∗ Q (⟨k0_pay14 (vH2 A c), k0_pay15 (qV A c) (kH2 A c), k0_pay16⟩)) -∗ WP c (k0_part9 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 (qV A c)) Q) := by
  simp only [k0_part9_eq_skeleton]; unfold k0_part9_skel
  simp only [Prog.lift, Prog.bind_op, Prog.bind_ret, Prog.pure_eq_ret, Prog.bind_assoc, semSignalWord, semWaitWord, wp_deviceId, semL0, semL1, semL2, semL3, semL4, semL5]
  iintro ⟨#HR, Hf29, Hown, HaK, HK1, Hs30, HV1, Hs31, HK0⟩ Hk
  iapply (arrive (P := PV A) (K := K) c 29 (by decide) 4 (by decide) (src := (ah2 aV)) ((kl0 vM).view.dmaCredit) rfl (A.v c) (D := gK0 vM c (vH2 A c))) $$ [Hf29 Hown]
  · isplitr; · iexact HR
    isplitl [Hf29]; · iexact Hf29
    iexact Hown
  iintro ⟨HV0, HaV, Hs29, Hown⟩
  ihave HaV := (show aP (ah2 aV) c (A.v c) ⊢ aP aV c (A.v c) from Entails.of_eq rfl) $$ HaV
  ihave HaK := (show aP aK c (A.k c) ⊢ aP (ah3 aK) c (A.k c) from Entails.of_eq rfl) $$ HaK
  iapply (start_k1 c 30 (by decide) (src := (ah3 aK)) kM (A.k c)) $$ [HaK HK1 Hs30]
  · isplitl [HaK]; · iexact HaK
    isplitl [HK1]; · iexact HK1
    iexact Hs30
  iintro Hf30
  ihave HaV := (show aP aV c (A.v c) ⊢ aP (ah3 aV) c (A.v c) from Entails.of_eq rfl) $$ HaV
  iapply (start_k1 c 31 (by decide) (src := (ah3 aV)) vM (A.v c)) $$ [HaV HV1 Hs31]
  · isplitl [HaV]; · iexact HaV
    isplitl [HV1]; · iexact HV1
    iexact Hs31
  iintro Hf31
  iapply (load_k0 c kM _) $$ HK0; iintro HK0
  iapply (load_k0 c vM _) $$ HV0; iintro HV0
  ihave HK0 := (gK0_e c kM _) $$ HK0
  ihave HV0 := (gK0_e c vM _) $$ HV0
  iapply (wp_end c)
  iapply Hk
  isplitl [Hown]; · iexact Hown
  isplitl [HK0]; · iexact HK0
  isplitl [HV0]; · iexact HV0
  isplitl [Hs29]; · iexact Hs29
  isplitl [Hf30]; · iexact Hf30
  iexact Hf31

set_option maxHeartbeats 1000000 in
theorem part10 (c : Dev nD)  {Q : (PUnit) → sProp 𝕄} :
    iprop(recs (PV A) K ∗ cS 2 c (ctxV A c) ∗ fly (ah3 aK) c 30 (by decide) (kl1 kM).view.dmaCredit (gK1 kM c (kH3 A c)) (A.k c) ∗ own c 4 ∗ fly (ah3 aV) c 31 (by decide) (kl1 vM).view.dmaCredit (gK1 vM c (vH3 A c)) (A.v c))
      ⊢ iprop((iprop(own c 4 ∗ cS 3 c (ctxV A c) ∗ gK1 kM c (kH3 A c) ∗ aP aK c (A.k c) ∗ sv0 c 30 (by decide) ∗ gK1 vM c (vH3 A c) ∗ aP aV c (A.v c) ∗ sv0 c 31 (by decide)) -∗ Q (⟨⟩)) -∗ WP c (k0_part10 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 (biasV) (k0_pay14 (vH2 A c)) (k0_pay15 (qV A c) (kH2 A c)) (k0_pay16)) Q) := by
  simp only [k0_part10_eq_skeleton]; unfold k0_part10_skel
  simp only [Prog.lift, Prog.bind_op, Prog.bind_ret, Prog.pure_eq_ret, Prog.bind_assoc, semSignalWord, semWaitWord, wp_deviceId, semL0, semL1, semL2, semL3, semL4, semL5]
  iintro ⟨#HR, Hcx, Hf30, Hown, Hf31⟩ Hk
  iapply (load_cS 2 c _ _) $$ Hcx; iintro %_ Hcx
  iapply (store_cS 2 (by decide) c A 256 rfl (k0_pay17 biasV (k0_pay14 (vH2 A c)) (k0_pay15 (qV A c) (kH2 A c)) k0_pay16) rfl) $$ Hcx; iintro Hcx
  iapply (arrive (P := PV A) (K := K) c 30 (by decide) 4 (by decide) (src := (ah3 aK)) ((kl1 kM).view.dmaCredit) rfl (A.k c) (D := gK1 kM c (kH3 A c))) $$ [Hf30 Hown]
  · isplitr; · iexact HR
    isplitl [Hf30]; · iexact Hf30
    iexact Hown
  iintro ⟨HK1, HaK, Hs30, Hown⟩
  ihave HaK := (show aP (ah3 aK) c (A.k c) ⊢ aP aK c (A.k c) from Entails.of_eq rfl) $$ HaK
  iapply (arrive (P := PV A) (K := K) c 31 (by decide) 4 (by decide) (src := (ah3 aV)) ((kl1 vM).view.dmaCredit) rfl (A.v c) (D := gK1 vM c (vH3 A c))) $$ [Hf31 Hown]
  · isplitr; · iexact HR
    isplitl [Hf31]; · iexact Hf31
    iexact Hown
  iintro ⟨HV1, HaV, Hs31, Hown⟩
  ihave HaV := (show aP (ah3 aV) c (A.v c) ⊢ aP aV c (A.v c) from Entails.of_eq rfl) $$ HaV
  iapply (wp_end c)
  iapply Hk
  isplitl [Hown]; · iexact Hown
  isplitl [Hcx]; · iexact Hcx
  isplitl [HK1]; · iexact HK1
  isplitl [HaK]; · iexact HaK
  isplitl [Hs30]; · iexact Hs30
  isplitl [HV1]; · iexact HV1
  isplitl [HaV]; · iexact HaV
  iexact Hs31

set_option maxHeartbeats 1000000 in
theorem part11 (c : Dev nD)  {Q : (PUnit) → sProp 𝕄} :
    iprop(recs (PV A) K ∗ aP aK c (A.k c) ∗ eK0 kM c ∗ sv0 c 28 (by decide) ∗ aP aV c (A.v c) ∗ eK0 vM c ∗ sv0 c 29 (by decide) ∗ gK1 kM c (kH3 A c) ∗ gK1 vM c (vH3 A c) ∗ cS 3 c (ctxV A c))
      ⊢ iprop((iprop(cS 4 c (ctxV A c) ∗ eK1 kM c ∗ eK1 vM c ∗ fly (ah4 aK) c 28 (by decide) (kl0 kM).view.dmaCredit (gK0 kM c (kH4 A c)) (A.k c) ∗ fly (ah4 aV) c 29 (by decide) (kl0 vM).view.dmaCredit (gK0 vM c (vH4 A c)) (A.v c)) -∗ Q (⟨⟩)) -∗ WP c (k0_part11 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 (qV A c) (biasV)) Q) := by
  simp only [k0_part11_eq_skeleton]; unfold k0_part11_skel
  simp only [Prog.lift, Prog.bind_op, Prog.bind_ret, Prog.pure_eq_ret, Prog.bind_assoc, semSignalWord, semWaitWord, wp_deviceId, semL0, semL1, semL2, semL3, semL4, semL5]
  iintro ⟨#HR, HaK, HK0, Hs28, HaV, HV0, Hs29, HK1, HV1, Hcx⟩ Hk
  ihave HaK := (show aP aK c (A.k c) ⊢ aP (ah4 aK) c (A.k c) from Entails.of_eq rfl) $$ HaK
  iapply (start_k0 c 28 (by decide) (src := (ah4 aK)) kM (A.k c)) $$ [HaK HK0 Hs28]
  · isplitl [HaK]; · iexact HaK
    isplitl [HK0]; · iexact HK0
    iexact Hs28
  iintro Hf28
  ihave HaV := (show aP aV c (A.v c) ⊢ aP (ah4 aV) c (A.v c) from Entails.of_eq rfl) $$ HaV
  iapply (start_k0 c 29 (by decide) (src := (ah4 aV)) vM (A.v c)) $$ [HaV HV0 Hs29]
  · isplitl [HaV]; · iexact HaV
    isplitl [HV0]; · iexact HV0
    iexact Hs29
  iintro Hf29
  iapply (load_k1 c kM _) $$ HK1; iintro HK1
  iapply (load_k1 c vM _) $$ HV1; iintro HV1
  iapply (load_cS 3 c _ _) $$ Hcx; iintro %_ Hcx
  iapply (store_cS 3 (by decide) c A 384 rfl (k0_pay18 (qV A c) biasV (kH3 A c) (vH3 A c)) rfl) $$ Hcx; iintro Hcx
  ihave HK1 := (gK1_e c kM _) $$ HK1
  ihave HV1 := (gK1_e c vM _) $$ HV1
  iapply (wp_end c)
  iapply Hk
  isplitl [Hcx]; · iexact Hcx
  isplitl [HK1]; · iexact HK1
  isplitl [HV1]; · iexact HV1
  isplitl [Hf28]; · iexact Hf28
  iexact Hf29

set_option maxHeartbeats 1000000 in
theorem part12 (c : Dev nD)  {Q : (PUnit) → sProp 𝕄} :
    iprop(recs (PV A) K ∗ fly (ah4 aK) c 28 (by decide) (kl0 kM).view.dmaCredit (gK0 kM c (kH4 A c)) (A.k c) ∗ own c 4 ∗ fly (ah4 aV) c 29 (by decide) (kl0 vM).view.dmaCredit (gK0 vM c (vH4 A c)) (A.v c) ∗ eK1 kM c ∗ sv0 c 30 (by decide) ∗ eK1 vM c ∗ sv0 c 31 (by decide))
      ⊢ iprop((iprop(own c 4 ∗ gK0 kM c (kH4 A c) ∗ sv0 c 28 (by decide) ∗ gK0 vM c (vH4 A c) ∗ sv0 c 29 (by decide) ∗ fly (ah5 aK) c 30 (by decide) (kl1 kM).view.dmaCredit (gK1 kM c (kH5 A c)) (A.k c) ∗ fly (ah5 aV) c 31 (by decide) (kl1 vM).view.dmaCredit (gK1 vM c (vH5 A c)) (A.v c)) -∗ Q (⟨⟩)) -∗ WP c (k0_part12 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 ) Q) := by
  simp only [k0_part12_eq_skeleton]; unfold k0_part12_skel
  simp only [Prog.lift, Prog.bind_op, Prog.bind_ret, Prog.pure_eq_ret, Prog.bind_assoc, semSignalWord, semWaitWord, wp_deviceId, semL0, semL1, semL2, semL3, semL4, semL5]
  iintro ⟨#HR, Hf28, Hown, Hf29, HK1, Hs30, HV1, Hs31⟩ Hk
  iapply (arrive (P := PV A) (K := K) c 28 (by decide) 4 (by decide) (src := (ah4 aK)) ((kl0 kM).view.dmaCredit) rfl (A.k c) (D := gK0 kM c (kH4 A c))) $$ [Hf28 Hown]
  · isplitr; · iexact HR
    isplitl [Hf28]; · iexact Hf28
    iexact Hown
  iintro ⟨HK0, HaK, Hs28, Hown⟩
  ihave HaK := (show aP (ah4 aK) c (A.k c) ⊢ aP aK c (A.k c) from Entails.of_eq rfl) $$ HaK
  iapply (arrive (P := PV A) (K := K) c 29 (by decide) 4 (by decide) (src := (ah4 aV)) ((kl0 vM).view.dmaCredit) rfl (A.v c) (D := gK0 vM c (vH4 A c))) $$ [Hf29 Hown]
  · isplitr; · iexact HR
    isplitl [Hf29]; · iexact Hf29
    iexact Hown
  iintro ⟨HV0, HaV, Hs29, Hown⟩
  ihave HaV := (show aP (ah4 aV) c (A.v c) ⊢ aP aV c (A.v c) from Entails.of_eq rfl) $$ HaV
  ihave HaK := (show aP aK c (A.k c) ⊢ aP (ah5 aK) c (A.k c) from Entails.of_eq rfl) $$ HaK
  iapply (start_k1 c 30 (by decide) (src := (ah5 aK)) kM (A.k c)) $$ [HaK HK1 Hs30]
  · isplitl [HaK]; · iexact HaK
    isplitl [HK1]; · iexact HK1
    iexact Hs30
  iintro Hf30
  ihave HaV := (show aP aV c (A.v c) ⊢ aP (ah5 aV) c (A.v c) from Entails.of_eq rfl) $$ HaV
  iapply (start_k1 c 31 (by decide) (src := (ah5 aV)) vM (A.v c)) $$ [HaV HV1 Hs31]
  · isplitl [HaV]; · iexact HaV
    isplitl [HV1]; · iexact HV1
    iexact Hs31
  iintro Hf31
  iapply (wp_end c)
  iapply Hk
  isplitl [Hown]; · iexact Hown
  isplitl [HK0]; · iexact HK0
  isplitl [Hs28]; · iexact Hs28
  isplitl [HV0]; · iexact HV0
  isplitl [Hs29]; · iexact Hs29
  isplitl [Hf30]; · iexact Hf30
  iexact Hf31

set_option maxHeartbeats 1000000 in
theorem part13 (c : Dev nD)  {Q : (PUnit) → sProp 𝕄} :
    iprop(recs (PV A) K ∗ gK0 kM c (kH4 A c) ∗ gK0 vM c (vH4 A c) ∗ cS 4 c (ctxV A c) ∗ fly (ah5 aK) c 30 (by decide) (kl1 kM).view.dmaCredit (gK1 kM c (kH5 A c)) (A.k c) ∗ own c 4)
      ⊢ iprop((iprop(own c 4 ∗ cS 5 c (ctxV A c) ∗ eK0 kM c ∗ eK0 vM c ∗ gK1 kM c (kH5 A c) ∗ aP aK c (A.k c) ∗ sv0 c 30 (by decide)) -∗ Q (⟨⟩)) -∗ WP c (k0_part13 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 (qV A c) (biasV)) Q) := by
  simp only [k0_part13_eq_skeleton]; unfold k0_part13_skel
  simp only [Prog.lift, Prog.bind_op, Prog.bind_ret, Prog.pure_eq_ret, Prog.bind_assoc, semSignalWord, semWaitWord, wp_deviceId, semL0, semL1, semL2, semL3, semL4, semL5]
  iintro ⟨#HR, HK0, HV0, Hcx, Hf30, Hown⟩ Hk
  iapply (load_k0 c kM _) $$ HK0; iintro HK0
  iapply (load_k0 c vM _) $$ HV0; iintro HV0
  iapply (load_cS 4 c _ _) $$ Hcx; iintro %_ Hcx
  iapply (store_cS 4 (by decide) c A 512 rfl (k0_pay19 (qV A c) biasV (kH4 A c) (vH4 A c)) rfl) $$ Hcx; iintro Hcx
  iapply (arrive (P := PV A) (K := K) c 30 (by decide) 4 (by decide) (src := (ah5 aK)) ((kl1 kM).view.dmaCredit) rfl (A.k c) (D := gK1 kM c (kH5 A c))) $$ [Hf30 Hown]
  · isplitr; · iexact HR
    isplitl [Hf30]; · iexact Hf30
    iexact Hown
  iintro ⟨HK1, HaK, Hs30, Hown⟩
  ihave HaK := (show aP (ah5 aK) c (A.k c) ⊢ aP aK c (A.k c) from Entails.of_eq rfl) $$ HaK
  ihave HK0 := (gK0_e c kM _) $$ HK0
  ihave HV0 := (gK0_e c vM _) $$ HV0
  iapply (wp_end c)
  iapply Hk
  isplitl [Hown]; · iexact Hown
  isplitl [Hcx]; · iexact Hcx
  isplitl [HK0]; · iexact HK0
  isplitl [HV0]; · iexact HV0
  isplitl [HK1]; · iexact HK1
  isplitl [HaK]; · iexact HaK
  iexact Hs30

set_option maxHeartbeats 1000000 in
theorem part14 (c : Dev nD)  {Q : (Σ' (v435 : FVec F S1024x128 .bf16), FVec F S1024x1024 .f32) → sProp 𝕄} :
    iprop(recs (PV A) K ∗ fly (ah5 aV) c 31 (by decide) (kl1 vM).view.dmaCredit (gK1 vM c (vH5 A c)) (A.v c) ∗ own c 4 ∗ aP aK c (A.k c) ∗ eK0 kM c ∗ sv0 c 28 (by decide) ∗ eK0 vM c ∗ sv0 c 29 (by decide) ∗ gK1 kM c (kH5 A c))
      ⊢ iprop((iprop(own c 4 ∗ eK1 kM c ∗ eK1 vM c ∗ sv0 c 31 (by decide) ∗ fly (ah6 aK) c 28 (by decide) (kl0 kM).view.dmaCredit (gK0 kM c (kH6 A c)) (A.k c) ∗ fly (ah6 aV) c 29 (by decide) (kl0 vM).view.dmaCredit (gK0 vM c (vH6 A c)) (A.v c)) -∗ Q (⟨k0_pay20 (vH5 A c), k0_pay21 (qV A c) biasV (kH5 A c)⟩)) -∗ WP c (k0_part14 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 (qV A c) (biasV)) Q) := by
  simp only [k0_part14_eq_skeleton]; unfold k0_part14_skel
  simp only [Prog.lift, Prog.bind_op, Prog.bind_ret, Prog.pure_eq_ret, Prog.bind_assoc, semSignalWord, semWaitWord, wp_deviceId, semL0, semL1, semL2, semL3, semL4, semL5]
  iintro ⟨#HR, Hf31, Hown, HaK, HK0, Hs28, HV0, Hs29, HK1⟩ Hk
  iapply (arrive (P := PV A) (K := K) c 31 (by decide) 4 (by decide) (src := (ah5 aV)) ((kl1 vM).view.dmaCredit) rfl (A.v c) (D := gK1 vM c (vH5 A c))) $$ [Hf31 Hown]
  · isplitr; · iexact HR
    isplitl [Hf31]; · iexact Hf31
    iexact Hown
  iintro ⟨HV1, HaV, Hs31, Hown⟩
  ihave HaV := (show aP (ah5 aV) c (A.v c) ⊢ aP aV c (A.v c) from Entails.of_eq rfl) $$ HaV
  ihave HaK := (show aP aK c (A.k c) ⊢ aP (ah6 aK) c (A.k c) from Entails.of_eq rfl) $$ HaK
  iapply (start_k0 c 28 (by decide) (src := (ah6 aK)) kM (A.k c)) $$ [HaK HK0 Hs28]
  · isplitl [HaK]; · iexact HaK
    isplitl [HK0]; · iexact HK0
    iexact Hs28
  iintro Hf28
  ihave HaV := (show aP aV c (A.v c) ⊢ aP (ah6 aV) c (A.v c) from Entails.of_eq rfl) $$ HaV
  iapply (start_k0 c 29 (by decide) (src := (ah6 aV)) vM (A.v c)) $$ [HaV HV0 Hs29]
  · isplitl [HaV]; · iexact HaV
    isplitl [HV0]; · iexact HV0
    iexact Hs29
  iintro Hf29
  iapply (load_k1 c kM _) $$ HK1; iintro HK1
  iapply (load_k1 c vM _) $$ HV1; iintro HV1
  ihave HK1 := (gK1_e c kM _) $$ HK1
  ihave HV1 := (gK1_e c vM _) $$ HV1
  iapply (wp_end c)
  iapply Hk
  isplitl [Hown]; · iexact Hown
  isplitl [HK1]; · iexact HK1
  isplitl [HV1]; · iexact HV1
  isplitl [Hs31]; · iexact Hs31
  isplitl [Hf28]; · iexact Hf28
  iexact Hf29

set_option maxHeartbeats 1000000 in
theorem part15 (c : Dev nD)  {Q : (PUnit) → sProp 𝕄} :
    iprop(recs (PV A) K ∗ cS 5 c (ctxV A c) ∗ fly (ah6 aK) c 28 (by decide) (kl0 kM).view.dmaCredit (gK0 kM c (kH6 A c)) (A.k c) ∗ own c 4 ∗ fly (ah6 aV) c 29 (by decide) (kl0 vM).view.dmaCredit (gK0 vM c (vH6 A c)) (A.v c))
      ⊢ iprop((iprop(own c 4 ∗ cS 6 c (ctxV A c) ∗ gK0 kM c (kH6 A c) ∗ aP aK c (A.k c) ∗ sv0 c 28 (by decide) ∗ gK0 vM c (vH6 A c) ∗ aP aV c (A.v c) ∗ sv0 c 29 (by decide)) -∗ Q (⟨⟩)) -∗ WP c (k0_part15 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 (k0_pay20 (vH5 A c)) (k0_pay21 (qV A c) biasV (kH5 A c))) Q) := by
  simp only [k0_part15_eq_skeleton]; unfold k0_part15_skel
  simp only [Prog.lift, Prog.bind_op, Prog.bind_ret, Prog.pure_eq_ret, Prog.bind_assoc, semSignalWord, semWaitWord, wp_deviceId, semL0, semL1, semL2, semL3, semL4, semL5]
  iintro ⟨#HR, Hcx, Hf28, Hown, Hf29⟩ Hk
  iapply (load_cS 5 c _ _) $$ Hcx; iintro %_ Hcx
  iapply (store_cS 5 (by decide) c A 640 rfl (k0_pay22 (k0_pay20 (vH5 A c)) (k0_pay21 (qV A c) biasV (kH5 A c))) rfl) $$ Hcx; iintro Hcx
  iapply (arrive (P := PV A) (K := K) c 28 (by decide) 4 (by decide) (src := (ah6 aK)) ((kl0 kM).view.dmaCredit) rfl (A.k c) (D := gK0 kM c (kH6 A c))) $$ [Hf28 Hown]
  · isplitr; · iexact HR
    isplitl [Hf28]; · iexact Hf28
    iexact Hown
  iintro ⟨HK0, HaK, Hs28, Hown⟩
  ihave HaK := (show aP (ah6 aK) c (A.k c) ⊢ aP aK c (A.k c) from Entails.of_eq rfl) $$ HaK
  iapply (arrive (P := PV A) (K := K) c 29 (by decide) 4 (by decide) (src := (ah6 aV)) ((kl0 vM).view.dmaCredit) rfl (A.v c) (D := gK0 vM c (vH6 A c))) $$ [Hf29 Hown]
  · isplitr; · iexact HR
    isplitl [Hf29]; · iexact Hf29
    iexact Hown
  iintro ⟨HV0, HaV, Hs29, Hown⟩
  ihave HaV := (show aP (ah6 aV) c (A.v c) ⊢ aP aV c (A.v c) from Entails.of_eq rfl) $$ HaV
  iapply (wp_end c)
  iapply Hk
  isplitl [Hown]; · iexact Hown
  isplitl [Hcx]; · iexact Hcx
  isplitl [HK0]; · iexact HK0
  isplitl [HaK]; · iexact HaK
  isplitl [Hs28]; · iexact Hs28
  isplitl [HV0]; · iexact HV0
  isplitl [HaV]; · iexact HaV
  iexact Hs29

set_option maxHeartbeats 1000000 in
theorem part16 (c : Dev nD)  {Q : (PUnit) → sProp 𝕄} :
    iprop(recs (PV A) K ∗ aP aK c (A.k c) ∗ eK1 kM c ∗ sv0 c 30 (by decide) ∗ aP aV c (A.v c) ∗ eK1 vM c ∗ sv0 c 31 (by decide) ∗ gK0 kM c (kH6 A c) ∗ gK0 vM c (vH6 A c) ∗ cS 6 c (ctxV A c))
      ⊢ iprop((iprop(cS 7 c (ctxV A c) ∗ eK0 kM c ∗ eK0 vM c ∗ fly (ah7 aK) c 30 (by decide) (kl1 kM).view.dmaCredit (gK1 kM c (kH7 A c)) (A.k c) ∗ fly (ah7 aV) c 31 (by decide) (kl1 vM).view.dmaCredit (gK1 vM c (vH7 A c)) (A.v c)) -∗ Q (⟨⟩)) -∗ WP c (k0_part16 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 (qV A c) (biasV)) Q) := by
  simp only [k0_part16_eq_skeleton]; unfold k0_part16_skel
  simp only [Prog.lift, Prog.bind_op, Prog.bind_ret, Prog.pure_eq_ret, Prog.bind_assoc, semSignalWord, semWaitWord, wp_deviceId, semL0, semL1, semL2, semL3, semL4, semL5]
  iintro ⟨#HR, HaK, HK1, Hs30, HaV, HV1, Hs31, HK0, HV0, Hcx⟩ Hk
  ihave HaK := (show aP aK c (A.k c) ⊢ aP (ah7 aK) c (A.k c) from Entails.of_eq rfl) $$ HaK
  iapply (start_k1 c 30 (by decide) (src := (ah7 aK)) kM (A.k c)) $$ [HaK HK1 Hs30]
  · isplitl [HaK]; · iexact HaK
    isplitl [HK1]; · iexact HK1
    iexact Hs30
  iintro Hf30
  ihave HaV := (show aP aV c (A.v c) ⊢ aP (ah7 aV) c (A.v c) from Entails.of_eq rfl) $$ HaV
  iapply (start_k1 c 31 (by decide) (src := (ah7 aV)) vM (A.v c)) $$ [HaV HV1 Hs31]
  · isplitl [HaV]; · iexact HaV
    isplitl [HV1]; · iexact HV1
    iexact Hs31
  iintro Hf31
  iapply (load_k0 c kM _) $$ HK0; iintro HK0
  iapply (load_k0 c vM _) $$ HV0; iintro HV0
  iapply (load_cS 6 c _ _) $$ Hcx; iintro %_ Hcx
  iapply (store_cS 6 (by decide) c A 768 rfl (k0_pay23 (qV A c) biasV (kH6 A c) (vH6 A c)) rfl) $$ Hcx; iintro Hcx
  ihave HK0 := (gK0_e c kM _) $$ HK0
  ihave HV0 := (gK0_e c vM _) $$ HV0
  iapply (wp_end c)
  iapply Hk
  isplitl [Hcx]; · iexact Hcx
  isplitl [HK0]; · iexact HK0
  isplitl [HV0]; · iexact HV0
  isplitl [Hf30]; · iexact Hf30
  iexact Hf31

set_option maxHeartbeats 1000000 in
theorem part17 (c : Dev nD)  {Q : (FVec F S1024x128 .bf16) → sProp 𝕄} :
    iprop(recs (PV A) K ∗ fly (ah7 aK) c 30 (by decide) (kl1 kM).view.dmaCredit (gK1 kM c (kH7 A c)) (A.k c) ∗ own c 4 ∗ fly (ah7 aV) c 31 (by decide) (kl1 vM).view.dmaCredit (gK1 vM c (vH7 A c)) (A.v c))
      ⊢ iprop((iprop(own c 4 ∗ eK1 kM c ∗ aP aK c (A.k c) ∗ sv0 c 30 (by decide) ∗ eK1 vM c ∗ aP aV c (A.v c) ∗ sv0 c 31 (by decide)) -∗ Q (k0_pay24 (qV A c) biasV (kH7 A c) (vH7 A c))) -∗ WP c (k0_part17 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 (qV A c) (biasV)) Q) := by
  simp only [k0_part17_eq_skeleton]; unfold k0_part17_skel
  simp only [Prog.lift, Prog.bind_op, Prog.bind_ret, Prog.pure_eq_ret, Prog.bind_assoc, semSignalWord, semWaitWord, wp_deviceId, semL0, semL1, semL2, semL3, semL4, semL5]
  iintro ⟨#HR, Hf30, Hown, Hf31⟩ Hk
  iapply (arrive (P := PV A) (K := K) c 30 (by decide) 4 (by decide) (src := (ah7 aK)) ((kl1 kM).view.dmaCredit) rfl (A.k c) (D := gK1 kM c (kH7 A c))) $$ [Hf30 Hown]
  · isplitr; · iexact HR
    isplitl [Hf30]; · iexact Hf30
    iexact Hown
  iintro ⟨HK1, HaK, Hs30, Hown⟩
  ihave HaK := (show aP (ah7 aK) c (A.k c) ⊢ aP aK c (A.k c) from Entails.of_eq rfl) $$ HaK
  iapply (arrive (P := PV A) (K := K) c 31 (by decide) 4 (by decide) (src := (ah7 aV)) ((kl1 vM).view.dmaCredit) rfl (A.v c) (D := gK1 vM c (vH7 A c))) $$ [Hf31 Hown]
  · isplitr; · iexact HR
    isplitl [Hf31]; · iexact Hf31
    iexact Hown
  iintro ⟨HV1, HaV, Hs31, Hown⟩
  ihave HaV := (show aP (ah7 aV) c (A.v c) ⊢ aP aV c (A.v c) from Entails.of_eq rfl) $$ HaV
  iapply (load_k1 c kM _) $$ HK1; iintro HK1
  iapply (load_k1 c vM _) $$ HV1; iintro HV1
  ihave HK1 := (gK1_e c kM _) $$ HK1
  ihave HV1 := (gK1_e c vM _) $$ HV1
  iapply (wp_end c)
  iapply Hk
  isplitl [Hown]; · iexact Hown
  isplitl [HK1]; · iexact HK1
  isplitl [HaK]; · iexact HaK
  isplitl [Hs30]; · iexact Hs30
  isplitl [HV1]; · iexact HV1
  isplitl [HaV]; · iexact HaV
  iexact Hs31

set_option maxHeartbeats 1000000 in
theorem part18 (c : Dev nD) (v3 : BitVec 32) {Q : (PUnit) → sProp 𝕄} :
    iprop(recs (PV A) K ∗ cS 7 c (ctxV A c) ∗ fly (aWo c) c 27 (by decide) woM.view.dmaCredit (gW woM c (woB A c)) (A.wo c) ∗ own c 4 ∗ iprop(∃ f, oP c f) ∗ eS0 saCw c ∗ eS0 saCc c)
      ⊢ iprop((iprop(own c 4 ∗ oP c (PV A c) ∗ cP c (ctxV A c) ∗ gS0 saCw c (mAw0 (PV A) c) ∗ gS0 saCc c (mAc0 (PV A) c) ∗ gW woM c (woB A c) ∗ aP (aWo c) c (A.wo c) ∗ sv0 c 27 (by decide)) -∗ Q (⟨⟩)) -∗ WP c (k0_part18 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v3 (k0_pay24 (qV A c) biasV (kH7 A c) (vH7 A c))) Q) := by
  simp only [k0_part18_eq_skeleton]; unfold k0_part18_skel
  simp only [Prog.lift, Prog.bind_op, Prog.bind_ret, Prog.pure_eq_ret, Prog.bind_assoc, semSignalWord, semWaitWord, wp_deviceId, semL0, semL1, semL2, semL3, semL4, semL5]
  iintro ⟨#HR, Hcx, Hf27, Hown, Ho, HsaCw0, HsaCc0⟩ Hk
  iapply (load_cS 7 c _ _) $$ Hcx; iintro %_ Hcx
  iapply (store_cS 7 (by decide) c A 896 rfl (k0_pay25 (k0_pay24 (qV A c) biasV (kH7 A c) (vH7 A c))) rfl) $$ Hcx; iintro Hcx
  ihave Hcx := (cS_full c _) $$ Hcx
  iapply (arrive (P := PV A) (K := K) c 27 (by decide) 4 (by decide) (src := (aWo c)) (woM.view.dmaCredit) rfl (A.wo c) (D := gW woM c (woB A c))) $$ [Hf27 Hown]
  · isplitr; · iexact HR
    isplitl [Hf27]; · iexact Hf27
    iexact Hown
  iintro ⟨HWo, HaWo, Hs27, Hown⟩
  iapply (load_w c woM _) $$ HWo; iintro HWo
  iapply (load_c c _) $$ Hcx; iintro Hcx
  icases Ho with ⟨%fo, Ho⟩
  iapply (load_o c (Rect.unit (s := S1x1024x1024) ![0, 0, 0] S1x1024x1024.size inb_S1x1024x1024_S1x1024x1024_0_0_0) fo) $$ Ho; iintro Ho
  iapply (store_oW c fo (PV A c)) $$ Ho; iintro Ho
  iapply (load_o c (o3 c) (PV A c)) $$ Ho; iintro Ho
  iapply (load_eS0 c saCw) $$ HsaCw0; iintro %_ HsaCw0
  iapply (store_eS0 c saCw (mAw0 (PV A) c)) $$ HsaCw0; iintro HsaCw0
  iapply (load_o c (o4 c) (PV A c)) $$ Ho; iintro Ho
  iapply (load_eS0 c saCc) $$ HsaCc0; iintro %_ HsaCc0
  iapply (store_eS0 c saCc (mAc0 (PV A) c)) $$ HsaCc0; iintro HsaCc0
  iapply (wp_end c)
  iapply Hk
  isplitl [Hown]; · iexact Hown
  isplitl [Ho]; · iexact Ho
  isplitl [Hcx]; · iexact Hcx
  isplitl [HsaCw0]; · iexact HsaCw0
  isplitl [HsaCc0]; · iexact HsaCc0
  isplitl [HWo]; · iexact HWo
  isplitl [HaWo]; · iexact HaWo
  iexact Hs27

end Parts

end Cert.KP

end
-- ==== Proof.PartsA.lean ====
module

public import proofs.«01_k».proof.Proof.Ops
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

/-! # The exchange, phase A: each part of the kernel's program as a step from assertions to assertions -/

section Parts
variable (P : Dev nD → OutC F) (K : Dev nD × Fin 25 → ℕ)

/-! What the landing of a send hands over is what the schedule asks for. -/

theorem land4_0 (c : Dev nD) : iprop(gS0 raCw (R c) (mAw0 P c) ∗ (emp)) ⊢ dmaPay (F := F) P (R c) 4 0 := by
  rw [dmaPay4_0]
  show _ ⊢ iprop(gS0 raCw (R c) (mAw0 P (L (R c))))
  rw [L_R]
  exact Laws.sep_emp.1

theorem land8_0 (c : Dev nD) : iprop(gS0 raCc (L c) (mAc0 P c) ∗ (emp)) ⊢ dmaPay (F := F) P (L c) 8 0 := by
  rw [dmaPay8_0]
  show _ ⊢ iprop(gS0 raCc (L c) (mAc0 P (R (L c))))
  rw [R_L]
  exact Laws.sep_emp.1

theorem land5_0 (c : Dev nD) : iprop(gS1 raCw (R c) (mAw1 P c) ∗ (eS0 raCc c ∗ reached ER (dC c 8) 1)) ⊢ dmaPay (F := F) P (R c) 5 0 := by
  rw [dmaPay5_0]
  show _ ⊢ iprop(gS1 raCw (R c) (mAw1 P (L (R c))) ∗ eS0 raCc (L (R c)) ∗ reached ER (dC (L (R c)) 8) 1)
  rw [L_R]

theorem land9_0 (c : Dev nD) : iprop(gS1 raCc (L c) (mAc1 P c) ∗ (eS0 raCw c ∗ reached ER (dC c 4) 1)) ⊢ dmaPay (F := F) P (L c) 9 0 := by
  rw [dmaPay9_0]
  show _ ⊢ iprop(gS1 raCc (L c) (mAc1 P (R (L c))) ∗ eS0 raCw (R (L c)) ∗ reached ER (dC (R (L c)) 4) 1)
  rw [R_L]

theorem land4_1 (c : Dev nD) : iprop(gS0 raCw (R c) (mAw2 P c) ∗ (emp)) ⊢ dmaPay (F := F) P (R c) 4 1 := by
  rw [dmaPay4_1]
  show _ ⊢ iprop(gS0 raCw (R c) (mAw2 P (L (R c))))
  rw [L_R]
  exact Laws.sep_emp.1

theorem land8_1 (c : Dev nD) : iprop(gS0 raCc (L c) (mAc2 P c) ∗ (emp)) ⊢ dmaPay (F := F) P (L c) 8 1 := by
  rw [dmaPay8_1]
  show _ ⊢ iprop(gS0 raCc (L c) (mAc2 P (R (L c))))
  rw [R_L]
  exact Laws.sep_emp.1

/-! The parts. -/

set_option maxHeartbeats 1000000 in
theorem part19 (c : Dev nD) (v24 : BitVec 32) (v28 : BitVec 32) {Q : PUnit → sProp 𝕄} :
    iprop(recs P K ∗ gS0 saCw c (mAw0 P c) ∗ eS0 raCw (R c) ∗ own c 4 ∗ dutyTok ER (dC c 2) 0 0 ∗ dutyTok ER (dC (R c) 4) 0 0 ∗ gS0 saCc c (mAc0 P c) ∗ eS0 raCc (L c) ∗ dutyTok ER (dC c 6) 0 0 ∗ dutyTok ER (dC (L c) 8) 0 0)
      ⊢ iprop((iprop(own c 6 ∗ cred (tallyAt (dC c 2) 0 (amt 2)) ∗ cred (tallyAt (dC c 6) 0 (amt 6))) -∗ Q (⟨⟩)) -∗ WP c (k0_part19 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v24 v28) Q) := by
  simp only [k0_part19_eq_skeleton]; unfold k0_part19_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, HsaCw0, HdraCw0, Hown, Ht2_0, Ht4_0, HsaCc0, HdraCc0, Ht6_0, Ht8_0⟩ Hk
  iapply (send_gS0 c (R c) _ (dev5_eq c) 4 2 0 4 0 2 (by decide) (by decide) (by decide) (by decide) (by decide) (by decide) (M := saCw) (M' := raCw) (amt 2) rfl rfl rfl rfl (w := (mAw0 P c)) (X := iprop(emp)) (Entails.of_eq rfl) (land4_0 P c)) $$ [HsaCw0 HdraCw0 Hown Ht2_0 Ht4_0]
  · isplitr; · iexact HR
    isplitl [HsaCw0]; · iexact HsaCw0
    isplitl [HdraCw0]; · iexact HdraCw0
    isplitr; · iempintro
    isplitl [Hown]; · iexact Hown
    isplitl [Ht2_0]; · iexact Ht2_0
    isplitr; · iapply (reached_dma P K c 2 (by decide) (by decide)); iexact HR
    isplitl [Ht4_0]; · iexact Ht4_0
    iapply (reached_dma P K (R c) 4 (by decide) (by decide)); iexact HR
  iintro ⟨Hc2_0, Hown⟩
  iapply (send_gS0 c (L c) _ (dev6_eq c) 5 6 0 8 0 2 (by decide) (by decide) (by decide) (by decide) (by decide) (by decide) (M := saCc) (M' := raCc) (amt 6) rfl rfl rfl rfl (w := (mAc0 P c)) (X := iprop(emp)) (Entails.of_eq rfl) (land8_0 P c)) $$ [HsaCc0 HdraCc0 Hown Ht6_0 Ht8_0]
  · isplitr; · iexact HR
    isplitl [HsaCc0]; · iexact HsaCc0
    isplitl [HdraCc0]; · iexact HdraCc0
    isplitr; · iempintro
    isplitl [Hown]; · iexact Hown
    isplitl [Ht6_0]; · iexact Ht6_0
    isplitr; · iapply (reached_dma P K c 6 (by decide) (by decide)); iexact HR
    isplitl [Ht8_0]; · iexact Ht8_0
    iapply (reached_dma P K (L c) 8 (by decide) (by decide)); iexact HR
  iintro ⟨Hc6_0, Hown⟩
  iapply (wp_end c)
  iapply Hk
  isplitl [Hown]; · iexact Hown
  isplitl [Hc2_0]; · iexact Hc2_0
  iexact Hc6_0

set_option maxHeartbeats 1000000 in
theorem part20 (c : Dev nD) (v24 : BitVec 32) (v28 : BitVec 32) {Q : PUnit → sProp 𝕄} :
    iprop(recs P K ∗ cred (tallyAt (dC c 2) 0 (amt 2)) ∗ atPos ER (dC c 2) 0 ∅ 0 ∗ own c 6 ∗ cred (tallyAt (dC c 4) 2 (amt 4)) ∗ atPos ER (dC c 4) 0 ∅ 0 ∗ cred (tallyAt (dC c 6) 0 (amt 6)) ∗ atPos ER (dC c 6) 0 ∅ 0)
      ⊢ iprop((iprop(own c 6 ∗ atPos ER (dC c 2) 1 ∅ 0 ∗ atPos ER (dC c 4) 1 ∅ 0 ∗ atPos ER (dC c 6) 1 ∅ 0 ∗ reached ER (dC c 2) 1 ∗ eS0 saCw c ∗ reached ER (dC c 4) 1 ∗ gS0 raCw c (mAw0 P (L c)) ∗ reached ER (dC c 6) 1 ∗ eS0 saCc c) -∗ Q (⟨⟩)) -∗ WP c (k0_part20 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 v24 v28) Q) := by
  simp only [k0_part20_eq_skeleton]; unfold k0_part20_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, Hc2_0, Hat2, Hown, Hc4_0, Hat4, Hc6_0, Hat6⟩ Hk
  iapply (wait_dma (P := P) (K := K) (dst := sl0 saCw) c 2 0 6 0 (by decide) (by decide) (by decide) (by decide) (by decide) rfl) $$ [Hc2_0 Hown Hat2]
  · isplitr; · iexact HR
    isplitl [Hc2_0]; · iexact Hc2_0
    isplitl [Hown]; · iexact Hown
    iexact Hat2
  iintro ⟨Hown, Hat2, Hr2_1, Hpay⟩
  ihave HsaCw0 := (show dmaPay (F := F) P c 2 0 ⊢ eS0 saCw c from Entails.of_eq rfl) $$ Hpay
  iapply (wait_dma (P := P) (K := K) (dst := sl0 raCw) c 4 0 6 2 (by decide) (by decide) (by decide) (by decide) (by decide) rfl) $$ [Hc4_0 Hown Hat4]
  · isplitr; · iexact HR
    isplitl [Hc4_0]; · iexact Hc4_0
    isplitl [Hown]; · iexact Hown
    iexact Hat4
  iintro ⟨Hown, Hat4, Hr4_1, Hpay⟩
  ihave HraCw0 := (show dmaPay (F := F) P c 4 0 ⊢ gS0 raCw c (mAw0 P (L c)) from Entails.of_eq rfl) $$ Hpay
  iapply (wait_dma (P := P) (K := K) (dst := sl0 saCc) c 6 0 6 0 (by decide) (by decide) (by decide) (by decide) (by decide) rfl) $$ [Hc6_0 Hown Hat6]
  · isplitr; · iexact HR
    isplitl [Hc6_0]; · iexact Hc6_0
    isplitl [Hown]; · iexact Hown
    iexact Hat6
  iintro ⟨Hown, Hat6, Hr6_1, Hpay⟩
  ihave HsaCc0 := (show dmaPay (F := F) P c 6 0 ⊢ eS0 saCc c from Entails.of_eq rfl) $$ Hpay
  iapply (wp_end c)
  iapply Hk
  isplitl [Hown]; · iexact Hown
  isplitl [Hat2]; · iexact Hat2
  isplitl [Hat4]; · iexact Hat4
  isplitl [Hat6]; · iexact Hat6
  isplitl [Hr2_1]; · iexact Hr2_1
  isplitl [HsaCw0]; · iexact HsaCw0
  isplitl [Hr4_1]; · iexact Hr4_1
  isplitl [HraCw0]; · iexact HraCw0
  isplitl [Hr6_1]; · iexact Hr6_1
  iexact HsaCc0

set_option maxHeartbeats 1000000 in
theorem part21 (c : Dev nD) (v3 : BitVec 32) {Q : PUnit → sProp 𝕄} :
    iprop(recs P K ∗ cred (tallyAt (dC c 8) 2 (amt 8)) ∗ atPos ER (dC c 8) 0 ∅ 0 ∗ own c 6 ∗ gS0 raCw c (mAw0 P (L c)) ∗ oP c (P c) ∗ eS1 saCw c ∗ eS1 saCc c)
      ⊢ iprop((iprop(own c 6 ∗ oP c (P c) ∗ gS1 saCw c (mAw1 P c) ∗ gS1 saCc c (mAc1 P c) ∗ atPos ER (dC c 8) 1 ∅ 0 ∗ gS0 raCw c (mAw0 P (L c)) ∗ reached ER (dC c 8) 1 ∗ gS0 raCc c (mAc0 P (R c))) -∗ Q (⟨⟩)) -∗ WP c (k0_part21 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v3) Q) := by
  simp only [k0_part21_eq_skeleton]; unfold k0_part21_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, Hc8_0, Hat8, Hown, HraCw0, Ho, HsaCw1, HsaCc1⟩ Hk
  iapply (wait_dma (P := P) (K := K) (dst := sl0 raCc) c 8 0 6 2 (by decide) (by decide) (by decide) (by decide) (by decide) rfl) $$ [Hc8_0 Hown Hat8]
  · isplitr; · iexact HR
    isplitl [Hc8_0]; · iexact Hc8_0
    isplitl [Hown]; · iexact Hown
    iexact Hat8
  iintro ⟨Hown, Hat8, Hr8_1, Hpay⟩
  ihave HraCc0 := (show dmaPay (F := F) P c 8 0 ⊢ gS0 raCc c (mAc0 P (R c)) from Entails.of_eq rfl) $$ Hpay
  iapply (load_gS0 c raCw _) $$ HraCw0; iintro HraCw0
  iapply (load_o c (o570 c) (P c)) $$ Ho; iintro Ho
  iapply (load_gS0 c raCc _) $$ HraCc0; iintro HraCc0
  iapply (load_o c (o60 c) (P c)) $$ Ho; iintro Ho
  iapply (load_eS1 c saCw) $$ HsaCw1; iintro %_ HsaCw1
  iapply (store_eS1 c saCw (mAw1 P c)) $$ HsaCw1; iintro HsaCw1
  iapply (load_eS1 c saCc) $$ HsaCc1; iintro %_ HsaCc1
  iapply (store_eS1 c saCc (mAc1 P c)) $$ HsaCc1; iintro HsaCc1
  iapply (wp_end c)
  iapply Hk
  isplitl [Hown]; · iexact Hown
  isplitl [Ho]; · iexact Ho
  isplitl [HsaCw1]; · iexact HsaCw1
  isplitl [HsaCc1]; · iexact HsaCc1
  isplitl [Hat8]; · iexact Hat8
  isplitl [HraCw0]; · iexact HraCw0
  isplitl [Hr8_1]; · iexact Hr8_1
  iexact HraCc0

set_option maxHeartbeats 1000000 in
theorem part22 (c : Dev nD) (v24 : BitVec 32) (v28 : BitVec 32) {Q : PUnit → sProp 𝕄} :
    iprop(recs P K ∗ gS1 saCw c (mAw1 P c) ∗ eS1 raCw (R c) ∗ own c 6 ∗ dutyTok ER (dC c 3) 0 0 ∗ dutyTok ER (dC (R c) 5) 0 0 ∗ gS0 raCc c (mAc0 P (R c)) ∗ reached ER (dC c 8) 1 ∗ gS1 saCc c (mAc1 P c) ∗ eS1 raCc (L c) ∗ dutyTok ER (dC c 7) 0 0 ∗ dutyTok ER (dC (L c) 9) 0 0 ∗ gS0 raCw c (mAw0 P (L c)) ∗ reached ER (dC c 4) 1)
      ⊢ iprop((iprop(own c 8 ∗ cred (tallyAt (dC c 3) 0 (amt 3)) ∗ cred (tallyAt (dC c 7) 0 (amt 7))) -∗ Q (⟨⟩)) -∗ WP c (k0_part22 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v24 v28) Q) := by
  simp only [k0_part22_eq_skeleton]; unfold k0_part22_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, HsaCw1, HdraCw1, Hown, Ht3_0, Ht5_0, HraCc0, Hr8_1, HsaCc1, HdraCc1, Ht7_0, Ht9_0, HraCw0, Hr4_1⟩ Hk
  ihave HraCc0 := (gS0_e c raCc _) $$ HraCc0
  iapply (send_gS1 c (R c) _ (dev7_eq c) 6 3 0 5 0 3 (by decide) (by decide) (by decide) (by decide) (by decide) (by decide) (M := saCw) (M' := raCw) (amt 3) rfl rfl rfl rfl (w := (mAw1 P c)) (X := iprop(eS0 raCc c ∗ reached ER (dC c 8) 1)) (Entails.of_eq rfl) (land5_0 P c)) $$ [HsaCw1 HdraCw1 HraCc0 Hr8_1 Hown Ht3_0 Ht5_0]
  · isplitr; · iexact HR
    isplitl [HsaCw1]; · iexact HsaCw1
    isplitl [HdraCw1]; · iexact HdraCw1
    isplitl [HraCc0 Hr8_1]; · isplitl [HraCc0] <;> iassumption
    isplitl [Hown]; · iexact Hown
    isplitl [Ht3_0]; · iexact Ht3_0
    isplitr; · iapply (reached_dma P K c 3 (by decide) (by decide)); iexact HR
    isplitl [Ht5_0]; · iexact Ht5_0
    iapply (reached_dma P K (R c) 5 (by decide) (by decide)); iexact HR
  iintro ⟨Hc3_0, Hown⟩
  ihave HraCw0 := (gS0_e c raCw _) $$ HraCw0
  iapply (send_gS1 c (L c) _ (dev8_eq c) 7 7 0 9 0 3 (by decide) (by decide) (by decide) (by decide) (by decide) (by decide) (M := saCc) (M' := raCc) (amt 7) rfl rfl rfl rfl (w := (mAc1 P c)) (X := iprop(eS0 raCw c ∗ reached ER (dC c 4) 1)) (Entails.of_eq rfl) (land9_0 P c)) $$ [HsaCc1 HdraCc1 HraCw0 Hr4_1 Hown Ht7_0 Ht9_0]
  · isplitr; · iexact HR
    isplitl [HsaCc1]; · iexact HsaCc1
    isplitl [HdraCc1]; · iexact HdraCc1
    isplitl [HraCw0 Hr4_1]; · isplitl [HraCw0] <;> iassumption
    isplitl [Hown]; · iexact Hown
    isplitl [Ht7_0]; · iexact Ht7_0
    isplitr; · iapply (reached_dma P K c 7 (by decide) (by decide)); iexact HR
    isplitl [Ht9_0]; · iexact Ht9_0
    iapply (reached_dma P K (L c) 9 (by decide) (by decide)); iexact HR
  iintro ⟨Hc7_0, Hown⟩
  iapply (wp_end c)
  iapply Hk
  isplitl [Hown]; · iexact Hown
  isplitl [Hc3_0]; · iexact Hc3_0
  iexact Hc7_0

set_option maxHeartbeats 1000000 in
theorem part23 (c : Dev nD) (v24 : BitVec 32) (v28 : BitVec 32) {Q : PUnit → sProp 𝕄} :
    iprop(recs P K ∗ cred (tallyAt (dC c 3) 0 (amt 3)) ∗ atPos ER (dC c 3) 0 ∅ 0 ∗ own c 8 ∗ cred (tallyAt (dC c 5) 3 (amt 5)) ∗ atPos ER (dC c 5) 0 ∅ 0 ∗ cred (tallyAt (dC c 7) 0 (amt 7)) ∗ atPos ER (dC c 7) 0 ∅ 0)
      ⊢ iprop((iprop(own c 8 ∗ atPos ER (dC c 3) 1 ∅ 0 ∗ atPos ER (dC c 5) 1 ∅ 0 ∗ atPos ER (dC c 7) 1 ∅ 0 ∗ eS1 saCw c ∗ gS1 raCw c (mAw1 P (L c)) ∗ eS0 raCc (L c) ∗ reached ER (dC (L c) 8) 1 ∗ eS1 saCc c) -∗ Q (⟨⟩)) -∗ WP c (k0_part23 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 v24 v28) Q) := by
  simp only [k0_part23_eq_skeleton]; unfold k0_part23_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, Hc3_0, Hat3, Hown, Hc5_0, Hat5, Hc7_0, Hat7⟩ Hk
  iapply (wait_dma (P := P) (K := K) (dst := sl1 saCw) c 3 0 8 0 (by decide) (by decide) (by decide) (by decide) (by decide) rfl) $$ [Hc3_0 Hown Hat3]
  · isplitr; · iexact HR
    isplitl [Hc3_0]; · iexact Hc3_0
    isplitl [Hown]; · iexact Hown
    iexact Hat3
  iintro ⟨Hown, Hat3, -, Hpay⟩
  ihave HsaCw1 := (show dmaPay (F := F) P c 3 0 ⊢ eS1 saCw c from Entails.of_eq rfl) $$ Hpay
  iapply (wait_dma (P := P) (K := K) (dst := sl1 raCw) c 5 0 8 3 (by decide) (by decide) (by decide) (by decide) (by decide) rfl) $$ [Hc5_0 Hown Hat5]
  · isplitr; · iexact HR
    isplitl [Hc5_0]; · iexact Hc5_0
    isplitl [Hown]; · iexact Hown
    iexact Hat5
  iintro ⟨Hown, Hat5, -, Hpay⟩
  ihave Hpay2 := (show dmaPay (F := F) P c 5 0 ⊢ iprop(gS1 raCw c (mAw1 P (L c)) ∗ eS0 raCc (L c) ∗ reached ER (dC (L c) 8) 1) from Entails.of_eq rfl) $$ Hpay
  icases Hpay2 with ⟨HraCw1, HdraCc0, HrT8_1⟩
  iapply (wait_dma (P := P) (K := K) (dst := sl1 saCc) c 7 0 8 0 (by decide) (by decide) (by decide) (by decide) (by decide) rfl) $$ [Hc7_0 Hown Hat7]
  · isplitr; · iexact HR
    isplitl [Hc7_0]; · iexact Hc7_0
    isplitl [Hown]; · iexact Hown
    iexact Hat7
  iintro ⟨Hown, Hat7, -, Hpay⟩
  ihave HsaCc1 := (show dmaPay (F := F) P c 7 0 ⊢ eS1 saCc c from Entails.of_eq rfl) $$ Hpay
  iapply (wp_end c)
  iapply Hk
  isplitl [Hown]; · iexact Hown
  isplitl [Hat3]; · iexact Hat3
  isplitl [Hat5]; · iexact Hat5
  isplitl [Hat7]; · iexact Hat7
  isplitl [HsaCw1]; · iexact HsaCw1
  isplitl [HraCw1]; · iexact HraCw1
  isplitl [HdraCc0]; · iexact HdraCc0
  isplitl [HrT8_1]; · iexact HrT8_1
  iexact HsaCc1

set_option maxHeartbeats 1000000 in
theorem part24 (c : Dev nD) (v3 : BitVec 32) {Q : PUnit → sProp 𝕄} :
    iprop(recs P K ∗ cred (tallyAt (dC c 9) 3 (amt 9)) ∗ atPos ER (dC c 9) 0 ∅ 0 ∗ own c 8 ∗ gS1 raCw c (mAw1 P (L c)) ∗ oP c (P c) ∗ eS0 saCw c ∗ eS0 saCc c)
      ⊢ iprop((iprop(own c 8 ∗ oP c (P c) ∗ atPos ER (dC c 9) 1 ∅ 0 ∗ gS0 saCw c (mAw2 P c) ∗ gS0 saCc c (mAc2 P c) ∗ gS1 raCw c (mAw1 P (L c)) ∗ gS1 raCc c (mAc1 P (R c)) ∗ eS0 raCw (R c) ∗ reached ER (dC (R c) 4) 1) -∗ Q (⟨⟩)) -∗ WP c (k0_part24 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v3) Q) := by
  simp only [k0_part24_eq_skeleton]; unfold k0_part24_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, Hc9_0, Hat9, Hown, HraCw1, Ho, HsaCw0, HsaCc0⟩ Hk
  iapply (wait_dma (P := P) (K := K) (dst := sl1 raCc) c 9 0 8 3 (by decide) (by decide) (by decide) (by decide) (by decide) rfl) $$ [Hc9_0 Hown Hat9]
  · isplitr; · iexact HR
    isplitl [Hc9_0]; · iexact Hc9_0
    isplitl [Hown]; · iexact Hown
    iexact Hat9
  iintro ⟨Hown, Hat9, -, Hpay⟩
  ihave Hpay2 := (show dmaPay (F := F) P c 9 0 ⊢ iprop(gS1 raCc c (mAc1 P (R c)) ∗ eS0 raCw (R c) ∗ reached ER (dC (R c) 4) 1) from Entails.of_eq rfl) $$ Hpay
  icases Hpay2 with ⟨HraCc1, HdraCw0, HrT4_1⟩
  iapply (load_gS1 c raCw _) $$ HraCw1; iintro HraCw1
  iapply (load_o c (o571 c) (P c)) $$ Ho; iintro Ho
  iapply (load_gS1 c raCc _) $$ HraCc1; iintro HraCc1
  iapply (load_o c (o61 c) (P c)) $$ Ho; iintro Ho
  iapply (load_eS0 c saCw) $$ HsaCw0; iintro %_ HsaCw0
  iapply (store_eS0 c saCw (mAw2 P c)) $$ HsaCw0; iintro HsaCw0
  iapply (load_eS0 c saCc) $$ HsaCc0; iintro %_ HsaCc0
  iapply (store_eS0 c saCc (mAc2 P c)) $$ HsaCc0; iintro HsaCc0
  iapply (wp_end c)
  iapply Hk
  isplitl [Hown]; · iexact Hown
  isplitl [Ho]; · iexact Ho
  isplitl [Hat9]; · iexact Hat9
  isplitl [HsaCw0]; · iexact HsaCw0
  isplitl [HsaCc0]; · iexact HsaCc0
  isplitl [HraCw1]; · iexact HraCw1
  isplitl [HraCc1]; · iexact HraCc1
  isplitl [HdraCw0]; · iexact HdraCw0
  iexact HrT4_1

set_option maxHeartbeats 1000000 in
theorem part25 (c : Dev nD) (v24 : BitVec 32) (v28 : BitVec 32) {Q : PUnit → sProp 𝕄} :
    iprop(recs P K ∗ gS0 saCw c (mAw2 P c) ∗ eS0 raCw (R c) ∗ own c 8 ∗ dutyTok ER (dC c 2) 1 0 ∗ dutyTok ER (dC (R c) 4) 1 0 ∗ reached ER (dC c 2) 1 ∗ reached ER (dC (R c) 4) 1 ∗ gS0 saCc c (mAc2 P c) ∗ eS0 raCc (L c) ∗ dutyTok ER (dC c 6) 1 0 ∗ dutyTok ER (dC (L c) 8) 1 0 ∗ reached ER (dC c 6) 1 ∗ reached ER (dC (L c) 8) 1)
      ⊢ iprop((iprop(own c 10 ∗ cred (tallyAt (dC c 2) 0 (amt 2)) ∗ cred (tallyAt (dC c 6) 0 (amt 6))) -∗ Q (⟨⟩)) -∗ WP c (k0_part25 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v24 v28) Q) := by
  simp only [k0_part25_eq_skeleton]; unfold k0_part25_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, HsaCw0, HdraCw0, Hown, Ht2_1, Ht4_1, Hr2_1, HrT4_1, HsaCc0, HdraCc0, Ht6_1, Ht8_1, Hr6_1, HrT8_1⟩ Hk
  iapply (send_gS0 c (R c) _ (dev9_eq c) 8 2 1 4 1 4 (by decide) (by decide) (by decide) (by decide) (by decide) (by decide) (M := saCw) (M' := raCw) (amt 2) rfl rfl rfl rfl (w := (mAw2 P c)) (X := iprop(emp)) (Entails.of_eq rfl) (land4_1 P c)) $$ [HsaCw0 HdraCw0 Hown Ht2_1 Ht4_1 Hr2_1 HrT4_1]
  · isplitr; · iexact HR
    isplitl [HsaCw0]; · iexact HsaCw0
    isplitl [HdraCw0]; · iexact HdraCw0
    isplitr; · iempintro
    isplitl [Hown]; · iexact Hown
    isplitl [Ht2_1]; · iexact Ht2_1
    isplitl [Hr2_1]; · iexact Hr2_1
    isplitl [Ht4_1]; · iexact Ht4_1
    iexact HrT4_1
  iintro ⟨Hc2_1, Hown⟩
  iapply (send_gS0 c (L c) _ (dev10_eq c) 9 6 1 8 1 4 (by decide) (by decide) (by decide) (by decide) (by decide) (by decide) (M := saCc) (M' := raCc) (amt 6) rfl rfl rfl rfl (w := (mAc2 P c)) (X := iprop(emp)) (Entails.of_eq rfl) (land8_1 P c)) $$ [HsaCc0 HdraCc0 Hown Ht6_1 Ht8_1 Hr6_1 HrT8_1]
  · isplitr; · iexact HR
    isplitl [HsaCc0]; · iexact HsaCc0
    isplitl [HdraCc0]; · iexact HdraCc0
    isplitr; · iempintro
    isplitl [Hown]; · iexact Hown
    isplitl [Ht6_1]; · iexact Ht6_1
    isplitl [Hr6_1]; · iexact Hr6_1
    isplitl [Ht8_1]; · iexact Ht8_1
    iexact HrT8_1
  iintro ⟨Hc6_1, Hown⟩
  iapply (wp_end c)
  iapply Hk
  isplitl [Hown]; · iexact Hown
  isplitl [Hc2_1]; · iexact Hc2_1
  iexact Hc6_1

set_option maxHeartbeats 1000000 in
theorem part26 (c : Dev nD) (v24 : BitVec 32) (v28 : BitVec 32) {Q : PUnit → sProp 𝕄} :
    iprop(recs P K ∗ cred (tallyAt (dC c 2) 0 (amt 2)) ∗ atPos ER (dC c 2) 1 ∅ 0 ∗ own c 10 ∗ cred (tallyAt (dC c 4) 4 (amt 4)) ∗ atPos ER (dC c 4) 1 ∅ 0 ∗ cred (tallyAt (dC c 6) 0 (amt 6)) ∗ atPos ER (dC c 6) 1 ∅ 0)
      ⊢ iprop((iprop(own c 10 ∗ atPos ER (dC c 2) 2 ∅ 0 ∗ atPos ER (dC c 4) 2 ∅ 0 ∗ atPos ER (dC c 6) 2 ∅ 0 ∗ eS0 saCw c ∗ gS0 raCw c (mAw2 P (L c)) ∗ eS0 saCc c) -∗ Q (⟨⟩)) -∗ WP c (k0_part26 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 v24 v28) Q) := by
  simp only [k0_part26_eq_skeleton]; unfold k0_part26_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, Hc2_1, Hat2, Hown, Hc4_1, Hat4, Hc6_1, Hat6⟩ Hk
  iapply (wait_dma (P := P) (K := K) (dst := sl0 saCw) c 2 1 10 0 (by decide) (by decide) (by decide) (by decide) (by decide) rfl) $$ [Hc2_1 Hown Hat2]
  · isplitr; · iexact HR
    isplitl [Hc2_1]; · iexact Hc2_1
    isplitl [Hown]; · iexact Hown
    iexact Hat2
  iintro ⟨Hown, Hat2, -, Hpay⟩
  ihave HsaCw0 := (show dmaPay (F := F) P c 2 1 ⊢ eS0 saCw c from Entails.of_eq rfl) $$ Hpay
  iapply (wait_dma (P := P) (K := K) (dst := sl0 raCw) c 4 1 10 4 (by decide) (by decide) (by decide) (by decide) (by decide) rfl) $$ [Hc4_1 Hown Hat4]
  · isplitr; · iexact HR
    isplitl [Hc4_1]; · iexact Hc4_1
    isplitl [Hown]; · iexact Hown
    iexact Hat4
  iintro ⟨Hown, Hat4, -, Hpay⟩
  ihave HraCw0 := (show dmaPay (F := F) P c 4 1 ⊢ gS0 raCw c (mAw2 P (L c)) from Entails.of_eq rfl) $$ Hpay
  iapply (wait_dma (P := P) (K := K) (dst := sl0 saCc) c 6 1 10 0 (by decide) (by decide) (by decide) (by decide) (by decide) rfl) $$ [Hc6_1 Hown Hat6]
  · isplitr; · iexact HR
    isplitl [Hc6_1]; · iexact Hc6_1
    isplitl [Hown]; · iexact Hown
    iexact Hat6
  iintro ⟨Hown, Hat6, -, Hpay⟩
  ihave HsaCc0 := (show dmaPay (F := F) P c 6 1 ⊢ eS0 saCc c from Entails.of_eq rfl) $$ Hpay
  iapply (wp_end c)
  iapply Hk
  isplitl [Hown]; · iexact Hown
  isplitl [Hat2]; · iexact Hat2
  isplitl [Hat4]; · iexact Hat4
  isplitl [Hat6]; · iexact Hat6
  isplitl [HsaCw0]; · iexact HsaCw0
  isplitl [HraCw0]; · iexact HraCw0
  iexact HsaCc0

set_option maxHeartbeats 1000000 in
theorem part27 (c : Dev nD) (v3 : BitVec 32) {Q : PUnit → sProp 𝕄} :
    iprop(recs P K ∗ cred (tallyAt (dC c 8) 4 (amt 8)) ∗ atPos ER (dC c 8) 1 ∅ 0 ∗ own c 10 ∗ gS0 raCw c (mAw2 P (L c)) ∗ oP c (P c))
      ⊢ iprop((iprop(own c 10 ∗ oP c (OA P c) ∗ atPos ER (dC c 8) 2 ∅ 0 ∗ gS0 raCw c (mAw2 P (L c)) ∗ gS0 raCc c (mAc2 P (R c))) -∗ Q (⟨⟩)) -∗ WP c (k0_part27 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v3) Q) := by
  simp only [k0_part27_eq_skeleton]; unfold k0_part27_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, Hc8_1, Hat8, Hown, HraCw0, Ho⟩ Hk
  iapply (wait_dma (P := P) (K := K) (dst := sl0 raCc) c 8 1 10 4 (by decide) (by decide) (by decide) (by decide) (by decide) rfl) $$ [Hc8_1 Hown Hat8]
  · isplitr; · iexact HR
    isplitl [Hc8_1]; · iexact Hc8_1
    isplitl [Hown]; · iexact Hown
    iexact Hat8
  iintro ⟨Hown, Hat8, -, Hpay⟩
  ihave HraCc0 := (show dmaPay (F := F) P c 8 1 ⊢ gS0 raCc c (mAc2 P (R c)) from Entails.of_eq rfl) $$ Hpay
  iapply (load_gS0 c raCw _) $$ HraCw0; iintro HraCw0
  iapply (load_o c (o572 c) (P c)) $$ Ho; iintro Ho
  iapply (load_gS0 c raCc _) $$ HraCc0; iintro HraCc0
  iapply (load_o c (o62 c) (P c)) $$ Ho; iintro Ho
  iapply (load_o c (o572 c) (P c)) $$ Ho; iintro Ho
  iapply (store_o_to c (o572 c) (P c) (OAa P c) (k0_pay33 (mAw2 P (L c)) (rdO (o572 c) (P c))) rfl) $$ Ho; iintro Ho
  iapply (load_o c (o62 c) (OAa P c)) $$ Ho; iintro Ho
  iapply (store_o_to c (o62 c) (OAa P c) (OA P c) (k0_pay34 (mAc2 P (R c)) (rdO (o62 c) (P c))) rfl) $$ Ho; iintro Ho
  iapply (wp_end c)
  iapply Hk
  isplitl [Hown]; · iexact Hown
  isplitl [Ho]; · iexact Ho
  isplitl [Hat8]; · iexact Hat8
  isplitl [HraCw0]; · iexact HraCw0
  iexact HraCc0

end Parts

end Cert.KP

end
-- ==== Proof.PartsB.lean ====
module

public import proofs.«01_k».proof.Proof.Ops
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

/-! # The exchange, phase B: each part of the kernel's program as a step from assertions to assertions -/

section Parts
variable (P : Dev nD → OutC F) (K : Dev nD × Fin 25 → ℕ)

/-! What the landing of a send hands over is what the schedule asks for. -/

theorem land14_0 (c : Dev nD) : iprop(gB0 rbX (p1 c) (mB0l P c) (mB0r P c) ∗ (emp)) ⊢ dmaPay (F := F) P (p1 c) 14 0 := by
  rw [dmaPay14_0]
  show _ ⊢ iprop(gB0 rbX (p1 c) (mB0l P (p1 (p1 c))) (mB0r P (p1 (p1 c))))
  rw [p1_p1]
  exact Laws.sep_emp.1

theorem land15_0 (c : Dev nD) : iprop(gB1 rbX (p2 c) (mB1l P c) (mB1r P c) ∗ (emp)) ⊢ dmaPay (F := F) P (p2 c) 15 0 := by
  rw [dmaPay15_0]
  show _ ⊢ iprop(gB1 rbX (p2 c) (mB1l P (p2 (p2 c))) (mB1r P (p2 (p2 c))))
  rw [p2_p2]
  exact Laws.sep_emp.1

theorem land16_0 (c : Dev nD) : iprop(gB2 rbX (p2 c) (mB2l P c) (mB2r P c) ∗ (emp)) ⊢ dmaPay (F := F) P (p2 c) 16 0 := by
  rw [dmaPay16_0]
  show _ ⊢ iprop(gB2 rbX (p2 c) (mB2l P (p2 (p2 c))) (mB2r P (p2 (p2 c))))
  rw [p2_p2]
  exact Laws.sep_emp.1

theorem land17_0 (c : Dev nD) : iprop(gB3 rbX (p1 c) (mB3l P c) (mB3r P c) ∗ (emp)) ⊢ dmaPay (F := F) P (p1 c) 17 0 := by
  rw [dmaPay17_0]
  show _ ⊢ iprop(gB3 rbX (p1 c) (mB3l P (p1 (p1 c))) (mB3r P (p1 (p1 c))))
  rw [p1_p1]
  exact Laws.sep_emp.1

/-! The parts. -/

set_option maxHeartbeats 1000000 in
theorem part28 (c : Dev nD) (v3 : BitVec 32) (v29 : BitVec 32) (v47 : BitVec 32) {Q : (Σ' (_ : BitVec 32) (_ : BitVec 32) (_ : BitVec 32) (_ : BitVec 32) (_ : BitVec 32), BitVec 32) → sProp 𝕄} :
    iprop(recs P K ∗ oP c (OA P c) ∗ eB0 sbX c)
      ⊢ iprop((∀ v803 : BitVec 32, ∀ v806 : BitVec 32, ∀ v807 : BitVec 32, ∀ v809 : BitVec 32, ∀ v811 : BitVec 32, ∀ v814 : BitVec 32, iprop(oP c (OA P c) ∗ gB0 sbX c (mB0l P c) (mB0r P c)) -∗ Q (⟨v803, v806, v807, v809, v811, v814⟩)) -∗ WP c (k0_part28 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v3 v29 v47) Q) := by
  simp only [k0_part28_eq_skeleton]; unfold k0_part28_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, Ho, Hsb0⟩ Hk
  iapply (load_o c (o7 c) (OA P c)) $$ Ho; iintro Ho
  iapply (load_eBl0 c sbX) $$ Hsb0; iintro %_ Hsb0
  iapply (store_eBl0 c sbX (mB0l P c)) $$ Hsb0; iintro Hsb0
  iapply (load_o c (o8 c) (OA P c)) $$ Ho; iintro Ho
  iapply (load_hBr0 c sbX _) $$ Hsb0; iintro %_ Hsb0
  iapply (store_hBr0 c sbX _ (mB0r P c)) $$ Hsb0; iintro Hsb0
  iapply (wp_end c)
  iapply Hk
  isplitl [Ho]; · iexact Ho
  iexact Hsb0

set_option maxHeartbeats 1000000 in
theorem part29 (c : Dev nD) (v52 : BitVec 32) (v803 : BitVec 32) (v807 : BitVec 32) {Q : PUnit → sProp 𝕄} :
    iprop(recs P K ∗ gB0 sbX c (mB0l P c) (mB0r P c) ∗ eB0 rbX (p1 c) ∗ own c 10 ∗ dutyTok ER (dC c 10) 0 0 ∗ dutyTok ER (dC (p1 c) 14) 0 0 ∗ atPos ER (dC c 10) 0 ∅ 0 ∗ cred (tallyAt (dC c 14) 5 (amt 14)) ∗ atPos ER (dC c 14) 0 ∅ 0)
      ⊢ iprop((iprop(own c 11 ∗ atPos ER (dC c 10) 1 ∅ 0 ∗ atPos ER (dC c 14) 1 ∅ 0 ∗ eB0 sbX c ∗ gB0 rbX c (mB0l P (p1 c)) (mB0r P (p1 c))) -∗ Q (⟨⟩)) -∗ WP c (k0_part29 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v52 v803 v807) Q) := by
  simp only [k0_part29_eq_skeleton]; unfold k0_part29_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, Hsb0, Hdb0, Hown, Ht10_0, Ht14_0, Hat10, Hc14_0, Hat14⟩ Hk
  iapply (send_gB0 c (p1 c) _ (dev11_eq c) 10 10 0 14 0 5 (by decide) (by decide) (by decide) (by decide) (by decide) (by decide) (M := sbX) (M' := rbX) (amt 10) rfl rfl rfl rfl (wl := (mB0l P c)) (wr := (mB0r P c)) (X := iprop(emp)) (Entails.of_eq rfl) (land14_0 P c)) $$ [Hsb0 Hdb0 Hown Ht10_0 Ht14_0]
  · isplitr; · iexact HR
    isplitl [Hsb0]; · iexact Hsb0
    isplitl [Hdb0]; · iexact Hdb0
    isplitr; · iempintro
    isplitl [Hown]; · iexact Hown
    isplitl [Ht10_0]; · iexact Ht10_0
    isplitr; · iapply (reached_dma P K c 10 (by decide) (by decide)); iexact HR
    isplitl [Ht14_0]; · iexact Ht14_0
    iapply (reached_dma P K (p1 c) 14 (by decide) (by decide)); iexact HR
  iintro ⟨Hc10_0, Hown⟩
  iapply (wait_dma (P := P) (K := K) (dst := sb0 sbX) c 10 0 11 0 (by decide) (by decide) (by decide) (by decide) (by decide) rfl) $$ [Hc10_0 Hown Hat10]
  · isplitr; · iexact HR
    isplitl [Hc10_0]; · iexact Hc10_0
    isplitl [Hown]; · iexact Hown
    iexact Hat10
  iintro ⟨Hown, Hat10, -, Hpay⟩
  ihave Hsb0 := (show dmaPay (F := F) P c 10 0 ⊢ eB0 sbX c from Entails.of_eq rfl) $$ Hpay
  iapply (wait_dma (P := P) (K := K) (dst := sb0 rbX) c 14 0 11 5 (by decide) (by decide) (by decide) (by decide) (by decide) rfl) $$ [Hc14_0 Hown Hat14]
  · isplitr; · iexact HR
    isplitl [Hc14_0]; · iexact Hc14_0
    isplitl [Hown]; · iexact Hown
    iexact Hat14
  iintro ⟨Hown, Hat14, -, Hpay⟩
  ihave Hrb0 := (show dmaPay (F := F) P c 14 0 ⊢ gB0 rbX c (mB0l P (p1 c)) (mB0r P (p1 c)) from Entails.of_eq rfl) $$ Hpay
  iapply (wp_end c)
  iapply Hk
  isplitl [Hown]; · iexact Hown
  isplitl [Hat10]; · iexact Hat10
  isplitl [Hat14]; · iexact Hat14
  isplitl [Hsb0]; · iexact Hsb0
  iexact Hrb0

set_option maxHeartbeats 1000000 in
theorem part30 (c : Dev nD) (v803 : BitVec 32) (v806 : BitVec 32) (v807 : BitVec 32) (v814 : BitVec 32) {Q : FVec F S64x512 .bf16 → sProp 𝕄} :
    iprop(recs P K ∗ oP c (OA P c) ∗ gB0 rbX c (mB0l P (p1 c)) (mB0r P (p1 c)) ∗ eB1 sbX c)
      ⊢ iprop((iprop(oP c (OB0 P c) ∗ hB1 sbX c (mB1l P c) ∗ gB0 rbX c (mB0l P (p1 c)) (mB0r P (p1 c))) -∗ Q (k0_pay40 (rdO (o12 c) (OB0 P c)))) -∗ WP c (k0_part30 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v803 v806 v807 v814) Q) := by
  simp only [k0_part30_eq_skeleton]; unfold k0_part30_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, Ho, Hrb0, Hsb1⟩ Hk
  iapply (load_o c (o9 c) (OA P c)) $$ Ho; iintro Ho
  iapply (load_gBl0 c rbX _ _) $$ Hrb0; iintro Hrb0
  iapply (load_o c (o9 c) (OA P c)) $$ Ho; iintro Ho
  iapply (store_o_to c (o9 c) (OA P c) (OB0a P c) (k0_pay37 (rdO (o9 c) (OA P c)) (mB0l P (p1 c))) rfl) $$ Ho; iintro Ho
  iapply (load_o c (o10 c) (OB0a P c)) $$ Ho; iintro Ho
  iapply (load_gBr0 c rbX _ _) $$ Hrb0; iintro Hrb0
  iapply (load_o c (o10 c) (OB0a P c)) $$ Ho; iintro Ho
  iapply (store_o_to c (o10 c) (OB0a P c) (OB0 P c) (k0_pay38 (rdO (o10 c) (OB0a P c)) (mB0r P (p1 c))) rfl) $$ Ho; iintro Ho
  iapply (load_o c (o11 c) (OB0 P c)) $$ Ho; iintro Ho
  iapply (load_eBl1 c sbX) $$ Hsb1; iintro %_ Hsb1
  iapply (store_eBl1 c sbX (mB1l P c)) $$ Hsb1; iintro Hsb1
  iapply (load_o c (o12 c) (OB0 P c)) $$ Ho; iintro Ho
  iapply (wp_end c)
  iapply Hk
  isplitl [Ho]; · iexact Ho
  isplitl [Hsb1]; · iexact Hsb1
  iexact Hrb0

set_option maxHeartbeats 1000000 in
theorem part31 (c : Dev nD) (v57 : BitVec 32) {Q : PUnit → sProp 𝕄} :
    iprop(recs P K ∗ hB1 sbX c (mB1l P c) ∗ eB1 rbX (p2 c) ∗ own c 11 ∗ dutyTok ER (dC c 11) 0 0 ∗ dutyTok ER (dC (p2 c) 15) 0 0 ∗ atPos ER (dC c 11) 0 ∅ 0)
      ⊢ iprop((iprop(own c 12 ∗ atPos ER (dC c 11) 1 ∅ 0 ∗ eB1 sbX c) -∗ Q (⟨⟩)) -∗ WP c (k0_part31 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v57 (k0_pay40 (rdO (o12 c) (OB0 P c)))) Q) := by
  simp only [k0_part31_eq_skeleton]; unfold k0_part31_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, Hsb1, Hdb1, Hown, Ht11_0, Ht15_0, Hat11⟩ Hk
  iapply (load_hBr1 c sbX _) $$ Hsb1; iintro %_ Hsb1
  iapply (store_hBr1 c sbX _ (mB1r P c)) $$ Hsb1; iintro Hsb1
  iapply (send_gB1 c (p2 c) _ (dev12_eq c) 11 11 0 15 0 6 (by decide) (by decide) (by decide) (by decide) (by decide) (by decide) (M := sbX) (M' := rbX) (amt 11) rfl rfl rfl rfl (wl := (mB1l P c)) (wr := (mB1r P c)) (X := iprop(emp)) (Entails.of_eq rfl) (land15_0 P c)) $$ [Hsb1 Hdb1 Hown Ht11_0 Ht15_0]
  · isplitr; · iexact HR
    isplitl [Hsb1]; · iexact Hsb1
    isplitl [Hdb1]; · iexact Hdb1
    isplitr; · iempintro
    isplitl [Hown]; · iexact Hown
    isplitl [Ht11_0]; · iexact Ht11_0
    isplitr; · iapply (reached_dma P K c 11 (by decide) (by decide)); iexact HR
    isplitl [Ht15_0]; · iexact Ht15_0
    iapply (reached_dma P K (p2 c) 15 (by decide) (by decide)); iexact HR
  iintro ⟨Hc11_0, Hown⟩
  iapply (wait_dma (P := P) (K := K) (dst := sb1 sbX) c 11 0 12 0 (by decide) (by decide) (by decide) (by decide) (by decide) rfl) $$ [Hc11_0 Hown Hat11]
  · isplitr; · iexact HR
    isplitl [Hc11_0]; · iexact Hc11_0
    isplitl [Hown]; · iexact Hown
    iexact Hat11
  iintro ⟨Hown, Hat11, -, Hpay⟩
  ihave Hsb1 := (show dmaPay (F := F) P c 11 0 ⊢ eB1 sbX c from Entails.of_eq rfl) $$ Hpay
  iapply (wp_end c)
  iapply Hk
  isplitl [Hown]; · iexact Hown
  isplitl [Hat11]; · iexact Hat11
  iexact Hsb1

set_option maxHeartbeats 1000000 in
theorem part32 (c : Dev nD) (v803 : BitVec 32) (v806 : BitVec 32) (v811 : BitVec 32) {Q : FVec F S64x512 .bf16 → sProp 𝕄} :
    iprop(recs P K ∗ cred (tallyAt (dC c 15) 6 (amt 15)) ∗ atPos ER (dC c 15) 0 ∅ 0 ∗ own c 12 ∗ oP c (OB0 P c))
      ⊢ iprop((iprop(own c 12 ∗ oP c (OB1 P c) ∗ atPos ER (dC c 15) 1 ∅ 0 ∗ gB1 rbX c (mB1l P (p2 c)) (mB1r P (p2 c))) -∗ Q (k0_pay44 (rdO (o13 c) (OB1 P c)))) -∗ WP c (k0_part32 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v803 v806 v811) Q) := by
  simp only [k0_part32_eq_skeleton]; unfold k0_part32_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, Hc15_0, Hat15, Hown, Ho⟩ Hk
  iapply (wait_dma (P := P) (K := K) (dst := sb1 rbX) c 15 0 12 6 (by decide) (by decide) (by decide) (by decide) (by decide) rfl) $$ [Hc15_0 Hown Hat15]
  · isplitr; · iexact HR
    isplitl [Hc15_0]; · iexact Hc15_0
    isplitl [Hown]; · iexact Hown
    iexact Hat15
  iintro ⟨Hown, Hat15, -, Hpay⟩
  ihave Hrb1 := (show dmaPay (F := F) P c 15 0 ⊢ gB1 rbX c (mB1l P (p2 c)) (mB1r P (p2 c)) from Entails.of_eq rfl) $$ Hpay
  iapply (load_o c (o13 c) (OB0 P c)) $$ Ho; iintro Ho
  iapply (load_gBl1 c rbX _ _) $$ Hrb1; iintro Hrb1
  iapply (load_o c (o13 c) (OB0 P c)) $$ Ho; iintro Ho
  iapply (store_o_to c (o13 c) (OB0 P c) (OB1a P c) (k0_pay42 (rdO (o13 c) (OB0 P c)) (mB1l P (p2 c))) rfl) $$ Ho; iintro Ho
  iapply (load_o c (o14 c) (OB1a P c)) $$ Ho; iintro Ho
  iapply (load_gBr1 c rbX _ _) $$ Hrb1; iintro Hrb1
  iapply (load_o c (o14 c) (OB1a P c)) $$ Ho; iintro Ho
  iapply (store_o_to c (o14 c) (OB1a P c) (OB1 P c) (k0_pay43 (rdO (o14 c) (OB1a P c)) (mB1r P (p2 c))) rfl) $$ Ho; iintro Ho
  iapply (load_o c (o13 c) (OB1 P c)) $$ Ho; iintro Ho
  iapply (wp_end c)
  iapply Hk
  isplitl [Hown]; · iexact Hown
  isplitl [Ho]; · iexact Ho
  isplitl [Hat15]; · iexact Hat15
  iexact Hrb1

set_option maxHeartbeats 1000000 in
theorem part33 (c : Dev nD) (v57 : BitVec 32) (v806 : BitVec 32) (v811 : BitVec 32) {Q : PUnit → sProp 𝕄} :
    iprop(recs P K ∗ eB2 sbX c ∗ oP c (OB1 P c) ∗ eB2 rbX (p2 c) ∗ own c 12 ∗ dutyTok ER (dC c 12) 0 0 ∗ dutyTok ER (dC (p2 c) 16) 0 0 ∗ atPos ER (dC c 12) 0 ∅ 0)
      ⊢ iprop((iprop(own c 13 ∗ oP c (OB1 P c) ∗ atPos ER (dC c 12) 1 ∅ 0 ∗ eB2 sbX c) -∗ Q (⟨⟩)) -∗ WP c (k0_part33 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v57 v806 v811 (k0_pay44 (rdO (o13 c) (OB1 P c)))) Q) := by
  simp only [k0_part33_eq_skeleton]; unfold k0_part33_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, Hsb2, Ho, Hdb2, Hown, Ht12_0, Ht16_0, Hat12⟩ Hk
  iapply (load_eBl2 c sbX) $$ Hsb2; iintro %_ Hsb2
  iapply (store_eBl2 c sbX (mB2l P c)) $$ Hsb2; iintro Hsb2
  iapply (load_o c (o14 c) (OB1 P c)) $$ Ho; iintro Ho
  iapply (load_hBr2 c sbX _) $$ Hsb2; iintro %_ Hsb2
  iapply (store_hBr2 c sbX _ (mB2r P c)) $$ Hsb2; iintro Hsb2
  iapply (send_gB2 c (p2 c) _ (dev13_eq c) 12 12 0 16 0 7 (by decide) (by decide) (by decide) (by decide) (by decide) (by decide) (M := sbX) (M' := rbX) (amt 12) rfl rfl rfl rfl (wl := (mB2l P c)) (wr := (mB2r P c)) (X := iprop(emp)) (Entails.of_eq rfl) (land16_0 P c)) $$ [Hsb2 Hdb2 Hown Ht12_0 Ht16_0]
  · isplitr; · iexact HR
    isplitl [Hsb2]; · iexact Hsb2
    isplitl [Hdb2]; · iexact Hdb2
    isplitr; · iempintro
    isplitl [Hown]; · iexact Hown
    isplitl [Ht12_0]; · iexact Ht12_0
    isplitr; · iapply (reached_dma P K c 12 (by decide) (by decide)); iexact HR
    isplitl [Ht16_0]; · iexact Ht16_0
    iapply (reached_dma P K (p2 c) 16 (by decide) (by decide)); iexact HR
  iintro ⟨Hc12_0, Hown⟩
  iapply (wait_dma (P := P) (K := K) (dst := sb2 sbX) c 12 0 13 0 (by decide) (by decide) (by decide) (by decide) (by decide) rfl) $$ [Hc12_0 Hown Hat12]
  · isplitr; · iexact HR
    isplitl [Hc12_0]; · iexact Hc12_0
    isplitl [Hown]; · iexact Hown
    iexact Hat12
  iintro ⟨Hown, Hat12, -, Hpay⟩
  ihave Hsb2 := (show dmaPay (F := F) P c 12 0 ⊢ eB2 sbX c from Entails.of_eq rfl) $$ Hpay
  iapply (wp_end c)
  iapply Hk
  isplitl [Hown]; · iexact Hown
  isplitl [Ho]; · iexact Ho
  isplitl [Hat12]; · iexact Hat12
  iexact Hsb2

set_option maxHeartbeats 1000000 in
theorem part34 (c : Dev nD) (v57 : BitVec 32) (v803 : BitVec 32) (v806 : BitVec 32) (v807 : BitVec 32) (v814 : BitVec 32) {Q : FVec F S128x512 .bf16 → sProp 𝕄} :
    iprop(recs P K ∗ cred (tallyAt (dC c 16) 7 (amt 16)) ∗ atPos ER (dC c 16) 0 ∅ 0 ∗ own c 13 ∗ oP c (OB1 P c) ∗ eB3 sbX c)
      ⊢ iprop((iprop(own c 13 ∗ oP c (OB2 P c) ∗ atPos ER (dC c 16) 1 ∅ 0 ∗ eB3 sbX c ∗ gB2 rbX c (mB2l P (p2 c)) (mB2r P (p2 c))) -∗ Q (k0_pay49 (rdO (o9 c) (OB2 P c)))) -∗ WP c (k0_part34 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v57 v803 v806 v807 v814) Q) := by
  simp only [k0_part34_eq_skeleton]; unfold k0_part34_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, Hc16_0, Hat16, Hown, Ho, Hsb3⟩ Hk
  iapply (wait_dma (P := P) (K := K) (dst := sb2 rbX) c 16 0 13 7 (by decide) (by decide) (by decide) (by decide) (by decide) rfl) $$ [Hc16_0 Hown Hat16]
  · isplitr; · iexact HR
    isplitl [Hc16_0]; · iexact Hc16_0
    isplitl [Hown]; · iexact Hown
    iexact Hat16
  iintro ⟨Hown, Hat16, -, Hpay⟩
  ihave Hrb2 := (show dmaPay (F := F) P c 16 0 ⊢ gB2 rbX c (mB2l P (p2 c)) (mB2r P (p2 c)) from Entails.of_eq rfl) $$ Hpay
  iapply (load_gBl2 c rbX _ _) $$ Hrb2; iintro Hrb2
  iapply (load_o c (o11 c) (OB1 P c)) $$ Ho; iintro Ho
  iapply (store_o_to c (o11 c) (OB1 P c) (OB2a P c) (k0_pay47 (mB2l P (p2 c))) rfl) $$ Ho; iintro Ho
  iapply (load_gBr2 c rbX _ _) $$ Hrb2; iintro Hrb2
  iapply (load_o c (o12 c) (OB2a P c)) $$ Ho; iintro Ho
  iapply (store_o_to c (o12 c) (OB2a P c) (OB2 P c) (k0_pay48 (mB2r P (p2 c))) rfl) $$ Ho; iintro Ho
  iapply (load_o c (o9 c) (OB2 P c)) $$ Ho; iintro Ho
  iapply (load_eBl3 c sbX) $$ Hsb3; iintro %_ Hsb3
  iapply (wp_end c)
  iapply Hk
  isplitl [Hown]; · iexact Hown
  isplitl [Ho]; · iexact Ho
  isplitl [Hat16]; · iexact Hat16
  isplitl [Hsb3]; · iexact Hsb3
  iexact Hrb2

set_option maxHeartbeats 1000000 in
theorem part35 (c : Dev nD) (v52 : BitVec 32) (v806 : BitVec 32) (v807 : BitVec 32) {Q : PUnit → sProp 𝕄} :
    iprop(recs P K ∗ eB3 sbX c ∗ oP c (OB2 P c) ∗ eB3 rbX (p1 c) ∗ own c 13 ∗ dutyTok ER (dC c 13) 0 0 ∗ dutyTok ER (dC (p1 c) 17) 0 0 ∗ atPos ER (dC c 13) 0 ∅ 0)
      ⊢ iprop((iprop(own c 14 ∗ oP c (OB2 P c) ∗ atPos ER (dC c 13) 1 ∅ 0 ∗ eB3 sbX c) -∗ Q (⟨⟩)) -∗ WP c (k0_part35 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v52 v806 v807 (k0_pay49 (rdO (o9 c) (OB2 P c)))) Q) := by
  simp only [k0_part35_eq_skeleton]; unfold k0_part35_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, Hsb3, Ho, Hdb3, Hown, Ht13_0, Ht17_0, Hat13⟩ Hk
  iapply (store_eBl3 c sbX (mB3l P c)) $$ Hsb3; iintro Hsb3
  iapply (load_o c (o10 c) (OB2 P c)) $$ Ho; iintro Ho
  iapply (load_hBr3 c sbX _) $$ Hsb3; iintro %_ Hsb3
  iapply (store_hBr3 c sbX _ (mB3r P c)) $$ Hsb3; iintro Hsb3
  iapply (send_gB3 c (p1 c) _ (dev14_eq c) 13 13 0 17 0 8 (by decide) (by decide) (by decide) (by decide) (by decide) (by decide) (M := sbX) (M' := rbX) (amt 13) rfl rfl rfl rfl (wl := (mB3l P c)) (wr := (mB3r P c)) (X := iprop(emp)) (Entails.of_eq rfl) (land17_0 P c)) $$ [Hsb3 Hdb3 Hown Ht13_0 Ht17_0]
  · isplitr; · iexact HR
    isplitl [Hsb3]; · iexact Hsb3
    isplitl [Hdb3]; · iexact Hdb3
    isplitr; · iempintro
    isplitl [Hown]; · iexact Hown
    isplitl [Ht13_0]; · iexact Ht13_0
    isplitr; · iapply (reached_dma P K c 13 (by decide) (by decide)); iexact HR
    isplitl [Ht17_0]; · iexact Ht17_0
    iapply (reached_dma P K (p1 c) 17 (by decide) (by decide)); iexact HR
  iintro ⟨Hc13_0, Hown⟩
  iapply (wait_dma (P := P) (K := K) (dst := sb3 sbX) c 13 0 14 0 (by decide) (by decide) (by decide) (by decide) (by decide) rfl) $$ [Hc13_0 Hown Hat13]
  · isplitr; · iexact HR
    isplitl [Hc13_0]; · iexact Hc13_0
    isplitl [Hown]; · iexact Hown
    iexact Hat13
  iintro ⟨Hown, Hat13, -, Hpay⟩
  ihave Hsb3 := (show dmaPay (F := F) P c 13 0 ⊢ eB3 sbX c from Entails.of_eq rfl) $$ Hpay
  iapply (wp_end c)
  iapply Hk
  isplitl [Hown]; · iexact Hown
  isplitl [Ho]; · iexact Ho
  isplitl [Hat13]; · iexact Hat13
  iexact Hsb3

set_option maxHeartbeats 1000000 in
theorem part36 (c : Dev nD) (v3 : BitVec 32) (v52 : BitVec 32) (v803 : BitVec 32) (v806 : BitVec 32) (v809 : BitVec 32) {Q : FVec F S256x512 .bf16 → sProp 𝕄} :
    iprop(recs P K ∗ cred (tallyAt (dC c 17) 8 (amt 17)) ∗ atPos ER (dC c 17) 0 ∅ 0 ∗ own c 14 ∗ oP c (OB2 P c))
      ⊢ iprop((iprop(own c 14 ∗ oP c (OB3 P c) ∗ atPos ER (dC c 17) 1 ∅ 0 ∗ gB3 rbX c (mB3l P (p1 c)) (mB3r P (p1 c))) -∗ Q (k0_pay54 (rdO (o15 c) (OB3 P c)))) -∗ WP c (k0_part36 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v3 v52 v803 v806 v809) Q) := by
  simp only [k0_part36_eq_skeleton]; unfold k0_part36_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, Hc17_0, Hat17, Hown, Ho⟩ Hk
  iapply (wait_dma (P := P) (K := K) (dst := sb3 rbX) c 17 0 14 8 (by decide) (by decide) (by decide) (by decide) (by decide) rfl) $$ [Hc17_0 Hown Hat17]
  · isplitr; · iexact HR
    isplitl [Hc17_0]; · iexact Hc17_0
    isplitl [Hown]; · iexact Hown
    iexact Hat17
  iintro ⟨Hown, Hat17, -, Hpay⟩
  ihave Hrb3 := (show dmaPay (F := F) P c 17 0 ⊢ gB3 rbX c (mB3l P (p1 c)) (mB3r P (p1 c)) from Entails.of_eq rfl) $$ Hpay
  iapply (load_gBl3 c rbX _ _) $$ Hrb3; iintro Hrb3
  iapply (load_o c (o7 c) (OB2 P c)) $$ Ho; iintro Ho
  iapply (store_o_to c (o7 c) (OB2 P c) (OB3a P c) (k0_pay52 (mB3l P (p1 c))) rfl) $$ Ho; iintro Ho
  iapply (load_gBr3 c rbX _ _) $$ Hrb3; iintro Hrb3
  iapply (load_o c (o8 c) (OB3a P c)) $$ Ho; iintro Ho
  iapply (store_o_to c (o8 c) (OB3a P c) (OB3 P c) (k0_pay53 (mB3r P (p1 c))) rfl) $$ Ho; iintro Ho
  iapply (load_o c (o15 c) (OB3 P c)) $$ Ho; iintro Ho
  iapply (wp_end c)
  iapply Hk
  isplitl [Hown]; · iexact Hown
  isplitl [Ho]; · iexact Ho
  isplitl [Hat17]; · iexact Hat17
  iexact Hrb3

end Parts

end Cert.KP

end
-- ==== Proof.PartsC.lean ====
module

public import proofs.«01_k».proof.Proof.Ops
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

/-! # The exchange, phase C: each part of the kernel's program as a step from assertions to assertions -/

section Parts
variable (P : Dev nD → OutC F) (K : Dev nD × Fin 25 → ℕ)

/-! What the landing of a send hands over is what the schedule asks for. -/

theorem land20_0 (c : Dev nD) : iprop(gS0 rcCw (R c) (mCw0 P c) ∗ (emp)) ⊢ dmaPay (F := F) P (R c) 20 0 := by
  rw [dmaPay20_0]
  show _ ⊢ iprop(gS0 rcCw (R c) (mCw0 P (L (R c))))
  rw [L_R]
  exact Laws.sep_emp.1

theorem land24_0 (c : Dev nD) : iprop(gS0 rcCc (L c) (mCc0 P c) ∗ (emp)) ⊢ dmaPay (F := F) P (L c) 24 0 := by
  rw [dmaPay24_0]
  show _ ⊢ iprop(gS0 rcCc (L c) (mCc0 P (R (L c))))
  rw [R_L]
  exact Laws.sep_emp.1

theorem land21_0 (c : Dev nD) : iprop(gS1 rcCw (R c) (mCw1 P c) ∗ (eS0 rcCc c ∗ reached ER (dC c 24) 1)) ⊢ dmaPay (F := F) P (R c) 21 0 := by
  rw [dmaPay21_0]
  show _ ⊢ iprop(gS1 rcCw (R c) (mCw1 P (L (R c))) ∗ eS0 rcCc (L (R c)) ∗ reached ER (dC (L (R c)) 24) 1)
  rw [L_R]

theorem land25_0 (c : Dev nD) : iprop(gS1 rcCc (L c) (mCc1 P c) ∗ (eS0 rcCw c ∗ reached ER (dC c 20) 1)) ⊢ dmaPay (F := F) P (L c) 25 0 := by
  rw [dmaPay25_0]
  show _ ⊢ iprop(gS1 rcCc (L c) (mCc1 P (R (L c))) ∗ eS0 rcCw (R (L c)) ∗ reached ER (dC (R (L c)) 20) 1)
  rw [R_L]

theorem land20_1 (c : Dev nD) : iprop(gS0 rcCw (R c) (mCw2 P c) ∗ (emp)) ⊢ dmaPay (F := F) P (R c) 20 1 := by
  rw [dmaPay20_1]
  show _ ⊢ iprop(gS0 rcCw (R c) (mCw2 P (L (R c))))
  rw [L_R]
  exact Laws.sep_emp.1

theorem land24_1 (c : Dev nD) : iprop(gS0 rcCc (L c) (mCc2 P c) ∗ (emp)) ⊢ dmaPay (F := F) P (L c) 24 1 := by
  rw [dmaPay24_1]
  show _ ⊢ iprop(gS0 rcCc (L c) (mCc2 P (R (L c))))
  rw [R_L]
  exact Laws.sep_emp.1

/-! The parts. -/

set_option maxHeartbeats 1000000 in
theorem part37 (c : Dev nD) (v3 : BitVec 32) (v24 : BitVec 32) (v28 : BitVec 32) {Q : PUnit → sProp 𝕄} :
    iprop(recs P K ∗ eS0 scCw c ∗ oP c (OB3 P c) ∗ eS0 scCc c ∗ eS0 rcCw (R c) ∗ own c 14 ∗ dutyTok ER (dC c 18) 0 0 ∗ dutyTok ER (dC (R c) 20) 0 0)
      ⊢ iprop((iprop(own c 15 ∗ oP c (OB3 P c) ∗ gS0 scCc c (mCc0 P c) ∗ cred (tallyAt (dC c 18) 0 (amt 18))) -∗ Q (⟨⟩)) -∗ WP c (k0_part37 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v3 v24 v28 (k0_pay54 (rdO (o15 c) (OB3 P c)))) Q) := by
  simp only [k0_part37_eq_skeleton]; unfold k0_part37_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, HscCw0, Ho, HscCc0, HdrcCw0, Hown, Ht18_0, Ht20_0⟩ Hk
  iapply (load_eS0 c scCw) $$ HscCw0; iintro %_ HscCw0
  iapply (store_eS0 c scCw (mCw0 P c)) $$ HscCw0; iintro HscCw0
  iapply (load_o c (o163 c) (OB3 P c)) $$ Ho; iintro Ho
  iapply (load_eS0 c scCc) $$ HscCc0; iintro %_ HscCc0
  iapply (store_eS0 c scCc (mCc0 P c)) $$ HscCc0; iintro HscCc0
  iapply (send_gS0 c (R c) _ (dev15_eq c) 14 18 0 20 0 9 (by decide) (by decide) (by decide) (by decide) (by decide) (by decide) (M := scCw) (M' := rcCw) (amt 18) rfl rfl rfl rfl (w := (mCw0 P c)) (X := iprop(emp)) (Entails.of_eq rfl) (land20_0 P c)) $$ [HscCw0 HdrcCw0 Hown Ht18_0 Ht20_0]
  · isplitr; · iexact HR
    isplitl [HscCw0]; · iexact HscCw0
    isplitl [HdrcCw0]; · iexact HdrcCw0
    isplitr; · iempintro
    isplitl [Hown]; · iexact Hown
    isplitl [Ht18_0]; · iexact Ht18_0
    isplitr; · iapply (reached_dma P K c 18 (by decide) (by decide)); iexact HR
    isplitl [Ht20_0]; · iexact Ht20_0
    iapply (reached_dma P K (R c) 20 (by decide) (by decide)); iexact HR
  iintro ⟨Hc18_0, Hown⟩
  iapply (wp_end c)
  iapply Hk
  isplitl [Hown]; · iexact Hown
  isplitl [Ho]; · iexact Ho
  isplitl [HscCc0]; · iexact HscCc0
  iexact Hc18_0

set_option maxHeartbeats 1000000 in
theorem part38 (c : Dev nD) (v24 : BitVec 32) {Q : PUnit → sProp 𝕄} :
    iprop(recs P K ∗ gS0 scCc c (mCc0 P c) ∗ eS0 rcCc (L c) ∗ own c 15 ∗ dutyTok ER (dC c 22) 0 0 ∗ dutyTok ER (dC (L c) 24) 0 0 ∗ cred (tallyAt (dC c 18) 0 (amt 18)) ∗ atPos ER (dC c 18) 0 ∅ 0 ∗ cred (tallyAt (dC c 20) 9 (amt 20)) ∗ atPos ER (dC c 20) 0 ∅ 0)
      ⊢ iprop((iprop(own c 16 ∗ atPos ER (dC c 18) 1 ∅ 0 ∗ atPos ER (dC c 20) 1 ∅ 0 ∗ cred (tallyAt (dC c 22) 0 (amt 22)) ∗ reached ER (dC c 18) 1 ∗ eS0 scCw c ∗ reached ER (dC c 20) 1 ∗ gS0 rcCw c (mCw0 P (L c))) -∗ Q (⟨⟩)) -∗ WP c (k0_part38 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v24) Q) := by
  simp only [k0_part38_eq_skeleton]; unfold k0_part38_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, HscCc0, HdrcCc0, Hown, Ht22_0, Ht24_0, Hc18_0, Hat18, Hc20_0, Hat20⟩ Hk
  iapply (send_gS0 c (L c) _ (dev16_eq c) 15 22 0 24 0 9 (by decide) (by decide) (by decide) (by decide) (by decide) (by decide) (M := scCc) (M' := rcCc) (amt 22) rfl rfl rfl rfl (w := (mCc0 P c)) (X := iprop(emp)) (Entails.of_eq rfl) (land24_0 P c)) $$ [HscCc0 HdrcCc0 Hown Ht22_0 Ht24_0]
  · isplitr; · iexact HR
    isplitl [HscCc0]; · iexact HscCc0
    isplitl [HdrcCc0]; · iexact HdrcCc0
    isplitr; · iempintro
    isplitl [Hown]; · iexact Hown
    isplitl [Ht22_0]; · iexact Ht22_0
    isplitr; · iapply (reached_dma P K c 22 (by decide) (by decide)); iexact HR
    isplitl [Ht24_0]; · iexact Ht24_0
    iapply (reached_dma P K (L c) 24 (by decide) (by decide)); iexact HR
  iintro ⟨Hc22_0, Hown⟩
  iapply (wait_dma (P := P) (K := K) (dst := sl0 scCw) c 18 0 16 0 (by decide) (by decide) (by decide) (by decide) (by decide) rfl) $$ [Hc18_0 Hown Hat18]
  · isplitr; · iexact HR
    isplitl [Hc18_0]; · iexact Hc18_0
    isplitl [Hown]; · iexact Hown
    iexact Hat18
  iintro ⟨Hown, Hat18, Hr18_1, Hpay⟩
  ihave HscCw0 := (show dmaPay (F := F) P c 18 0 ⊢ eS0 scCw c from Entails.of_eq rfl) $$ Hpay
  iapply (wait_dma (P := P) (K := K) (dst := sl0 rcCw) c 20 0 16 9 (by decide) (by decide) (by decide) (by decide) (by decide) rfl) $$ [Hc20_0 Hown Hat20]
  · isplitr; · iexact HR
    isplitl [Hc20_0]; · iexact Hc20_0
    isplitl [Hown]; · iexact Hown
    iexact Hat20
  iintro ⟨Hown, Hat20, Hr20_1, Hpay⟩
  ihave HrcCw0 := (show dmaPay (F := F) P c 20 0 ⊢ gS0 rcCw c (mCw0 P (L c)) from Entails.of_eq rfl) $$ Hpay
  iapply (wp_end c)
  iapply Hk
  isplitl [Hown]; · iexact Hown
  isplitl [Hat18]; · iexact Hat18
  isplitl [Hat20]; · iexact Hat20
  isplitl [Hc22_0]; · iexact Hc22_0
  isplitl [Hr18_1]; · iexact Hr18_1
  isplitl [HscCw0]; · iexact HscCw0
  isplitl [Hr20_1]; · iexact Hr20_1
  iexact HrcCw0

set_option maxHeartbeats 1000000 in
theorem part39 (c : Dev nD) (v3 : BitVec 32) (v28 : BitVec 32) {Q : (Σ' (_ : BitVec 32) (_ : FVec F S256x512 .f32), BitVec 32) → sProp 𝕄} :
    iprop(recs P K ∗ cred (tallyAt (dC c 22) 0 (amt 22)) ∗ atPos ER (dC c 22) 0 ∅ 0 ∗ own c 16 ∗ cred (tallyAt (dC c 24) 9 (amt 24)) ∗ atPos ER (dC c 24) 0 ∅ 0 ∗ gS0 rcCw c (mCw0 P (L c)) ∗ oP c (OB3 P c))
      ⊢ iprop((∀ v1131 : BitVec 32, iprop(own c 16 ∗ oP c (OC0a P c) ∗ atPos ER (dC c 22) 1 ∅ 0 ∗ atPos ER (dC c 24) 1 ∅ 0 ∗ gS0 rcCw c (mCw0 P (L c)) ∗ reached ER (dC c 22) 1 ∗ eS0 scCc c ∗ reached ER (dC c 24) 1 ∗ gS0 rcCc c (mCc0 P (R c))) -∗ Q (⟨v1131, k0_pay58 (mCc0 P (R c)), 256#32⟩)) -∗ WP c (k0_part39 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v3 v28) Q) := by
  simp only [k0_part39_eq_skeleton]; unfold k0_part39_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, Hc22_0, Hat22, Hown, Hc24_0, Hat24, HrcCw0, Ho⟩ Hk
  iapply (wait_dma (P := P) (K := K) (dst := sl0 scCc) c 22 0 16 0 (by decide) (by decide) (by decide) (by decide) (by decide) rfl) $$ [Hc22_0 Hown Hat22]
  · isplitr; · iexact HR
    isplitl [Hc22_0]; · iexact Hc22_0
    isplitl [Hown]; · iexact Hown
    iexact Hat22
  iintro ⟨Hown, Hat22, Hr22_1, Hpay⟩
  ihave HscCc0 := (show dmaPay (F := F) P c 22 0 ⊢ eS0 scCc c from Entails.of_eq rfl) $$ Hpay
  iapply (wait_dma (P := P) (K := K) (dst := sl0 rcCc) c 24 0 16 9 (by decide) (by decide) (by decide) (by decide) (by decide) rfl) $$ [Hc24_0 Hown Hat24]
  · isplitr; · iexact HR
    isplitl [Hc24_0]; · iexact Hc24_0
    isplitl [Hown]; · iexact Hown
    iexact Hat24
  iintro ⟨Hown, Hat24, Hr24_1, Hpay⟩
  ihave HrcCc0 := (show dmaPay (F := F) P c 24 0 ⊢ gS0 rcCc c (mCc0 P (R c)) from Entails.of_eq rfl) $$ Hpay
  iapply (load_gS0 c rcCw _) $$ HrcCw0; iintro HrcCw0
  iapply (load_o c (o540 c) (OB3 P c)) $$ Ho; iintro Ho
  iapply (store_o_to c (o540 c) (OB3 P c) (OC0a P c) (k0_pay57 (mCw0 P (L c))) rfl) $$ Ho; iintro Ho
  iapply (load_gS0 c rcCc _) $$ HrcCc0; iintro HrcCc0
  iapply (wp_end c)
  iapply Hk
  isplitl [Hown]; · iexact Hown
  isplitl [Ho]; · iexact Ho
  isplitl [Hat22]; · iexact Hat22
  isplitl [Hat24]; · iexact Hat24
  isplitl [HrcCw0]; · iexact HrcCw0
  isplitl [Hr22_1]; · iexact Hr22_1
  isplitl [HscCc0]; · iexact HscCc0
  isplitl [Hr24_1]; · iexact Hr24_1
  iexact HrcCc0

set_option maxHeartbeats 1000000 in
theorem part40 (c : Dev nD) (v24 : BitVec 32) (v1131 : BitVec 32) (c256_i32_1056 : BitVec 32) {Q : PUnit → sProp 𝕄} :
    iprop(recs P K ∗ oP c (OC0a P c) ∗ gS0 rcCw c (mCw0 P (L c)) ∗ eS1 scCw c ∗ gS0 rcCc c (mCc0 P (R c)) ∗ eS1 scCc c ∗ eS1 rcCw (R c) ∗ own c 16 ∗ dutyTok ER (dC c 19) 0 0 ∗ dutyTok ER (dC (R c) 21) 0 0 ∗ reached ER (dC c 24) 1)
      ⊢ iprop((iprop(own c 17 ∗ oP c (OC0 P c) ∗ gS1 scCc c (mCc1 P c) ∗ gS0 rcCw c (mCw0 P (L c)) ∗ cred (tallyAt (dC c 19) 0 (amt 19))) -∗ Q (⟨⟩)) -∗ WP c (k0_part40 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v24 v1131 (k0_pay58 (mCc0 P (R c))) c256_i32_1056) Q) := by
  simp only [k0_part40_eq_skeleton]; unfold k0_part40_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, Ho, HrcCw0, HscCw1, HrcCc0, HscCc1, HdrcCw1, Hown, Ht19_0, Ht21_0, Hr24_1⟩ Hk
  iapply (load_o c (o160 c) (OC0a P c)) $$ Ho; iintro Ho
  iapply (store_o_to c (o160 c) (OC0a P c) (OC0 P c) (k0_pay59 (k0_pay58 (mCc0 P (R c)))) rfl) $$ Ho; iintro Ho
  iapply (load_gS0 c rcCw _) $$ HrcCw0; iintro HrcCw0
  iapply (load_eS1 c scCw) $$ HscCw1; iintro %_ HscCw1
  iapply (store_eS1 c scCw (mCw1 P c)) $$ HscCw1; iintro HscCw1
  iapply (load_gS0 c rcCc _) $$ HrcCc0; iintro HrcCc0
  iapply (load_eS1 c scCc) $$ HscCc1; iintro %_ HscCc1
  iapply (store_eS1 c scCc (mCc1 P c)) $$ HscCc1; iintro HscCc1
  ihave HrcCc0 := (gS0_e c rcCc _) $$ HrcCc0
  iapply (send_gS1 c (R c) _ (dev17_eq c) 16 19 0 21 0 10 (by decide) (by decide) (by decide) (by decide) (by decide) (by decide) (M := scCw) (M' := rcCw) (amt 19) rfl rfl rfl rfl (w := (mCw1 P c)) (X := iprop(eS0 rcCc c ∗ reached ER (dC c 24) 1)) (Entails.of_eq rfl) (land21_0 P c)) $$ [HscCw1 HdrcCw1 HrcCc0 Hr24_1 Hown Ht19_0 Ht21_0]
  · isplitr; · iexact HR
    isplitl [HscCw1]; · iexact HscCw1
    isplitl [HdrcCw1]; · iexact HdrcCw1
    isplitl [HrcCc0 Hr24_1]; · isplitl [HrcCc0] <;> iassumption
    isplitl [Hown]; · iexact Hown
    isplitl [Ht19_0]; · iexact Ht19_0
    isplitr; · iapply (reached_dma P K c 19 (by decide) (by decide)); iexact HR
    isplitl [Ht21_0]; · iexact Ht21_0
    iapply (reached_dma P K (R c) 21 (by decide) (by decide)); iexact HR
  iintro ⟨Hc19_0, Hown⟩
  iapply (wp_end c)
  iapply Hk
  isplitl [Hown]; · iexact Hown
  isplitl [Ho]; · iexact Ho
  isplitl [HscCc1]; · iexact HscCc1
  isplitl [HrcCw0]; · iexact HrcCw0
  iexact Hc19_0

set_option maxHeartbeats 1000000 in
theorem part41 (c : Dev nD) (v24 : BitVec 32) (v28 : BitVec 32) {Q : PUnit → sProp 𝕄} :
    iprop(recs P K ∗ gS1 scCc c (mCc1 P c) ∗ eS1 rcCc (L c) ∗ own c 17 ∗ dutyTok ER (dC c 23) 0 0 ∗ dutyTok ER (dC (L c) 25) 0 0 ∗ gS0 rcCw c (mCw0 P (L c)) ∗ reached ER (dC c 20) 1 ∗ cred (tallyAt (dC c 19) 0 (amt 19)) ∗ atPos ER (dC c 19) 0 ∅ 0 ∗ cred (tallyAt (dC c 21) 10 (amt 21)) ∗ atPos ER (dC c 21) 0 ∅ 0)
      ⊢ iprop((iprop(own c 18 ∗ atPos ER (dC c 19) 1 ∅ 0 ∗ atPos ER (dC c 21) 1 ∅ 0 ∗ cred (tallyAt (dC c 23) 0 (amt 23)) ∗ eS1 scCw c ∗ gS1 rcCw c (mCw1 P (L c)) ∗ eS0 rcCc (L c) ∗ reached ER (dC (L c) 24) 1) -∗ Q (⟨⟩)) -∗ WP c (k0_part41 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v24 v28) Q) := by
  simp only [k0_part41_eq_skeleton]; unfold k0_part41_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, HscCc1, HdrcCc1, Hown, Ht23_0, Ht25_0, HrcCw0, Hr20_1, Hc19_0, Hat19, Hc21_0, Hat21⟩ Hk
  ihave HrcCw0 := (gS0_e c rcCw _) $$ HrcCw0
  iapply (send_gS1 c (L c) _ (dev18_eq c) 17 23 0 25 0 10 (by decide) (by decide) (by decide) (by decide) (by decide) (by decide) (M := scCc) (M' := rcCc) (amt 23) rfl rfl rfl rfl (w := (mCc1 P c)) (X := iprop(eS0 rcCw c ∗ reached ER (dC c 20) 1)) (Entails.of_eq rfl) (land25_0 P c)) $$ [HscCc1 HdrcCc1 HrcCw0 Hr20_1 Hown Ht23_0 Ht25_0]
  · isplitr; · iexact HR
    isplitl [HscCc1]; · iexact HscCc1
    isplitl [HdrcCc1]; · iexact HdrcCc1
    isplitl [HrcCw0 Hr20_1]; · isplitl [HrcCw0] <;> iassumption
    isplitl [Hown]; · iexact Hown
    isplitl [Ht23_0]; · iexact Ht23_0
    isplitr; · iapply (reached_dma P K c 23 (by decide) (by decide)); iexact HR
    isplitl [Ht25_0]; · iexact Ht25_0
    iapply (reached_dma P K (L c) 25 (by decide) (by decide)); iexact HR
  iintro ⟨Hc23_0, Hown⟩
  iapply (wait_dma (P := P) (K := K) (dst := sl1 scCw) c 19 0 18 0 (by decide) (by decide) (by decide) (by decide) (by decide) rfl) $$ [Hc19_0 Hown Hat19]
  · isplitr; · iexact HR
    isplitl [Hc19_0]; · iexact Hc19_0
    isplitl [Hown]; · iexact Hown
    iexact Hat19
  iintro ⟨Hown, Hat19, -, Hpay⟩
  ihave HscCw1 := (show dmaPay (F := F) P c 19 0 ⊢ eS1 scCw c from Entails.of_eq rfl) $$ Hpay
  iapply (wait_dma (P := P) (K := K) (dst := sl1 rcCw) c 21 0 18 10 (by decide) (by decide) (by decide) (by decide) (by decide) rfl) $$ [Hc21_0 Hown Hat21]
  · isplitr; · iexact HR
    isplitl [Hc21_0]; · iexact Hc21_0
    isplitl [Hown]; · iexact Hown
    iexact Hat21
  iintro ⟨Hown, Hat21, -, Hpay⟩
  ihave Hpay2 := (show dmaPay (F := F) P c 21 0 ⊢ iprop(gS1 rcCw c (mCw1 P (L c)) ∗ eS0 rcCc (L c) ∗ reached ER (dC (L c) 24) 1) from Entails.of_eq rfl) $$ Hpay
  icases Hpay2 with ⟨HrcCw1, HdrcCc0, HrT24_1⟩
  iapply (wp_end c)
  iapply Hk
  isplitl [Hown]; · iexact Hown
  isplitl [Hat19]; · iexact Hat19
  isplitl [Hat21]; · iexact Hat21
  isplitl [Hc23_0]; · iexact Hc23_0
  isplitl [HscCw1]; · iexact HscCw1
  isplitl [HrcCw1]; · iexact HrcCw1
  isplitl [HdrcCc0]; · iexact HdrcCc0
  iexact HrT24_1

set_option maxHeartbeats 1000000 in
theorem part42 (c : Dev nD) (v3 : BitVec 32) (v28 : BitVec 32) {Q : (Σ' (_ : BitVec 32), FVec F S1x256x512 .f32) → sProp 𝕄} :
    iprop(recs P K ∗ cred (tallyAt (dC c 23) 0 (amt 23)) ∗ atPos ER (dC c 23) 0 ∅ 0 ∗ own c 18 ∗ cred (tallyAt (dC c 25) 10 (amt 25)) ∗ atPos ER (dC c 25) 0 ∅ 0 ∗ gS1 rcCw c (mCw1 P (L c)) ∗ oP c (OC0 P c))
      ⊢ iprop((∀ v1210 : BitVec 32, iprop(own c 18 ∗ oP c (OC0 P c) ∗ atPos ER (dC c 23) 1 ∅ 0 ∗ atPos ER (dC c 25) 1 ∅ 0 ∗ gS1 rcCw c (mCw1 P (L c)) ∗ eS1 scCc c ∗ gS1 rcCc c (mCc1 P (R c)) ∗ eS0 rcCw (R c) ∗ reached ER (dC (R c) 20) 1) -∗ Q (⟨v1210, k0_pay62 (mCw1 P (L c))⟩)) -∗ WP c (k0_part42 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v3 v28) Q) := by
  simp only [k0_part42_eq_skeleton]; unfold k0_part42_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, Hc23_0, Hat23, Hown, Hc25_0, Hat25, HrcCw1, Ho⟩ Hk
  iapply (wait_dma (P := P) (K := K) (dst := sl1 scCc) c 23 0 18 0 (by decide) (by decide) (by decide) (by decide) (by decide) rfl) $$ [Hc23_0 Hown Hat23]
  · isplitr; · iexact HR
    isplitl [Hc23_0]; · iexact Hc23_0
    isplitl [Hown]; · iexact Hown
    iexact Hat23
  iintro ⟨Hown, Hat23, -, Hpay⟩
  ihave HscCc1 := (show dmaPay (F := F) P c 23 0 ⊢ eS1 scCc c from Entails.of_eq rfl) $$ Hpay
  iapply (wait_dma (P := P) (K := K) (dst := sl1 rcCc) c 25 0 18 10 (by decide) (by decide) (by decide) (by decide) (by decide) rfl) $$ [Hc25_0 Hown Hat25]
  · isplitr; · iexact HR
    isplitl [Hc25_0]; · iexact Hc25_0
    isplitl [Hown]; · iexact Hown
    iexact Hat25
  iintro ⟨Hown, Hat25, -, Hpay⟩
  ihave Hpay2 := (show dmaPay (F := F) P c 25 0 ⊢ iprop(gS1 rcCc c (mCc1 P (R c)) ∗ eS0 rcCw (R c) ∗ reached ER (dC (R c) 20) 1) from Entails.of_eq rfl) $$ Hpay
  icases Hpay2 with ⟨HrcCc1, HdrcCw0, HrT20_1⟩
  iapply (load_gS1 c rcCw _) $$ HrcCw1; iintro HrcCw1
  iapply (load_o c (o541 c) (OC0 P c)) $$ Ho; iintro Ho
  iapply (wp_end c)
  iapply Hk
  isplitl [Hown]; · iexact Hown
  isplitl [Ho]; · iexact Ho
  isplitl [Hat23]; · iexact Hat23
  isplitl [Hat25]; · iexact Hat25
  isplitl [HrcCw1]; · iexact HrcCw1
  isplitl [HscCc1]; · iexact HscCc1
  isplitl [HrcCc1]; · iexact HrcCc1
  isplitl [HdrcCw0]; · iexact HdrcCw0
  iexact HrT20_1

set_option maxHeartbeats 1000000 in
theorem part43 (c : Dev nD) (v24 : BitVec 32) (v1210 : BitVec 32) {Q : PUnit → sProp 𝕄} :
    iprop(recs P K ∗ oP c (OC0 P c) ∗ gS1 rcCc c (mCc1 P (R c)) ∗ gS1 rcCw c (mCw1 P (L c)) ∗ eS0 scCw c ∗ eS0 scCc c)
      ⊢ iprop((iprop(oP c (OC1 P c) ∗ gS0 scCw c (mCw2 P c) ∗ gS0 scCc c (mCc2 P c) ∗ gS1 rcCw c (mCw1 P (L c)) ∗ gS1 rcCc c (mCc1 P (R c))) -∗ Q (⟨⟩)) -∗ WP c (k0_part43 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v24 v1210 (k0_pay62 (mCw1 P (L c)))) Q) := by
  simp only [k0_part43_eq_skeleton]; unfold k0_part43_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, Ho, HrcCc1, HrcCw1, HscCw0, HscCc0⟩ Hk
  iapply (store_o_to c (o541 c) (OC0 P c) (OC1a P c) (k0_pay62 (mCw1 P (L c))) rfl) $$ Ho; iintro Ho
  iapply (load_gS1 c rcCc _) $$ HrcCc1; iintro HrcCc1
  iapply (load_o c (o161 c) (OC1a P c)) $$ Ho; iintro Ho
  iapply (store_o_to c (o161 c) (OC1a P c) (OC1 P c) (k0_pay63 (mCc1 P (R c))) rfl) $$ Ho; iintro Ho
  iapply (load_gS1 c rcCw _) $$ HrcCw1; iintro HrcCw1
  iapply (load_eS0 c scCw) $$ HscCw0; iintro %_ HscCw0
  iapply (store_eS0 c scCw (mCw2 P c)) $$ HscCw0; iintro HscCw0
  iapply (load_gS1 c rcCc _) $$ HrcCc1; iintro HrcCc1
  iapply (load_eS0 c scCc) $$ HscCc0; iintro %_ HscCc0
  iapply (store_eS0 c scCc (mCc2 P c)) $$ HscCc0; iintro HscCc0
  iapply (wp_end c)
  iapply Hk
  isplitl [Ho]; · iexact Ho
  isplitl [HscCw0]; · iexact HscCw0
  isplitl [HscCc0]; · iexact HscCc0
  isplitl [HrcCw1]; · iexact HrcCw1
  iexact HrcCc1

set_option maxHeartbeats 1000000 in
theorem part44 (c : Dev nD) (v24 : BitVec 32) (v28 : BitVec 32) {Q : PUnit → sProp 𝕄} :
    iprop(recs P K ∗ gS0 scCw c (mCw2 P c) ∗ eS0 rcCw (R c) ∗ own c 18 ∗ dutyTok ER (dC c 18) 1 0 ∗ dutyTok ER (dC (R c) 20) 1 0 ∗ reached ER (dC c 18) 1 ∗ reached ER (dC (R c) 20) 1 ∗ gS0 scCc c (mCc2 P c) ∗ eS0 rcCc (L c) ∗ dutyTok ER (dC c 22) 1 0 ∗ dutyTok ER (dC (L c) 24) 1 0 ∗ reached ER (dC c 22) 1 ∗ reached ER (dC (L c) 24) 1 ∗ atPos ER (dC c 18) 1 ∅ 0)
      ⊢ iprop((iprop(own c 20 ∗ atPos ER (dC c 18) 2 ∅ 0 ∗ cred (tallyAt (dC c 22) 0 (amt 22)) ∗ eS0 scCw c) -∗ Q (⟨⟩)) -∗ WP c (k0_part44 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 c v24 v28) Q) := by
  simp only [k0_part44_eq_skeleton]; unfold k0_part44_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, HscCw0, HdrcCw0, Hown, Ht18_1, Ht20_1, Hr18_1, HrT20_1, HscCc0, HdrcCc0, Ht22_1, Ht24_1, Hr22_1, HrT24_1, Hat18⟩ Hk
  iapply (send_gS0 c (R c) _ (dev19_eq c) 18 18 1 20 1 11 (by decide) (by decide) (by decide) (by decide) (by decide) (by decide) (M := scCw) (M' := rcCw) (amt 18) rfl rfl rfl rfl (w := (mCw2 P c)) (X := iprop(emp)) (Entails.of_eq rfl) (land20_1 P c)) $$ [HscCw0 HdrcCw0 Hown Ht18_1 Ht20_1 Hr18_1 HrT20_1]
  · isplitr; · iexact HR
    isplitl [HscCw0]; · iexact HscCw0
    isplitl [HdrcCw0]; · iexact HdrcCw0
    isplitr; · iempintro
    isplitl [Hown]; · iexact Hown
    isplitl [Ht18_1]; · iexact Ht18_1
    isplitl [Hr18_1]; · iexact Hr18_1
    isplitl [Ht20_1]; · iexact Ht20_1
    iexact HrT20_1
  iintro ⟨Hc18_1, Hown⟩
  iapply (send_gS0 c (L c) _ (dev20_eq c) 19 22 1 24 1 11 (by decide) (by decide) (by decide) (by decide) (by decide) (by decide) (M := scCc) (M' := rcCc) (amt 22) rfl rfl rfl rfl (w := (mCc2 P c)) (X := iprop(emp)) (Entails.of_eq rfl) (land24_1 P c)) $$ [HscCc0 HdrcCc0 Hown Ht22_1 Ht24_1 Hr22_1 HrT24_1]
  · isplitr; · iexact HR
    isplitl [HscCc0]; · iexact HscCc0
    isplitl [HdrcCc0]; · iexact HdrcCc0
    isplitr; · iempintro
    isplitl [Hown]; · iexact Hown
    isplitl [Ht22_1]; · iexact Ht22_1
    isplitl [Hr22_1]; · iexact Hr22_1
    isplitl [Ht24_1]; · iexact Ht24_1
    iexact HrT24_1
  iintro ⟨Hc22_1, Hown⟩
  iapply (wait_dma (P := P) (K := K) (dst := sl0 scCw) c 18 1 20 0 (by decide) (by decide) (by decide) (by decide) (by decide) rfl) $$ [Hc18_1 Hown Hat18]
  · isplitr; · iexact HR
    isplitl [Hc18_1]; · iexact Hc18_1
    isplitl [Hown]; · iexact Hown
    iexact Hat18
  iintro ⟨Hown, Hat18, -, Hpay⟩
  ihave HscCw0 := (show dmaPay (F := F) P c 18 1 ⊢ eS0 scCw c from Entails.of_eq rfl) $$ Hpay
  iapply (wp_end c)
  iapply Hk
  isplitl [Hown]; · iexact Hown
  isplitl [Hat18]; · iexact Hat18
  isplitl [Hc22_1]; · iexact Hc22_1
  iexact HscCw0

set_option maxHeartbeats 1000000 in
theorem part45 (c : Dev nD) (v3 : BitVec 32) (v28 : BitVec 32) {Q : (Σ' (_ : BitVec 32) (_ : BitVec 32), FVec F S256x512 .f32) → sProp 𝕄} :
    iprop(recs P K ∗ cred (tallyAt (dC c 20) 11 (amt 20)) ∗ atPos ER (dC c 20) 1 ∅ 0 ∗ own c 20 ∗ cred (tallyAt (dC c 22) 0 (amt 22)) ∗ atPos ER (dC c 22) 1 ∅ 0 ∗ cred (tallyAt (dC c 24) 11 (amt 24)) ∗ atPos ER (dC c 24) 1 ∅ 0)
      ⊢ iprop((∀ v1287 : BitVec 32, ∀ v1289 : BitVec 32, iprop(own c 20 ∗ atPos ER (dC c 20) 2 ∅ 0 ∗ atPos ER (dC c 22) 2 ∅ 0 ∗ atPos ER (dC c 24) 2 ∅ 0 ∗ gS0 rcCw c (mCw2 P (L c)) ∗ eS0 scCc c ∗ gS0 rcCc c (mCc2 P (R c))) -∗ Q (⟨v1287, v1289, k0_pay66 (mCw2 P (L c))⟩)) -∗ WP c (k0_part45 xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 v3 v28) Q) := by
  simp only [k0_part45_eq_skeleton]; unfold k0_part45_skel
  simp only [Prog.lift, Prog.bind_op, Prog.bind_ret, Prog.pure_eq_ret, Prog.bind_assoc, semA00, semA01, semA10, semA11, semA20, semA21, semA30, semA31, semB00, semB01, semB02, semB03, semB10, semB11, semB12, semB13, semC00, semC01, semC10, semC11, semC20, semC21, semC30, semC31]
  iintro ⟨#HR, Hc20_1, Hat20, Hown, Hc22_1, Hat22, Hc24_1, Hat24⟩ Hk
  iapply (wait_dma (P := P) (K := K) (dst := sl0 rcCw) c 20 1 20 11 (by decide) (by decide) (by decide) (by decide) (by decide) rfl) $$ [Hc20_1 Hown Hat20]
  · isplitr; · iexact HR
    isplitl [Hc20_1]; · iexact Hc20_1
    isplitl [Hown]; · iexact Hown
    iexact Hat20
  iintro ⟨Hown, Hat20, -, Hpay⟩
  ihave HrcCw0 := (show dmaPay (F := F) P c 20 1 ⊢ gS0 rcCw c (mCw2 P (L c)) from Entails.of_eq rfl) $$ Hpay
  iapply (wait_dma (P := P) (K := K) (dst := sl0 scCc) c 22 1 20 0 (by decide) (by decide) (by decide) (by decide) (by decide) rfl) $$ [Hc22_1 Hown Hat22]
  · isplitr; · iexact HR
    isplitl [Hc22_1]; · iexact Hc22_1
    isplitl [Hown]; · iexact Hown
    iexact Hat22
  iintro ⟨Hown, Hat22, -, Hpay⟩
  ihave HscCc0 := (show dmaPay (F := F) P c 22 1 ⊢ eS0 scCc c from Entails.of_eq rfl) $$ Hpay
  iapply (wait_dma (P := P) (K := K) (dst := sl0 rcCc) c 24 1 20 11 (by decide) (by decide) (by decide) (by decide) (by decide) rfl) $$ [Hc24_1 Hown Hat24]
  · isplitr; · iexact HR
    isplitl [Hc24_1]; · iexact Hc24_1
    isplitl [Hown]; · iexact Hown
    iexact Hat24
  iintro ⟨Hown, Hat24, -, Hpay⟩
  ihave HrcCc0 := (show dmaPay (F := F) P c 24 1 ⊢ gS0 rcCc c (mCc2 P (R c)) from Entails.of_eq rfl) $$ Hpay
  iapply (load_gS0 c rcCw _) $$ HrcCw0; iintro HrcCw0
  iapply (wp_end c)
  iapply Hk
  isplitl [Hown]; · iexact Hown
  isplitl [Hat20]; · iexact Hat20
  isplitl [Hat22]; · iexact Hat22
  isplitl [Hat24]; · iexact Hat24
  isplitl [HrcCw0]; · iexact HrcCw0
  isplitl [HscCc0]; · iexact HscCc0
  iexact HrcCc0

end Parts

end Cert.KP

end
-- ==== Proof.Body.lean ====
module

public import proofs.«01_k».proof.Proof.Parts0
public import proofs.«01_k».proof.Proof.PartsA
public import proofs.«01_k».proof.Proof.PartsB
public import proofs.«01_k».proof.Proof.PartsC
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KP

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

/-! # The kernel's body on one device -/

theorem seq_intro {α β : Type} (c : Dev nD) {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := Entails.of_eq (wp_bind _ _ _ _ _ _).symm

set_option maxHeartbeats 0 in
set_option maxRecDepth 65536 in
theorem body (A : Ins F) (K : Dev nD × Fin 25 → ℕ) (c : Dev nD) {Q : PUnit → sProp 𝕄} :
    iprop(recs (PV A) K ∗ own c 0 ∗ xP c (A.x c) ∗ iprop(∃ f, oP c f) ∗ cS 0 c (ctxV A c) ∗ aP (aWq c) c (A.wq c) ∗ aP (aWo c) c (A.wo c) ∗ aP aK c (A.k c) ∗ aP aV c (A.v c) ∗ eW wqM c ∗ eW woM c ∗ eK0 kM c ∗ eK1 kM c ∗ eK0 vM c ∗ eK1 vM c ∗ sv0 c 26 (by decide) ∗ sv0 c 27 (by decide) ∗ sv0 c 28 (by decide) ∗ sv0 c 29 (by decide) ∗ sv0 c 30 (by decide) ∗ sv0 c 31 (by decide) ∗ dutyTok ER (barC (L c)) 0 0 ∗ dutyTok ER (barC (R c)) 0 1 ∗ dutyTok ER (barC (p1 c)) 0 2 ∗ dutyTok ER (barC (p2 c)) 0 3 ∗ cred (tallyAt (barC c) 1 4) ∗ atPos ER (barC c) 0 ∅ 0 ∗ eS0 raCw c ∗ eS1 raCw c ∗ eS0 raCc c ∗ eS1 raCc c ∗ eS0 rcCw c ∗ eS1 rcCw c ∗ eS0 rcCc c ∗ eS1 rcCc c ∗ eB0 rbX c ∗ eB1 rbX c ∗ eB2 rbX c ∗ eB3 rbX c ∗ eS0 saCw c ∗ eS0 saCc c ∗ eS1 saCw c ∗ dutyTok ER (dC c 2) 0 0 ∗ dutyTok ER (dC c 2) 1 0 ∗ dutyTok ER (dC c 3) 0 0 ∗ dutyTok ER (dC (R c) 4) 0 0 ∗ dutyTok ER (dC (R c) 4) 1 0 ∗ dutyTok ER (dC (R c) 5) 0 0 ∗ cred (tallyAt (dC c 4) 2 (amt 4)) ∗ cred (tallyAt (dC c 5) 3 (amt 5)) ∗ cred (tallyAt (dC c 4) 4 (amt 4)) ∗ atPos ER (dC c 2) 0 ∅ 0 ∗ atPos ER (dC c 3) 0 ∅ 0 ∗ atPos ER (dC c 4) 0 ∅ 0 ∗ atPos ER (dC c 5) 0 ∅ 0 ∗ eS1 saCc c ∗ dutyTok ER (dC c 6) 0 0 ∗ dutyTok ER (dC c 6) 1 0 ∗ dutyTok ER (dC c 7) 0 0 ∗ dutyTok ER (dC (L c) 8) 0 0 ∗ dutyTok ER (dC (L c) 8) 1 0 ∗ dutyTok ER (dC (L c) 9) 0 0 ∗ cred (tallyAt (dC c 8) 2 (amt 8)) ∗ cred (tallyAt (dC c 9) 3 (amt 9)) ∗ cred (tallyAt (dC c 8) 4 (amt 8)) ∗ atPos ER (dC c 6) 0 ∅ 0 ∗ atPos ER (dC c 7) 0 ∅ 0 ∗ atPos ER (dC c 8) 0 ∅ 0 ∗ atPos ER (dC c 9) 0 ∅ 0 ∗ eS0 scCw c ∗ eS1 scCw c ∗ dutyTok ER (dC c 18) 0 0 ∗ dutyTok ER (dC c 18) 1 0 ∗ dutyTok ER (dC c 19) 0 0 ∗ dutyTok ER (dC (R c) 20) 0 0 ∗ dutyTok ER (dC (R c) 20) 1 0 ∗ dutyTok ER (dC (R c) 21) 0 0 ∗ cred (tallyAt (dC c 20) 9 (amt 20)) ∗ cred (tallyAt (dC c 21) 10 (amt 21)) ∗ cred (tallyAt (dC c 20) 11 (amt 20)) ∗ atPos ER (dC c 18) 0 ∅ 0 ∗ atPos ER (dC c 19) 0 ∅ 0 ∗ atPos ER (dC c 20) 0 ∅ 0 ∗ atPos ER (dC c 21) 0 ∅ 0 ∗ eS0 scCc c ∗ eS1 scCc c ∗ dutyTok ER (dC c 22) 0 0 ∗ dutyTok ER (dC c 22) 1 0 ∗ dutyTok ER (dC c 23) 0 0 ∗ dutyTok ER (dC (L c) 24) 0 0 ∗ dutyTok ER (dC (L c) 24) 1 0 ∗ dutyTok ER (dC (L c) 25) 0 0 ∗ cred (tallyAt (dC c 24) 9 (amt 24)) ∗ cred (tallyAt (dC c 25) 10 (amt 25)) ∗ cred (tallyAt (dC c 24) 11 (amt 24)) ∗ atPos ER (dC c 22) 0 ∅ 0 ∗ atPos ER (dC c 23) 0 ∅ 0 ∗ atPos ER (dC c 24) 0 ∅ 0 ∗ atPos ER (dC c 25) 0 ∅ 0 ∗ eB0 sbX c ∗ dutyTok ER (dC c 10) 0 0 ∗ dutyTok ER (dC (p1 c) 14) 0 0 ∗ cred (tallyAt (dC c 14) 5 (amt 14)) ∗ atPos ER (dC c 10) 0 ∅ 0 ∗ atPos ER (dC c 14) 0 ∅ 0 ∗ eB1 sbX c ∗ dutyTok ER (dC c 11) 0 0 ∗ dutyTok ER (dC (p2 c) 15) 0 0 ∗ cred (tallyAt (dC c 15) 6 (amt 15)) ∗ atPos ER (dC c 11) 0 ∅ 0 ∗ atPos ER (dC c 15) 0 ∅ 0 ∗ eB2 sbX c ∗ dutyTok ER (dC c 12) 0 0 ∗ dutyTok ER (dC (p2 c) 16) 0 0 ∗ cred (tallyAt (dC c 16) 7 (amt 16)) ∗ atPos ER (dC c 12) 0 ∅ 0 ∗ atPos ER (dC c 16) 0 ∅ 0 ∗ eB3 sbX c ∗ dutyTok ER (dC c 13) 0 0 ∗ dutyTok ER (dC (p1 c) 17) 0 0 ∗ cred (tallyAt (dC c 17) 8 (amt 17)) ∗ atPos ER (dC c 13) 0 ∅ 0 ∗ atPos ER (dC c 17) 0 ∅ 0)
      ⊢ iprop((iprop(xP c (A.x c) ∗ cP c (ctxV A c) ∗ atPos ER (barC c) 1 ∅ 0 ∗ gW wqM c (wqB A c) ∗ aP (aWq c) c (A.wq c) ∗ sv0 c 26 (by decide) ∗ eK0 kM c ∗ sv0 c 28 (by decide) ∗ eK0 vM c ∗ sv0 c 29 (by decide) ∗ eK1 kM c ∗ aP aK c (A.k c) ∗ sv0 c 30 (by decide) ∗ eK1 vM c ∗ aP aV c (A.v c) ∗ sv0 c 31 (by decide) ∗ gW woM c (woB A c) ∗ aP (aWo c) c (A.wo c) ∗ sv0 c 27 (by decide) ∗ own c 20 ∗ oP c (OC2 (PV A) c) ∗ atPos ER (dC c 2) 2 ∅ 0 ∗ atPos ER (dC c 3) 1 ∅ 0 ∗ atPos ER (dC c 4) 2 ∅ 0 ∗ atPos ER (dC c 5) 1 ∅ 0 ∗ atPos ER (dC c 6) 2 ∅ 0 ∗ atPos ER (dC c 7) 1 ∅ 0 ∗ atPos ER (dC c 8) 2 ∅ 0 ∗ atPos ER (dC c 9) 1 ∅ 0 ∗ atPos ER (dC c 18) 2 ∅ 0 ∗ atPos ER (dC c 19) 1 ∅ 0 ∗ atPos ER (dC c 20) 2 ∅ 0 ∗ atPos ER (dC c 21) 1 ∅ 0 ∗ atPos ER (dC c 22) 2 ∅ 0 ∗ atPos ER (dC c 23) 1 ∅ 0 ∗ atPos ER (dC c 24) 2 ∅ 0 ∗ atPos ER (dC c 25) 1 ∅ 0 ∗ atPos ER (dC c 10) 1 ∅ 0 ∗ atPos ER (dC c 14) 1 ∅ 0 ∗ atPos ER (dC c 11) 1 ∅ 0 ∗ atPos ER (dC c 15) 1 ∅ 0 ∗ atPos ER (dC c 12) 1 ∅ 0 ∗ atPos ER (dC c 16) 1 ∅ 0 ∗ atPos ER (dC c 13) 1 ∅ 0 ∗ atPos ER (dC c 17) 1 ∅ 0 ∗ eS1 saCw c ∗ gS1 raCw c (mAw1 (PV A) (L c)) ∗ eS1 saCc c ∗ gS1 raCc c (mAc1 (PV A) (R c)) ∗ eS0 saCw c ∗ gS0 raCw c (mAw2 (PV A) (L c)) ∗ eS0 saCc c ∗ gS0 raCc c (mAc2 (PV A) (R c)) ∗ eB0 sbX c ∗ gB0 rbX c (mB0l (PV A) (p1 c)) (mB0r (PV A) (p1 c)) ∗ eB1 sbX c ∗ gB1 rbX c (mB1l (PV A) (p2 c)) (mB1r (PV A) (p2 c)) ∗ eB2 sbX c ∗ gB2 rbX c (mB2l (PV A) (p2 c)) (mB2r (PV A) (p2 c)) ∗ eB3 sbX c ∗ gB3 rbX c (mB3l (PV A) (p1 c)) (mB3r (PV A) (p1 c)) ∗ eS1 scCw c ∗ gS1 rcCw c (mCw1 (PV A) (L c)) ∗ eS1 scCc c ∗ gS1 rcCc c (mCc1 (PV A) (R c)) ∗ eS0 scCw c ∗ gS0 rcCw c (mCw2 (PV A) (L c)) ∗ eS0 scCc c ∗ gS0 rcCc c (mCc2 (PV A) (R c))) -∗ Q ⟨⟩) -∗ WP c (cc0_body xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18) Q) := by
  simp only [cc0_body_eq_skeleton]; unfold cc0_body_skel
  simp only [k0_part46_eq_skeleton]; unfold k0_part46_skel
  simp only [Prog.lift, Prog.bind_op, Prog.bind_ret, Prog.pure_eq_ret, Prog.bind_assoc]
  iintro ⟨#HR, Hown, Hx, Ho, Hcx, HaWq, HaWo, HaK, HaV, HWq, HWo, HK0, HK1, HV0, HV1, Hs26, Hs27, Hs28, Hs29, Hs30, Hs31, Htb0, Htb1, Htb2, Htb3, Hcb, Hatb, HraCw0, HraCw1, HraCc0, HraCc1, HrcCw0, HrcCw1, HrcCc0, HrcCc1, Hrb0, Hrb1, Hrb2, Hrb3, HsaCw0, HsaCc0, HsaCw1, Ht2_0, Ht2_1, Ht3_0, Ht4_0, Ht4_1, Ht5_0, Hc4_0, Hc5_0, Hc4_1, Hat2, Hat3, Hat4, Hat5, HsaCc1, Ht6_0, Ht6_1, Ht7_0, Ht8_0, Ht8_1, Ht9_0, Hc8_0, Hc9_0, Hc8_1, Hat6, Hat7, Hat8, Hat9, HscCw0, HscCw1, Ht18_0, Ht18_1, Ht19_0, Ht20_0, Ht20_1, Ht21_0, Hc20_0, Hc21_0, Hc20_1, Hat18, Hat19, Hat20, Hat21, HscCc0, HscCc1, Ht22_0, Ht22_1, Ht23_0, Ht24_0, Ht24_1, Ht25_0, Hc24_0, Hc25_0, Hc24_1, Hat22, Hat23, Hat24, Hat25, Hsb0, Ht10_0, Ht14_0, Hc14_0, Hat10, Hat14, Hsb1, Ht11_0, Ht15_0, Hc15_0, Hat11, Hat15, Hsb2, Ht12_0, Ht16_0, Hc16_0, Hat12, Hat16, Hsb3, Ht13_0, Ht17_0, Hc17_0, Hat13, Hat17⟩ Hk
  iapply (seq_intro c)
  iapply (part1 A K c ) $$ []
  · iexact HR
  iintro %v2 %v3 %v20 %v24 %v28 %v29 %v30 %v35 %v37
  try dsimp only
  iapply (seq_intro c)
  iapply (part2 A K c _ _ _ _ _ _ _ _) $$ [HaWq HWq Hs26 HaWo HWo Hs27]
  · isplitr; · iexact HR
    isplitl [HaWq]; · iexact HaWq
    isplitl [HWq]; · iexact HWq
    isplitl [Hs26]; · iexact Hs26
    isplitl [HaWo]; · iexact HaWo
    isplitl [HWo]; · iexact HWo
    iexact Hs27
  iintro %v47 %v52 %v57 ⟨Hf26, Hf27⟩
  try dsimp only
  iapply (seq_intro c)
  iapply (part3 A K c _ _ _ _) $$ [HaK HK0 Hs28 HaV HV0 Hs29 HraCw0 HraCw1 HrcCw0 HrcCw1 Hown Htb0 HraCc0 HraCc1 HrcCc0 HrcCc1 Htb1 Hrb0 Hrb3 Htb2 Hrb1 Hrb2 Htb3 Hcb Hatb Hf26 Hx]
  · isplitr; · iexact HR
    isplitl [HaK]; · iexact HaK
    isplitl [HK0]; · iexact HK0
    isplitl [Hs28]; · iexact Hs28
    isplitl [HaV]; · iexact HaV
    isplitl [HV0]; · iexact HV0
    isplitl [Hs29]; · iexact Hs29
    isplitl [HraCw0]; · iexact HraCw0
    isplitl [HraCw1]; · iexact HraCw1
    isplitl [HrcCw0]; · iexact HrcCw0
    isplitl [HrcCw1]; · iexact HrcCw1
    isplitl [Hown]; · iexact Hown
    isplitl [Htb0]; · iexact Htb0
    isplitl [HraCc0]; · iexact HraCc0
    isplitl [HraCc1]; · iexact HraCc1
    isplitl [HrcCc0]; · iexact HrcCc0
    isplitl [HrcCc1]; · iexact HrcCc1
    isplitl [Htb1]; · iexact Htb1
    isplitl [Hrb0]; · iexact Hrb0
    isplitl [Hrb3]; · iexact Hrb3
    isplitl [Htb2]; · iexact Htb2
    isplitl [Hrb1]; · iexact Hrb1
    isplitl [Hrb2]; · iexact Hrb2
    isplitl [Htb3]; · iexact Htb3
    isplitl [Hcb]; · iexact Hcb
    isplitl [Hatb]; · iexact Hatb
    isplitl [Hf26]; · iexact Hf26
    iexact Hx
  iintro  ⟨Hown, Hx, Hatb, Hf28, Hf29, HdraCw0, HdraCw1, HdrcCw0, HdrcCw1, HdraCc0, HdraCc1, HdrcCc0, HdrcCc1, Hdb0, Hdb3, Hdb1, Hdb2, HWq, HaWq, Hs26⟩
  try dsimp only
  iapply (seq_intro c)
  iapply (part4 A K c ) $$ []
  · iexact HR
  try dsimp only
  iapply (seq_intro c)
  iapply (part5 A K c ) $$ [Hf28 Hown Hf29]
  · isplitr; · iexact HR
    isplitl [Hf28]; · iexact Hf28
    isplitl [Hown]; · iexact Hown
    iexact Hf29
  iintro  ⟨Hown, HK0, HaK, Hs28, HV0, HaV, Hs29⟩
  try dsimp only
  iapply (seq_intro c)
  iapply (part6 A K c ) $$ [HaK HK1 Hs30 HaV HV1 Hs31 HK0 HV0 Hcx]
  · isplitr; · iexact HR
    isplitl [HaK]; · iexact HaK
    isplitl [HK1]; · iexact HK1
    isplitl [Hs30]; · iexact Hs30
    isplitl [HaV]; · iexact HaV
    isplitl [HV1]; · iexact HV1
    isplitl [Hs31]; · iexact Hs31
    isplitl [HK0]; · iexact HK0
    isplitl [HV0]; · iexact HV0
    iexact Hcx
  iintro %v205 ⟨Hcx, HK0, HV0, Hf30, Hf31⟩
  try dsimp only
  iapply (seq_intro c)
  iapply (part7 A K c _) $$ [Hcx Hf30 Hown Hf31 HK0 Hs28]
  · isplitr; · iexact HR
    isplitl [Hcx]; · iexact Hcx
    isplitl [Hf30]; · iexact Hf30
    isplitl [Hown]; · iexact Hown
    isplitl [Hf31]; · iexact Hf31
    isplitl [HK0]; · iexact HK0
    iexact Hs28
  iintro  ⟨Hown, Hcx, HK1, Hs30, HV1, HaV, Hs31, Hf28⟩
  try dsimp only
  iapply (seq_intro c)
  iapply (part8 A K c ) $$ [HaV HV0 Hs29 HK1 HV1 Hcx Hf28 Hown]
  · isplitr; · iexact HR
    isplitl [HaV]; · iexact HaV
    isplitl [HV0]; · iexact HV0
    isplitl [Hs29]; · iexact Hs29
    isplitl [HK1]; · iexact HK1
    isplitl [HV1]; · iexact HV1
    isplitl [Hcx]; · iexact Hcx
    isplitl [Hf28]; · iexact Hf28
    iexact Hown
  iintro  ⟨Hown, Hcx, HK1, HV1, Hf29, HK0, HaK, Hs28⟩
  try dsimp only
  iapply (seq_intro c)
  iapply (part9 A K c ) $$ [Hf29 Hown HaK HK1 Hs30 HV1 Hs31 HK0]
  · isplitr; · iexact HR
    isplitl [Hf29]; · iexact Hf29
    isplitl [Hown]; · iexact Hown
    isplitl [HaK]; · iexact HaK
    isplitl [HK1]; · iexact HK1
    isplitl [Hs30]; · iexact Hs30
    isplitl [HV1]; · iexact HV1
    isplitl [Hs31]; · iexact Hs31
    iexact HK0
  iintro  ⟨Hown, HK0, HV0, Hs29, Hf30, Hf31⟩
  try dsimp only
  iapply (seq_intro c)
  iapply (part10 A K c ) $$ [Hcx Hf30 Hown Hf31]
  · isplitr; · iexact HR
    isplitl [Hcx]; · iexact Hcx
    isplitl [Hf30]; · iexact Hf30
    isplitl [Hown]; · iexact Hown
    iexact Hf31
  iintro  ⟨Hown, Hcx, HK1, HaK, Hs30, HV1, HaV, Hs31⟩
  try dsimp only
  iapply (seq_intro c)
  iapply (part11 A K c ) $$ [HaK HK0 Hs28 HaV HV0 Hs29 HK1 HV1 Hcx]
  · isplitr; · iexact HR
    isplitl [HaK]; · iexact HaK
    isplitl [HK0]; · iexact HK0
    isplitl [Hs28]; · iexact Hs28
    isplitl [HaV]; · iexact HaV
    isplitl [HV0]; · iexact HV0
    isplitl [Hs29]; · iexact Hs29
    isplitl [HK1]; · iexact HK1
    isplitl [HV1]; · iexact HV1
    iexact Hcx
  iintro  ⟨Hcx, HK1, HV1, Hf28, Hf29⟩
  try dsimp only
  iapply (seq_intro c)
  iapply (part12 A K c ) $$ [Hf28 Hown Hf29 HK1 Hs30 HV1 Hs31]
  · isplitr; · iexact HR
    isplitl [Hf28]; · iexact Hf28
    isplitl [Hown]; · iexact Hown
    isplitl [Hf29]; · iexact Hf29
    isplitl [HK1]; · iexact HK1
    isplitl [Hs30]; · iexact Hs30
    isplitl [HV1]; · iexact HV1
    iexact Hs31
  iintro  ⟨Hown, HK0, Hs28, HV0, Hs29, Hf30, Hf31⟩
  try dsimp only
  iapply (seq_intro c)
  iapply (part13 A K c ) $$ [HK0 HV0 Hcx Hf30 Hown]
  · isplitr; · iexact HR
    isplitl [HK0]; · iexact HK0
    isplitl [HV0]; · iexact HV0
    isplitl [Hcx]; · iexact Hcx
    isplitl [Hf30]; · iexact Hf30
    iexact Hown
  iintro  ⟨Hown, Hcx, HK0, HV0, HK1, HaK, Hs30⟩
  try dsimp only
  iapply (seq_intro c)
  iapply (part14 A K c ) $$ [Hf31 Hown HaK HK0 Hs28 HV0 Hs29 HK1]
  · isplitr; · iexact HR
    isplitl [Hf31]; · iexact Hf31
    isplitl [Hown]; · iexact Hown
    isplitl [HaK]; · iexact HaK
    isplitl [HK0]; · iexact HK0
    isplitl [Hs28]; · iexact Hs28
    isplitl [HV0]; · iexact HV0
    isplitl [Hs29]; · iexact Hs29
    iexact HK1
  iintro  ⟨Hown, HK1, HV1, Hs31, Hf28, Hf29⟩
  try dsimp only
  iapply (seq_intro c)
  iapply (part15 A K c ) $$ [Hcx Hf28 Hown Hf29]
  · isplitr; · iexact HR
    isplitl [Hcx]; · iexact Hcx
    isplitl [Hf28]; · iexact Hf28
    isplitl [Hown]; · iexact Hown
    iexact Hf29
  iintro  ⟨Hown, Hcx, HK0, HaK, Hs28, HV0, HaV, Hs29⟩
  try dsimp only
  iapply (seq_intro c)
  iapply (part16 A K c ) $$ [HaK HK1 Hs30 HaV HV1 Hs31 HK0 HV0 Hcx]
  · isplitr; · iexact HR
    isplitl [HaK]; · iexact HaK
    isplitl [HK1]; · iexact HK1
    isplitl [Hs30]; · iexact Hs30
    isplitl [HaV]; · iexact HaV
    isplitl [HV1]; · iexact HV1
    isplitl [Hs31]; · iexact Hs31
    isplitl [HK0]; · iexact HK0
    isplitl [HV0]; · iexact HV0
    iexact Hcx
  iintro  ⟨Hcx, HK0, HV0, Hf30, Hf31⟩
  try dsimp only
  iapply (seq_intro c)
  iapply (part17 A K c ) $$ [Hf30 Hown Hf31]
  · isplitr; · iexact HR
    isplitl [Hf30]; · iexact Hf30
    isplitl [Hown]; · iexact Hown
    iexact Hf31
  iintro  ⟨Hown, HK1, HaK, Hs30, HV1, HaV, Hs31⟩
  try dsimp only
  iapply (seq_intro c)
  iapply (part18 A K c _) $$ [Hcx Hf27 Hown Ho HsaCw0 HsaCc0]
  · isplitr; · iexact HR
    isplitl [Hcx]; · iexact Hcx
    isplitl [Hf27]; · iexact Hf27
    isplitl [Hown]; · iexact Hown
    isplitl [Ho]; · iexact Ho
    isplitl [HsaCw0]; · iexact HsaCw0
    iexact HsaCc0
  iintro  ⟨Hown, Ho, Hcx, HsaCw0, HsaCc0, HWo, HaWo, Hs27⟩
  try dsimp only
  iapply (seq_intro c)
  iapply (part19 (PV A) K c _ _) $$ [HsaCw0 HdraCw0 Hown Ht2_0 Ht4_0 HsaCc0 HdraCc0 Ht6_0 Ht8_0]
  · isplitr; · iexact HR
    isplitl [HsaCw0]; · iexact HsaCw0
    isplitl [HdraCw0]; · iexact HdraCw0
    isplitl [Hown]; · iexact Hown
    isplitl [Ht2_0]; · iexact Ht2_0
    isplitl [Ht4_0]; · iexact Ht4_0
    isplitl [HsaCc0]; · iexact HsaCc0
    isplitl [HdraCc0]; · iexact HdraCc0
    isplitl [Ht6_0]; · iexact Ht6_0
    iexact Ht8_0
  iintro  ⟨Hown, Hc2_0, Hc6_0⟩
  try dsimp only
  iapply (seq_intro c)
  iapply (part20 (PV A) K c _ _) $$ [Hc2_0 Hat2 Hown Hc4_0 Hat4 Hc6_0 Hat6]
  · isplitr; · iexact HR
    isplitl [Hc2_0]; · iexact Hc2_0
    isplitl [Hat2]; · iexact Hat2
    isplitl [Hown]; · iexact Hown
    isplitl [Hc4_0]; · iexact Hc4_0
    isplitl [Hat4]; · iexact Hat4
    isplitl [Hc6_0]; · iexact Hc6_0
    iexact Hat6
  iintro  ⟨Hown, Hat2, Hat4, Hat6, Hr2_1, HsaCw0, Hr4_1, HraCw0, Hr6_1, HsaCc0⟩
  try dsimp only
  iapply (seq_intro c)
  iapply (part21 (PV A) K c _) $$ [Hc8_0 Hat8 Hown HraCw0 Ho HsaCw1 HsaCc1]
  · isplitr; · iexact HR
    isplitl [Hc8_0]; · iexact Hc8_0
    isplitl [Hat8]; · iexact Hat8
    isplitl [Hown]; · iexact Hown
    isplitl [HraCw0]; · iexact HraCw0
    isplitl [Ho]; · iexact Ho
    isplitl [HsaCw1]; · iexact HsaCw1
    iexact HsaCc1
  iintro  ⟨Hown, Ho, HsaCw1, HsaCc1, Hat8, HraCw0, Hr8_1, HraCc0⟩
  try dsimp only
  iapply (seq_intro c)
  iapply (part22 (PV A) K c _ _) $$ [HsaCw1 HdraCw1 Hown Ht3_0 Ht5_0 HraCc0 Hr8_1 HsaCc1 HdraCc1 Ht7_0 Ht9_0 HraCw0 Hr4_1]
  · isplitr; · iexact HR
    isplitl [HsaCw1]; · iexact HsaCw1
    isplitl [HdraCw1]; · iexact HdraCw1
    isplitl [Hown]; · iexact Hown
    isplitl [Ht3_0]; · iexact Ht3_0
    isplitl [Ht5_0]; · iexact Ht5_0
    isplitl [HraCc0]; · iexact HraCc0
    isplitl [Hr8_1]; · iexact Hr8_1
    isplitl [HsaCc1]; · iexact HsaCc1
    isplitl [HdraCc1]; · iexact HdraCc1
    isplitl [Ht7_0]; · iexact Ht7_0
    isplitl [Ht9_0]; · iexact Ht9_0
    isplitl [HraCw0]; · iexact HraCw0
    iexact Hr4_1
  iintro  ⟨Hown, Hc3_0, Hc7_0⟩
  try dsimp only
  iapply (seq_intro c)
  iapply (part23 (PV A) K c _ _) $$ [Hc3_0 Hat3 Hown Hc5_0 Hat5 Hc7_0 Hat7]
  · isplitr; · iexact HR
    isplitl [Hc3_0]; · iexact Hc3_0
    isplitl [Hat3]; · iexact Hat3
    isplitl [Hown]; · iexact Hown
    isplitl [Hc5_0]; · iexact Hc5_0
    isplitl [Hat5]; · iexact Hat5
    isplitl [Hc7_0]; · iexact Hc7_0
    iexact Hat7
  iintro  ⟨Hown, Hat3, Hat5, Hat7, HsaCw1, HraCw1, HdraCc0, HrT8_1, HsaCc1⟩
  try dsimp only
  iapply (seq_intro c)
  iapply (part24 (PV A) K c _) $$ [Hc9_0 Hat9 Hown HraCw1 Ho HsaCw0 HsaCc0]
  · isplitr; · iexact HR
    isplitl [Hc9_0]; · iexact Hc9_0
    isplitl [Hat9]; · iexact Hat9
    isplitl [Hown]; · iexact Hown
    isplitl [HraCw1]; · iexact HraCw1
    isplitl [Ho]; · iexact Ho
    isplitl [HsaCw0]; · iexact HsaCw0
    iexact HsaCc0
  iintro  ⟨Hown, Ho, Hat9, HsaCw0, HsaCc0, HraCw1, HraCc1, HdraCw0, HrT4_1⟩
  try dsimp only
  iapply (seq_intro c)
  iapply (part25 (PV A) K c _ _) $$ [HsaCw0 HdraCw0 Hown Ht2_1 Ht4_1 Hr2_1 HrT4_1 HsaCc0 HdraCc0 Ht6_1 Ht8_1 Hr6_1 HrT8_1]
  · isplitr; · iexact HR
    isplitl [HsaCw0]; · iexact HsaCw0
    isplitl [HdraCw0]; · iexact HdraCw0
    isplitl [Hown]; · iexact Hown
    isplitl [Ht2_1]; · iexact Ht2_1
    isplitl [Ht4_1]; · iexact Ht4_1
    isplitl [Hr2_1]; · iexact Hr2_1
    isplitl [HrT4_1]; · iexact HrT4_1
    isplitl [HsaCc0]; · iexact HsaCc0
    isplitl [HdraCc0]; · iexact HdraCc0
    isplitl [Ht6_1]; · iexact Ht6_1
    isplitl [Ht8_1]; · iexact Ht8_1
    isplitl [Hr6_1]; · iexact Hr6_1
    iexact HrT8_1
  iintro  ⟨Hown, Hc2_1, Hc6_1⟩
  try dsimp only
  iapply (seq_intro c)
  iapply (part26 (PV A) K c _ _) $$ [Hc2_1 Hat2 Hown Hc4_1 Hat4 Hc6_1 Hat6]
  · isplitr; · iexact HR
    isplitl [Hc2_1]; · iexact Hc2_1
    isplitl [Hat2]; · iexact Hat2
    isplitl [Hown]; · iexact Hown
    isplitl [Hc4_1]; · iexact Hc4_1
    isplitl [Hat4]; · iexact Hat4
    isplitl [Hc6_1]; · iexact Hc6_1
    iexact Hat6
  iintro  ⟨Hown, Hat2, Hat4, Hat6, HsaCw0, HraCw0, HsaCc0⟩
  try dsimp only
  iapply (seq_intro c)
  iapply (part27 (PV A) K c _) $$ [Hc8_1 Hat8 Hown HraCw0 Ho]
  · isplitr; · iexact HR
    isplitl [Hc8_1]; · iexact Hc8_1
    isplitl [Hat8]; · iexact Hat8
    isplitl [Hown]; · iexact Hown
    isplitl [HraCw0]; · iexact HraCw0
    iexact Ho
  iintro  ⟨Hown, Ho, Hat8, HraCw0, HraCc0⟩
  try dsimp only
  iapply (seq_intro c)
  iapply (part28 (PV A) K c _ _ _) $$ [Ho Hsb0]
  · isplitr; · iexact HR
    isplitl [Ho]; · iexact Ho
    iexact Hsb0
  iintro %v803 %v806 %v807 %v809 %v811 %v814 ⟨Ho, Hsb0⟩
  try dsimp only
  iapply (seq_intro c)
  iapply (part29 (PV A) K c _ _ _) $$ [Hsb0 Hdb0 Hown Ht10_0 Ht14_0 Hat10 Hc14_0 Hat14]
  · isplitr; · iexact HR
    isplitl [Hsb0]; · iexact Hsb0
    isplitl [Hdb0]; · iexact Hdb0
    isplitl [Hown]; · iexact Hown
    isplitl [Ht10_0]; · iexact Ht10_0
    isplitl [Ht14_0]; · iexact Ht14_0
    isplitl [Hat10]; · iexact Hat10
    isplitl [Hc14_0]; · iexact Hc14_0
    iexact Hat14
  iintro  ⟨Hown, Hat10, Hat14, Hsb0, Hrb0⟩
  try dsimp only
  iapply (seq_intro c)
  iapply (part30 (PV A) K c _ _ _ _) $$ [Ho Hrb0 Hsb1]
  · isplitr; · iexact HR
    isplitl [Ho]; · iexact Ho
    isplitl [Hrb0]; · iexact Hrb0
    iexact Hsb1
  iintro  ⟨Ho, Hsb1, Hrb0⟩
  try dsimp only
  iapply (seq_intro c)
  iapply (part31 (PV A) K c _) $$ [Hsb1 Hdb1 Hown Ht11_0 Ht15_0 Hat11]
  · isplitr; · iexact HR
    isplitl [Hsb1]; · iexact Hsb1
    isplitl [Hdb1]; · iexact Hdb1
    isplitl [Hown]; · iexact Hown
    isplitl [Ht11_0]; · iexact Ht11_0
    isplitl [Ht15_0]; · iexact Ht15_0
    iexact Hat11
  iintro  ⟨Hown, Hat11, Hsb1⟩
  try dsimp only
  iapply (seq_intro c)
  iapply (part32 (PV A) K c _ _ _) $$ [Hc15_0 Hat15 Hown Ho]
  · isplitr; · iexact HR
    isplitl [Hc15_0]; · iexact Hc15_0
    isplitl [Hat15]; · iexact Hat15
    isplitl [Hown]; · iexact Hown
    iexact Ho
  iintro  ⟨Hown, Ho, Hat15, Hrb1⟩
  try dsimp only
  iapply (seq_intro c)
  iapply (part33 (PV A) K c _ _ _) $$ [Hsb2 Ho Hdb2 Hown Ht12_0 Ht16_0 Hat12]
  · isplitr; · iexact HR
    isplitl [Hsb2]; · iexact Hsb2
    isplitl [Ho]; · iexact Ho
    isplitl [Hdb2]; · iexact Hdb2
    isplitl [Hown]; · iexact Hown
    isplitl [Ht12_0]; · iexact Ht12_0
    isplitl [Ht16_0]; · iexact Ht16_0
    iexact Hat12
  iintro  ⟨Hown, Ho, Hat12, Hsb2⟩
  try dsimp only
  iapply (seq_intro c)
  iapply (part34 (PV A) K c _ _ _ _ _) $$ [Hc16_0 Hat16 Hown Ho Hsb3]
  · isplitr; · iexact HR
    isplitl [Hc16_0]; · iexact Hc16_0
    isplitl [Hat16]; · iexact Hat16
    isplitl [Hown]; · iexact Hown
    isplitl [Ho]; · iexact Ho
    iexact Hsb3
  iintro  ⟨Hown, Ho, Hat16, Hsb3, Hrb2⟩
  try dsimp only
  iapply (seq_intro c)
  iapply (part35 (PV A) K c _ _ _) $$ [Hsb3 Ho Hdb3 Hown Ht13_0 Ht17_0 Hat13]
  · isplitr; · iexact HR
    isplitl [Hsb3]; · iexact Hsb3
    isplitl [Ho]; · iexact Ho
    isplitl [Hdb3]; · iexact Hdb3
    isplitl [Hown]; · iexact Hown
    isplitl [Ht13_0]; · iexact Ht13_0
    isplitl [Ht17_0]; · iexact Ht17_0
    iexact Hat13
  iintro  ⟨Hown, Ho, Hat13, Hsb3⟩
  try dsimp only
  iapply (seq_intro c)
  iapply (part36 (PV A) K c _ _ _ _ _) $$ [Hc17_0 Hat17 Hown Ho]
  · isplitr; · iexact HR
    isplitl [Hc17_0]; · iexact Hc17_0
    isplitl [Hat17]; · iexact Hat17
    isplitl [Hown]; · iexact Hown
    iexact Ho
  iintro  ⟨Hown, Ho, Hat17, Hrb3⟩
  try dsimp only
  iapply (seq_intro c)
  iapply (part37 (PV A) K c _ _ _) $$ [HscCw0 Ho HscCc0 HdrcCw0 Hown Ht18_0 Ht20_0]
  · isplitr; · iexact HR
    isplitl [HscCw0]; · iexact HscCw0
    isplitl [Ho]; · iexact Ho
    isplitl [HscCc0]; · iexact HscCc0
    isplitl [HdrcCw0]; · iexact HdrcCw0
    isplitl [Hown]; · iexact Hown
    isplitl [Ht18_0]; · iexact Ht18_0
    iexact Ht20_0
  iintro  ⟨Hown, Ho, HscCc0, Hc18_0⟩
  try dsimp only
  iapply (seq_intro c)
  iapply (part38 (PV A) K c _) $$ [HscCc0 HdrcCc0 Hown Ht22_0 Ht24_0 Hc18_0 Hat18 Hc20_0 Hat20]
  · isplitr; · iexact HR
    isplitl [HscCc0]; · iexact HscCc0
    isplitl [HdrcCc0]; · iexact HdrcCc0
    isplitl [Hown]; · iexact Hown
    isplitl [Ht22_0]; · iexact Ht22_0
    isplitl [Ht24_0]; · iexact Ht24_0
    isplitl [Hc18_0]; · iexact Hc18_0
    isplitl [Hat18]; · iexact Hat18
    isplitl [Hc20_0]; · iexact Hc20_0
    iexact Hat20
  iintro  ⟨Hown, Hat18, Hat20, Hc22_0, Hr18_1, HscCw0, Hr20_1, HrcCw0⟩
  try dsimp only
  iapply (seq_intro c)
  iapply (part39 (PV A) K c _ _) $$ [Hc22_0 Hat22 Hown Hc24_0 Hat24 HrcCw0 Ho]
  · isplitr; · iexact HR
    isplitl [Hc22_0]; · iexact Hc22_0
    isplitl [Hat22]; · iexact Hat22
    isplitl [Hown]; · iexact Hown
    isplitl [Hc24_0]; · iexact Hc24_0
    isplitl [Hat24]; · iexact Hat24
    isplitl [HrcCw0]; · iexact HrcCw0
    iexact Ho
  iintro %v1131 ⟨Hown, Ho, Hat22, Hat24, HrcCw0, Hr22_1, HscCc0, Hr24_1, HrcCc0⟩
  try dsimp only
  iapply (seq_intro c)
  iapply (part40 (PV A) K c _ _ _) $$ [Ho HrcCw0 HscCw1 HrcCc0 HscCc1 HdrcCw1 Hown Ht19_0 Ht21_0 Hr24_1]
  · isplitr; · iexact HR
    isplitl [Ho]; · iexact Ho
    isplitl [HrcCw0]; · iexact HrcCw0
    isplitl [HscCw1]; · iexact HscCw1
    isplitl [HrcCc0]; · iexact HrcCc0
    isplitl [HscCc1]; · iexact HscCc1
    isplitl [HdrcCw1]; · iexact HdrcCw1
    isplitl [Hown]; · iexact Hown
    isplitl [Ht19_0]; · iexact Ht19_0
    isplitl [Ht21_0]; · iexact Ht21_0
    iexact Hr24_1
  iintro  ⟨Hown, Ho, HscCc1, HrcCw0, Hc19_0⟩
  try dsimp only
  iapply (seq_intro c)
  iapply (part41 (PV A) K c _ _) $$ [HscCc1 HdrcCc1 Hown Ht23_0 Ht25_0 HrcCw0 Hr20_1 Hc19_0 Hat19 Hc21_0 Hat21]
  · isplitr; · iexact HR
    isplitl [HscCc1]; · iexact HscCc1
    isplitl [HdrcCc1]; · iexact HdrcCc1
    isplitl [Hown]; · iexact Hown
    isplitl [Ht23_0]; · iexact Ht23_0
    isplitl [Ht25_0]; · iexact Ht25_0
    isplitl [HrcCw0]; · iexact HrcCw0
    isplitl [Hr20_1]; · iexact Hr20_1
    isplitl [Hc19_0]; · iexact Hc19_0
    isplitl [Hat19]; · iexact Hat19
    isplitl [Hc21_0]; · iexact Hc21_0
    iexact Hat21
  iintro  ⟨Hown, Hat19, Hat21, Hc23_0, HscCw1, HrcCw1, HdrcCc0, HrT24_1⟩
  try dsimp only
  iapply (seq_intro c)
  iapply (part42 (PV A) K c _ _) $$ [Hc23_0 Hat23 Hown Hc25_0 Hat25 HrcCw1 Ho]
  · isplitr; · iexact HR
    isplitl [Hc23_0]; · iexact Hc23_0
    isplitl [Hat23]; · iexact Hat23
    isplitl [Hown]; · iexact Hown
    isplitl [Hc25_0]; · iexact Hc25_0
    isplitl [Hat25]; · iexact Hat25
    isplitl [HrcCw1]; · iexact HrcCw1
    iexact Ho
  iintro %v1210 ⟨Hown, Ho, Hat23, Hat25, HrcCw1, HscCc1, HrcCc1, HdrcCw0, HrT20_1⟩
  try dsimp only
  iapply (seq_intro c)
  iapply (part43 (PV A) K c _ _) $$ [Ho HrcCc1 HrcCw1 HscCw0 HscCc0]
  · isplitr; · iexact HR
    isplitl [Ho]; · iexact Ho
    isplitl [HrcCc1]; · iexact HrcCc1
    isplitl [HrcCw1]; · iexact HrcCw1
    isplitl [HscCw0]; · iexact HscCw0
    iexact HscCc0
  iintro  ⟨Ho, HscCw0, HscCc0, HrcCw1, HrcCc1⟩
  try dsimp only
  iapply (seq_intro c)
  iapply (part44 (PV A) K c _ _) $$ [HscCw0 HdrcCw0 Hown Ht18_1 Ht20_1 Hr18_1 HrT20_1 HscCc0 HdrcCc0 Ht22_1 Ht24_1 Hr22_1 HrT24_1 Hat18]
  · isplitr; · iexact HR
    isplitl [HscCw0]; · iexact HscCw0
    isplitl [HdrcCw0]; · iexact HdrcCw0
    isplitl [Hown]; · iexact Hown
    isplitl [Ht18_1]; · iexact Ht18_1
    isplitl [Ht20_1]; · iexact Ht20_1
    isplitl [Hr18_1]; · iexact Hr18_1
    isplitl [HrT20_1]; · iexact HrT20_1
    isplitl [HscCc0]; · iexact HscCc0
    isplitl [HdrcCc0]; · iexact HdrcCc0
    isplitl [Ht22_1]; · iexact Ht22_1
    isplitl [Ht24_1]; · iexact Ht24_1
    isplitl [Hr22_1]; · iexact Hr22_1
    isplitl [HrT24_1]; · iexact HrT24_1
    iexact Hat18
  iintro  ⟨Hown, Hat18, Hc22_1, HscCw0⟩
  try dsimp only
  iapply (seq_intro c)
  iapply (part45 (PV A) K c _ _) $$ [Hc20_1 Hat20 Hown Hc22_1 Hat22 Hc24_1 Hat24]
  · isplitr; · iexact HR
    isplitl [Hc20_1]; · iexact Hc20_1
    isplitl [Hat20]; · iexact Hat20
    isplitl [Hown]; · iexact Hown
    isplitl [Hc22_1]; · iexact Hc22_1
    isplitl [Hat22]; · iexact Hat22
    isplitl [Hc24_1]; · iexact Hc24_1
    iexact Hat24
  iintro %v1287 %v1289 ⟨Hown, Hat20, Hat22, Hat24, HrcCw0, HscCc0, HrcCc0⟩
  try dsimp only
  iapply (load_o c (o542 c) (OC1 (PV A) c)) $$ Ho; iintro Ho
  iapply (store_o_to c (o542 c) (OC1 (PV A) c) (OC2a (PV A) c) (k0_pay67 (k0_pay66 (mCw2 (PV A) (L c)))) rfl) $$ Ho; iintro Ho
  iapply (load_gS0 c rcCc _) $$ HrcCc0; iintro HrcCc0
  iapply (load_o c (o162 c) (OC2a (PV A) c)) $$ Ho; iintro Ho
  iapply (store_o_to c (o162 c) (OC2a (PV A) c) (OC2 (PV A) c) (k0_pay1 (k0_pay68 (mCc2 (PV A) (R c)))) rfl) $$ Ho; iintro Ho
  iapply (wp_end c)
  iapply Hk
  isplitl [Hx]; · iexact Hx
  isplitl [Hcx]; · iexact Hcx
  isplitl [Hatb]; · iexact Hatb
  isplitl [HWq]; · iexact HWq
  isplitl [HaWq]; · iexact HaWq
  isplitl [Hs26]; · iexact Hs26
  isplitl [HK0]; · iexact HK0
  isplitl [Hs28]; · iexact Hs28
  isplitl [HV0]; · iexact HV0
  isplitl [Hs29]; · iexact Hs29
  isplitl [HK1]; · iexact HK1
  isplitl [HaK]; · iexact HaK
  isplitl [Hs30]; · iexact Hs30
  isplitl [HV1]; · iexact HV1
  isplitl [HaV]; · iexact HaV
  isplitl [Hs31]; · iexact Hs31
  isplitl [HWo]; · iexact HWo
  isplitl [HaWo]; · iexact HaWo
  isplitl [Hs27]; · iexact Hs27
  isplitl [Hown]; · iexact Hown
  isplitl [Ho]; · iexact Ho
  isplitl [Hat2]; · iexact Hat2
  isplitl [Hat3]; · iexact Hat3
  isplitl [Hat4]; · iexact Hat4
  isplitl [Hat5]; · iexact Hat5
  isplitl [Hat6]; · iexact Hat6
  isplitl [Hat7]; · iexact Hat7
  isplitl [Hat8]; · iexact Hat8
  isplitl [Hat9]; · iexact Hat9
  isplitl [Hat18]; · iexact Hat18
  isplitl [Hat19]; · iexact Hat19
  isplitl [Hat20]; · iexact Hat20
  isplitl [Hat21]; · iexact Hat21
  isplitl [Hat22]; · iexact Hat22
  isplitl [Hat23]; · iexact Hat23
  isplitl [Hat24]; · iexact Hat24
  isplitl [Hat25]; · iexact Hat25
  isplitl [Hat10]; · iexact Hat10
  isplitl [Hat14]; · iexact Hat14
  isplitl [Hat11]; · iexact Hat11
  isplitl [Hat15]; · iexact Hat15
  isplitl [Hat12]; · iexact Hat12
  isplitl [Hat16]; · iexact Hat16
  isplitl [Hat13]; · iexact Hat13
  isplitl [Hat17]; · iexact Hat17
  isplitl [HsaCw1]; · iexact HsaCw1
  isplitl [HraCw1]; · iexact HraCw1
  isplitl [HsaCc1]; · iexact HsaCc1
  isplitl [HraCc1]; · iexact HraCc1
  isplitl [HsaCw0]; · iexact HsaCw0
  isplitl [HraCw0]; · iexact HraCw0
  isplitl [HsaCc0]; · iexact HsaCc0
  isplitl [HraCc0]; · iexact HraCc0
  isplitl [Hsb0]; · iexact Hsb0
  isplitl [Hrb0]; · iexact Hrb0
  isplitl [Hsb1]; · iexact Hsb1
  isplitl [Hrb1]; · iexact Hrb1
  isplitl [Hsb2]; · iexact Hsb2
  isplitl [Hrb2]; · iexact Hrb2
  isplitl [Hsb3]; · iexact Hsb3
  isplitl [Hrb3]; · iexact Hrb3
  isplitl [HscCw1]; · iexact HscCw1
  isplitl [HrcCw1]; · iexact HrcCw1
  isplitl [HscCc1]; · iexact HscCc1
  isplitl [HrcCc1]; · iexact HrcCc1
  isplitl [HscCw0]; · iexact HscCw0
  isplitl [HrcCw0]; · iexact HrcCw0
  isplitl [HscCc0]; · iexact HscCc0
  iexact HrcCc0

end Cert.KP

end
-- ==== Proof.Slots.lean ====
module

public import proofs.«01_k».proof.Proof.Local
public import proofs.«01_k».proof.Proof.Gen.KernelIdeal.Skeleton
public import Idealize.ShloMosaic.Lib.Transfers
public import Idealize.ShloMosaic.Lib.ValueIdxCore
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KP

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

/-! # A buffer whole, and its slots -/

section Peel
variable {ℓ : Loc nD τ sig} {I J : Finset (Idx ℓ)}
theorem peel (h : I ⊆ J) : (iprop(∃ f, ℓ ↦[J]{fullShare} f) : sProp 𝕄) ⊢ iprop((∃ f, ℓ ↦[I]{fullShare} f) ∗ ∃ f, ℓ ↦[J \ I]{fullShare} f) := by
  iintro ⟨%f, H⟩
  icases (pointsTo_split_subset h).1 $$ H with ⟨H1, H2⟩
  isplitl [H1]
  · iexists f; iexact H1
  · iexists f; iexact H2
theorem unpeel (h : I ⊆ J) : iprop((∃ f, ℓ ↦[I]{fullShare} f) ∗ ∃ f, ℓ ↦[J \ I]{fullShare} f) ⊢ (iprop(∃ f, ℓ ↦[J]{fullShare} f) : sProp 𝕄) := by
  iintro ⟨⟨%f, H1⟩, ⟨%g, H2⟩⟩
  iexists (I.piecewise f g)
  iapply (pointsTo_join_subset h)
  isplitl [H1] <;> iassumption
end Peel
theorem sub_sdiff {α : Type} [DecidableEq α] {I J K : Finset α} (h : I ⊆ J) (hd : Disjoint K I) : I ⊆ J \ K :=
  Finset.subset_sdiff.mpr ⟨h, hd.symm⟩
/-- Slots cut out along rectangles that do not meet do not meet. -/
theorem slot_disjoint {sp : Space} {e : EltTy} {s s1 s2 : Shape} (M : Memref sig .tc sp s e) (r1 r2 : Rect s) (h1 : ∀ a, r1.stride a = 1) (h2 : ∀ a, r2.stride a = 1)
    (q1 : Shape.Squeezes r1.shape s1) (q2 : Shape.Squeezes r2.shape s2) (h : Disjoint r1.set r2.set) :
    Disjoint ((M.slice r1 h1).squeeze s1 q1).view.set ((M.slice r2 h2).squeeze s2 q2).view.set := by
  have e1 : (((M.slice r1 h1).squeeze s1 q1).view.set : Finset M.view.ty.Idx) = r1.set.map M.view.emb := (View.set_reshape _ _).trans (View.set_slice _ _)
  have e2 : (((M.slice r2 h2).squeeze s2 q2).view.set : Finset M.view.ty.Idx) = r2.set.map M.view.emb := (View.set_reshape _ _).trans (View.set_slice _ _)
  have := (Finset.disjoint_map M.view.emb).mpr h
  rw [← e1, ← e2] at this
  exact this
/-- What is left of a two-slot message buffer beside its slots. -/
def restS (M : Memref sig .tc .vmem S2x256x512 .bf16) (c : Dev nD) : sProp 𝕄 := iprop(∃ f, M.view.loc (c : Thread nD τ) ↦[(Finset.univ \ (sl0 M).view.set) \ (sl1 M).view.set]{fullShare} f)
theorem subS1 (M : Memref sig .tc .vmem S2x256x512 .bf16) : (sl1 M).view.set ⊆ (Finset.univ \ (sl0 M).view.set) := by
  exact sub_sdiff (Finset.subset_univ _) (slot_disjoint M rg0 rg1 (fun _ => rfl) (fun _ => rfl) _ _ (Rect.unit_disjoint (0 : Fin 3) (by decide)))
theorem splitS (M : Memref sig .tc .vmem S2x256x512 .bf16) (c : Dev nD) :
    iprop(∃ f, M.view.loc (c : Thread nD τ) ↦[Finset.univ]{fullShare} f) ⊢ iprop(eS0 (F := F) M c ∗ eS1 (F := F) M c ∗ restS M c) := by
  iintro H
  icases (peel (ℓ := M.view.loc (c : Thread nD τ)) (Finset.subset_univ _)) $$ H with ⟨H0, H⟩
  icases (peel (ℓ := M.view.loc (c : Thread nD τ)) (subS1 M)) $$ H with ⟨H1, H⟩
  unfold eS0 eS1 restS
  isplitl [H0]; · iexact H0
  isplitl [H1]; · iexact H1
  iexact H
theorem joinS (M : Memref sig .tc .vmem S2x256x512 .bf16) (c : Dev nD) :
    iprop(eS0 (F := F) M c ∗ eS1 (F := F) M c ∗ restS M c) ⊢ iprop(∃ f, M.view.loc (c : Thread nD τ) ↦[Finset.univ]{fullShare} f) := by
  unfold eS0 eS1 restS
  iintro ⟨H0, H1, H⟩
  ihave H := (unpeel (ℓ := M.view.loc (c : Thread nD τ)) (subS1 M)) $$ [H1 H]
  · isplitl [H1]; · iexact H1
    iexact H
  ihave H := (unpeel (ℓ := M.view.loc (c : Thread nD τ)) (Finset.subset_univ _)) $$ [H0 H]
  · isplitl [H0]; · iexact H0
    iexact H
  iexact H

/-- What is left of a two-slot buffer of heads beside its slots. -/
def restK (M : Memref sig .tc .vmem S2x1024x128 .f32) (c : Dev nD) : sProp 𝕄 := iprop(∃ f, M.view.loc (c : Thread nD τ) ↦[(Finset.univ \ (kl0 M).view.set) \ (kl1 M).view.set]{fullShare} f)
theorem subK1 (M : Memref sig .tc .vmem S2x1024x128 .f32) : (kl1 M).view.set ⊆ (Finset.univ \ (kl0 M).view.set) := by
  exact sub_sdiff (Finset.subset_univ _) (slot_disjoint M rk0 rk1 (fun _ => rfl) (fun _ => rfl) _ _ (Rect.unit_disjoint (0 : Fin 3) (by decide)))
theorem splitK (M : Memref sig .tc .vmem S2x1024x128 .f32) (c : Dev nD) :
    iprop(∃ f, M.view.loc (c : Thread nD τ) ↦[Finset.univ]{fullShare} f) ⊢ iprop(eK0 (F := F) M c ∗ eK1 (F := F) M c ∗ restK M c) := by
  iintro H
  icases (peel (ℓ := M.view.loc (c : Thread nD τ)) (Finset.subset_univ _)) $$ H with ⟨H0, H⟩
  icases (peel (ℓ := M.view.loc (c : Thread nD τ)) (subK1 M)) $$ H with ⟨H1, H⟩
  unfold eK0 eK1 restK
  isplitl [H0]; · iexact H0
  isplitl [H1]; · iexact H1
  iexact H
theorem joinK (M : Memref sig .tc .vmem S2x1024x128 .f32) (c : Dev nD) :
    iprop(eK0 (F := F) M c ∗ eK1 (F := F) M c ∗ restK M c) ⊢ iprop(∃ f, M.view.loc (c : Thread nD τ) ↦[Finset.univ]{fullShare} f) := by
  unfold eK0 eK1 restK
  iintro ⟨H0, H1, H⟩
  ihave H := (unpeel (ℓ := M.view.loc (c : Thread nD τ)) (subK1 M)) $$ [H1 H]
  · isplitl [H1]; · iexact H1
    iexact H
  ihave H := (unpeel (ℓ := M.view.loc (c : Thread nD τ)) (Finset.subset_univ _)) $$ [H0 H]
  · isplitl [H0]; · iexact H0
    iexact H
  iexact H

/-- What is left of a four-slot message buffer beside its slots. -/
def restB (M : Memref sig .tc .vmem S4x128x1024 .bf16) (c : Dev nD) : sProp 𝕄 := iprop(∃ f, M.view.loc (c : Thread nD τ) ↦[(((Finset.univ \ (sb0 M).view.set) \ (sb1 M).view.set) \ (sb2 M).view.set) \ (sb3 M).view.set]{fullShare} f)
theorem subB1 (M : Memref sig .tc .vmem S4x128x1024 .bf16) : (sb1 M).view.set ⊆ (Finset.univ \ (sb0 M).view.set) := by
  exact sub_sdiff (Finset.subset_univ _) (slot_disjoint M bg0 bg1 (fun _ => rfl) (fun _ => rfl) _ _ (Rect.unit_disjoint (0 : Fin 3) (by decide)))
theorem subB2 (M : Memref sig .tc .vmem S4x128x1024 .bf16) : (sb2 M).view.set ⊆ ((Finset.univ \ (sb0 M).view.set) \ (sb1 M).view.set) := by
  exact sub_sdiff (sub_sdiff (Finset.subset_univ _) (slot_disjoint M bg0 bg2 (fun _ => rfl) (fun _ => rfl) _ _ (Rect.unit_disjoint (0 : Fin 3) (by decide)))) (slot_disjoint M bg1 bg2 (fun _ => rfl) (fun _ => rfl) _ _ (Rect.unit_disjoint (0 : Fin 3) (by decide)))
theorem subB3 (M : Memref sig .tc .vmem S4x128x1024 .bf16) : (sb3 M).view.set ⊆ (((Finset.univ \ (sb0 M).view.set) \ (sb1 M).view.set) \ (sb2 M).view.set) := by
  exact sub_sdiff (sub_sdiff (sub_sdiff (Finset.subset_univ _) (slot_disjoint M bg0 bg3 (fun _ => rfl) (fun _ => rfl) _ _ (Rect.unit_disjoint (0 : Fin 3) (by decide)))) (slot_disjoint M bg1 bg3 (fun _ => rfl) (fun _ => rfl) _ _ (Rect.unit_disjoint (0 : Fin 3) (by decide)))) (slot_disjoint M bg2 bg3 (fun _ => rfl) (fun _ => rfl) _ _ (Rect.unit_disjoint (0 : Fin 3) (by decide)))
theorem splitB (M : Memref sig .tc .vmem S4x128x1024 .bf16) (c : Dev nD) :
    iprop(∃ f, M.view.loc (c : Thread nD τ) ↦[Finset.univ]{fullShare} f) ⊢ iprop(eB0 (F := F) M c ∗ eB1 (F := F) M c ∗ eB2 (F := F) M c ∗ eB3 (F := F) M c ∗ restB M c) := by
  iintro H
  icases (peel (ℓ := M.view.loc (c : Thread nD τ)) (Finset.subset_univ _)) $$ H with ⟨H0, H⟩
  icases (peel (ℓ := M.view.loc (c : Thread nD τ)) (subB1 M)) $$ H with ⟨H1, H⟩
  icases (peel (ℓ := M.view.loc (c : Thread nD τ)) (subB2 M)) $$ H with ⟨H2, H⟩
  icases (peel (ℓ := M.view.loc (c : Thread nD τ)) (subB3 M)) $$ H with ⟨H3, H⟩
  unfold eB0 eB1 eB2 eB3 restB
  isplitl [H0]; · iexact H0
  isplitl [H1]; · iexact H1
  isplitl [H2]; · iexact H2
  isplitl [H3]; · iexact H3
  iexact H
theorem joinB (M : Memref sig .tc .vmem S4x128x1024 .bf16) (c : Dev nD) :
    iprop(eB0 (F := F) M c ∗ eB1 (F := F) M c ∗ eB2 (F := F) M c ∗ eB3 (F := F) M c ∗ restB M c) ⊢ iprop(∃ f, M.view.loc (c : Thread nD τ) ↦[Finset.univ]{fullShare} f) := by
  unfold eB0 eB1 eB2 eB3 restB
  iintro ⟨H0, H1, H2, H3, H⟩
  ihave H := (unpeel (ℓ := M.view.loc (c : Thread nD τ)) (subB3 M)) $$ [H3 H]
  · isplitl [H3]; · iexact H3
    iexact H
  ihave H := (unpeel (ℓ := M.view.loc (c : Thread nD τ)) (subB2 M)) $$ [H2 H]
  · isplitl [H2]; · iexact H2
    iexact H
  ihave H := (unpeel (ℓ := M.view.loc (c : Thread nD τ)) (subB1 M)) $$ [H1 H]
  · isplitl [H1]; · iexact H1
    iexact H
  ihave H := (unpeel (ℓ := M.view.loc (c : Thread nD τ)) (Finset.subset_univ _)) $$ [H0 H]
  · isplitl [H0]; · iexact H0
    iexact H
  iexact H

end Cert.KP

end
-- ==== Proof.Deal.lean ====
module

public import proofs.«01_k».proof.Proof.Body
public import proofs.«01_k».proof.Proof.Slots
public import proofs.«01_k».proof.Proof.Gen.KernelIdeal.Skeleton
public import Idealize.ShloMosaic.Lib.Transfers
public import Idealize.ShloMosaic.Lib.ValueIdxCore
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Quiescent
public import Idealize.ShloMosaic.Lib.Pipeline.CollectiveSegs
public import proofs.«01_k».proof.Proof.Gen.KernelIdeal.Points

@[expose] public section

noncomputable section

namespace Cert.KP

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

/-! # The launch: what the devices start from, and what the run leaves -/

/-! ## What a device is dealt -/

/-- The kernel's own semaphores: DMA semaphores 2 to 31. -/
abbrev osem : Fin 30 → SemLoc sig := fun i => .dma (dS (i.val + 2) (by have := i.isLt; omega))

/-- The duties by number: their cell, round and label, and whom device `c` pays them to. -/
def tkT : Fin 36 → Fin 25 := ![0, 0, 0, 0, 1, 1, 2, 3, 3, 4, 5, 5, 6, 7, 7, 8, 17, 17, 18, 19, 19, 20, 21, 21, 22, 23, 23, 24, 9, 13, 10, 14, 11, 15, 12, 16]
def trT : Fin 36 → ℕ := ![0, 0, 0, 0, 0, 1, 0, 0, 1, 0, 0, 1, 0, 0, 1, 0, 0, 1, 0, 0, 1, 0, 0, 1, 0, 0, 1, 0, 0, 0, 0, 0, 0, 0, 0, 0]
def tdT : Fin 36 → Fin 4 := ![0, 1, 2, 3, 0, 0, 0, 0, 0, 0, 0, 0, 0, 0, 0, 0, 0, 0, 0, 0, 0, 0, 0, 0, 0, 0, 0, 0, 0, 0, 0, 0, 0, 0, 0, 0]
def eT : Fin 36 → Dev nD ≃ Dev nD := ![ringE.symm, ringE, p1E, p2E, Equiv.refl _, Equiv.refl _, Equiv.refl _, ringE, ringE, ringE, Equiv.refl _, Equiv.refl _, Equiv.refl _, ringE.symm, ringE.symm, ringE.symm, Equiv.refl _, Equiv.refl _, Equiv.refl _, ringE, ringE, ringE, Equiv.refl _, Equiv.refl _, Equiv.refl _, ringE.symm, ringE.symm, ringE.symm, Equiv.refl _, p1E, Equiv.refl _, p2E, Equiv.refl _, p2E, Equiv.refl _, p1E]

def toks (c : Dev nD) : sProp 𝕄 := bigSep Finset.univ fun j : Fin 36 => dutyTok ER (kcell (c, tkT j)) (trT j) (tdT j)
/-- The tokens of the duties that `c` pays. -/
def payT (c : Dev nD) : sProp 𝕄 := bigSep Finset.univ fun j : Fin 36 => dutyTok ER (kcell (eT j c, tkT j)) (trT j) (tdT j)
/-- The positions at `c`'s own cells. -/
def atsC (c : Dev nD) : sProp 𝕄 := bigSep Finset.univ fun k : Fin 25 => atPos ER (kcell (c, k)) 0 ∅ 0
/-- The credit that `c` waits with. -/
def credsC (c : Dev nD) : sProp 𝕄 := iprop(cred (tallyAt (barC c) 1 4) ∗ cred (tallyAt (dC c 4) 2 (amt 4)) ∗ cred (tallyAt (dC c 5) 3 (amt 5)) ∗ cred (tallyAt (dC c 4) 4 (amt 4)) ∗ cred (tallyAt (dC c 8) 2 (amt 8)) ∗ cred (tallyAt (dC c 9) 3 (amt 9)) ∗ cred (tallyAt (dC c 8) 4 (amt 8)) ∗ cred (tallyAt (dC c 20) 9 (amt 20)) ∗ cred (tallyAt (dC c 21) 10 (amt 21)) ∗ cred (tallyAt (dC c 20) 11 (amt 20)) ∗ cred (tallyAt (dC c 24) 9 (amt 24)) ∗ cred (tallyAt (dC c 25) 10 (amt 25)) ∗ cred (tallyAt (dC c 24) 11 (amt 24)) ∗ cred (tallyAt (dC c 14) 5 (amt 14)) ∗ cred (tallyAt (dC c 15) 6 (amt 15)) ∗ cred (tallyAt (dC c 16) 7 (amt 16)) ∗ cred (tallyAt (dC c 17) 8 (amt 17)))
/-- The semaphores of the local copies. -/
def sv6 (c : Dev nD) : sProp 𝕄 := iprop(sv0 c 26 (by decide) ∗ sv0 c 27 (by decide) ∗ sv0 c 28 (by decide) ∗ sv0 c 29 (by decide) ∗ sv0 c 30 (by decide) ∗ sv0 c 31 (by decide))
/-- The arrays that the kernel reads windows of. -/
def argsP (A : Ins F) (c : Dev nD) : sProp 𝕄 := iprop(aP (aWq c) c (A.wq c) ∗ aP aK c (A.k c) ∗ aP aV c (A.v c) ∗ aP (aWo c) c (A.wo c))

theorem payT_eq (c : Dev nD) : (payT (F := F) c) = iprop(dutyTok ER (barC (L c)) 0 0 ∗ dutyTok ER (barC (R c)) 0 1 ∗ dutyTok ER (barC (p1 c)) 0 2 ∗ dutyTok ER (barC (p2 c)) 0 3 ∗ dutyTok ER (dC c 2) 0 0 ∗ dutyTok ER (dC c 2) 1 0 ∗ dutyTok ER (dC c 3) 0 0 ∗ dutyTok ER (dC (R c) 4) 0 0 ∗ dutyTok ER (dC (R c) 4) 1 0 ∗ dutyTok ER (dC (R c) 5) 0 0 ∗ dutyTok ER (dC c 6) 0 0 ∗ dutyTok ER (dC c 6) 1 0 ∗ dutyTok ER (dC c 7) 0 0 ∗ dutyTok ER (dC (L c) 8) 0 0 ∗ dutyTok ER (dC (L c) 8) 1 0 ∗ dutyTok ER (dC (L c) 9) 0 0 ∗ dutyTok ER (dC c 18) 0 0 ∗ dutyTok ER (dC c 18) 1 0 ∗ dutyTok ER (dC c 19) 0 0 ∗ dutyTok ER (dC (R c) 20) 0 0 ∗ dutyTok ER (dC (R c) 20) 1 0 ∗ dutyTok ER (dC (R c) 21) 0 0 ∗ dutyTok ER (dC c 22) 0 0 ∗ dutyTok ER (dC c 22) 1 0 ∗ dutyTok ER (dC c 23) 0 0 ∗ dutyTok ER (dC (L c) 24) 0 0 ∗ dutyTok ER (dC (L c) 24) 1 0 ∗ dutyTok ER (dC (L c) 25) 0 0 ∗ dutyTok ER (dC c 10) 0 0 ∗ dutyTok ER (dC (p1 c) 14) 0 0 ∗ dutyTok ER (dC c 11) 0 0 ∗ dutyTok ER (dC (p2 c) 15) 0 0 ∗ dutyTok ER (dC c 12) 0 0 ∗ dutyTok ER (dC (p2 c) 16) 0 0 ∗ dutyTok ER (dC c 13) 0 0 ∗ dutyTok ER (dC (p1 c) 17) 0 0) := by
  unfold payT
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34, 35] (by decide) (by decide)]
  rfl
theorem atsC_eq (c : Dev nD) : (atsC (F := F) c) = iprop(atPos ER (barC c) 0 ∅ 0 ∗ atPos ER (dC c 2) 0 ∅ 0 ∗ atPos ER (dC c 3) 0 ∅ 0 ∗ atPos ER (dC c 4) 0 ∅ 0 ∗ atPos ER (dC c 5) 0 ∅ 0 ∗ atPos ER (dC c 6) 0 ∅ 0 ∗ atPos ER (dC c 7) 0 ∅ 0 ∗ atPos ER (dC c 8) 0 ∅ 0 ∗ atPos ER (dC c 9) 0 ∅ 0 ∗ atPos ER (dC c 10) 0 ∅ 0 ∗ atPos ER (dC c 11) 0 ∅ 0 ∗ atPos ER (dC c 12) 0 ∅ 0 ∗ atPos ER (dC c 13) 0 ∅ 0 ∗ atPos ER (dC c 14) 0 ∅ 0 ∗ atPos ER (dC c 15) 0 ∅ 0 ∗ atPos ER (dC c 16) 0 ∅ 0 ∗ atPos ER (dC c 17) 0 ∅ 0 ∗ atPos ER (dC c 18) 0 ∅ 0 ∗ atPos ER (dC c 19) 0 ∅ 0 ∗ atPos ER (dC c 20) 0 ∅ 0 ∗ atPos ER (dC c 21) 0 ∅ 0 ∗ atPos ER (dC c 22) 0 ∅ 0 ∗ atPos ER (dC c 23) 0 ∅ 0 ∗ atPos ER (dC c 24) 0 ∅ 0 ∗ atPos ER (dC c 25) 0 ∅ 0) := by
  unfold atsC
  rw [bigSep_univ_eq_bigSepL [0, 1, 2, 3, 4, 5, 6, 7, 8, 9, 10, 11, 12, 13, 14, 15, 16, 17, 18, 19, 20, 21, 22, 23, 24] (by decide) (by decide)]
  rfl

/-! ## Around the body on one device: the buffers cut into their slots before it and joined after it, the cells closed -/

theorem whole_eW (c : Dev nD) (M : Memref sig .tc .vmem S1024x1024 .f32) (h : M.view.set = Finset.univ) :
    iprop(∃ f, M.view.loc (c : Thread nD τ) ↦[Finset.univ]{fullShare} f) ⊢ eW (F := F) M c := by
  unfold eW; rw [h]
theorem eW_whole (c : Dev nD) (M : Memref sig .tc .vmem S1024x1024 .f32) (h : M.view.set = Finset.univ) :
    eW (F := F) M c ⊢ iprop(∃ f, M.view.loc (c : Thread nD τ) ↦[Finset.univ]{fullShare} f) := by
  unfold eW; rw [h]
theorem close_dma (P : Dev nD → OutC F) (K : Dev nD × Fin 25 → ℕ) (c : Dev nD) (n m : ℕ) (h2 : 2 ≤ n) (h : n < 26) (hm : ∀ r, m ≤ r → ¬ live n r) :
    iprop(recs P K ∗ atPos ER (dC c n (by omega)) m ∅ 0) ⊢ iprop(|={Set.univ}=> semVal (dC c n (by omega)) 0) := by
  iintro ⟨#HR, H⟩
  iapply (Rounds.cell_close ER (Rd P) (Set.mem_univ (K (c, ki n h2 h))) (fun h => h) (duties_dma_later P c n _ m hm))
  isplitr
  · iapply (inv_dma P K c n h2 h); iexact HR
  iexact H
theorem close_bar (P : Dev nD → OutC F) (K : Dev nD × Fin 25 → ℕ) (c : Dev nD) :
    iprop(recs P K ∗ atPos ER (barC c) 1 ∅ 0) ⊢ iprop(|={Set.univ}=> semVal (barC c) 0) := by
  iintro ⟨#HR, H⟩
  iapply (Rounds.cell_close ER (Rd P) (Set.mem_univ (K (c, 0))) (fun h => h) (duties_bar_later P c))
  isplitr
  · iapply (inv_bar P K c); iexact HR
  iexact H

theorem ownSems0_eq (c : Dev nD) : (Pipeline.ownSems0 (Ix := ℕ) (Name := ℕ) (U := UU) (Lvl := ℕ) (Val := Elt F) (τ := τ) osem c : sProp 𝕄)
    = iprop(semVal (dC c 2) 0 ∗ semVal (dC c 3) 0 ∗ semVal (dC c 4) 0 ∗ semVal (dC c 5) 0 ∗ semVal (dC c 6) 0 ∗ semVal (dC c 7) 0 ∗ semVal (dC c 8) 0 ∗ semVal (dC c 9) 0 ∗ semVal (dC c 10) 0 ∗ semVal (dC c 11) 0 ∗ semVal (dC c 12) 0 ∗ semVal (dC c 13) 0 ∗ semVal (dC c 14) 0 ∗ semVal (dC c 15) 0 ∗ semVal (dC c 16) 0 ∗ semVal (dC c 17) 0 ∗ semVal (dC c 18) 0 ∗ semVal (dC c 19) 0 ∗ semVal (dC c 20) 0 ∗ semVal (dC c 21) 0 ∗ semVal (dC c 22) 0 ∗ semVal (dC c 23) 0 ∗ semVal (dC c 24) 0 ∗ semVal (dC c 25) 0 ∗ semVal (dC c 26) 0 ∗ semVal (dC c 27) 0 ∗ semVal (dC c 28) 0 ∗ semVal (dC c 29) 0 ∗ semVal (dC c 30) 0 ∗ semVal (dC c 31) 0) := by
  rw [Pipeline.ownSems0_eq_of_list c osem [0, 1, 2, 3, 4, 5, 6, 7, 8, 9, 10, 11, 12, 13, 14, 15, 16, 17, 18, 19, 20, 21, 22, 23, 24, 25, 26, 27, 28, 29] (by decide) (by decide)]; rfl
theorem unscopedSems0_eq (c : Dev nD) : (unscopedSems0 c : sProp 𝕄) = semVal (barC c) 0 := by
  unfold unscopedSems0; rw [bigSep_eq_bigSepL_of_eq [SemLoc.reg barS] (by decide) (by decide)]; rfl

/-- What the body leaves beside the two staged arrays. -/
def Φ₁ (A : Ins F) (c : Dev nD) : sProp 𝕄 :=
  iprop((argsP A c ∗ unscopedSems0 c) ∗ Pipeline.ownSems0 (Ix := ℕ) (Name := ℕ) (U := UU) (Lvl := ℕ) (Val := Elt F) (τ := τ) osem c ∗ Pipeline.scopedRest cfg0.spec c)

set_option maxHeartbeats 0 in
set_option maxRecDepth 65536 in
theorem sound (A : Ins F) (K : Dev nD × Fin 25 → ℕ) (c : Dev nD) :
    iprop(recs (PV A) K ∗ own c 0 ∗ xP c (A.x c) ∗ iprop(∃ f, oP c f) ∗ atsC c ∗ payT c ∗ credsC c ∗ argsP A c ∗ sv6 c ∗ Pipeline.scopedRest cfg0.spec c)
      ⊢ WP c (cc0_body xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18) (fun _ => iprop(xP c (A.x c) ∗ oP c (OC2 (PV A) c) ∗ own c 20 ∗ Φ₁ A c)) := by
  rw [payT_eq, atsC_eq, show (Pipeline.scopedRest cfg0.spec c : sProp 𝕄) = _ from scopedRest0_eq c]
  unfold credsC argsP sv6
  iintro ⟨#HR, Hown, Hx, Ho, ⟨Hatb, Hat2, Hat3, Hat4, Hat5, Hat6, Hat7, Hat8, Hat9, Hat10, Hat11, Hat12, Hat13, Hat14, Hat15, Hat16, Hat17, Hat18, Hat19, Hat20, Hat21, Hat22, Hat23, Hat24, Hat25⟩, ⟨Htb0, Htb1, Htb2, Htb3, Ht2_0, Ht2_1, Ht3_0, Ht4_0, Ht4_1, Ht5_0, Ht6_0, Ht6_1, Ht7_0, Ht8_0, Ht8_1, Ht9_0, Ht18_0, Ht18_1, Ht19_0, Ht20_0, Ht20_1, Ht21_0, Ht22_0, Ht22_1, Ht23_0, Ht24_0, Ht24_1, Ht25_0, Ht10_0, Ht14_0, Ht11_0, Ht15_0, Ht12_0, Ht16_0, Ht13_0, Ht17_0⟩, ⟨Hcb, Hc4_0, Hc5_0, Hc4_1, Hc8_0, Hc9_0, Hc8_1, Hc20_0, Hc21_0, Hc20_1, Hc24_0, Hc25_0, Hc24_1, Hc14_0, Hc15_0, Hc16_0, Hc17_0⟩, ⟨HaWq, HaK, HaV, HaWo⟩, ⟨Hs26, Hs27, Hs28, Hs29, Hs30, Hs31⟩, Z0, Z1, Z2, Z3, Z4, Z5, Z6, Z7, Z8, Z9, Z10, Z11, Z12, Z13, Z14⟩
  iapply (wp_fupd _ _ _ _ _)
  icases Z4 with ⟨%fc, Z4⟩
  ihave Hcx := (show iprop(((c : Thread nD τ).loc cc0_scratch4) ↦{fullShare} fc) ⊢ cS 0 c (ctxV A c) from cS_zero c (ctxV A c) fc) $$ Z4
  ihave HWq := (whole_eW c wqM (View.set_whole _)) $$ Z0
  ihave HWo := (whole_eW c woM (View.set_whole _)) $$ Z1
  icases (splitK kM c) $$ Z2 with ⟨HK0, HK1, Z2⟩
  icases (splitK vM c) $$ Z3 with ⟨HV0, HV1, Z3⟩
  icases (splitS saCw c) $$ Z5 with ⟨HsaCw0, HsaCw1, Z5⟩
  icases (splitS raCw c) $$ Z6 with ⟨HraCw0, HraCw1, Z6⟩
  icases (splitS saCc c) $$ Z7 with ⟨HsaCc0, HsaCc1, Z7⟩
  icases (splitS raCc c) $$ Z8 with ⟨HraCc0, HraCc1, Z8⟩
  icases (splitB sbX c) $$ Z9 with ⟨Hsb0, Hsb1, Hsb2, Hsb3, Z9⟩
  icases (splitB rbX c) $$ Z10 with ⟨Hrb0, Hrb1, Hrb2, Hrb3, Z10⟩
  icases (splitS scCw c) $$ Z11 with ⟨HscCw0, HscCw1, Z11⟩
  icases (splitS rcCw c) $$ Z12 with ⟨HrcCw0, HrcCw1, Z12⟩
  icases (splitS scCc c) $$ Z13 with ⟨HscCc0, HscCc1, Z13⟩
  icases (splitS rcCc c) $$ Z14 with ⟨HrcCc0, HrcCc1, Z14⟩
  iapply (body A K c) $$ [Hown Hx Ho Hcx HaWq HaWo HaK HaV HWq HWo HK0 HK1 HV0 HV1 Hs26 Hs27 Hs28 Hs29 Hs30 Hs31 Htb0 Htb1 Htb2 Htb3 Hcb Hatb HraCw0 HraCw1 HraCc0 HraCc1 HrcCw0 HrcCw1 HrcCc0 HrcCc1 Hrb0 Hrb1 Hrb2 Hrb3 HsaCw0 HsaCc0 HsaCw1 Ht2_0 Ht2_1 Ht3_0 Ht4_0 Ht4_1 Ht5_0 Hc4_0 Hc5_0 Hc4_1 Hat2 Hat3 Hat4 Hat5 HsaCc1 Ht6_0 Ht6_1 Ht7_0 Ht8_0 Ht8_1 Ht9_0 Hc8_0 Hc9_0 Hc8_1 Hat6 Hat7 Hat8 Hat9 HscCw0 HscCw1 Ht18_0 Ht18_1 Ht19_0 Ht20_0 Ht20_1 Ht21_0 Hc20_0 Hc21_0 Hc20_1 Hat18 Hat19 Hat20 Hat21 HscCc0 HscCc1 Ht22_0 Ht22_1 Ht23_0 Ht24_0 Ht24_1 Ht25_0 Hc24_0 Hc25_0 Hc24_1 Hat22 Hat23 Hat24 Hat25 Hsb0 Ht10_0 Ht14_0 Hc14_0 Hat10 Hat14 Hsb1 Ht11_0 Ht15_0 Hc15_0 Hat11 Hat15 Hsb2 Ht12_0 Ht16_0 Hc16_0 Hat12 Hat16 Hsb3 Ht13_0 Ht17_0 Hc17_0 Hat13 Hat17]
  · isplitr; · iexact HR
    isplitl [Hown]; · iexact Hown
    isplitl [Hx]; · iexact Hx
    isplitl [Ho]; · iexact Ho
    isplitl [Hcx]; · iexact Hcx
    isplitl [HaWq]; · iexact HaWq
    isplitl [HaWo]; · iexact HaWo
    isplitl [HaK]; · iexact HaK
    isplitl [HaV]; · iexact HaV
    isplitl [HWq]; · iexact HWq
    isplitl [HWo]; · iexact HWo
    isplitl [HK0]; · iexact HK0
    isplitl [HK1]; · iexact HK1
    isplitl [HV0]; · iexact HV0
    isplitl [HV1]; · iexact HV1
    isplitl [Hs26]; · iexact Hs26
    isplitl [Hs27]; · iexact Hs27
    isplitl [Hs28]; · iexact Hs28
    isplitl [Hs29]; · iexact Hs29
    isplitl [Hs30]; · iexact Hs30
    isplitl [Hs31]; · iexact Hs31
    isplitl [Htb0]; · iexact Htb0
    isplitl [Htb1]; · iexact Htb1
    isplitl [Htb2]; · iexact Htb2
    isplitl [Htb3]; · iexact Htb3
    isplitl [Hcb]; · iexact Hcb
    isplitl [Hatb]; · iexact Hatb
    isplitl [HraCw0]; · iexact HraCw0
    isplitl [HraCw1]; · iexact HraCw1
    isplitl [HraCc0]; · iexact HraCc0
    isplitl [HraCc1]; · iexact HraCc1
    isplitl [HrcCw0]; · iexact HrcCw0
    isplitl [HrcCw1]; · iexact HrcCw1
    isplitl [HrcCc0]; · iexact HrcCc0
    isplitl [HrcCc1]; · iexact HrcCc1
    isplitl [Hrb0]; · iexact Hrb0
    isplitl [Hrb1]; · iexact Hrb1
    isplitl [Hrb2]; · iexact Hrb2
    isplitl [Hrb3]; · iexact Hrb3
    isplitl [HsaCw0]; · iexact HsaCw0
    isplitl [HsaCc0]; · iexact HsaCc0
    isplitl [HsaCw1]; · iexact HsaCw1
    isplitl [Ht2_0]; · iexact Ht2_0
    isplitl [Ht2_1]; · iexact Ht2_1
    isplitl [Ht3_0]; · iexact Ht3_0
    isplitl [Ht4_0]; · iexact Ht4_0
    isplitl [Ht4_1]; · iexact Ht4_1
    isplitl [Ht5_0]; · iexact Ht5_0
    isplitl [Hc4_0]; · iexact Hc4_0
    isplitl [Hc5_0]; · iexact Hc5_0
    isplitl [Hc4_1]; · iexact Hc4_1
    isplitl [Hat2]; · iexact Hat2
    isplitl [Hat3]; · iexact Hat3
    isplitl [Hat4]; · iexact Hat4
    isplitl [Hat5]; · iexact Hat5
    isplitl [HsaCc1]; · iexact HsaCc1
    isplitl [Ht6_0]; · iexact Ht6_0
    isplitl [Ht6_1]; · iexact Ht6_1
    isplitl [Ht7_0]; · iexact Ht7_0
    isplitl [Ht8_0]; · iexact Ht8_0
    isplitl [Ht8_1]; · iexact Ht8_1
    isplitl [Ht9_0]; · iexact Ht9_0
    isplitl [Hc8_0]; · iexact Hc8_0
    isplitl [Hc9_0]; · iexact Hc9_0
    isplitl [Hc8_1]; · iexact Hc8_1
    isplitl [Hat6]; · iexact Hat6
    isplitl [Hat7]; · iexact Hat7
    isplitl [Hat8]; · iexact Hat8
    isplitl [Hat9]; · iexact Hat9
    isplitl [HscCw0]; · iexact HscCw0
    isplitl [HscCw1]; · iexact HscCw1
    isplitl [Ht18_0]; · iexact Ht18_0
    isplitl [Ht18_1]; · iexact Ht18_1
    isplitl [Ht19_0]; · iexact Ht19_0
    isplitl [Ht20_0]; · iexact Ht20_0
    isplitl [Ht20_1]; · iexact Ht20_1
    isplitl [Ht21_0]; · iexact Ht21_0
    isplitl [Hc20_0]; · iexact Hc20_0
    isplitl [Hc21_0]; · iexact Hc21_0
    isplitl [Hc20_1]; · iexact Hc20_1
    isplitl [Hat18]; · iexact Hat18
    isplitl [Hat19]; · iexact Hat19
    isplitl [Hat20]; · iexact Hat20
    isplitl [Hat21]; · iexact Hat21
    isplitl [HscCc0]; · iexact HscCc0
    isplitl [HscCc1]; · iexact HscCc1
    isplitl [Ht22_0]; · iexact Ht22_0
    isplitl [Ht22_1]; · iexact Ht22_1
    isplitl [Ht23_0]; · iexact Ht23_0
    isplitl [Ht24_0]; · iexact Ht24_0
    isplitl [Ht24_1]; · iexact Ht24_1
    isplitl [Ht25_0]; · iexact Ht25_0
    isplitl [Hc24_0]; · iexact Hc24_0
    isplitl [Hc25_0]; · iexact Hc25_0
    isplitl [Hc24_1]; · iexact Hc24_1
    isplitl [Hat22]; · iexact Hat22
    isplitl [Hat23]; · iexact Hat23
    isplitl [Hat24]; · iexact Hat24
    isplitl [Hat25]; · iexact Hat25
    isplitl [Hsb0]; · iexact Hsb0
    isplitl [Ht10_0]; · iexact Ht10_0
    isplitl [Ht14_0]; · iexact Ht14_0
    isplitl [Hc14_0]; · iexact Hc14_0
    isplitl [Hat10]; · iexact Hat10
    isplitl [Hat14]; · iexact Hat14
    isplitl [Hsb1]; · iexact Hsb1
    isplitl [Ht11_0]; · iexact Ht11_0
    isplitl [Ht15_0]; · iexact Ht15_0
    isplitl [Hc15_0]; · iexact Hc15_0
    isplitl [Hat11]; · iexact Hat11
    isplitl [Hat15]; · iexact Hat15
    isplitl [Hsb2]; · iexact Hsb2
    isplitl [Ht12_0]; · iexact Ht12_0
    isplitl [Ht16_0]; · iexact Ht16_0
    isplitl [Hc16_0]; · iexact Hc16_0
    isplitl [Hat12]; · iexact Hat12
    isplitl [Hat16]; · iexact Hat16
    isplitl [Hsb3]; · iexact Hsb3
    isplitl [Ht13_0]; · iexact Ht13_0
    isplitl [Ht17_0]; · iexact Ht17_0
    isplitl [Hc17_0]; · iexact Hc17_0
    isplitl [Hat13]; · iexact Hat13
    iexact Hat17
  iintro ⟨Hx, Hcx, Hatb, HWq, HaWq, Hs26, HK0, Hs28, HV0, Hs29, HK1, HaK, Hs30, HV1, HaV, Hs31, HWo, HaWo, Hs27, Hown, Ho, Hat2, Hat3, Hat4, Hat5, Hat6, Hat7, Hat8, Hat9, Hat18, Hat19, Hat20, Hat21, Hat22, Hat23, Hat24, Hat25, Hat10, Hat14, Hat11, Hat15, Hat12, Hat16, Hat13, Hat17, HsaCw1, HraCw1, HsaCc1, HraCc1, HsaCw0, HraCw0, HsaCc0, HraCc0, Hsb0, Hrb0, Hsb1, Hrb1, Hsb2, Hrb2, Hsb3, Hrb3, HscCw1, HrcCw1, HscCc1, HrcCc1, HscCw0, HrcCw0, HscCc0, HrcCc0⟩
  imod (close_bar (PV A) K c) $$ [Hatb] with Hatb
  · isplitr; · iexact HR
    iexact Hatb
  imod (close_dma (PV A) K c 2 2 (by decide) (by decide) (by intro r hr h; rcases h with h | h <;> omega)) $$ [Hat2] with Hat2
  · isplitr; · iexact HR
    iexact Hat2
  imod (close_dma (PV A) K c 3 1 (by decide) (by decide) (by intro r hr h; rcases h with h | h <;> omega)) $$ [Hat3] with Hat3
  · isplitr; · iexact HR
    iexact Hat3
  imod (close_dma (PV A) K c 4 2 (by decide) (by decide) (by intro r hr h; rcases h with h | h <;> omega)) $$ [Hat4] with Hat4
  · isplitr; · iexact HR
    iexact Hat4
  imod (close_dma (PV A) K c 5 1 (by decide) (by decide) (by intro r hr h; rcases h with h | h <;> omega)) $$ [Hat5] with Hat5
  · isplitr; · iexact HR
    iexact Hat5
  imod (close_dma (PV A) K c 6 2 (by decide) (by decide) (by intro r hr h; rcases h with h | h <;> omega)) $$ [Hat6] with Hat6
  · isplitr; · iexact HR
    iexact Hat6
  imod (close_dma (PV A) K c 7 1 (by decide) (by decide) (by intro r hr h; rcases h with h | h <;> omega)) $$ [Hat7] with Hat7
  · isplitr; · iexact HR
    iexact Hat7
  imod (close_dma (PV A) K c 8 2 (by decide) (by decide) (by intro r hr h; rcases h with h | h <;> omega)) $$ [Hat8] with Hat8
  · isplitr; · iexact HR
    iexact Hat8
  imod (close_dma (PV A) K c 9 1 (by decide) (by decide) (by intro r hr h; rcases h with h | h <;> omega)) $$ [Hat9] with Hat9
  · isplitr; · iexact HR
    iexact Hat9
  imod (close_dma (PV A) K c 10 1 (by decide) (by decide) (by intro r hr h; rcases h with h | h <;> omega)) $$ [Hat10] with Hat10
  · isplitr; · iexact HR
    iexact Hat10
  imod (close_dma (PV A) K c 11 1 (by decide) (by decide) (by intro r hr h; rcases h with h | h <;> omega)) $$ [Hat11] with Hat11
  · isplitr; · iexact HR
    iexact Hat11
  imod (close_dma (PV A) K c 12 1 (by decide) (by decide) (by intro r hr h; rcases h with h | h <;> omega)) $$ [Hat12] with Hat12
  · isplitr; · iexact HR
    iexact Hat12
  imod (close_dma (PV A) K c 13 1 (by decide) (by decide) (by intro r hr h; rcases h with h | h <;> omega)) $$ [Hat13] with Hat13
  · isplitr; · iexact HR
    iexact Hat13
  imod (close_dma (PV A) K c 14 1 (by decide) (by decide) (by intro r hr h; rcases h with h | h <;> omega)) $$ [Hat14] with Hat14
  · isplitr; · iexact HR
    iexact Hat14
  imod (close_dma (PV A) K c 15 1 (by decide) (by decide) (by intro r hr h; rcases h with h | h <;> omega)) $$ [Hat15] with Hat15
  · isplitr; · iexact HR
    iexact Hat15
  imod (close_dma (PV A) K c 16 1 (by decide) (by decide) (by intro r hr h; rcases h with h | h <;> omega)) $$ [Hat16] with Hat16
  · isplitr; · iexact HR
    iexact Hat16
  imod (close_dma (PV A) K c 17 1 (by decide) (by decide) (by intro r hr h; rcases h with h | h <;> omega)) $$ [Hat17] with Hat17
  · isplitr; · iexact HR
    iexact Hat17
  imod (close_dma (PV A) K c 18 2 (by decide) (by decide) (by intro r hr h; rcases h with h | h <;> omega)) $$ [Hat18] with Hat18
  · isplitr; · iexact HR
    iexact Hat18
  imod (close_dma (PV A) K c 19 1 (by decide) (by decide) (by intro r hr h; rcases h with h | h <;> omega)) $$ [Hat19] with Hat19
  · isplitr; · iexact HR
    iexact Hat19
  imod (close_dma (PV A) K c 20 2 (by decide) (by decide) (by intro r hr h; rcases h with h | h <;> omega)) $$ [Hat20] with Hat20
  · isplitr; · iexact HR
    iexact Hat20
  imod (close_dma (PV A) K c 21 1 (by decide) (by decide) (by intro r hr h; rcases h with h | h <;> omega)) $$ [Hat21] with Hat21
  · isplitr; · iexact HR
    iexact Hat21
  imod (close_dma (PV A) K c 22 2 (by decide) (by decide) (by intro r hr h; rcases h with h | h <;> omega)) $$ [Hat22] with Hat22
  · isplitr; · iexact HR
    iexact Hat22
  imod (close_dma (PV A) K c 23 1 (by decide) (by decide) (by intro r hr h; rcases h with h | h <;> omega)) $$ [Hat23] with Hat23
  · isplitr; · iexact HR
    iexact Hat23
  imod (close_dma (PV A) K c 24 2 (by decide) (by decide) (by intro r hr h; rcases h with h | h <;> omega)) $$ [Hat24] with Hat24
  · isplitr; · iexact HR
    iexact Hat24
  imod (close_dma (PV A) K c 25 1 (by decide) (by decide) (by intro r hr h; rcases h with h | h <;> omega)) $$ [Hat25] with Hat25
  · isplitr; · iexact HR
    iexact Hat25
  ihave HWq := (gW_e c wqM _) $$ HWq
  ihave HWo := (gW_e c woM _) $$ HWo
  ihave HraCw1 := (gS1_e c raCw _) $$ HraCw1
  ihave HraCc1 := (gS1_e c raCc _) $$ HraCc1
  ihave HraCw0 := (gS0_e c raCw _) $$ HraCw0
  ihave HraCc0 := (gS0_e c raCc _) $$ HraCc0
  ihave Hrb0 := (gB0_e c rbX _ _) $$ Hrb0
  ihave Hrb1 := (gB1_e c rbX _ _) $$ Hrb1
  ihave Hrb2 := (gB2_e c rbX _ _) $$ Hrb2
  ihave Hrb3 := (gB3_e c rbX _ _) $$ Hrb3
  ihave HrcCw1 := (gS1_e c rcCw _) $$ HrcCw1
  ihave HrcCc1 := (gS1_e c rcCc _) $$ HrcCc1
  ihave HrcCw0 := (gS0_e c rcCw _) $$ HrcCw0
  ihave HrcCc0 := (gS0_e c rcCc _) $$ HrcCc0
  ihave Z2 := (joinK kM c) $$ [HK0 HK1 Z2]
  · isplitl [HK0]; · iexact HK0
    isplitl [HK1]; · iexact HK1
    iexact Z2
  ihave Z3 := (joinK vM c) $$ [HV0 HV1 Z3]
  · isplitl [HV0]; · iexact HV0
    isplitl [HV1]; · iexact HV1
    iexact Z3
  ihave Z5 := (joinS saCw c) $$ [HsaCw0 HsaCw1 Z5]
  · isplitl [HsaCw0]; · iexact HsaCw0
    isplitl [HsaCw1]; · iexact HsaCw1
    iexact Z5
  ihave Z6 := (joinS raCw c) $$ [HraCw0 HraCw1 Z6]
  · isplitl [HraCw0]; · iexact HraCw0
    isplitl [HraCw1]; · iexact HraCw1
    iexact Z6
  ihave Z7 := (joinS saCc c) $$ [HsaCc0 HsaCc1 Z7]
  · isplitl [HsaCc0]; · iexact HsaCc0
    isplitl [HsaCc1]; · iexact HsaCc1
    iexact Z7
  ihave Z8 := (joinS raCc c) $$ [HraCc0 HraCc1 Z8]
  · isplitl [HraCc0]; · iexact HraCc0
    isplitl [HraCc1]; · iexact HraCc1
    iexact Z8
  ihave Z9 := (joinB sbX c) $$ [Hsb0 Hsb1 Hsb2 Hsb3 Z9]
  · isplitl [Hsb0]; · iexact Hsb0
    isplitl [Hsb1]; · iexact Hsb1
    isplitl [Hsb2]; · iexact Hsb2
    isplitl [Hsb3]; · iexact Hsb3
    iexact Z9
  ihave Z10 := (joinB rbX c) $$ [Hrb0 Hrb1 Hrb2 Hrb3 Z10]
  · isplitl [Hrb0]; · iexact Hrb0
    isplitl [Hrb1]; · iexact Hrb1
    isplitl [Hrb2]; · iexact Hrb2
    isplitl [Hrb3]; · iexact Hrb3
    iexact Z10
  ihave Z11 := (joinS scCw c) $$ [HscCw0 HscCw1 Z11]
  · isplitl [HscCw0]; · iexact HscCw0
    isplitl [HscCw1]; · iexact HscCw1
    iexact Z11
  ihave Z12 := (joinS rcCw c) $$ [HrcCw0 HrcCw1 Z12]
  · isplitl [HrcCw0]; · iexact HrcCw0
    isplitl [HrcCw1]; · iexact HrcCw1
    iexact Z12
  ihave Z13 := (joinS scCc c) $$ [HscCc0 HscCc1 Z13]
  · isplitl [HscCc0]; · iexact HscCc0
    isplitl [HscCc1]; · iexact HscCc1
    iexact Z13
  ihave Z14 := (joinS rcCc c) $$ [HrcCc0 HrcCc1 Z14]
  · isplitl [HrcCc0]; · iexact HrcCc0
    isplitl [HrcCc1]; · iexact HrcCc1
    iexact Z14
  ihave Z0 := (eW_whole c wqM (View.set_whole _)) $$ HWq
  ihave Z1 := (eW_whole c woM (View.set_whole _)) $$ HWo
  imodintro
  unfold Φ₁ argsP sv0 cP
  rw [ownSems0_eq, unscopedSems0_eq, show (Pipeline.scopedRest cfg0.spec c : sProp 𝕄) = _ from scopedRest0_eq c]
  isplitl [Hx]; · iexact Hx
  isplitl [Ho]; · iexact Ho
  isplitl [Hown]; · iexact Hown
  isplitl [HaWq HaK HaV HaWo Hatb]
  · isplitl [HaWq HaK HaV HaWo]
    · isplitl [HaWq]; · iexact HaWq
      isplitl [HaK]; · iexact HaK
      isplitl [HaV]; · iexact HaV
      iexact HaWo
    iexact Hatb
  isplitl [Hat2 Hat3 Hat4 Hat5 Hat6 Hat7 Hat8 Hat9 Hat10 Hat11 Hat12 Hat13 Hat14 Hat15 Hat16 Hat17 Hat18 Hat19 Hat20 Hat21 Hat22 Hat23 Hat24 Hat25 Hs26 Hs27 Hs28 Hs29 Hs30 Hs31]
  · isplitl [Hat2]; · iexact Hat2
    isplitl [Hat3]; · iexact Hat3
    isplitl [Hat4]; · iexact Hat4
    isplitl [Hat5]; · iexact Hat5
    isplitl [Hat6]; · iexact Hat6
    isplitl [Hat7]; · iexact Hat7
    isplitl [Hat8]; · iexact Hat8
    isplitl [Hat9]; · iexact Hat9
    isplitl [Hat10]; · iexact Hat10
    isplitl [Hat11]; · iexact Hat11
    isplitl [Hat12]; · iexact Hat12
    isplitl [Hat13]; · iexact Hat13
    isplitl [Hat14]; · iexact Hat14
    isplitl [Hat15]; · iexact Hat15
    isplitl [Hat16]; · iexact Hat16
    isplitl [Hat17]; · iexact Hat17
    isplitl [Hat18]; · iexact Hat18
    isplitl [Hat19]; · iexact Hat19
    isplitl [Hat20]; · iexact Hat20
    isplitl [Hat21]; · iexact Hat21
    isplitl [Hat22]; · iexact Hat22
    isplitl [Hat23]; · iexact Hat23
    isplitl [Hat24]; · iexact Hat24
    isplitl [Hat25]; · iexact Hat25
    isplitl [Hs26]; · iexact Hs26
    isplitl [Hs27]; · iexact Hs27
    isplitl [Hs28]; · iexact Hs28
    isplitl [Hs29]; · iexact Hs29
    isplitl [Hs30]; · iexact Hs30
    iexact Hs31
  isplitl [Z0]
  · iexact Z0
  isplitl [Z1]
  · iexact Z1
  isplitl [Z2]
  · iexact Z2
  isplitl [Z3]
  · iexact Z3
  isplitl [Hcx]
  · iexists _; iexact Hcx
  isplitl [Z5]
  · iexact Z5
  isplitl [Z6]
  · iexact Z6
  isplitl [Z7]
  · iexact Z7
  isplitl [Z8]
  · iexact Z8
  isplitl [Z9]
  · iexact Z9
  isplitl [Z10]
  · iexact Z10
  isplitl [Z11]
  · iexact Z11
  isplitl [Z12]
  · iexact Z12
  isplitl [Z13]
  · iexact Z13
  iexact Z14

end Cert.KP

end
-- ==== Proof.Run.lean ====
module

public import proofs.«01_k».proof.Proof.Body
public import proofs.«01_k».proof.Proof.Deal
public import proofs.«01_k».proof.Proof.Gen.KernelIdeal.Skeleton
public import Idealize.ShloMosaic.Lib.Transfers
public import Idealize.ShloMosaic.Lib.ValueIdxCore
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Quiescent
public import Idealize.ShloMosaic.Lib.Pipeline.CollectiveSegs
public import proofs.«01_k».proof.Proof.Gen.KernelIdeal.Points

@[expose] public section

set_option maxRecDepth 16384

noncomputable section

namespace Cert.KP

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig ℕ (Elt F) ℕ UU ℕ

/-! # The launch -/

/-! ## The launch credit -/

/-- A payment that every device makes: to whose cell, which cell, at what index, how much. -/
structure Due where mkDue ::
  peer : Dev nD ≃ Dev nD
  sm : SemLoc sig
  ix : ℕ
  n : ℕ
def Due.pay (s : Due) (c : Dev nD) : GSem nD τ sig × ℕ × ℕ := (((s.peer c : Thread nD τ), s.sm), s.ix, s.n)
/-- What the payments of all devices credit device `c`. -/
def credL : List Due → Dev nD → sProp 𝕄
  | [], _ => iprop(emp)
  | s :: l, c => iprop(credL l c ∗ cred (tallyAt ((c : Thread nD τ), s.sm) s.ix s.n))
set_option maxRecDepth 65536 in
theorem creds_list (l : List Due) (c : Dev nD) :
    (Pipeline.launchCred (fun d => osum (l.map fun s => s.pay d)) c : sProp 𝕄) ⊢ credL l c := by
  induction l with
  | nil => exact Entails.of_eq (Pipeline.launchCred_zero c)
  | cons s l ih =>
    refine (Entails.of_eq (Pipeline.launchCred_add (fun d => osum (l.map fun s => s.pay d)) (fun d => tallyAt (((s.peer d).tc : Thread nD τ), s.sm) s.ix s.n) c)).trans ?_
    exact BI.sep_mono ih (Pipeline.launchCred_tallyAt s.sm s.peer s.peer.symm s.peer.apply_symm_apply s.peer.symm_apply_apply s.ix s.n c)
def duesL : List Due := [Due.mkDue (ringE.symm) (.reg barS) 1 1, Due.mkDue ringE (.reg barS) 1 1, Due.mkDue p1E (.reg barS) 1 1, Due.mkDue p2E (.reg barS) 1 1, Due.mkDue ringE (.dma (dS 4)) 2 NA, Due.mkDue (ringE.symm) (.dma (dS 8)) 2 NA, Due.mkDue ringE (.dma (dS 5)) 3 NA, Due.mkDue (ringE.symm) (.dma (dS 9)) 3 NA, Due.mkDue ringE (.dma (dS 4)) 4 NA, Due.mkDue (ringE.symm) (.dma (dS 8)) 4 NA, Due.mkDue p1E (.dma (dS 14)) 5 NB, Due.mkDue p2E (.dma (dS 15)) 6 NH, Due.mkDue p2E (.dma (dS 16)) 7 NH, Due.mkDue p1E (.dma (dS 17)) 8 NB, Due.mkDue ringE (.dma (dS 20)) 9 NA, Due.mkDue (ringE.symm) (.dma (dS 24)) 9 NA, Due.mkDue ringE (.dma (dS 21)) 10 NA, Due.mkDue (ringE.symm) (.dma (dS 25)) 10 NA, Due.mkDue ringE (.dma (dS 20)) 11 NA, Due.mkDue (ringE.symm) (.dma (dS 24)) 11 NA]
theorem dues_eq (c : Dev nD) : Ow c 0 = osum (duesL.map fun s => s.pay c) := rfl
theorem four (g : GSem nD τ sig) (i : ℕ) :
    iprop(cred (tallyAt g i 1) ∗ cred (tallyAt g i 1) ∗ cred (tallyAt g i 1) ∗ cred (tallyAt g i 1)) ⊢ (cred (tallyAt g i 4) : sProp 𝕄) := by
  rw [show (tallyAt g i 4 : CellTallies nD τ sig ℕ) = tallyAt g i 1 + (tallyAt g i 1 + (tallyAt g i 1 + tallyAt g i 1)) from by rw [tallyAt_add, tallyAt_add, tallyAt_add]]
  exact ((sep_mono_right ((sep_mono_right (cred_add _ _).2).trans (cred_add _ _).2)).trans (cred_add _ _).2)
theorem creds (c : Dev nD) : (Pipeline.launchCred (fun d => Ow d 0) c : sProp 𝕄) ⊢ credsC c := by
  refine (creds_list duesL c).trans ?_
  show (iprop(((((((((((((((((((((emp ∗ cred (tallyAt (dC c 24) 11 (amt 24))) ∗ cred (tallyAt (dC c 20) 11 (amt 20))) ∗ cred (tallyAt (dC c 25) 10 (amt 25))) ∗ cred (tallyAt (dC c 21) 10 (amt 21))) ∗ cred (tallyAt (dC c 24) 9 (amt 24))) ∗ cred (tallyAt (dC c 20) 9 (amt 20))) ∗ cred (tallyAt (dC c 17) 8 (amt 17))) ∗ cred (tallyAt (dC c 16) 7 (amt 16))) ∗ cred (tallyAt (dC c 15) 6 (amt 15))) ∗ cred (tallyAt (dC c 14) 5 (amt 14))) ∗ cred (tallyAt (dC c 8) 4 (amt 8))) ∗ cred (tallyAt (dC c 4) 4 (amt 4))) ∗ cred (tallyAt (dC c 9) 3 (amt 9))) ∗ cred (tallyAt (dC c 5) 3 (amt 5))) ∗ cred (tallyAt (dC c 8) 2 (amt 8))) ∗ cred (tallyAt (dC c 4) 2 (amt 4))) ∗ cred (tallyAt (barC c) 1 (1))) ∗ cred (tallyAt (barC c) 1 (1))) ∗ cred (tallyAt (barC c) 1 (1))) ∗ cred (tallyAt (barC c) 1 (1)))) : sProp 𝕄) ⊢ credsC c
  unfold credsC
  iintro ⟨⟨⟨⟨⟨⟨⟨⟨⟨⟨⟨⟨⟨⟨⟨⟨⟨⟨⟨⟨-, Hc24_1⟩, Hc20_1⟩, Hc25_0⟩, Hc21_0⟩, Hc24_0⟩, Hc20_0⟩, Hc17_0⟩, Hc16_0⟩, Hc15_0⟩, Hc14_0⟩, Hc8_1⟩, Hc4_1⟩, Hc9_0⟩, Hc5_0⟩, Hc8_0⟩, Hc4_0⟩, Hb3⟩, Hb2⟩, Hb1⟩, Hb0⟩
  ihave Hcb := (four (F := F) (barC c) 1) $$ [Hb0 Hb1 Hb2 Hb3]
  · isplitl [Hb0]; · iexact Hb0
    isplitl [Hb1]; · iexact Hb1
    isplitl [Hb2]; · iexact Hb2
    iexact Hb3
  isplitl [Hcb]; · iexact Hcb
  isplitl [Hc4_0]; · iexact Hc4_0
  isplitl [Hc5_0]; · iexact Hc5_0
  isplitl [Hc4_1]; · iexact Hc4_1
  isplitl [Hc8_0]; · iexact Hc8_0
  isplitl [Hc9_0]; · iexact Hc9_0
  isplitl [Hc8_1]; · iexact Hc8_1
  isplitl [Hc20_0]; · iexact Hc20_0
  isplitl [Hc21_0]; · iexact Hc21_0
  isplitl [Hc20_1]; · iexact Hc20_1
  isplitl [Hc24_0]; · iexact Hc24_0
  isplitl [Hc25_0]; · iexact Hc25_0
  isplitl [Hc24_1]; · iexact Hc24_1
  isplitl [Hc14_0]; · iexact Hc14_0
  isplitl [Hc15_0]; · iexact Hc15_0
  isplitl [Hc16_0]; · iexact Hc16_0
  iexact Hc17_0

/-! ## The ghost state: the cells and the tokens dealt, the invariants allocated, the tokens handed to those who pay -/

theorem kcell_tc (ck : Dev nD × Fin 25) : (kcell ck).1.1 = ck.1 := by unfold kcell; split <;> rfl
theorem kcell_injective : Function.Injective (kcell : Dev nD × Fin 25 → GSem nD τ sig) := by
  rintro ⟨c, k⟩ ⟨c', k'⟩ h
  have h1 : c = c' := by have := congrArg (fun g : GSem nD τ sig => g.1.1) h; rwa [kcell_tc, kcell_tc] at this
  subst h1
  refine Prod.ext rfl (Fin.ext ?_)
  have h2 := congrArg Prod.snd h
  unfold kcell at h2
  dsimp only at h2
  split at h2 <;> split at h2
  · rename_i a b; exact a.trans b.symm
  · exact absurd h2 (by intro e; cases e)
  · exact absurd h2 (by intro e; cases e)
  · have e := congrArg Fin.val (SemLoc.dma.inj h2)
    exact Nat.succ.inj e
def ringCells : Finset (GSem nD τ sig) := Finset.univ.map ⟨kcell, kcell_injective⟩

/-- A device's own cells' duty tokens as minted. -/
def tokOf (cj : Dev nD × Fin 36) : GSem nD τ sig × ℕ × Fin 4 := (kcell (cj.1, tkT cj.2), trT cj.2, tdT cj.2)
set_option maxRecDepth 65536 in
theorem tab_injective : ∀ j j' : Fin 36, tkT j = tkT j' → trT j = trT j' → tdT j = tdT j' → j = j' := by decide +kernel
theorem tokOf_injective : Function.Injective tokOf := by
  rintro ⟨c, j⟩ ⟨c', j'⟩ h
  have h1 : ((c, tkT j) : Dev nD × Fin 25) = (c', tkT j') := kcell_injective (congrArg Prod.fst h)
  have h2 := congrArg (fun x : GSem nD τ sig × ℕ × Fin 4 => x.2.1) h
  have h3 := congrArg (fun x : GSem nD τ sig × ℕ × Fin 4 => x.2.2) h
  have h1' : c = c' := congrArg Prod.fst h1
  exact Prod.ext h1' (tab_injective j j' (congrArg Prod.snd h1) h2 h3)
def ringToks : Finset (GSem nD τ sig × ℕ × Fin 4) := Finset.univ.map ⟨tokOf, tokOf_injective⟩

def u₀ : UU := (initOf (Pipeline.cells cfgs cellOf_inj) (Pipeline.launchToks cfgs cellOf_inj), (initOf ringCells ringToks, 1))

section Ghost
variable (A : Ins F)

/-- What the launch element deals device `c`. -/
def G (c : Dev nD) : sProp 𝕄 :=
  iprop((bigSep Finset.univ fun k : Fin 25 => roundState ER (Rd (PV A)) (kcell (c, k)) 0)
    ∗ (bigSep Finset.univ fun k : Fin 25 => iprop(atPos ER (kcell (c, k)) 0 ∅ 0 ∗ reached ER (kcell (c, k)) 0)) ∗ toks c)

theorem fund_ring : BI.own (ER (initOf ringCells ringToks)) ⊢ (|==> bigSep Finset.univ (G A) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd (PV A)) ringCells ringToks) $$ HX with ⟨Hst, Hr, Hat, Htok⟩
  imodintro
  ihave Hst' := (Entails.of_eq (hX fun g => roundState ER (Rd (PV A)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem semsC_eq (c : Dev nD) : (bigSep Finset.univ fun k : Fin 25 => (semVal (kcell (c, k)) 0 : sProp 𝕄)) = iprop(semVal (barC c) 0 ∗ semVal (dC c 2) 0 ∗ semVal (dC c 3) 0 ∗ semVal (dC c 4) 0 ∗ semVal (dC c 5) 0 ∗ semVal (dC c 6) 0 ∗ semVal (dC c 7) 0 ∗ semVal (dC c 8) 0 ∗ semVal (dC c 9) 0 ∗ semVal (dC c 10) 0 ∗ semVal (dC c 11) 0 ∗ semVal (dC c 12) 0 ∗ semVal (dC c 13) 0 ∗ semVal (dC c 14) 0 ∗ semVal (dC c 15) 0 ∗ semVal (dC c 16) 0 ∗ semVal (dC c 17) 0 ∗ semVal (dC c 18) 0 ∗ semVal (dC c 19) 0 ∗ semVal (dC c 20) 0 ∗ semVal (dC c 21) 0 ∗ semVal (dC c 22) 0 ∗ semVal (dC c 23) 0 ∗ semVal (dC c 24) 0 ∗ semVal (dC c 25) 0) := by
  rw [bigSep_univ_eq_bigSepL [0, 1, 2, 3, 4, 5, 6, 7, 8, 9, 10, 11, 12, 13, 14, 15, 16, 17, 18, 19, 20, 21, 22, 23, 24] (by decide) (by decide)]
  rfl
theorem sems0_eq (c : Dev nD) :
    iprop(Pipeline.ownSems0 (Ix := ℕ) (Name := ℕ) (U := UU) (Lvl := ℕ) (Val := Elt F) (τ := τ) osem c ∗ unscopedSems0 c)
      ⊢ (iprop((bigSep Finset.univ fun k : Fin 25 => semVal (kcell (c, k)) 0) ∗ sv6 c) : sProp 𝕄) := by
  rw [ownSems0_eq, unscopedSems0_eq, semsC_eq]
  unfold sv6 sv0
  iintro ⟨⟨O2, O3, O4, O5, O6, O7, O8, O9, O10, O11, O12, O13, O14, O15, O16, O17, O18, O19, O20, O21, O22, O23, O24, O25, O26, O27, O28, O29, O30, O31⟩, HB⟩
  isplitl [HB O2 O3 O4 O5 O6 O7 O8 O9 O10 O11 O12 O13 O14 O15 O16 O17 O18 O19 O20 O21 O22 O23 O24 O25]
  · isplitl [HB]; · iexact HB
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [O9]; · iexact O9
    isplitl [O10]; · iexact O10
    isplitl [O11]; · iexact O11
    isplitl [O12]; · iexact O12
    isplitl [O13]; · iexact O13
    isplitl [O14]; · iexact O14
    isplitl [O15]; · iexact O15
    isplitl [O16]; · iexact O16
    isplitl [O17]; · iexact O17
    isplitl [O18]; · iexact O18
    isplitl [O19]; · iexact O19
    isplitl [O20]; · iexact O20
    isplitl [O21]; · iexact O21
    isplitl [O22]; · iexact O22
    isplitl [O23]; · iexact O23
    isplitl [O24]; · iexact O24
    iexact O25
  isplitl [O26]; · iexact O26
  isplitl [O27]; · iexact O27
  isplitl [O28]; · iexact O28
  isplitl [O29]; · iexact O29
  isplitl [O30]; · iexact O30
  iexact O31

theorem core_alloc (c : Dev nD) :
    iprop(Pipeline.ownSems0 (Ix := ℕ) (Name := ℕ) (U := UU) (Lvl := ℕ) (Val := Elt F) (τ := τ) osem c ∗ unscopedSems0 c ∗ G A c)
      ⊢ |={Set.univ}=> iprop((bigSep Finset.univ fun k => iprop(∃ κ : ℕ, cellInv ER (Rd (PV A)) κ (kcell (c, k))))
          ∗ (bigSep Finset.univ fun k => iprop(atPos ER (kcell (c, k)) 0 ∅ 0 ∗ reached ER (kcell (c, k)) 0)) ∗ toks c ∗ sv6 c) := by
  unfold G
  iintro ⟨Hos, Hus, Hst, Hat, Htok⟩
  icases (sems0_eq (F := F) c) $$ [Hos Hus] with ⟨Hv, H6⟩
  · isplitl [Hos] <;> iassumption
  imod (show iprop((bigSep Finset.univ fun k : Fin 25 => semVal (kcell (c, k)) 0) ∗ bigSep Finset.univ fun k : Fin 25 => roundState ER (Rd (PV A)) (kcell (c, k)) 0)
      ⊢ (|={Set.univ}=> bigSep Finset.univ fun k => iprop(∃ κ : ℕ, cellInv ER (Rd (PV A)) κ (kcell (c, k))) : sProp 𝕄) from by
        rw [← bigSep_sep']
        exact (bigSep_mono fun k _ => (Rounds.body_intro ER (Rd (PV A)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact H6

def records (K : Dev nD × Fin 25 → ℕ) : sProp 𝕄 :=
  iprop((bigSep Finset.univ fun ck : Dev nD × Fin 25 => cellInv ER (Rd (PV A)) (K ck) (kcell ck))
    ∗ bigSep Finset.univ fun ck : Dev nD × Fin 25 => reached ER (kcell ck) 0)
instance records_persistent (K : Dev nD × Fin 25 → ℕ) : BI.Persistent (records A K) := by unfold records; infer_instance

def linear (c : Dev nD) : sProp 𝕄 := iprop(atsC c ∗ payT c ∗ sv6 c)
/-- What the global step makes of what was dealt. -/
def G' (c : Dev nD) : sProp 𝕄 := iprop(∃ K, records A K ∗ linear c)

/-- Which token each device's `j`-th token becomes. -/
def payE : Dev nD × Fin 36 ≃ Dev nD × Fin 36 :=
  ⟨fun x => (eT x.2 x.1, x.2), fun x => ((eT x.2).symm x.1, x.2), fun x => Prod.ext ((eT x.2).symm_apply_apply x.1) rfl, fun x => Prod.ext ((eT x.2).apply_symm_apply x.1) rfl⟩
/-- The tokens go from the cells' owners to those who pay the duties. -/
theorem toks_around : (bigSep Finset.univ fun c : Dev nD => (toks c : sProp 𝕄)) ⊢ bigSep Finset.univ fun c : Dev nD => payT c := by
  unfold toks payT
  rw [← bigSep_univ_prod (fun x : Dev nD × Fin 36 => (dutyTok ER (kcell (x.1, tkT x.2)) (trT x.2) (tdT x.2) : sProp 𝕄)),
    ← bigSep_univ_prod (fun x : Dev nD × Fin 36 => (dutyTok ER (kcell (eT x.2 x.1, tkT x.2)) (trT x.2) (tdT x.2) : sProp 𝕄))]
  exact Entails.of_eq (bigSep_univ_equiv payE (fun x : Dev nD × Fin 36 => (dutyTok ER (kcell (x.1, tkT x.2)) (trT x.2) (tdT x.2) : sProp 𝕄)))

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd (PV A)) κ (kcell (c, k))))
          ∗ (bigSep Finset.univ fun k => iprop(atPos ER (kcell (c, k)) 0 ∅ 0 ∗ reached ER (kcell (c, k)) 0)) ∗ toks c ∗ sv6 c) : sProp 𝕄)
      ⊢ bigSep Finset.univ (G' A) := by
  rw [bigSep_sep', bigSep_sep', bigSep_sep', ← bigSep_univ_prod (fun ck : Dev nD × Fin 25 => iprop(∃ κ : ℕ, cellInv ER (Rd (PV A)) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok, H6⟩
  ihave HK := (BI.bigSep_exists_pi Finset.univ (fun (ck : Dev nD × Fin 25) (κ : ℕ) => (cellInv ER (Rd (PV A)) κ (kcell ck) : sProp 𝕄))) $$ HI
  icases HK with ⟨%K, #HI⟩
  ihave Htk := (toks_around (F := F)) $$ Htok
  iapply (bigSep_with_persistent (R := records A K) (Φ := linear) fun c _ => show iprop(records A K ∗ linear c) ⊢ G' A c from by
    unfold G'; iintro ⟨H1, H2⟩; iexists K; isplitl [H1] <;> iassumption)
  isplitr
  · unfold records; isplitl; · iexact HI
    iexact HR
  · unfold linear
    rw [bigSep_sep', bigSep_sep']
    isplitl [Hat]; · unfold atsC; iexact Hat
    isplitl [Htk] <;> iassumption

/-- The global step: own and unscoped semaphores of every device at once. -/
theorem glob : (bigSep Finset.univ fun c => iprop(Pipeline.ownSems0 (Ix := ℕ) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))
end Ghost

/-! ## The run -/

section Run
variable (m : (ℓ : Loc nD τ sig) → Buf (Elt F) ℓ) (ρ : Dev nD → PrngReg)

/-- The staged input, and the inputs' contents on every device. -/
def xstg (c : Dev nD) : (cc0_stg0_0 : Ref sig .tc).ty.Contents (Elt F) :=
  (win0_0.blk (0 : Fin 1)).view.read (Elt F) (m ((c : Thread nD τ).loc main_arg0))
def ins : Ins F where
  x c := xstg m c
  wq c := m ((c : Thread nD τ).loc main_arg1)
  k c := m ((c : Thread nD τ).loc main_arg2)
  v c := m ((c : Thread nD τ).loc main_arg3)
  wo c := m ((c : Thread nD τ).loc main_arg4)
/-- The result on device `c`. -/
@[irreducible] def out (c : Dev nD) : OutC F := OC2 (PV (ins m)) c
theorem out_eq (c : Dev nD) : out m c = OC2 (PV (ins m)) c := by unfold out; rfl

def start' (c : Dev nD) : sProp 𝕄 := iprop((∃ K, recs (PV (ins m)) K) ∗ atsC c ∗ payT c ∗ credsC c ∗ argsP (ins m) c ∗ sv6 c)
def Φ₀ (c : Dev nD) : sProp 𝕄 := iprop(start' m c ∗ Pipeline.scopedRest cfg0.spec c)

def dats (_ : Fin 1) (c : Dev nD) : Dat τ (Elt F) ℕ ℕ UU ℕ cfg0 c where
  A w := m ((cfg0.win w).arr.view.loc (c : Thread nD τ))
  after w _ := match w with
    | ⟨0, _⟩ => xstg m c
    | ⟨1, _⟩ => out m c
  Φ t := match t with
    | ⟨0, _⟩ => Φ₀ m c
    | ⟨_ + 1, _⟩ => Φ₁ (ins m) c
  q _ := fullShare
  owed t := match t with
    | ⟨0, _⟩ => Ow c 0
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
def bodyPre (c : Dev nD) : sProp 𝕄 :=
  iprop(Φ₀ m c ∗ (dats m 0 c).owesAt 0 t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop((dats m 0 c).Φ t0_0.succ ∗ (dats m 0 c).owesAt 0 t0_0.succ ∗ stg c cc0_stg0_0 ((dats m 0 c).after (0 : Fin 2) t0_0) ∗ stg c cc0_stg1_0 ((dats m 0 c).after (1 : Fin 2) t0_0))
theorem after0 (c : Dev nD) : (dats m 0 c).after (0 : Fin 2) t0_0 = xstg m c := rfl
theorem after1 (c : Dev nD) : (dats m 0 c).after (1 : Fin 2) t0_0 = out m c := rfl
theorem phi1 (c : Dev nD) : (dats m 0 c).Φ t0_0.succ = Φ₁ (ins m) c := rfl

set_option maxHeartbeats 1000000 in
set_option maxRecDepth 65536 in
theorem body_pre_post (c : Dev nD) : bodyPre m c ⊢ WP c (cc0_body xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18) (fun _ => bodyPost m c) := by
  unfold bodyPre bodyPost Φ₀ start'
  rw [after0, after1, phi1, out_eq]
  iintro ⟨⟨⟨⟨%K, #HR⟩, Hat, Htk, Hcr, Har, H6⟩, Hscr⟩, Ho, ⟨%d0, %g0, %hg0, Hx⟩, ⟨%d1, %g1, -, Hout⟩⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m 0 c).owed t0_0.castSucc = Ow c 0 from rfl, show (dats m 0 c).owed t0_0.succ = 0 from rfl]
  iapply ((sound (ins m) K c).trans (wp_mono _ _ _ fun _ => show _ ⊢ _ from ?_))
  rotate_left
  · isplitr; · iexact HR
    isplitl [HO]; · unfold own; iexists W; iexact HO
    isplitl [Hx]; · unfold xP; iexact Hx
    isplitl [Hout]; · iexists g1; unfold oP; iexact Hout
    isplitl [Hat]; · iexact Hat
    isplitl [Htk]; · iexact Htk
    isplitl [Hcr]; · iexact Hcr
    isplitl [Har]; · iexact Har
    isplitl [H6]; · iexact H6
    iexact Hscr
  · unfold own xP oP
    iintro ⟨Hx, Ho, ⟨%W', HO⟩, HΦ⟩
    isplitl [HΦ]; · iexact HΦ
    isplitl [HO]
    · iexists W'
      isplitr; · ipureintro; exact fun _ _ => Or.inl trivial
      iexact HO
    isplitl [Hx]
    · iexists _; isplitr; · (ipureintro; rfl)
      iexact Hx
    iexists _; isplitr; · (ipureintro; rfl)
    iexact Ho

set_option maxHeartbeats 1000000 in
set_option maxRecDepth 65536 in
/-- The library's body obligation on device `c`. -/
theorem body_obligation (c : Dev nD) : BodyObligation (dats m 0 c) (defs₀ (F := F)) 𝒱₀ 0 Set.univ := fun t => by
  rw [fin_N0 t]
  rw [bigSep_W0, bigSep_W0]
  simp only [owns_whole_eq]
  rw [show (defs₀ (F := F) Proc.tc 0 (t0_0, cfg0.slots t0_0)) = cc0_body xM (Memref.isWhole_whole _) (Memref.whole main_arg1) (Memref.isWhole_whole _) (Memref.whole main_arg2) (Memref.isWhole_whole _) (Memref.whole main_arg3) (Memref.isWhole_whole _) (Memref.whole main_arg4) (Memref.isWhole_whole _) oM (Memref.isWhole_whole _) wqM (Memref.isWhole_whole _) woM (Memref.isWhole_whole _) kM (Memref.isWhole_whole _) vM (Memref.isWhole_whole _) ctxM (Memref.isWhole_whole _) saCw (Memref.isWhole_whole _) raCw (Memref.isWhole_whole _) saCc (Memref.isWhole_whole _) raCc (Memref.isWhole_whole _) sbX (Memref.isWhole_whole _) rbX (Memref.isWhole_whole _) scCw (Memref.isWhole_whole _) rcCw (Memref.isWhole_whole _) scCc (Memref.isWhole_whole _) rcCc (Memref.isWhole_whole _) cc0_scratch15 cc0_scratch16 cc0_scratch17 cc0_scratch18 from rfl]
  exact body_pre_post m c

theorem ownSemFacts : Pipeline.OwnSemFacts cfg0.spec osem := by decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts Lv lv
        ∗ Pipeline.launchCred (fun d => Ow d 0) c ∗ prngReg c (ρ c) ∗ G' (ins m) c)
      ⊢ |={Set.univ}=> iprop(start' m c ∗ emp) := by
  rw [Pipeline.unscopedRestP_none, unscopedRest0_eq]
  iintro ⟨⟨H1, H2, H3, H4⟩, Hlev, Hcr, -, HG⟩
  ihave Hc := (creds (F := F) c) $$ Hcr
  imodintro
  unfold start' G' linear
  icases HG with ⟨%K, Hrec, Hat, Htk, H6⟩
  isplitl
  · isplitl [Hrec Hlev]
    · iexists K; unfold records recs
      icases Hrec with ⟨Ha, Hb⟩
      isplitl [Ha]; · iexact Ha
      isplitl [Hb] <;> iassumption
    isplitl [Hat]; · iexact Hat
    isplitl [Htk]; · iexact Htk
    isplitl [Hc]; · iexact Hc
    isplitl [H1 H2 H3 H4]
    · unfold argsP aP
      isplitl [H1]; · iexact H1
      isplitl [H2]; · iexact H2
      isplitl [H3]; · iexact H3
      iexact H4
    iexact H6
  · iempintro

theorem phi0_intro (c : Dev nD) :
    iprop(start' m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

theorem phi1_exit (c : Dev nD) :
    (dats m 0 c).Φ (Fin.last cfg0.N) ⊢ iprop((argsP (ins m) c ∗ unscopedSems0 c) ∗ Pipeline.ownSems0 osem c ∗ Pipeline.scopedRest cfg0.spec c) := .rfl

theorem waits (c : Dev nD) : (levAts Lv lv : sProp 𝕄) ⊢ Pipeline.cellsWaits cfgs (dats m) 0 0 c :=
  Pipeline.cellsWaits_intro cfgs (dats m) 0 0 c fun w s t => by
    rcases t with ⟨_ | _, ht⟩
    · exact mayWait_osum c _ 0 (by decide) (dues c) (dues_forall c 0 0 (by decide))
    · exact mayWait_osum c _ 0 (by decide) [] trivial

/-- What a final state holds of a device beside the windowed arrays. -/
def Rest (c : Dev nD) (s : MemSt nD τ sig (Elt F)) : Prop :=
  ((s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)))
  ∧ ∀ sm : SemLoc sig, sm.isScoped .tc = false → s.sem ((c.tc : Thread nD τ), sm) = 0

theorem read_whole {ℓ : Loc nD τ sig} {f : Buf (Elt F) ℓ} (s' : Phys nD τ sig (Elt F)) : iprop(SI s' ∗ ℓ ↦{fullShare} f) ⊢ (iprop(⌜s'.mem.mem ℓ = f⌝ ∗ SI s') : sProp 𝕄) := by
  iintro ⟨HS, H⟩
  ihave %h := (SI_pointsTo_agree) $$ [HS H]
  · isplitl [HS] <;> iassumption
  isplitr
  · ipureintro; exact funext fun i => h i (Finset.mem_univ _)
  iexact HS

theorem read_end (c : Dev nD) (s' : Phys nD τ sig (Elt F)) :
    iprop((argsP (ins m) c ∗ unscopedSems0 c) ∗ emp ∗ SI s') ⊢ (|={Set.univ}=> iprop(⌜Rest m c s'.mem⌝ ∗ SI s') : sProp 𝕄) := by
  unfold argsP aP
  iintro ⟨⟨⟨H1, H2, H3, H4⟩, Hu⟩, -, HS⟩
  icases (read_whole s') $$ [HS H1] with ⟨%h1, HS⟩
  · isplitl [HS] <;> iassumption
  icases (read_whole s') $$ [HS H2] with ⟨%h2, HS⟩
  · isplitl [HS] <;> iassumption
  icases (read_whole s') $$ [HS H3] with ⟨%h3, HS⟩
  · isplitl [HS] <;> iassumption
  icases (read_whole s') $$ [HS H4] with ⟨%h4, HS⟩
  · isplitl [HS] <;> iassumption
  imod (Pipeline.unscopedSems0_read (X := unscopedSems0 c) (c := c) fupd_intro s') $$ [Hu HS] with ⟨%h5, HS⟩
  · isplitl [Hu] <;> iassumption
  imodintro
  isplitr
  · ipureintro; exact ⟨⟨h1, h2, h3, h4⟩, h5⟩
  iexact HS

def finalA (c : Dev nD) (w : Fin cfg0.W) : Buf (Elt F) ((cfg0.win w).arr.view.loc (c : Thread nD τ)) := (dats m 0 c).arrAt w cfg0.N

set_option maxRecDepth 65536 in
/-- From any memory with zero counters, at any float values: every run ends, with the windowed arrays at their computed contents, the other
    arrays unchanged and every semaphore's counter at zero. -/
theorem run_main : θ_run defs (onTc (τ := τ) (main (F := F))) ⟨m, fun _ => 0, ρ⟩
    (fun r => (∀ c : Dev nD, (∀ w : Fin cfg0.W, r.2.mem ((cfg0.win w).arr.view.loc (c : Thread nD τ)) = finalA m c w) ∧ Rest m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => Ow d 0) (howed₀ := fun _ => rfl) (howedN := fun _ => rfl)
    (L := Lv) (lv := lv) (hL := Lv_of_ne) (hwaits := waits m)
    (G := G (ins m)) (G' := G' (ins m)) (u₀ := u₀)
    (hu₀ := by
      unfold u₀
      iintro Hu
      ihave H := (ownU_pair _ _) $$ Hu
      icases H with ⟨HP, HX⟩
      ihave H2 := (own_pair_emb _ _ _) $$ HX
      icases H2 with ⟨HX, -⟩
      imod (fund_ring (ins m)) $$ [HX] with HG
      · unfold ER; iexact HX
      imodintro
      isplitl [HP] <;> iassumption)
    (hglob := glob (ins m))
    (hA := fun _ _ => rfl) (hpf := fun _ k => k.elim0)
    (X := start' m) (Y := fun c => iprop(argsP (ins m) c ∗ unscopedSems0 c)) (Z := fun _ => iprop(emp))
    (hX := start_intro m ρ) (hin := phi0_intro m) (hout := phi1_exit m)
    (QY := Rest m) (hY := read_end m)
    (hQ := fun s h hs => ⟨fun c => ⟨fun w => (h c).1 w, (h c).2.2⟩, sem_eq_zero hs fun c => (h c).2.2.2⟩)

/-- The staged input's array after the run holds what it held. -/
theorem finalA_x (c : Dev nD) : finalA m c (0 : Fin 2) = m (win0_0.arr.view.loc (c : Thread nD τ)) := (dats m 0 c).arrAt_in (0 : Fin 2) rfl _

/-- The frame: the five arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => ⟨((h.1 c).1 (0 : Fin 2)).trans (finalA_x m c), (h.1 c).2.1⟩, h.2⟩) (run_main m ρ)
end Run

end Cert.KP

end
-- ==== Proof.Same.lean ====
module

public import proofs.«01_k».proof.Proof.Run
public import proofs.«01_k».proof.Kernel
public import proofs.«01_k».proof.KernelIdeal
public import proofs.«01_k».proof.Defs
public import proofs.«01_k».proof.Proof.Gen.Kernel
public import proofs.«01_k».proof.Proof.Gen.KernelIdeal

@[expose] public section
noncomputable section
namespace Cert.KP
open Idealize.ShloMosaic Idealize.SL Idealize.SL.Sem
open Idealize.ShloMosaic.TcCoe

/-! # The program as compiled and as read at the ideal instance are one program at bit values

The two printed modules differ in one constant alone, the masked bias, which the second names. Where a named constant is read as the bits
it was printed for, the two are the same program. -/

/-- A named constant at bit values: the bits. -/
instance namedBits : Named Bits where
  named _ _ {φ} b := Scalar.ofBits φ b

set_option maxRecDepth 65536
set_option maxHeartbeats 2000000

theorem e_b : Cert.Kernel.cc0_body (F := Bits) = Cert.KernelIdeal.cc0_body (F := Bits) := rfl
theorem e_d0 : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l x
  match l, x with
  | 0, (t, s) => rfl
  | ⟨_ + 1, h⟩, _ => exact absurd h (Nat.not_lt.2 (Nat.le_add_left _ _))
theorem e_p : Cert.Kernel.pcfgs (F := Bits) = Cert.KernelIdeal.pcfgs (F := Bits) := rfl
theorem e_defs : Cert.Kernel.defs (F := Bits) = Cert.KernelIdeal.defs (F := Bits) := by
  unfold Cert.Kernel.defs Cert.KernelIdeal.defs
  rw [e_d0]; rfl
theorem e_main : Cert.Kernel.main (F := Bits) = Cert.KernelIdeal.main (F := Bits) := rfl

theorem θ_run_congr {nD : ℕ} {τ : Topo} {sig : RefSig} {Val : EltTy → Type} {Λ : Labels} {d d' : Defs nD τ sig Val Λ} (hd : d = d')
    {p p' : Dev nD → Prog (TpuEff nD τ sig Val Λ .tc) PUnit} (hp : p = p') {s : MemSt nD τ sig Val} {Q : _ → Prop}
    (h : θ_run d' (onTc (τ := τ) p') s Q) : θ_run d (onTc (τ := τ) p) s Q := by
  subst hd; subst hp; exact h

/-- The frame of the program as compiled. -/
theorem frame_bits (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) :=
  θ_run_congr e_defs e_main (frame (F := Bits) m ρ)
end Cert.KP
end
end
-- ==== Proof.Soft.lean ====
/- The attention both programs compute, written over extended reals: which key blocks a query row keeps, the masked
   scaled scores, the softmax weights and one head's context. The kernel divides the exponentials by their sum as they
   are; the reference first subtracts the row's greatest score. `weight_shift` says the two agree wherever the scores
   are not `⊤` and one of the row is a real number. -/
module

public import Idealize.ShloMosaic.PureOps.Ideal.Laws
public import Idealize.ShloMosaic.Lib.IdealHost

@[expose] public section

noncomputable section

namespace Cert.KP

open Idealize.ShloMosaic
open scoped BigOperators

/-- The extended real is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals, as a real. -/
theorem coe_sum {ι : Type} (S : Finset ι) (f : ι → ℝ) : (∑ i ∈ S, ((f i : ℝ) : EReal)) = ((∑ i ∈ S, f i : ℝ) : EReal) := by
  classical
  induction S using Finset.induction_on with
  | empty => simp
  | insert a S ha ih => rw [Finset.sum_insert ha, Finset.sum_insert ha, ih, EReal.coe_add]

theorem IsReal.sum {ι : Type} (S : Finset ι) (f : ι → EReal) (h : ∀ i, IsReal (f i)) : IsReal (∑ i ∈ S, f i) := by
  choose g hg using h
  exact ⟨∑ i ∈ S, g i, by rw [← coe_sum]; exact Finset.sum_congr rfl fun i _ => hg i⟩

/-- An extended real that is neither infinity is a real. -/
theorem isReal_of_ne {x : EReal} (h1 : x ≠ ⊤) (h2 : x ≠ ⊥) : IsReal x := ⟨x.toReal, (EReal.coe_toReal h1 h2).symm⟩

theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r

/-- Query row `i` attends to key row `j`: their blocks of 64 rows agree, or `j` lies in the first block, or the two
    block numbers add to a multiple of three. -/
def Kept (i j : Fin 1024) : Prop := i.val / 64 = j.val / 64 ∨ j.val / 64 = 0 ∨ (i.val / 64 + j.val / 64) % 3 = 0

instance (i j : Fin 1024) : Decidable (Kept i j) := inferInstanceAs (Decidable (_ ∨ _ ∨ _))

theorem kept_self (i : Fin 1024) : Kept i i := Or.inl rfl

/-- The factor on the scores. -/
def scaleC : EReal := Ideal.ofBits .f32 0x3DB504F3#32

theorem scaleC_real : IsReal scaleC := by
  refine isReal_of_ne ?_ ?_ <;> unfold scaleC <;> simp [Ideal.ofBits, Ideal.ieee, -EReal.coe_mul]

/-- The masked scaled scores of query row `i`. -/
def score (q k : Fin 1024 → Fin 128 → EReal) (i j : Fin 1024) : EReal := if Kept i j then (∑ d, q i d * k j d) * scaleC else ⊥

/-- The softmax weights of a row of scores. -/
def weight (s : Fin 1024 → EReal) (j : Fin 1024) : EReal := Ideal.exp (s j) * Ideal.div 1 (∑ j', Ideal.exp (s j'))

/-- One head's context. -/
def headC (q k v : Fin 1024 → Fin 128 → EReal) (i : Fin 1024) (e : Fin 128) : EReal := ∑ j, weight (score q k i) j * v j e

/-- The exponential of a score that is not `⊤`, as a real. -/
def expR (x : EReal) : ℝ := if x = ⊥ then 0 else Real.exp x.toReal

theorem exp_coe (r : ℝ) : Ideal.exp (r : EReal) = ((Real.exp r : ℝ) : EReal) := rfl
theorem exp_bot : Ideal.exp (⊥ : EReal) = 0 := rfl

theorem exp_eq {x : EReal} (h : x ≠ ⊤) : Ideal.exp x = ((expR x : ℝ) : EReal) := by
  unfold expR
  split
  · next h0 => subst h0; exact exp_bot.trans EReal.coe_zero.symm
  · next h0 =>
    obtain ⟨r, rfl⟩ := isReal_of_ne h h0
    rfl

theorem expR_nonneg (x : EReal) : 0 ≤ expR x := by unfold expR; split; exacts [le_rfl, (Real.exp_pos _).le]

theorem expR_pos {x : EReal} (h : x ≠ ⊥) : 0 < expR x := by unfold expR; rw [if_neg h]; exact Real.exp_pos _

/-- Subtracting a real before the exponential divides by its exponential. -/
theorem exp_sub {x : EReal} (h : x ≠ ⊤) (m : ℝ) : Ideal.exp (x - (m : EReal)) = ((expR x * Real.exp (-m) : ℝ) : EReal) := by
  by_cases h0 : x = ⊥
  · subst h0
    rw [EReal.bot_sub, exp_bot]
    unfold expR
    rw [if_pos rfl, zero_mul, EReal.coe_zero]
  · obtain ⟨r, rfl⟩ := isReal_of_ne h h0
    rw [← EReal.coe_sub, exp_coe]
    unfold expR
    rw [if_neg h0, EReal.toReal_coe, sub_eq_add_neg, Real.exp_add]

/-- The softmax weights do not depend on a real subtracted from the row. -/
theorem weight_shift (s : Fin 1024 → EReal) (hs : ∀ j, s j ≠ ⊤) (hr : ∃ j, s j ≠ ⊥) (m : ℝ) (j : Fin 1024) :
    Ideal.div (Ideal.exp (s j - (m : EReal))) (∑ j', Ideal.exp (s j' - (m : EReal))) = weight s j := by
  have hpos : 0 < ∑ j', expR (s j') := by
    obtain ⟨j0, h0⟩ := hr
    exact lt_of_lt_of_le (expR_pos h0) (Finset.single_le_sum (f := fun j' => expR (s j')) (fun j' _ => expR_nonneg _) (Finset.mem_univ j0))
  have e1 : (∑ j', Ideal.exp (s j' - (m : EReal))) = (((∑ j', expR (s j')) * Real.exp (-m) : ℝ) : EReal) := by
    rw [Finset.sum_mul, ← coe_sum]
    exact Finset.sum_congr rfl fun j' _ => exp_sub (hs j') m
  have e2 : (∑ j', Ideal.exp (s j')) = ((∑ j', expR (s j') : ℝ) : EReal) := by
    rw [← coe_sum]
    exact Finset.sum_congr rfl fun j' _ => exp_eq (hs j')
  have hm : (0 : ℝ) < Real.exp (-m) := Real.exp_pos _
  unfold weight
  rw [e1, e2, exp_sub (hs j) m, exp_eq (hs j), Ideal.div_coe (mul_pos hpos hm).ne', Ideal.div_coe hpos.ne', one_mul,
    ← EReal.coe_mul, ← EReal.coe_mul]
  congr 1
  field_simp

/-- The scores of real queries and keys are never `⊤`, and the diagonal one is real. -/
theorem score_ne_top {q k : Fin 1024 → Fin 128 → EReal} (hq : ∀ i d, IsReal (q i d)) (hk : ∀ i d, IsReal (k i d)) (i j : Fin 1024) :
    score q k i j ≠ ⊤ := by
  unfold score
  split
  · exact ((IsReal.sum _ _ fun d => (hq i d).mul (hk j d)).mul scaleC_real).ne_top
  · exact bot_ne_top

theorem score_self_ne_bot {q k : Fin 1024 → Fin 128 → EReal} (hq : ∀ i d, IsReal (q i d)) (hk : ∀ i d, IsReal (k i d)) (i : Fin 1024) :
    score q k i i ≠ ⊥ := by
  unfold score
  rw [if_pos (kept_self i)]
  exact ((IsReal.sum _ _ fun d => (hq i d).mul (hk i d)).mul scaleC_real).ne_bot

/-- The greatest score of a row, folded from `⊥`, is real. -/
theorem fold_max_real (s : Fin 1024 → EReal) (hs : ∀ j, s j ≠ ⊤) (hr : ∃ j, s j ≠ ⊥) :
    IsReal ((Finset.univ : Finset (Fin 1024)).fold max ⊥ s) := by
  refine isReal_of_ne (ne_of_lt ?_) ?_
  · exact Finset.fold_max_lt ⊤ |>.2 ⟨bot_lt_top, fun j _ => lt_top_iff_ne_top.2 (hs j)⟩
  · obtain ⟨j0, h0⟩ := hr
    refine ne_of_gt (lt_of_lt_of_le (bot_lt_iff_ne_bot.2 h0) ?_)
    exact (Finset.le_fold_max (s j0)).2 (Or.inr ⟨j0, Finset.mem_univ _, le_rfl⟩)

end Cert.KP

end
-- ==== Proof.Words.lean ====
/- The two programs' block numbers and mask bits as words: the row number divided by 64, rounded down, and the three-way
   test on two block numbers, each checked over every row or block number there is. -/
module

public import proofs.«01_k».proof.Proof.Soft
public import Idealize.ShloMosaic.PureOps
public import Idealize.ShloMosaic.Lib.WordCmp

@[expose] public section

set_option maxRecDepth 16384

namespace Cert.KP

open Idealize.ShloMosaic

/-- The kernel's floor division of a word by 64. -/
def blkK (w : BitVec 32) : BitVec 32 :=
  Scalar.select (IntOp.andi (IntOp.cmpi .ne (IntOp.subi ((IntOp.cmpi .sgt w 0#32).setWidth 32) ((IntOp.cmpi .slt w 0#32).setWidth 32))
      (Scalar.subi (Scalar.extui (Scalar.cmpi .sgt 64#32 0#32)) (Scalar.extui (Scalar.cmpi .slt 64#32 0#32))))
    (IntOp.cmpi .ne (IntOp.remsi .vector w 64#32) 0#32))
    (IntOp.subi (IntOp.divsi .vector w 64#32) 1#32) (IntOp.divsi .vector w 64#32)

/-- The sign of a word. -/
def sgnR (w : BitVec 32) : BitVec 32 := if w = 0 then 0 else if w.msb then -1 else 1

/-- The reference's floor division of a word by 64. -/
def blkR (w : BitVec 32) : BitVec 32 :=
  Scalar.select (IntOp.andi (IntOp.cmpi .ne (sgnR w) (sgnR 64#32)) (IntOp.cmpi .ne (IntOp.remsi .host w 64#32) 0#32))
    (IntOp.subi (IntOp.divsi .host w 64#32) 1#32) (IntOp.divsi .host w 64#32)

/-- The kernel's test on two block numbers. -/
def bitK (a b : BitVec 32) : BitVec 1 :=
  IntOp.ori (IntOp.ori (IntOp.cmpi .eq a b) (IntOp.cmpi .eq b 0#32)) (IntOp.cmpi .eq (IntOp.remsi .vector (IntOp.addi a b) 3#32) 0#32)

/-- The reference's divisor three, as it spells it. -/
def threeR : BitVec 32 := Scalar.select (IntOp.cmpi .eq 3#32 0#32) 1#32 3#32

/-- The reference's test on two block numbers: the remainder by three is rounded toward minus infinity. -/
def bitR (a b : BitVec 32) : BitVec 1 :=
  IntOp.ori (IntOp.ori (IntOp.cmpi .eq a b) (IntOp.cmpi .eq b 0#32))
    (IntOp.cmpi .eq (Scalar.select (IntOp.andi (IntOp.cmpi .ne (IntOp.cmpi .slt (IntOp.remsi .host (IntOp.addi a b) threeR) 0#32) (IntOp.cmpi .slt threeR 0#32))
        (IntOp.cmpi .ne (IntOp.remsi .host (IntOp.addi a b) threeR) 0#32))
      (IntOp.addi (IntOp.remsi .host (IntOp.addi a b) threeR) threeR) (IntOp.remsi .host (IntOp.addi a b) threeR)) 0#32)

theorem blkK_eq : ∀ r : Fin 1024, blkK (BitVec.ofNat 32 r.val) = BitVec.ofNat 32 (r.val / 64) := by decide +kernel
theorem blkR_eq : ∀ r : Fin 1024, blkR (BitVec.ofNat 32 r.val) = BitVec.ofNat 32 (r.val / 64) := by decide +kernel

theorem bitK_eq : ∀ a b : Fin 16, bitK (BitVec.ofNat 32 a.val) (BitVec.ofNat 32 b.val)
    = if a.val = b.val ∨ b.val = 0 ∨ (a.val + b.val) % 3 = 0 then 1#1 else 0#1 := by decide +kernel
theorem bitR_eq : ∀ a b : Fin 16, bitR (BitVec.ofNat 32 a.val) (BitVec.ofNat 32 b.val)
    = if a.val = b.val ∨ b.val = 0 ∨ (a.val + b.val) % 3 = 0 then 1#1 else 0#1 := by decide +kernel

/-- Both tests, on the block numbers of two rows, decide whether the key row is kept. -/
theorem bitK_kept (i j : Fin 1024) : bitK (blkK (BitVec.ofNat 32 i.val)) (blkK (BitVec.ofNat 32 j.val)) = if Kept i j then 1#1 else 0#1 := by
  have hi : i.val / 64 < 16 := by omega
  have hj : j.val / 64 < 16 := by omega
  rw [blkK_eq, blkK_eq]
  refine (bitK_eq ⟨i.val / 64, hi⟩ ⟨j.val / 64, hj⟩).trans ?_
  by_cases hk : Kept i j
  · rw [if_pos hk]; exact if_pos hk
  · rw [if_neg hk]; exact if_neg hk

theorem bitR_kept (i j : Fin 1024) : bitR (blkR (BitVec.ofNat 32 i.val)) (blkR (BitVec.ofNat 32 j.val)) = if Kept i j then 1#1 else 0#1 := by
  have hi : i.val / 64 < 16 := by omega
  have hj : j.val / 64 < 16 := by omega
  rw [blkR_eq, blkR_eq]
  refine (bitR_eq ⟨i.val / 64, hi⟩ ⟨j.val / 64, hj⟩).trans ?_
  by_cases hk : Kept i j
  · rw [if_pos hk]; exact if_pos hk
  · rw [if_neg hk]; exact if_neg hk

end Cert.KP
-- ==== Proof.Heads.lean ====
/- What the device's own part of the kernel computes, read entry by entry over the extended reals: the mask, one head's
   attention (every one of the eight is the same function of its columns of the queries), the context and the partial
   result. -/
module

public import proofs.«01_k».proof.Proof.Local
public import proofs.«01_k».proof.Proof.Soft
public import proofs.«01_k».proof.Proof.Words
public import Idealize.ShloMosaic.Lib.ValueIdx
public import Idealize.ShloMosaic.Lib.MatmulPlain
public import Idealize.ShloMosaic.Lib.Pipeline.Value

@[expose] public section

set_option maxRecDepth 16384

noncomputable section

namespace Cert.KP

open Cert.KernelIdeal Cert.KernelIdeal.Gen
open Idealize.ShloMosaic Idealize.ShloMosaic.ValueIdx
open scoped BigOperators

/-! ## The mask -/

/-- The bias on the scores: zero where the key is kept, `⊥` elsewhere. -/
theorem bias_apply (i j : Fin 1024) : biasV (F := Ideal) (ix2 i j) = if Kept i j then (0 : EReal) else ⊥ := by
  have h0 : iota .tc S1024x1024 32 [0] iota_S1024x1024_d0_w32 (ix2 i j) = BitVec.ofNat 32 i.val := iota_single_apply ..
  have h1 : iota .tc S1024x1024 32 [1] iota_S1024x1024_d1_w32 (ix2 i j) = BitVec.ofNat 32 j.val := iota_single_apply ..
  have e : biasV (F := Ideal) (ix2 i j)
      = Scalar.select (bitK (blkK (iota .tc S1024x1024 32 [0] iota_S1024x1024_d0_w32 (ix2 i j)))
          (blkK (iota .tc S1024x1024 32 [1] iota_S1024x1024_d1_w32 (ix2 i j))))
        (Ideal.ofBits .f32 0x00000000#32) (⊥ : EReal) := rfl
  rw [e, h0, h1, bitK_kept]
  by_cases hk : Kept i j
  · rw [if_pos hk, if_pos hk]
    exact (select_one _ _).trans Ideal.ofBits_zero_f32
  · rw [if_neg hk, if_neg hk]
    exact select_zero _ _

/-! ## One head -/

/-- The exponentials of a head's masked scaled scores: `q` its queries, `k` its keys, `b` the bias. -/
def expP (q k : FVec Ideal S1024x128 .bf16) (b : FVec Ideal S1024x1024 .f32) : FVec Ideal S1024x1024 .f32 :=
  exp (addf (mulf (matmul dot_S1024x128_S1024x128_S1024x1024_1_1_0_0_n_n none q k (constant S1024x1024 .f32 0x00000000#32))
    (broadcast S1024x1024 (Scalar.ofBits .f32 0x3DB504F3#32))) b)

/-- A head from its exponentials and its values. -/
def headW (x : FVec Ideal S1024x1024 .f32) (v : FVec Ideal S1024x128 .bf16) : FVec Ideal S1024x128 .bf16 :=
  truncf .bf16 (matmul dot_S1024x1024_S1024x128_S1024x128_1_0_0_1_n_n none
    (truncf .bf16 (mulf x (broadcastTo S1024x1024
      (divf (broadcast S1024x1 (Scalar.ofBits .f32 0x3F800000#32))
        (shapeCast S1024x1 (multiReduction .add [1] S1024 x 0x00000000#32 reduces_S1024x1024_S1024 (.inl rfl) rfl) shapeCasts_S1024_S1024x1))
      broadcasts_S1024x1_S1024x1024)) bitsLt_bf16_f32) v (constant S1024x128 .f32 0x00000000#32)) bitsLt_bf16_f32

theorem expP_apply (q k : FVec Ideal S1024x128 .bf16) (b : FVec Ideal S1024x1024 .f32) (i j : Fin 1024) :
    expP q k b (ix2 i j) = Ideal.exp (((∑ d : Fin 128, q (ix2 i d) * k (ix2 j d)) : EReal) * scaleC + b (ix2 i j)) := by
  have h := Ideal.matmul_transposedRhs_apply (M := 1024) (K := 128) (N := 1024) none q k (constant S1024x1024 .f32 0x00000000#32) i j
  have e : expP q k b (ix2 i j) = Ideal.exp ((FloatOps.matmul (DotDims.transposedRhs 1024 128 1024) none q k (constant S1024x1024 .f32 0x00000000#32) (ix2 i j) : EReal)
      * scaleC + b (ix2 i j)) := rfl
  rw [e, h, constant_apply, Ideal.ofBits_zero_f32, zero_add]

theorem headW_apply (x : FVec Ideal S1024x1024 .f32) (v : FVec Ideal S1024x128 .bf16) (i : Fin 1024) (e : Fin 128) :
    headW x v (ix2 i e) = @Finset.sum (Fin 1024) EReal _ Finset.univ fun j =>
      (x (ix2 i j) * Ideal.div 1 (@Finset.sum (Fin 1024) EReal _ Finset.univ fun j' => x (ix2 i j'))) * v (ix2 j e) := by
  have h0 : headW x v (ix2 i e) = FloatOps.matmul (DotDims.plain 1024 1024 128) none
    (truncf .bf16 (mulf x (broadcastTo S1024x1024
      (divf (broadcast S1024x1 (Scalar.ofBits .f32 0x3F800000#32))
        (shapeCast S1024x1 (multiReduction .add [1] S1024 x 0x00000000#32 reduces_S1024x1024_S1024 (.inl rfl) rfl) shapeCasts_S1024_S1024x1))
      broadcasts_S1024x1_S1024x1024)) bitsLt_bf16_f32) v (constant S1024x128 .f32 0x00000000#32) (ix2 i e) := rfl
  rw [h0, Ideal.matmul_plain_apply, constant_apply, Ideal.ofBits_zero_f32, zero_add]
  refine Finset.sum_congr rfl fun j _ => ?_
  congr 1
  rw [truncf_apply, mulf_apply]
  congr 1
  rw [broadcastTo_apply _ _ (ix2 i j) (ix2 i (0 : Fin 1)) (by intro a; match a with | ⟨0, _⟩ => rfl | ⟨1, _⟩ => rfl), divf_apply,
    shapeCast_apply _ _ (ix2 i (0 : Fin 1)) (ix1 i) (by
      rw [Shape.rowMajor_val_one, Shape.rowMajor_val_two]
      show i.val = i.val * 1 + 0
      omega)]
  have hs : multiReduction .add [1] S1024 x 0x00000000#32 reduces_S1024x1024_S1024 (.inl rfl) rfl (ix1 i)
      = @Finset.sum (Fin 1024) EReal _ Finset.univ fun j' => x (ix2 i j') := by
    refine (Ideal.multiReduction_add_single (a := 1) x _ reduces_S1024x1024_S1024 _ _ (ix1 i)).trans ?_
    refine Finset.sum_congr rfl fun j' _ => congrArg x ?_
    funext a; apply Fin.ext
    match a with
    | ⟨0, _⟩ => rfl
    | ⟨1, _⟩ => rfl
  rw [hs]
  exact congrArg (fun z => Ideal.div z _) Ideal.ofBits_one_f32

/-- A head: its columns of the queries start at `n`. -/
def headP (n : ℕ) (hn : S1024x1024.Slices ![0, n] S1024x128) (q b : FVec Ideal S1024x1024 .f32) (k v : Vec Ideal S1x1024x128 .f32) :
    FVec Ideal S1024x128 .bf16 :=
  headW (expP (truncf .bf16 (extractStridedSlice S1024x128 ![0, n] q hn) bitsLt_bf16_f32)
    (truncf .bf16 (shapeCast S1024x128 k shapeCasts_S1x1024x128_S1024x128) bitsLt_bf16_f32) b)
    (truncf .bf16 (shapeCast S1024x128 v shapeCasts_S1x1024x128_S1024x128) bitsLt_bf16_f32)

theorem cast3_apply (k : Vec Ideal S1x1024x128 .f32) (j : Fin 1024) (d : Fin 128) :
    shapeCast S1024x128 k shapeCasts_S1x1024x128_S1024x128 (ix2 j d) = k (ix3 (0 : Fin 1) j d) :=
  shapeCast_apply _ _ _ _ (by
    rw [Shape.rowMajor_val_two, Shape.rowMajor_val_three]
    show (0 * 1024 + j.val) * 128 + d.val = j.val * 128 + d.val
    omega)

theorem headP_apply (n : ℕ) (h128 : n + 128 ≤ 1024) (hn : S1024x1024.Slices ![0, n] S1024x128) (q : FVec Ideal S1024x1024 .f32)
    (k v : Vec Ideal S1x1024x128 .f32) (i : Fin 1024) (e : Fin 128) :
    headP n hn q (biasV (F := Ideal)) k v (ix2 i e)
      = headC (fun i d => q (ix2 i (⟨n + d.val, by omega⟩ : Fin 1024))) (fun j d => k (ix3 (0 : Fin 1) j d)) (fun j d => v (ix3 (0 : Fin 1) j d)) i e := by
  have hx : ∀ j : Fin 1024, expP (truncf .bf16 (extractStridedSlice S1024x128 ![0, n] q hn) bitsLt_bf16_f32)
      (truncf .bf16 (shapeCast S1024x128 k shapeCasts_S1x1024x128_S1024x128) bitsLt_bf16_f32) (biasV (F := Ideal)) (ix2 i j)
      = Ideal.exp (score (fun i d => q (ix2 i (⟨n + d.val, by omega⟩ : Fin 1024))) (fun j d => k (ix3 (0 : Fin 1) j d)) i j) := by
    intro j
    rw [expP_apply, bias_apply]
    have hq : ∀ d : Fin 128, (truncf .bf16 (extractStridedSlice S1024x128 ![0, n] q hn) bitsLt_bf16_f32 : FVec Ideal S1024x128 .bf16) (ix2 i d)
        = q (ix2 i (⟨n + d.val, by omega⟩ : Fin 1024)) := fun d => by
      rw [truncf_apply]
      exact extractStridedSlice_apply _ _ _ _ _ (by
        intro a
        match a with
        | ⟨0, _⟩ => exact (Nat.zero_add _).symm
        | ⟨1, _⟩ => rfl)
    have hk : ∀ d : Fin 128, (truncf .bf16 (shapeCast S1024x128 k shapeCasts_S1x1024x128_S1024x128) bitsLt_bf16_f32 : FVec Ideal S1024x128 .bf16) (ix2 j d)
        = k (ix3 (0 : Fin 1) j d) := fun d => by rw [truncf_apply, cast3_apply]
    unfold score
    by_cases hkp : Kept i j
    · rw [if_pos hkp, if_pos hkp, add_zero]
      refine congrArg (fun z : EReal => Ideal.exp (z * scaleC)) (Finset.sum_congr rfl fun d _ => ?_)
      rw [hq, hk]
    · rw [if_neg hkp, if_neg hkp, EReal.add_bot]
  unfold headP
  rw [headW_apply]
  unfold headC weight
  refine Finset.sum_congr rfl fun j _ => ?_
  rw [truncf_apply, cast3_apply]
  refine congrArg₂ (· * ·) (congrArg₂ (· * ·) (hx j) (congrArg (Ideal.div 1) (Finset.sum_congr rfl fun j' _ => hx j'))) rfl

/-! ## The blocks the heads read -/

theorem up_apply (u : S1024x128.Idx → Elt Ideal .f32) (j : Fin 1024) (d : Fin 128) : up (F := Ideal) u (ix3 (0 : Fin 1) j d) = u (ix2 j d) := by
  unfold up
  refine congrArg u ((Equiv.symm_apply_eq _).2 (Shape.reshapeEquiv_eq_of_rowMajor _ ?_).symm)
  rw [Shape.rowMajor_val_two, Shape.rowMajor_val_three]
  show (0 * 1024 + j.val) * 128 + d.val = j.val * 128 + d.val
  omega

theorem headSlice_apply (u : S1x1024x1x128.Idx → Elt Ideal .f32) (j : Fin 1024) (d : Fin 128) :
    shapeCast S1024x128 u squeezes_S1x1024x1x128_S1024x128.numel_eq.symm (ix2 j d) = u (ix4 (0 : Fin 1) j (0 : Fin 1) d) :=
  shapeCast_apply _ _ _ _ (by
    rw [Shape.rowMajor_val_two, Shape.rowMajor_val_four]
    show ((0 * 1024 + j.val) * 1 + 0) * 128 + d.val = j.val * 128 + d.val
    omega)

/-- Head `n` of the keys, of the values, as the kernel has copied it. -/
theorem kHead (n : Fin 8) (inb : ∀ a, (![0, 0, n.val, 0] : Fin 4 → ℕ) a + S1x1024x1x128.size a ≤ S1x1024x8x128.size a)
    (f : Vec Ideal S1x1024x8x128 .f32) (j : Fin 1024) (d : Fin 128) :
    up (F := Ideal) (((aK.slice (Rect.unit (s := S1x1024x8x128) ![0, 0, n.val, 0] S1x1024x1x128.size inb) (fun _ => rfl)).squeeze S1024x128 squeezes_S1x1024x1x128_S1024x128).view.read (Elt Ideal) f)
      (ix3 (0 : Fin 1) j d) = f (ix4 (0 : Fin 1) j n d) := by
  rw [up_apply]
  refine (headSlice_apply (aK.view.readAt (Elt Ideal) (Rect.unit (s := S1x1024x8x128) ![0, 0, n.val, 0] S1x1024x1x128.size inb).toLoadRect f) j d).trans ?_
  refine congrArg f (?_ : _ = ix4 (0 : Fin 1) j n d)
  funext a; apply Fin.ext
  match a with
  | ⟨0, _⟩ => rfl
  | ⟨1, _⟩ => exact (Nat.zero_add _).trans (Nat.one_mul _)
  | ⟨2, _⟩ => rfl
  | ⟨3, _⟩ => exact (Nat.zero_add _).trans (Nat.one_mul _)

theorem vHead (n : Fin 8) (inb : ∀ a, (![0, 0, n.val, 0] : Fin 4 → ℕ) a + S1x1024x1x128.size a ≤ S1x1024x8x128.size a)
    (f : Vec Ideal S1x1024x8x128 .f32) (j : Fin 1024) (d : Fin 128) :
    up (F := Ideal) (((aV.slice (Rect.unit (s := S1x1024x8x128) ![0, 0, n.val, 0] S1x1024x1x128.size inb) (fun _ => rfl)).squeeze S1024x128 squeezes_S1x1024x1x128_S1024x128).view.read (Elt Ideal) f)
      (ix3 (0 : Fin 1) j d) = f (ix4 (0 : Fin 1) j n d) := by
  rw [up_apply]
  refine (headSlice_apply (aV.view.readAt (Elt Ideal) (Rect.unit (s := S1x1024x8x128) ![0, 0, n.val, 0] S1x1024x1x128.size inb).toLoadRect f) j d).trans ?_
  refine congrArg f (?_ : _ = ix4 (0 : Fin 1) j n d)
  funext a; apply Fin.ext
  match a with
  | ⟨0, _⟩ => rfl
  | ⟨1, _⟩ => exact (Nat.zero_add _).trans (Nat.one_mul _)
  | ⟨2, _⟩ => rfl
  | ⟨3, _⟩ => exact (Nat.zero_add _).trans (Nat.one_mul _)

/-- A head of the kernel whose blocks are `k` and `v`. -/
theorem head_of (A : Ins Ideal) (c : Dev nD) (n : Fin 8) (hn : S1024x1024.Slices ![0, 128 * n.val] S1024x128) (k v : Vec Ideal S1x1024x128 .f32)
    (hk : ∀ j d, k (ix3 (0 : Fin 1) j d) = A.k c (ix4 (0 : Fin 1) j n d)) (hv : ∀ j d, v (ix3 (0 : Fin 1) j d) = A.v c (ix4 (0 : Fin 1) j n d))
    (i : Fin 1024) (e : Fin 128) :
    shapeCast S1024x128 (headP (128 * n.val) hn (qV A c) (biasV (F := Ideal)) k v) shapeCasts_S1024x128_S1024x128 (ix2 i e)
      = headC (fun i d => qV A c (ix2 i (⟨128 * n.val + d.val, by omega⟩ : Fin 1024))) (fun j d => A.k c (ix4 (0 : Fin 1) j n d))
          (fun j d => A.v c (ix4 (0 : Fin 1) j n d)) i e := by
  rw [shapeCast_self, headP_apply _ (by omega)]
  have ek : (fun (j : Fin 1024) (d : Fin 128) => k (ix3 (0 : Fin 1) j d)) = fun j d => A.k c (ix4 (0 : Fin 1) j n d) := funext fun j => funext fun d => hk j d
  have ev : (fun (j : Fin 1024) (d : Fin 128) => v (ix3 (0 : Fin 1) j d)) = fun j d => A.v c (ix4 (0 : Fin 1) j n d) := funext fun j => funext fun d => hv j d
  rw [ek, ev]

/-- Every head is the attention of its columns of the queries and its block of the keys and the values. -/
theorem hO_apply (A : Ins Ideal) (c : Dev nD) (n : Fin 8) (i : Fin 1024) (e : Fin 128) :
    hO A c n (ix2 i e) = headC (fun i d => qV A c (ix2 i (⟨128 * n.val + d.val, by omega⟩ : Fin 1024))) (fun j d => A.k c (ix4 (0 : Fin 1) j n d))
          (fun j d => A.v c (ix4 (0 : Fin 1) j n d)) i e := by
  match n with
  | 0 => exact head_of A c 0 (by decide) (kH0 A c) (vH0 A c) (kHead 0 _ _) (vHead 0 _ _) i e
  | 1 => exact head_of A c 1 (by decide) (kH1 A c) (vH1 A c) (kHead 1 _ _) (vHead 1 _ _) i e
  | 2 => exact head_of A c 2 (by decide) (kH2 A c) (vH2 A c) (kHead 2 _ _) (vHead 2 _ _) i e
  | 3 => exact head_of A c 3 (by decide) (kH3 A c) (vH3 A c) (kHead 3 _ _) (vHead 3 _ _) i e
  | 4 => exact head_of A c 4 (by decide) (kH4 A c) (vH4 A c) (kHead 4 _ _) (vHead 4 _ _) i e
  | 5 => exact head_of A c 5 (by decide) (kH5 A c) (vH5 A c) (kHead 5 _ _) (vHead 5 _ _) i e
  | 6 => exact head_of A c 6 (by decide) (kH6 A c) (vH6 A c) (kHead 6 _ _) (vHead 6 _ _) i e
  | 7 => exact head_of A c 7 (by decide) (kH7 A c) (vH7 A c) (kHead 7 _ _) (vHead 7 _ _) i e

/-! ## The queries and the partial result -/

/-- The device's columns of `Wq`, its rows of `Wo`. -/
theorem wqB_apply (A : Ins Ideal) (c : Dev nD) (t u : Fin 1024) :
    wqB A c (ix2 t u) = A.wq c (ix2 t (⟨1024 * c.val + u.val, by have : c.val < 16 := c.isLt; omega⟩ : Fin 16384)) := by
  refine congrArg (A.wq c) ?_
  funext a; apply Fin.ext
  match a with
  | ⟨0, _⟩ => exact (Nat.zero_add _).trans (Nat.one_mul _)
  | ⟨1, _⟩ =>
    refine (congrArg₂ (· + ·) (?_ : k0_off1 c 1 = 1024 * c.val) (Nat.one_mul u.val))
    revert c; decide +kernel

theorem woB_apply (A : Ins Ideal) (c : Dev nD) (u o : Fin 1024) :
    woB A c (ix2 u o) = A.wo c (ix2 (⟨1024 * c.val + u.val, by have : c.val < 16 := c.isLt; omega⟩ : Fin 16384) o) := by
  refine congrArg (A.wo c) ?_
  funext a; apply Fin.ext
  match a with
  | ⟨0, _⟩ =>
    refine (congrArg₂ (· + ·) (?_ : k0_off2 c 0 = 1024 * c.val) (Nat.one_mul u.val))
    revert c; decide +kernel
  | ⟨1, _⟩ => exact (Nat.zero_add _).trans (Nat.one_mul _)

theorem qV_apply (A : Ins Ideal) (c : Dev nD) (i u : Fin 1024) :
    qV A c (ix2 i u) = @Finset.sum (Fin 1024) EReal _ Finset.univ fun t =>
      A.x c (ix3 (0 : Fin 1) i t) * A.wq c (ix2 t (⟨1024 * c.val + u.val, by have : c.val < 16 := c.isLt; omega⟩ : Fin 16384)) := by
  have h := Ideal.matmul_plain_apply (M := 1024) (K := 1024) (N := 1024) (φ₁ := .bf16) (φ₂ := .bf16) none (k0_pay2 (A.x c)) (k0_pay3 (wqB A c))
    (constant S1024x1024 .f32 0x00000000#32) i u
  refine (show qV A c (ix2 i u) = _ from h).trans ?_
  rw [constant_apply, Ideal.ofBits_zero_f32, zero_add]
  refine Finset.sum_congr rfl fun t _ => congrArg₂ (· * ·) ?_ (wqB_apply A c t u)
  exact shapeCast_apply (A.x c) shapeCasts_S1x1024x1024_S1024x1024 (ix2 i t) (ix3 (0 : Fin 1) i t) (by
    rw [Shape.rowMajor_val_two, Shape.rowMajor_val_three]
    show (0 * 1024 + i.val) * 1024 + t.val = i.val * 1024 + t.val
    omega)

theorem PV_apply (A : Ins Ideal) (c : Dev nD) (i o : Fin 1024) :
    PV A c (ix3 (0 : Fin 1) i o) = @Finset.sum (Fin 1024) EReal _ Finset.univ fun u =>
      hO A c ⟨u.val / 128, by omega⟩ (ix2 i (⟨u.val % 128, Nat.mod_lt _ (by decide)⟩ : Fin 128))
        * A.wo c (ix2 (⟨1024 * c.val + u.val, by have : c.val < 16 := c.isLt; omega⟩ : Fin 16384) o) := by
  have h := Ideal.matmul_plain_apply (M := 1024) (K := 1024) (N := 1024) (φ₁ := .bf16) (φ₂ := .bf16) none (ctxV A c) (truncf .bf16 (woB A c) bitsLt_bf16_f32)
    (constant S1024x1024 .f32 0x00000000#32) i o
  refine (shapeCast_apply (FloatOps.matmul (DotDims.plain 1024 1024 1024) none (ctxV A c) (truncf .bf16 (woB A c) bitsLt_bf16_f32)
    (constant S1024x1024 .f32 0x00000000#32)) shapeCasts_S1024x1024_S1x1024x1024 (ix3 (0 : Fin 1) i o) (ix2 i o) (by
      rw [Shape.rowMajor_val_two, Shape.rowMajor_val_three]
      show i.val * 1024 + o.val = (0 * 1024 + i.val) * 1024 + o.val
      omega)).trans ?_
  refine h.trans ?_
  rw [constant_apply, Ideal.ofBits_zero_f32, zero_add]
  exact Finset.sum_congr rfl fun u _ => congrArg₂ (· * ·) rfl (woB_apply A c u o)

end Cert.KP

end
-- ==== Proof.AllReduce.lean ====
module

public import proofs.«01_k».proof.Proof.Contents
public import Idealize.ShloMosaic.Lib.ValueIdx
public import Idealize.ShloMosaic.Lib.Pipeline.Value

@[expose] public section

set_option maxRecDepth 16384

noncomputable section

namespace Cert.KP

open Cert.KernelIdeal Cert.KernelIdeal.Gen
open Idealize.ShloMosaic Idealize.ShloMosaic.ValueIdx
open Idealize.ShloMosaic.Pipeline

/-! # The exchange adds up the sixteen parts

Over the extended reals a change of float type does nothing, so a message is the rows it was read from and an addition adds them entry by
entry. Row by row, phase A leaves on one quarter of the rows (another one for the right half of the columns) the sum of the ring, phase B
the sum of everything there, and phase C copies those quarters round the ring. -/

/-! ## What the stores and messages do to the numbers -/
theorem pay27_eq (v : S1x256x512.Idx → EReal) : k0_pay27 (F := Ideal) v = v :=
  shapeCast_shapeCast (s := S1x256x512) (t := S256x512) v _ _
theorem pay28_eq (v : S1x256x512.Idx → EReal) : k0_pay28 (F := Ideal) v = v :=
  shapeCast_shapeCast (s := S1x256x512) (t := S256x512) v _ _
theorem pay35_eq (v : S1x128x512.Idx → EReal) : k0_pay35 (F := Ideal) v = v :=
  shapeCast_shapeCast (s := S1x128x512) (t := S128x512) v _ _
theorem pay36_eq (v : S1x128x512.Idx → EReal) : k0_pay36 (F := Ideal) v = v :=
  shapeCast_shapeCast (s := S1x128x512) (t := S128x512) v _ _
theorem pay39_eq (v : S1x64x512.Idx → EReal) : k0_pay39 (F := Ideal) v = v :=
  shapeCast_shapeCast (s := S1x64x512) (t := S64x512) v _ _
theorem pay41_eq (v : S1x64x512.Idx → EReal) : k0_pay41 (F := Ideal) (k0_pay40 (F := Ideal) v) = v :=
  shapeCast_shapeCast (s := S1x64x512) (t := S64x512) v _ _
theorem pay45_eq (v : S1x64x512.Idx → EReal) : k0_pay45 (F := Ideal) (k0_pay44 (F := Ideal) v) = v :=
  shapeCast_shapeCast (s := S1x64x512) (t := S64x512) v _ _
theorem pay46_eq (v : S1x64x512.Idx → EReal) : k0_pay46 (F := Ideal) v = v :=
  shapeCast_shapeCast (s := S1x64x512) (t := S64x512) v _ _
theorem pay47_eq (v : S1x64x512.Idx → EReal) : k0_pay47 (F := Ideal) v = v :=
  shapeCast_shapeCast (s := S1x64x512) (t := S64x512) v _ _
theorem pay48_eq (v : S1x64x512.Idx → EReal) : k0_pay48 (F := Ideal) v = v :=
  shapeCast_shapeCast (s := S1x64x512) (t := S64x512) v _ _
theorem pay50_eq (v : S1x128x512.Idx → EReal) : k0_pay50 (F := Ideal) (k0_pay49 (F := Ideal) v) = v :=
  shapeCast_shapeCast (s := S1x128x512) (t := S128x512) v _ _
theorem pay51_eq (v : S1x128x512.Idx → EReal) : k0_pay51 (F := Ideal) v = v :=
  shapeCast_shapeCast (s := S1x128x512) (t := S128x512) v _ _
theorem pay52_eq (v : S1x128x512.Idx → EReal) : k0_pay52 (F := Ideal) v = v :=
  shapeCast_shapeCast (s := S1x128x512) (t := S128x512) v _ _
theorem pay53_eq (v : S1x128x512.Idx → EReal) : k0_pay53 (F := Ideal) v = v :=
  shapeCast_shapeCast (s := S1x128x512) (t := S128x512) v _ _
theorem pay55_eq (v : S1x256x512.Idx → EReal) : k0_pay55 (F := Ideal) (k0_pay54 (F := Ideal) v) = v :=
  shapeCast_shapeCast (s := S1x256x512) (t := S256x512) v _ _
theorem pay56_eq (v : S1x256x512.Idx → EReal) : k0_pay56 (F := Ideal) v = v :=
  shapeCast_shapeCast (s := S1x256x512) (t := S256x512) v _ _
theorem pay57_eq (v : S1x256x512.Idx → EReal) : k0_pay57 (F := Ideal) v = v :=
  shapeCast_shapeCast (s := S1x256x512) (t := S256x512) v _ _
theorem pay59_eq (v : S1x256x512.Idx → EReal) : k0_pay59 (F := Ideal) (k0_pay58 (F := Ideal) v) = v :=
  shapeCast_shapeCast (s := S1x256x512) (t := S256x512) v _ _
theorem pay60_eq (v : S1x256x512.Idx → EReal) : k0_pay60 (F := Ideal) v = v :=
  shapeCast_shapeCast (s := S1x256x512) (t := S256x512) v _ _
theorem pay61_eq (v : S1x256x512.Idx → EReal) : k0_pay61 (F := Ideal) v = v :=
  shapeCast_shapeCast (s := S1x256x512) (t := S256x512) v _ _
theorem pay62_eq (v : S1x256x512.Idx → EReal) : k0_pay62 (F := Ideal) v = v :=
  shapeCast_shapeCast (s := S1x256x512) (t := S256x512) v _ _
theorem pay63_eq (v : S1x256x512.Idx → EReal) : k0_pay63 (F := Ideal) v = v :=
  shapeCast_shapeCast (s := S1x256x512) (t := S256x512) v _ _
theorem pay64_eq (v : S1x256x512.Idx → EReal) : k0_pay64 (F := Ideal) v = v :=
  shapeCast_shapeCast (s := S1x256x512) (t := S256x512) v _ _
theorem pay65_eq (v : S1x256x512.Idx → EReal) : k0_pay65 (F := Ideal) v = v :=
  shapeCast_shapeCast (s := S1x256x512) (t := S256x512) v _ _
theorem pay67_eq (v : S1x256x512.Idx → EReal) : k0_pay67 (F := Ideal) (k0_pay66 (F := Ideal) v) = v :=
  shapeCast_shapeCast (s := S1x256x512) (t := S256x512) v _ _
theorem pay1_eq (v : S1x256x512.Idx → EReal) : k0_pay1 (F := Ideal) (k0_pay68 (F := Ideal) v) = v :=
  shapeCast_shapeCast (s := S1x256x512) (t := S256x512) v _ _
theorem pay29_eq (v w : S1x256x512.Idx → EReal) (j : S1x256x512.Idx) : k0_pay29 (F := Ideal) v w j = v j + w j :=
  congrArg₂ (· + ·) (congrFun (shapeCast_shapeCast (s := S1x256x512) (t := S256x512) v _ _) j)
    (congrFun (shapeCast_shapeCast (s := S1x256x512) (t := S256x512) w _ _) j)
theorem pay30_eq (v w : S1x256x512.Idx → EReal) (j : S1x256x512.Idx) : k0_pay30 (F := Ideal) v w j = v j + w j :=
  congrArg₂ (· + ·) (congrFun (shapeCast_shapeCast (s := S1x256x512) (t := S256x512) v _ _) j)
    (congrFun (shapeCast_shapeCast (s := S1x256x512) (t := S256x512) w _ _) j)
theorem pay31_eq (v w : S1x256x512.Idx → EReal) (j : S1x256x512.Idx) : k0_pay31 (F := Ideal) v w j = v j + w j :=
  congrArg₂ (· + ·) (congrFun (shapeCast_shapeCast (s := S1x256x512) (t := S256x512) v _ _) j)
    (congrFun (shapeCast_shapeCast (s := S1x256x512) (t := S256x512) w _ _) j)
theorem pay32_eq (v w : S1x256x512.Idx → EReal) (j : S1x256x512.Idx) : k0_pay32 (F := Ideal) v w j = v j + w j :=
  congrArg₂ (· + ·) (congrFun (shapeCast_shapeCast (s := S1x256x512) (t := S256x512) v _ _) j)
    (congrFun (shapeCast_shapeCast (s := S1x256x512) (t := S256x512) w _ _) j)
theorem pay33_eq (v w : S1x256x512.Idx → EReal) (j : S1x256x512.Idx) : k0_pay33 (F := Ideal) v w j = v j + w j :=
  congrArg₂ (· + ·) (congrFun (shapeCast_shapeCast (s := S1x256x512) (t := S256x512) v _ _) j)
    (congrFun (shapeCast_shapeCast (s := S1x256x512) (t := S256x512) w _ _) j)
theorem pay34_eq (v w : S1x256x512.Idx → EReal) (j : S1x256x512.Idx) : k0_pay34 (F := Ideal) v w j = v j + w j :=
  congrArg₂ (· + ·) (congrFun (shapeCast_shapeCast (s := S1x256x512) (t := S256x512) v _ _) j)
    (congrFun (shapeCast_shapeCast (s := S1x256x512) (t := S256x512) w _ _) j)
theorem pay37_eq (v w : S1x128x512.Idx → EReal) (j : S1x128x512.Idx) : k0_pay37 (F := Ideal) v w j = v j + w j :=
  congrArg₂ (· + ·) (congrFun (shapeCast_shapeCast (s := S1x128x512) (t := S128x512) v _ _) j)
    (congrFun (shapeCast_shapeCast (s := S1x128x512) (t := S128x512) w _ _) j)
theorem pay38_eq (v w : S1x128x512.Idx → EReal) (j : S1x128x512.Idx) : k0_pay38 (F := Ideal) v w j = v j + w j :=
  congrArg₂ (· + ·) (congrFun (shapeCast_shapeCast (s := S1x128x512) (t := S128x512) v _ _) j)
    (congrFun (shapeCast_shapeCast (s := S1x128x512) (t := S128x512) w _ _) j)
theorem pay42_eq (v w : S1x64x512.Idx → EReal) (j : S1x64x512.Idx) : k0_pay42 (F := Ideal) v w j = v j + w j :=
  congrArg₂ (· + ·) (congrFun (shapeCast_shapeCast (s := S1x64x512) (t := S64x512) v _ _) j)
    (congrFun (shapeCast_shapeCast (s := S1x64x512) (t := S64x512) w _ _) j)
theorem pay43_eq (v w : S1x64x512.Idx → EReal) (j : S1x64x512.Idx) : k0_pay43 (F := Ideal) v w j = v j + w j :=
  congrArg₂ (· + ·) (congrFun (shapeCast_shapeCast (s := S1x64x512) (t := S64x512) v _ _) j)
    (congrFun (shapeCast_shapeCast (s := S1x64x512) (t := S64x512) w _ _) j)

/-- The entry of a result buffer at a row and a column, both as numbers. -/
def at2 (f : OutC Ideal) (n k : ℕ) : EReal := if h : n < 1024 ∧ k < 1024 then f (ix3 (0 : Fin 1) ⟨n, h.1⟩ ⟨k, h.2⟩) else 0

/-- The message `m` is `v` on the rows from `n0` and the columns from `k0`. -/
def Msg {a : ℕ} (m : (⟨3, ![1, a, 512]⟩ : Shape).Idx → EReal) (n0 k0 : ℕ) (v : ℕ → ℕ → EReal) : Prop :=
  ∀ (i : Fin a) (k : Fin 512), m (ix3 (0 : Fin 1) i k) = v (n0 + i.val) (k0 + k.val)

/-- The buffer `f` is `v` on `a` rows from `n0` and half the columns from `k0`. -/
def Holds (f : OutC Ideal) (n0 a k0 : ℕ) (v : ℕ → ℕ → EReal) : Prop :=
  ∀ n k, n0 ≤ n → n < n0 + a → k0 ≤ k → k < k0 + 512 → at2 f n k = v n k

theorem Holds.sub {f : OutC Ideal} {n0 a n1 b k0 : ℕ} {v : ℕ → ℕ → EReal} (h : Holds f n0 a k0 v) (h1 : n0 ≤ n1) (h2 : n1 + b ≤ n0 + a) :
    Holds f n1 b k0 v := fun n k a1 a2 a3 a4 => h n k (by omega) (by omega) a3 a4

theorem Holds.join {f : OutC Ideal} {n0 a n1 b n2 d k0 : ℕ} {v : ℕ → ℕ → EReal} (h : Holds f n0 a k0 v) (h' : Holds f n1 b k0 v)
    (hc : ∀ n, n2 ≤ n → n < n2 + d → (n0 ≤ n ∧ n < n0 + a) ∨ (n1 ≤ n ∧ n < n1 + b)) : Holds f n2 d k0 v := fun n k a1 a2 a3 a4 => by
  rcases hc n a1 a2 with ⟨b1, b2⟩ | ⟨b1, b2⟩
  · exact h n k b1 b2 a3 a4
  · exact h' n k b1 b2 a3 a4

theorem Holds.of_eq {f : OutC Ideal} {n0 a k0 n1 : ℕ} {v : ℕ → ℕ → EReal} (h : Holds f n0 a k0 v) (e : n0 = n1) : Holds f n1 a k0 v := e ▸ h
theorem Msg.of_eq {a : ℕ} {m : (⟨3, ![1, a, 512]⟩ : Shape).Idx → EReal} {n0 k0 n1 : ℕ} {v : ℕ → ℕ → EReal} (h : Msg m n0 k0 v) (e : n0 = n1) :
    Msg m n1 k0 v := e ▸ h
theorem Msg.congr {a : ℕ} {m m' : (⟨3, ![1, a, 512]⟩ : Shape).Idx → EReal} {n0 k0 : ℕ} {v : ℕ → ℕ → EReal} (h : Msg m n0 k0 v) (e : m' = m) :
    Msg m' n0 k0 v := e ▸ h
theorem Msg.add {a : ℕ} {m m' m'' : (⟨3, ![1, a, 512]⟩ : Shape).Idx → EReal} {n0 k0 : ℕ} {v w : ℕ → ℕ → EReal} (h : Msg m n0 k0 v)
    (h' : Msg m' n0 k0 w) (e : ∀ j, m'' j = m j + m' j) : Msg m'' n0 k0 (fun n k => v n k + w n k) := fun i k => by
  rw [e, h i k, h' i k]

theorem read_at (f : OutC Ideal) {off : Fin 3 → ℕ} {a n0 k0 : ℕ} (inb : ∀ i, off i + (⟨3, ![1, a, 512]⟩ : Shape).size i ≤ S1x1024x1024.size i)
    (e : off = ![0, n0, k0]) (i : Fin a) (k : Fin 512) :
    rdO (Rect.unit (s := S1x1024x1024) off (⟨3, ![1, a, 512]⟩ : Shape).size inb) f (ix3 (0 : Fin 1) i k) = at2 f (n0 + i.val) (k0 + k.val) := by
  subst e
  have h1 : n0 + a ≤ 1024 := inb 1
  have h2 : k0 + 512 ≤ 1024 := inb 2
  have hi := i.isLt
  have hk := k.isLt
  have hb : n0 + i.val < 1024 ∧ k0 + k.val < 1024 := by omega
  unfold at2
  rw [dif_pos hb]
  refine congrArg f (funext fun x => Fin.ext ?_)
  match x with
  | ⟨0, _⟩ => rfl
  | ⟨1, _⟩ => show n0 + 1 * i.val = n0 + i.val; omega
  | ⟨2, _⟩ => show k0 + 1 * k.val = k0 + k.val; omega

theorem Holds.read {f : OutC Ideal} {off : Fin 3 → ℕ} {a n0 k0 : ℕ} (inb : ∀ i, off i + (⟨3, ![1, a, 512]⟩ : Shape).size i ≤ S1x1024x1024.size i)
    {v : ℕ → ℕ → EReal} {n1 b : ℕ} (h : Holds f n1 b k0 v) (e : off = ![0, n0, k0]) (h1 : n1 ≤ n0) (h2 : n0 + a ≤ n1 + b) :
    Msg (a := a) (rdO (Rect.unit (s := S1x1024x1024) off (⟨3, ![1, a, 512]⟩ : Shape).size inb) f) n0 k0 v := fun i k => by
  rw [read_at f inb e]
  have hi := i.isLt
  have hk := k.isLt
  exact h _ _ (by omega) (by omega) (by omega) (by omega)

theorem Msg.write {f : OutC Ideal} {off : Fin 3 → ℕ} {a n0 k0 : ℕ} (inb : ∀ i, off i + (⟨3, ![1, a, 512]⟩ : Shape).size i ≤ S1x1024x1024.size i)
    {v : ℕ → ℕ → EReal} {w : (⟨3, ![1, a, 512]⟩ : Shape).Idx → EReal} (h : Msg w n0 k0 v) (e : off = ![0, n0, k0]) :
    Holds (wrO (F := Ideal) (Rect.unit (s := S1x1024x1024) off (⟨3, ![1, a, 512]⟩ : Shape).size inb) f w) n0 a k0 v := fun n k a1 a2 a3 a4 => by
  obtain ⟨i, rfl⟩ : ∃ i : Fin a, n = n0 + i.val := ⟨⟨n - n0, by omega⟩, by simp only; omega⟩
  obtain ⟨j, rfl⟩ : ∃ j : Fin 512, k = k0 + j.val := ⟨⟨k - k0, by omega⟩, by simp only; omega⟩
  rw [← read_at _ inb e, ← h i j]
  exact congrFun (View.read_write_univ (v := (oM.access (Rect.unit (s := S1x1024x1024) off (⟨3, ![1, a, 512]⟩ : Shape).size inb))) (Val := Elt Ideal) f w)
    (ix3 (0 : Fin 1) i j)

theorem Holds.keep {f : OutC Ideal} {off : Fin 3 → ℕ} {a n0 k0 : ℕ} (inb : ∀ i, off i + (⟨3, ![1, a, 512]⟩ : Shape).size i ≤ S1x1024x1024.size i)
    {v : ℕ → ℕ → EReal} {w : (⟨3, ![1, a, 512]⟩ : Shape).Idx → EReal} {n1 b k1 : ℕ} (h : Holds f n1 b k1 v) (e : off = ![0, n0, k0])
    (hd : n1 + b ≤ n0 ∨ n0 + a ≤ n1 ∨ k1 + 512 ≤ k0 ∨ k0 + 512 ≤ k1) :
    Holds (wrO (F := Ideal) (Rect.unit (s := S1x1024x1024) off (⟨3, ![1, a, 512]⟩ : Shape).size inb) f w) n1 b k1 v := fun n k a1 a2 a3 a4 => by
  rw [← h n k a1 a2 a3 a4]
  unfold at2
  by_cases hb : n < 1024 ∧ k < 1024
  · rw [dif_pos hb, dif_pos hb]
    refine View.write_of_not_mem (v := (oM.access (Rect.unit (s := S1x1024x1024) off (⟨3, ![1, a, 512]⟩ : Shape).size inb))) (Val := Elt Ideal) f w _
      fun hm => ?_
    obtain ⟨y, _, hy⟩ := Finset.mem_map.mp hm
    subst e
    have y1 : (y 1).val < a := (y 1).isLt
    have y2 : (y 2).val < 512 := (y 2).isLt
    have e1 : n0 + 1 * (y 1).val = n := congrArg Fin.val (congrFun hy 1)
    have e2 : k0 + 1 * (y 2).val = k := congrArg Fin.val (congrFun hy 2)
    omega
  · rw [dif_neg hb, dif_neg hb]

/-! ## The offsets as numbers -/

theorem L_val (c : Dev nD) : (L c).val = 4 * (c.val / 4) + (c.val % 4 + 3) % 4 := rfl
theorem R_val (c : Dev nD) : (R c).val = 4 * (c.val / 4) + (c.val % 4 + 1) % 4 := rfl
theorem p1_val (c : Dev nD) : (p1 c).val = 4 * (2 * (c.val / 8) + (c.val / 4 + 1) % 2) + c.val % 4 := rfl
theorem p2_val (c : Dev nD) : (p2 c).val = (c.val + 8) % 16 := rfl

/-- The quarter whose sum a device holds after phase A, in the left columns and in the right ones. -/
def rl (c : Dev nD) : ℕ := 256 * ((c.val % 4 + 1) % 4)
def rr (c : Dev nD) : ℕ := 256 * ((c.val % 4 + 3) % 4)
/-- Where in that quarter its half and its half's half begin. -/
def h1 (c : Dev nD) : ℕ := 128 * (c.val / 4 % 2)
def h1' (c : Dev nD) : ℕ := 128 * ((c.val / 4 + 1) % 2)
def h2 (c : Dev nD) : ℕ := 64 * (c.val / 8)
def h2' (c : Dev nD) : ℕ := 64 * (1 - c.val / 8)
theorem off3_eq (c : Dev nD) : k0_off3 c = ![0, 256 * (c.val % 4), 0] := by revert c; decide +kernel
theorem off4_eq (c : Dev nD) : k0_off4 c = ![0, 256 * (c.val % 4), 512] := by revert c; decide +kernel
theorem off5_70_eq (c : Dev nD) : k0_off5 c 7#32 0#32 = ![0, 256 * ((c.val % 4 + 3) % 4), 0] := by revert c; decide +kernel
theorem off5_71_eq (c : Dev nD) : k0_off5 c 7#32 1#32 = ![0, 256 * ((c.val % 4 + 2) % 4), 0] := by revert c; decide +kernel
theorem off5_72_eq (c : Dev nD) : k0_off5 c 7#32 2#32 = ![0, 256 * ((c.val % 4 + 1) % 4), 0] := by revert c; decide +kernel
theorem off5_40_eq (c : Dev nD) : k0_off5 c 4#32 0#32 = ![0, 256 * (c.val % 4), 0] := by revert c; decide +kernel
theorem off5_41_eq (c : Dev nD) : k0_off5 c 4#32 1#32 = ![0, 256 * ((c.val % 4 + 3) % 4), 0] := by revert c; decide +kernel
theorem off5_42_eq (c : Dev nD) : k0_off5 c 4#32 2#32 = ![0, 256 * ((c.val % 4 + 2) % 4), 0] := by revert c; decide +kernel
theorem off6_0_eq (c : Dev nD) : k0_off6 c 0#32 = ![0, 256 * ((c.val % 4 + 1) % 4), 512] := by revert c; decide +kernel
theorem off6_1_eq (c : Dev nD) : k0_off6 c 1#32 = ![0, 256 * ((c.val % 4 + 2) % 4), 512] := by revert c; decide +kernel
theorem off6_2_eq (c : Dev nD) : k0_off6 c 2#32 = ![0, 256 * ((c.val % 4 + 3) % 4), 512] := by revert c; decide +kernel
theorem off7_eq (c : Dev nD) : k0_off7 c = ![0, rl c + h1' c, 0] := by revert c; decide +kernel
theorem off8_eq (c : Dev nD) : k0_off8 c = ![0, rr c + h1' c, 512] := by revert c; decide +kernel
theorem off9_eq (c : Dev nD) : k0_off9 c = ![0, rl c + h1 c, 0] := by revert c; decide +kernel
theorem off10_eq (c : Dev nD) : k0_off10 c = ![0, rr c + h1 c, 512] := by revert c; decide +kernel
theorem off11_eq (c : Dev nD) : k0_off11 c = ![0, rl c + h1 c + h2' c, 0] := by revert c; decide +kernel
theorem off12_eq (c : Dev nD) : k0_off12 c = ![0, rr c + h1 c + h2' c, 512] := by revert c; decide +kernel
theorem off13_eq (c : Dev nD) : k0_off13 c = ![0, rl c + h1 c + h2 c, 0] := by revert c; decide +kernel
theorem off14_eq (c : Dev nD) : k0_off14 c = ![0, rr c + h1 c + h2 c, 512] := by revert c; decide +kernel
theorem off15_eq (c : Dev nD) : k0_off15 c = ![0, rl c, 0] := by revert c; decide +kernel
theorem off16_0_eq (c : Dev nD) : k0_off16 c 0#32 = ![0, 256 * (c.val % 4), 512] := by revert c; decide +kernel
theorem off16_1_eq (c : Dev nD) : k0_off16 c 1#32 = ![0, 256 * ((c.val % 4 + 1) % 4), 512] := by revert c; decide +kernel
theorem off16_2_eq (c : Dev nD) : k0_off16 c 2#32 = ![0, 256 * ((c.val % 4 + 2) % 4), 512] := by revert c; decide +kernel
theorem off16_3_eq (c : Dev nD) : k0_off16 c 3#32 = ![0, 256 * ((c.val % 4 + 3) % 4), 512] := by revert c; decide +kernel

/-! ## The three phases -/

section Sums
variable (P : Dev nD → OutC Ideal)

/-- The part of device `c` as numbers, the sum of its ring the way each direction adds it, the sum over two rings, and over all four. -/
def g0 (c : Dev nD) : ℕ → ℕ → EReal := at2 (P c)
def gl (c : Dev nD) (n k : ℕ) : EReal := g0 P (L (L (L c))) n k + g0 P (L (L c)) n k + g0 P (L c) n k + g0 P c n k
def gr (c : Dev nD) (n k : ℕ) : EReal := g0 P (R (R (R c))) n k + g0 P (R (R c)) n k + g0 P (R c) n k + g0 P c n k
def gT (n k : ℕ) : EReal := ∑ d : Dev nD, g0 P d n k

theorem holds_P (c : Dev nD) (n0 a k0 : ℕ) : Holds (P c) n0 a k0 (g0 P c) := fun n k _ _ _ _ => rfl

/-- However the rings and planes are gone round, everything is added once. -/
theorem sum_l (g : Dev nD → EReal) (c : Dev nD) :
    (g (L (L (L c))) + g (L (L c)) + g (L c) + g c
      + (g (L (L (L (p1 c)))) + g (L (L (p1 c))) + g (L (p1 c)) + g (p1 c)))
    + (g (L (L (L (p2 c)))) + g (L (L (p2 c))) + g (L (p2 c)) + g (p2 c)
      + (g (L (L (L (p1 (p2 c))))) + g (L (L (p1 (p2 c)))) + g (L (p1 (p2 c))) + g (p1 (p2 c)))) = ∑ d : Dev nD, g d := by
  have hs : (∑ d : Dev nD, g d) = (([L (L (L c)), L (L c), L c, c, L (L (L (p1 c))), L (L (p1 c)), L (p1 c), p1 c, L (L (L (p2 c))),
      L (L (p2 c)), L (p2 c), p2 c, L (L (L (p1 (p2 c)))), L (L (p1 (p2 c))), L (p1 (p2 c)), p1 (p2 c)] : List (Dev nD)).map g).sum := by
    rw [← Finset.sum_map_toList]
    refine (List.Perm.map g ?_).sum_eq
    refine (List.perm_of_nodup_nodup_toFinset_eq (Finset.nodup_toList _) ?_ ?_)
    · revert c; decide
    · rw [Finset.toList_toFinset]; revert c; decide
  rw [hs]
  simp only [List.map_cons, List.map_nil, List.sum_cons, List.sum_nil, add_zero]
  ac_rfl

theorem sum_r (g : Dev nD → EReal) (c : Dev nD) :
    (g (R (R (R c))) + g (R (R c)) + g (R c) + g c
      + (g (R (R (R (p1 c)))) + g (R (R (p1 c))) + g (R (p1 c)) + g (p1 c)))
    + (g (R (R (R (p2 c)))) + g (R (R (p2 c))) + g (R (p2 c)) + g (p2 c)
      + (g (R (R (R (p1 (p2 c))))) + g (R (R (p1 (p2 c)))) + g (R (p1 (p2 c))) + g (p1 (p2 c)))) = ∑ d : Dev nD, g d := by
  rw [← sum_l g c]
  have e1 : ∀ c, R c = L (L (L c)) := by decide
  have e2 : ∀ c, R (L (L (L c))) = L (L c) := by decide
  have e3 : ∀ c, R (L (L c)) = L c := by decide
  simp only [e1 c, e1 (p1 c), e1 (p2 c), e1 (p1 (p2 c)), e2, e3]
  ac_rfl
theorem mAw0_msg (c : Dev nD) : Msg (a := 256) (mAw0 P c) (256 * (c.val % 4)) 0 (g0 P c) :=
  ((holds_P P c _ 256 0).read (a := 256) _ (off3_eq c) le_rfl le_rfl).congr (pay27_eq _)
theorem mAw1_msg (c : Dev nD) : Msg (a := 256) (mAw1 P c) (256 * ((c.val % 4 + 3) % 4)) 0 (fun n k => g0 P (L c) n k + g0 P c n k) :=
  ((mAw0_msg P (L c)).of_eq (by simp only [L_val]; omega)).add ((holds_P P c _ 256 0).read (a := 256) _ (off5_70_eq c) le_rfl le_rfl) (pay29_eq _ _)
theorem mAw2_msg (c : Dev nD) : Msg (a := 256) (mAw2 P c) (256 * ((c.val % 4 + 2) % 4)) 0 (fun n k => g0 P (L (L c)) n k + g0 P (L c) n k + g0 P c n k) :=
  ((mAw1_msg P (L c)).of_eq (by simp only [L_val]; omega)).add ((holds_P P c _ 256 0).read (a := 256) _ (off5_71_eq c) le_rfl le_rfl) (pay31_eq _ _)
theorem mAc0_msg (c : Dev nD) : Msg (a := 256) (mAc0 P c) (256 * (c.val % 4)) 512 (g0 P c) :=
  ((holds_P P c _ 256 512).read (a := 256) _ (off4_eq c) le_rfl le_rfl).congr (pay28_eq _)
theorem mAc1_msg (c : Dev nD) : Msg (a := 256) (mAc1 P c) (256 * ((c.val % 4 + 1) % 4)) 512 (fun n k => g0 P (R c) n k + g0 P c n k) :=
  ((mAc0_msg P (R c)).of_eq (by simp only [R_val]; omega)).add ((holds_P P c _ 256 512).read (a := 256) _ (off6_0_eq c) le_rfl le_rfl) (pay30_eq _ _)
theorem mAc2_msg (c : Dev nD) : Msg (a := 256) (mAc2 P c) (256 * ((c.val % 4 + 2) % 4)) 512 (fun n k => g0 P (R (R c)) n k + g0 P (R c) n k + g0 P c n k) :=
  ((mAc1_msg P (R c)).of_eq (by simp only [R_val]; omega)).add ((holds_P P c _ 256 512).read (a := 256) _ (off6_1_eq c) le_rfl le_rfl) (pay32_eq _ _)

/-- After phase A: the ring's sum on one quarter of the rows of each half. -/
theorem OA_l (c : Dev nD) : Holds (OA P c) (rl c) 256 0 (gl P c) := by
  unfold OA OAa
  exact ((((mAw2_msg P (L c)).of_eq (n1 := rl c) (by unfold rl; simp only [L_val]; omega)).add
    ((holds_P P c _ 256 0).read (a := 256) _ (off5_72_eq c) le_rfl le_rfl) (pay33_eq _ _)).write (a := 256) _ (off5_72_eq c)).keep (a := 256) _ (off6_2_eq c) (by omega)
theorem OA_r (c : Dev nD) : Holds (OA P c) (rr c) 256 512 (gr P c) := by
  unfold OA OAa
  exact (((mAc2_msg P (R c)).of_eq (n1 := rr c) (by unfold rr; simp only [R_val]; omega)).add
    ((holds_P P c _ 256 512).read (a := 256) _ (off6_2_eq c) le_rfl le_rfl) (pay34_eq _ _)).write (a := 256) _ (off6_2_eq c)

theorem rl_p1 (c : Dev nD) : rl (p1 c) = rl c := by revert c; decide
theorem rl_p2 (c : Dev nD) : rl (p2 c) = rl c := by revert c; decide
theorem rr_p1 (c : Dev nD) : rr (p1 c) = rr c := by revert c; decide
theorem rr_p2 (c : Dev nD) : rr (p2 c) = rr c := by revert c; decide
theorem h1_p1 (c : Dev nD) : h1 (p1 c) = h1' c := by revert c; decide
theorem h1'_p1 (c : Dev nD) : h1' (p1 c) = h1 c := by revert c; decide
theorem h1_p2 (c : Dev nD) : h1 (p2 c) = h1 c := by revert c; decide
theorem h2_p2 (c : Dev nD) : h2 (p2 c) = h2' c := by revert c; decide
theorem h2'_p2 (c : Dev nD) : h2' (p2 c) = h2 c := by revert c; decide
theorem h1_cases (c : Dev nD) : (h1 c = 0 ∧ h1' c = 128) ∨ (h1 c = 128 ∧ h1' c = 0) := by revert c; decide
theorem h2_cases (c : Dev nD) : (h2 c = 0 ∧ h2' c = 64) ∨ (h2 c = 64 ∧ h2' c = 0) := by revert c; decide
theorem mB0l_msg (c : Dev nD) : Msg (a := 128) (mB0l P c) (rl c + h1' c) 0 (gl P c) :=
  ((OA_l P c).read (a := 128) _ (off7_eq c) (by omega) (by have := h1_cases c; omega)).congr (pay35_eq _)
theorem OB0_l (c : Dev nD) : Holds (OB0 P c) (rl c + h1 c) 128 0 (fun n k => gl P c n k + gl P (p1 c) n k) := by
  unfold OB0 OB0a
  exact (((((OA_l P c).read (a := 128) _ (off9_eq c) (by omega) (by have := h1_cases c; omega))).add ((mB0l_msg P (p1 c)).of_eq (n1 := rl c + h1 c) (by rw [rl_p1, h1'_p1])) (pay37_eq _ _)).write (a := 128) _ (off9_eq c)).keep (a := 128) _ (off10_eq c) (by omega)
theorem mB1l_msg (c : Dev nD) : Msg (a := 64) (mB1l P c) (rl c + h1 c + h2' c) 0 (fun n k => gl P c n k + gl P (p1 c) n k) :=
  ((OB0_l P c).read (a := 64) _ (off11_eq c) (by omega) (by have := h2_cases c; omega)).congr (pay39_eq _)
theorem OB1_l (c : Dev nD) : Holds (OB1 P c) (rl c + h1 c + h2 c) 64 0 (gT P) := by
  have h : Holds (OB1 P c) (rl c + h1 c + h2 c) 64 0 (fun n k => (gl P c n k + gl P (p1 c) n k) + (gl P (p2 c) n k + gl P (p1 (p2 c)) n k)) := by
    unfold OB1 OB1a
    exact ((((OB0_l P c).read (a := 64) _ (off13_eq c) (by omega) (by have := h2_cases c; omega)).add ((mB1l_msg P (p2 c)).of_eq (n1 := rl c + h1 c + h2 c) (by rw [rl_p2, h1_p2, h2'_p2])) (pay42_eq _ _)).write (a := 64) _ (off13_eq c)).keep (a := 64) _ (off14_eq c) (by omega)
  intro n k a1 a2 a3 a4
  exact (h n k a1 a2 a3 a4).trans (sum_l (fun d => g0 P d n k) c)
theorem mB2l_msg (c : Dev nD) : Msg (a := 64) (mB2l P c) (rl c + h1 c + h2 c) 0 (gT P) :=
  ((OB1_l P c).read (a := 64) _ (off13_eq c) le_rfl le_rfl).congr (pay45_eq _)
theorem OB2_l (c : Dev nD) : Holds (OB2 P c) (rl c + h1 c) 128 0 (gT P) := by
  have hn : Holds (OB2 P c) (rl c + h1 c + h2' c) 64 0 (gT P) := by
    unfold OB2 OB2a
    exact ((((mB2l_msg P (p2 c)).of_eq (n1 := rl c + h1 c + h2' c) (by rw [rl_p2, h1_p2, h2_p2])).congr (pay47_eq _)).write (a := 64) _ (off11_eq c)).keep (a := 64) _ (off12_eq c) (by omega)
  have ho : Holds (OB2 P c) (rl c + h1 c + h2 c) 64 0 (gT P) := by
    unfold OB2 OB2a
    exact ((OB1_l P c).keep (a := 64) _ (off11_eq c) (by have := h2_cases c; omega)).keep (a := 64) _ (off12_eq c) (by omega)
  exact hn.join ho fun n a1 a2 => by have := h2_cases c; omega
theorem mB3l_msg (c : Dev nD) : Msg (a := 128) (mB3l P c) (rl c + h1 c) 0 (gT P) :=
  ((OB2_l P c).read (a := 128) _ (off9_eq c) le_rfl le_rfl).congr (pay50_eq _)
/-- After phase B that quarter holds the sum of everything. -/
theorem OB3_l (c : Dev nD) : Holds (OB3 P c) (rl c) 256 0 (gT P) := by
  have hn : Holds (OB3 P c) (rl c + h1' c) 128 0 (gT P) := by
    unfold OB3 OB3a
    exact ((((mB3l_msg P (p1 c)).of_eq (n1 := rl c + h1' c) (by rw [rl_p1, h1_p1])).congr (pay52_eq _)).write (a := 128) _ (off7_eq c)).keep (a := 128) _ (off8_eq c) (by omega)
  have ho : Holds (OB3 P c) (rl c + h1 c) 128 0 (gT P) := by
    unfold OB3 OB3a
    exact ((OB2_l P c).keep (a := 128) _ (off7_eq c) (by have := h1_cases c; omega)).keep (a := 128) _ (off8_eq c) (by omega)
  exact hn.join ho fun n a1 a2 => by have := h1_cases c; omega
theorem mB0r_msg (c : Dev nD) : Msg (a := 128) (mB0r P c) (rr c + h1' c) 512 (gr P c) :=
  ((OA_r P c).read (a := 128) _ (off8_eq c) (by omega) (by have := h1_cases c; omega)).congr (pay36_eq _)
theorem OB0_r (c : Dev nD) : Holds (OB0 P c) (rr c + h1 c) 128 512 (fun n k => gr P c n k + gr P (p1 c) n k) := by
  unfold OB0 OB0a
  exact ((((((OA_r P c).keep (a := 128) _ (off9_eq c) (by omega)).read (a := 128) _ (off10_eq c) (by omega) (by have := h1_cases c; omega))).add ((mB0r_msg P (p1 c)).of_eq (n1 := rr c + h1 c) (by rw [rr_p1, h1'_p1])) (pay38_eq _ _)).write (a := 128) _ (off10_eq c))
theorem mB1r_msg (c : Dev nD) : Msg (a := 64) (mB1r P c) (rr c + h1 c + h2' c) 512 (fun n k => gr P c n k + gr P (p1 c) n k) :=
  ((OB0_r P c).read (a := 64) _ (off12_eq c) (by omega) (by have := h2_cases c; omega)).congr (pay41_eq _)
theorem OB1_r (c : Dev nD) : Holds (OB1 P c) (rr c + h1 c + h2 c) 64 512 (gT P) := by
  have h : Holds (OB1 P c) (rr c + h1 c + h2 c) 64 512 (fun n k => (gr P c n k + gr P (p1 c) n k) + (gr P (p2 c) n k + gr P (p1 (p2 c)) n k)) := by
    unfold OB1 OB1a
    exact (((((OB0_r P c).keep (a := 64) _ (off13_eq c) (by omega)).read (a := 64) _ (off14_eq c) (by omega) (by have := h2_cases c; omega)).add ((mB1r_msg P (p2 c)).of_eq (n1 := rr c + h1 c + h2 c) (by rw [rr_p2, h1_p2, h2'_p2])) (pay43_eq _ _)).write (a := 64) _ (off14_eq c))
  intro n k a1 a2 a3 a4
  exact (h n k a1 a2 a3 a4).trans (sum_r (fun d => g0 P d n k) c)
theorem mB2r_msg (c : Dev nD) : Msg (a := 64) (mB2r P c) (rr c + h1 c + h2 c) 512 (gT P) :=
  ((OB1_r P c).read (a := 64) _ (off14_eq c) le_rfl le_rfl).congr (pay46_eq _)
theorem OB2_r (c : Dev nD) : Holds (OB2 P c) (rr c + h1 c) 128 512 (gT P) := by
  have hn : Holds (OB2 P c) (rr c + h1 c + h2' c) 64 512 (gT P) := by
    unfold OB2 OB2a
    exact (((mB2r_msg P (p2 c)).of_eq (n1 := rr c + h1 c + h2' c) (by rw [rr_p2, h1_p2, h2_p2])).congr (pay48_eq _)).write (a := 64) _ (off12_eq c)
  have ho : Holds (OB2 P c) (rr c + h1 c + h2 c) 64 512 (gT P) := by
    unfold OB2 OB2a
    exact ((OB1_r P c).keep (a := 64) _ (off11_eq c) (by omega)).keep (a := 64) _ (off12_eq c) (by have := h2_cases c; omega)
  exact hn.join ho fun n a1 a2 => by have := h2_cases c; omega
theorem mB3r_msg (c : Dev nD) : Msg (a := 128) (mB3r P c) (rr c + h1 c) 512 (gT P) :=
  ((OB2_r P c).read (a := 128) _ (off10_eq c) le_rfl le_rfl).congr (pay51_eq _)
/-- After phase B that quarter holds the sum of everything. -/
theorem OB3_r (c : Dev nD) : Holds (OB3 P c) (rr c) 256 512 (gT P) := by
  have hn : Holds (OB3 P c) (rr c + h1' c) 128 512 (gT P) := by
    unfold OB3 OB3a
    exact (((mB3r_msg P (p1 c)).of_eq (n1 := rr c + h1' c) (by rw [rr_p1, h1_p1])).congr (pay53_eq _)).write (a := 128) _ (off8_eq c)
  have ho : Holds (OB3 P c) (rr c + h1 c) 128 512 (gT P) := by
    unfold OB3 OB3a
    exact ((OB2_r P c).keep (a := 128) _ (off7_eq c) (by omega)).keep (a := 128) _ (off8_eq c) (by have := h1_cases c; omega)
  exact hn.join ho fun n a1 a2 => by have := h1_cases c; omega
theorem mCw0_msg (c : Dev nD) : Msg (a := 256) (mCw0 P c) (256 * ((c.val % 4 + 1) % 4)) 0 (gT P) :=
  ((OB3_l P c).read (a := 256) _ (off15_eq c) le_rfl le_rfl).congr (pay55_eq _)
theorem mCw1_msg (c : Dev nD) : Msg (a := 256) (mCw1 P c) (256 * (c.val % 4)) 0 (gT P) :=
  ((mCw0_msg P (L c)).of_eq (by simp only [L_val]; omega)).congr (pay60_eq _)
theorem mCw2_msg (c : Dev nD) : Msg (a := 256) (mCw2 P c) (256 * ((c.val % 4 + 3) % 4)) 0 (gT P) :=
  ((mCw1_msg P (L c)).of_eq (by simp only [L_val]; omega)).congr (pay64_eq _)
theorem mCc0_msg (c : Dev nD) : Msg (a := 256) (mCc0 P c) (256 * ((c.val % 4 + 3) % 4)) 512 (gT P) :=
  ((OB3_r P c).read (a := 256) _ (off16_3_eq c) le_rfl le_rfl).congr (pay56_eq _)
theorem mCc1_msg (c : Dev nD) : Msg (a := 256) (mCc1 P c) (256 * (c.val % 4)) 512 (gT P) :=
  ((mCc0_msg P (R c)).of_eq (by simp only [R_val]; omega)).congr (pay61_eq _)
theorem mCc2_msg (c : Dev nD) : Msg (a := 256) (mCc2 P c) (256 * ((c.val % 4 + 1) % 4)) 512 (gT P) :=
  ((mCc1_msg P (R c)).of_eq (by simp only [R_val]; omega)).congr (pay65_eq _)

/-- At the end every row of both halves holds the sum of everything. -/
theorem OC2_l (c : Dev nD) : Holds (OC2 P c) 0 1024 0 (gT P) := by
  have k3 : Holds (OC2 P c) (256 * ((c.val % 4 + 1) % 4)) 256 0 (gT P) := by
    unfold OC2 OC2a OC1 OC1a OC0 OC0a
    exact ((((((OB3_l P c).keep (a := 256) _ (off5_40_eq c) (by unfold rl; omega)).keep (a := 256) _ (off16_0_eq c) (by omega)).keep (a := 256) _ (off5_41_eq c)
      (by unfold rl; omega)).keep (a := 256) _ (off16_1_eq c) (by omega)).keep (a := 256) _ (off5_42_eq c) (by unfold rl; omega)).keep (a := 256) _ (off16_2_eq c) (by omega)
  have k0 : Holds (OC2 P c) (256 * (c.val % 4)) 256 0 (gT P) := by
    unfold OC2 OC2a OC1 OC1a OC0 OC0a
    exact (((((((mCw0_msg P (L c)).of_eq (by simp only [L_val]; omega)).congr (pay57_eq _)).write (a := 256) _ (off5_40_eq c)).keep (a := 256) _ (off16_0_eq c)
      (by omega)).keep (a := 256) _ (off5_41_eq c) (by omega)).keep (a := 256) _ (off16_1_eq c) (by omega)).keep (a := 256) _ (off5_42_eq c) (by omega) |>.keep (a := 256) _ (off16_2_eq c) (by omega)
  have k1 : Holds (OC2 P c) (256 * ((c.val % 4 + 3) % 4)) 256 0 (gT P) := by
    unfold OC2 OC2a OC1 OC1a OC0 OC0a
    exact (((((mCw1_msg P (L c)).of_eq (by simp only [L_val]; omega)).congr (pay62_eq _)).write (a := 256) _ (off5_41_eq c)).keep (a := 256) _ (off16_1_eq c)
      (by omega)).keep (a := 256) _ (off5_42_eq c) (by omega) |>.keep (a := 256) _ (off16_2_eq c) (by omega)
  have k2 : Holds (OC2 P c) (256 * ((c.val % 4 + 2) % 4)) 256 0 (gT P) := by
    unfold OC2 OC2a OC1 OC1a OC0 OC0a
    exact ((((mCw2_msg P (L c)).of_eq (by simp only [L_val]; omega)).congr (pay67_eq _)).write (a := 256) _ (off5_42_eq c)).keep (a := 256) _ (off16_2_eq c) (by omega)
  intro n k a1 a2 a3 a4
  have hn : n / 256 = (c.val % 4 + 1) % 4 ∨ n / 256 = c.val % 4 ∨ n / 256 = (c.val % 4 + 3) % 4 ∨ n / 256 = (c.val % 4 + 2) % 4 := by omega
  rcases hn with e | e | e | e
  · exact k3 n k (by omega) (by omega) a3 a4
  · exact k0 n k (by omega) (by omega) a3 a4
  · exact k1 n k (by omega) (by omega) a3 a4
  · exact k2 n k (by omega) (by omega) a3 a4

theorem OC2_r (c : Dev nD) : Holds (OC2 P c) 0 1024 512 (gT P) := by
  have k3 : Holds (OC2 P c) (256 * ((c.val % 4 + 3) % 4)) 256 512 (gT P) := by
    unfold OC2 OC2a OC1 OC1a OC0 OC0a
    exact ((((((OB3_r P c).keep (a := 256) _ (off5_40_eq c) (by omega)).keep (a := 256) _ (off16_0_eq c) (by unfold rr; omega)).keep (a := 256) _ (off5_41_eq c)
      (by omega)).keep (a := 256) _ (off16_1_eq c) (by unfold rr; omega)).keep (a := 256) _ (off5_42_eq c) (by omega)).keep (a := 256) _ (off16_2_eq c) (by unfold rr; omega)
  have k0 : Holds (OC2 P c) (256 * (c.val % 4)) 256 512 (gT P) := by
    unfold OC2 OC2a OC1 OC1a OC0 OC0a
    exact ((((((mCc0_msg P (R c)).of_eq (by simp only [R_val]; omega)).congr (pay59_eq _)).write (a := 256) _ (off16_0_eq c)).keep (a := 256) _ (off5_41_eq c)
      (by omega)).keep (a := 256) _ (off16_1_eq c) (by omega)).keep (a := 256) _ (off5_42_eq c) (by omega) |>.keep (a := 256) _ (off16_2_eq c) (by omega)
  have k1 : Holds (OC2 P c) (256 * ((c.val % 4 + 1) % 4)) 256 512 (gT P) := by
    unfold OC2 OC2a OC1 OC1a OC0 OC0a
    exact ((((mCc1_msg P (R c)).of_eq (by simp only [R_val]; omega)).congr (pay63_eq _)).write (a := 256) _ (off16_1_eq c)).keep (a := 256) _ (off5_42_eq c)
      (by omega) |>.keep (a := 256) _ (off16_2_eq c) (by omega)
  have k2 : Holds (OC2 P c) (256 * ((c.val % 4 + 2) % 4)) 256 512 (gT P) := by
    unfold OC2 OC2a OC1 OC1a OC0 OC0a
    exact (((mCc2_msg P (R c)).of_eq (by simp only [R_val]; omega)).congr (pay1_eq _)).write (a := 256) _ (off16_2_eq c)
  intro n k a1 a2 a3 a4
  have hn : n / 256 = (c.val % 4 + 3) % 4 ∨ n / 256 = c.val % 4 ∨ n / 256 = (c.val % 4 + 1) % 4 ∨ n / 256 = (c.val % 4 + 2) % 4 := by omega
  rcases hn with e | e | e | e
  · exact k3 n k (by omega) (by omega) a3 a4
  · exact k0 n k (by omega) (by omega) a3 a4
  · exact k1 n k (by omega) (by omega) a3 a4
  · exact k2 n k (by omega) (by omega) a3 a4

/-- **The exchange is an all-reduce**: every device ends with the sum of the sixteen parts. -/
theorem OC2_sum (c : Dev nD) (n k : Fin 1024) : OC2 P c (ix3 (0 : Fin 1) n k) =
    @Finset.sum (Dev nD) EReal _ Finset.univ fun d => P d (ix3 (0 : Fin 1) n k) := by
  have h : at2 (OC2 P c) n.val k.val = gT P n.val k.val := by
    have hn := n.isLt
    have hk := k.isLt
    by_cases e : k.val < 512
    · exact OC2_l P c _ _ (by omega) (by omega) (by omega) (by omega)
    · exact OC2_r P c _ _ (by omega) (by omega) (by omega) (by omega)
  unfold gT g0 at2 at h
  have hb : n.val < 1024 ∧ k.val < 1024 := ⟨n.isLt, k.isLt⟩
  simp only [dif_pos hb] at h
  exact h

end Sums

end Cert.KP

end
-- ==== Proof.RefVal.lean ====
/- The value that the plain reference computes, read entry by entry over the extended reals: its queries, its mask, its
   softmax and its two last products, in the words of `Cert.KP.headC`. -/
module

public import proofs.«01_k».proof.Proof.Gen.ReferenceIdeal.Run
public import proofs.«01_k».proof.Proof.Soft
public import proofs.«01_k».proof.Proof.Words
public import Idealize.ShloMosaic.Lib.ValueIdx
public import Idealize.ShloMosaic.Lib.IdealHost
public import Idealize.ShloMosaic.Lib.Pipeline.Value

@[expose] public section

set_option maxRecDepth 16384

noncomputable section

namespace Cert.KR

open Cert.ReferenceIdeal Cert.ReferenceIdeal.Gen Cert.KP
open Idealize.ShloMosaic Idealize.ShloMosaic.TcCoe Idealize.ShloMosaic.ValueIdx
open scoped BigOperators

/-! ## The composed term in named pieces -/

/-- The block numbers of the rows. -/
def blkV : IVec S1024 32 := select (andi (cmpi .ne (signi (iotaInDim S1024 32 0)) (broadcastInDim S1024 ![] bcast_S_S1024 (signi (id (constantI S_ 32 64#32))))) (cmpi .ne (Host.remsi (iotaInDim S1024 32 0) (broadcastInDim S1024 ![] bcast_S_S1024 (id (constantI S_ 32 64#32)))) (broadcastInDim S1024 ![] bcast_S_S1024 (constantI S_ 32 0#32)))) (subi (Host.divsi (iotaInDim S1024 32 0) (broadcastInDim S1024 ![] bcast_S_S1024 (id (constantI S_ 32 64#32)))) (broadcastInDim S1024 ![] bcast_S_S1024 (constantI S_ 32 1#32))) (Host.divsi (iotaInDim S1024 32 0) (broadcastInDim S1024 ![] bcast_S_S1024 (id (constantI S_ 32 64#32))))

/-- The divisor three. -/
def threeV : IVec S_ 32 := select (cmpi .eq (id (constantI S_ 32 3#32)) (constantI S_ 32 0#32)) (constantI S_ 32 1#32) (id (constantI S_ 32 3#32))

/-- The mask. -/
def maskV : IVec S1024x1024 1 := ori (ori (cmpi .eq (broadcastInDim S1024x1024 ![0, 1] bcast_S1024x1_S1024x1024_0_1 (broadcastInDim S1024x1 ![0] bcast_S1024_S1024x1_0 blkV)) (broadcastInDim S1024x1024 ![0, 1] bcast_S1x1024_S1024x1024_0_1 (broadcastInDim S1x1024 ![1] bcast_S1024_S1x1024_1 blkV))) (broadcastInDim S1024x1024 ![0, 1] bcast_S1x1024_S1024x1024_0_1 (cmpi .eq (broadcastInDim S1x1024 ![1] bcast_S1024_S1x1024_1 blkV) (broadcastInDim S1x1024 ![] bcast_S_S1x1024 (constantI S_ 32 0#32))))) (cmpi .eq (select (andi (cmpi .ne (cmpi .slt (Host.remsi (addi (broadcastInDim S1024x1024 ![0, 1] bcast_S1024x1_S1024x1024_0_1 (broadcastInDim S1024x1 ![0] bcast_S1024_S1024x1_0 blkV)) (broadcastInDim S1024x1024 ![0, 1] bcast_S1x1024_S1024x1024_0_1 (broadcastInDim S1x1024 ![1] bcast_S1024_S1x1024_1 blkV))) (broadcastInDim S1024x1024 ![] bcast_S_S1024x1024 threeV)) (broadcastInDim S1024x1024 ![] bcast_S_S1024x1024 (constantI S_ 32 0#32))) (broadcastInDim S1024x1024 ![] bcast_S_S1024x1024 (cmpi .slt threeV (constantI S_ 32 0#32)))) (cmpi .ne (Host.remsi (addi (broadcastInDim S1024x1024 ![0, 1] bcast_S1024x1_S1024x1024_0_1 (broadcastInDim S1024x1 ![0] bcast_S1024_S1024x1_0 blkV)) (broadcastInDim S1024x1024 ![0, 1] bcast_S1x1024_S1024x1024_0_1 (broadcastInDim S1x1024 ![1] bcast_S1024_S1x1024_1 blkV))) (broadcastInDim S1024x1024 ![] bcast_S_S1024x1024 threeV)) (broadcastInDim S1024x1024 ![] bcast_S_S1024x1024 (constantI S_ 32 0#32)))) (addi (Host.remsi (addi (broadcastInDim S1024x1024 ![0, 1] bcast_S1024x1_S1024x1024_0_1 (broadcastInDim S1024x1 ![0] bcast_S1024_S1024x1_0 blkV)) (broadcastInDim S1024x1024 ![0, 1] bcast_S1x1024_S1024x1024_0_1 (broadcastInDim S1x1024 ![1] bcast_S1024_S1x1024_1 blkV))) (broadcastInDim S1024x1024 ![] bcast_S_S1024x1024 threeV)) (broadcastInDim S1024x1024 ![] bcast_S_S1024x1024 threeV)) (Host.remsi (addi (broadcastInDim S1024x1024 ![0, 1] bcast_S1024x1_S1024x1024_0_1 (broadcastInDim S1024x1 ![0] bcast_S1024_S1024x1_0 blkV)) (broadcastInDim S1024x1024 ![0, 1] bcast_S1x1024_S1024x1024_0_1 (broadcastInDim S1x1024 ![1] bcast_S1024_S1x1024_1 blkV))) (broadcastInDim S1024x1024 ![] bcast_S_S1024x1024 threeV))) (broadcastInDim S1024x1024 ![] bcast_S_S1024x1024 (constantI S_ 32 0#32)))

/-- The rows that keep a key. -/
def keepV : IVec S1024 1 := Host.reduce IntOp.ori maskV (constantI S_ 1 0#1) reducesTo_S1024x1024_S1024_d1 h_S_

section
variable (x : FVec Ideal S1x1024x1024 .f32) (wq : FVec Ideal S1024x16384 .f32) (k v : FVec Ideal S1x1024x128x128 .f32) (wo : FVec Ideal S16384x1024 .f32)

/-- The queries, by head. -/
def queryV : FVec Ideal S1x1024x128x128 .f32 :=
  shapeCast _ (Host.dotGeneral dot_S1x1024x1024_S1024x16384_S1x1024x16384_2_0_01_1_n_n none x wq) shapeCasts_S1x1024x16384_S1x1024x128x128

/-- The masked scaled scores. -/
def scoreV : FVec Ideal S1x128x1024x1024 .f32 :=
  select (broadcastInDim S1x128x1024x1024 ![0, 1, 2, 3] bcast_S1x1x1024x1024_S1x128x1024x1024_0_1_2_3 (broadcastInDim S1x1x1024x1024 ![2, 3] bcast_S1024x1024_S1x1x1024x1024_2_3 maskV)) (mulf (Host.dotGeneral dot_S1x1024x128x128_S1x1024x128x128_S1x128x1024x1024_3_3_1_1_02_02 none (queryV x wq) k) (broadcastInDim S1x128x1024x1024 ![] bcast_S_S1x128x1024x1024 (constant S_ .f32 0x3DB504F3#32))) (broadcastInDim S1x128x1024x1024 ![] bcast_S_S1x128x1024x1024 (id (constant S_ .f32 0xFF800000#32)))

/-- The exponentials of the scores less the row's greatest. -/
def expV : FVec Ideal S1x128x1024x1024 .f32 :=
  Host.exp (subf (scoreV x wq k) (broadcastInDim S1x128x1024x1024 ![0, 1, 2, 3] bcast_S1x128x1024x1_S1x128x1024x1024_0_1_2_3 (broadcastInDim S1x128x1024x1 ![0, 1, 2] bcast_S1x128x1024_S1x128x1024x1_0_1_2 (Host.reduce FloatOps.maximumf (scoreV x wq k) (constant S_ .f32 0xFF800000#32) reducesTo_S1x128x1024x1024_S1x128x1024_d3 h_S_))))

/-- The softmax weights. -/
def weightV : FVec Ideal S1x128x1024x1024 .f32 :=
  select (broadcastInDim S1x128x1024x1024 ![0, 1, 2, 3] bcast_S1x1x1024x1_S1x128x1024x1024_0_1_2_3 (broadcastInDim S1x1x1024x1 ![2] bcast_S1024_S1x1x1024x1_2 keepV)) (Host.divf (expV x wq k) (broadcastInDim S1x128x1024x1024 ![0, 1, 2, 3] bcast_S1x128x1024x1_S1x128x1024x1024_0_1_2_3 (select (broadcastInDim S1x128x1024x1 ![0, 1, 2, 3] bcast_S1x1x1024x1_S1x128x1024x1_0_1_2_3 (broadcastInDim S1x1x1024x1 ![2] bcast_S1024_S1x1x1024x1_2 keepV)) (broadcastInDim S1x128x1024x1 ![0, 1, 2] bcast_S1x128x1024_S1x128x1024x1_0_1_2 (Host.reduceAdd (expV x wq k) (constant S_ .f32 0x00000000#32) reducesTo_S1x128x1024x1024_S1x128x1024_d3 h_S_)) (broadcastInDim S1x128x1024x1 ![] bcast_S_S1x128x1024x1 (id (constant S_ .f32 0x3F800000#32)))))) (broadcastInDim S1x128x1024x1024 ![] bcast_S_S1x128x1024x1024 (id (constant S_ .f32 0x00000000#32)))

/-- The context, its heads side by side. -/
def ctxR : FVec Ideal S1x1024x16384 .f32 :=
  shapeCast _ (transpose S1x1024x128x128 [0, 3, 1, 2] (Host.dotGeneral dot_S1x1024x128x128_S1x128x1024x1024_S1x128x128x1024_1_3_3_2_02_01 none v (weightV x wq k)) transposes_S1x128x128x1024_S1x1024x128x128_0_3_1_2) shapeCasts_S1x1024x128x128_S1x1024x16384

/-- The result. -/
def outR : FVec Ideal S1x1024x1024 .f32 := Host.dotGeneral dot_S1x1024x16384_S16384x1024_S1x1024x1024_2_0_01_1_n_n none (ctxR x wq k v) wo
end

theorem res_eq (m : (ℓ : Loc nD τ sig) → Buf (Elt Ideal) ℓ) (c : Dev nD) :
    Value.res_main_v44 m c = outR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.KR

end
-- ==== Proof.RefRead.lean ====
/- The reference's pieces read at an index. -/
module

public import proofs.«01_k».proof.Proof.RefVal

@[expose] public section

set_option maxRecDepth 16384

noncomputable section

namespace Cert.KR

open Cert.ReferenceIdeal Cert.ReferenceIdeal.Gen Cert.KP
open Idealize.ShloMosaic Idealize.ShloMosaic.TcCoe Idealize.ShloMosaic.ValueIdx
open scoped BigOperators

/-! ## Broadcasts -/

section
variable {α : Type}

theorem rowB (y : S1024.Idx → α) (i j : Fin 1024) : broadcastInDim S1024x1024 ![0, 1] bcast_S1024x1_S1024x1024_0_1
    (broadcastInDim S1024x1 ![0] bcast_S1024_S1024x1_0 y) (ix2 i j) = y (ix1 i) := by
  rw [broadcastInDim_apply _ _ _ (ix2 i j) (ix2 i (0 : Fin 1)) (by intro a; match a with | ⟨0, _⟩ => rfl | ⟨1, _⟩ => rfl),
    broadcastInDim_apply _ _ _ (ix2 i (0 : Fin 1)) (ix1 i) (by intro a; match a with | ⟨0, _⟩ => rfl)]

theorem colB (y : S1024.Idx → α) (i j : Fin 1024) : broadcastInDim S1024x1024 ![0, 1] bcast_S1x1024_S1024x1024_0_1
    (broadcastInDim S1x1024 ![1] bcast_S1024_S1x1024_1 y) (ix2 i j) = y (ix1 j) := by
  rw [broadcastInDim_apply _ _ _ (ix2 i j) (ix2 (0 : Fin 1) j) (by intro a; match a with | ⟨0, _⟩ => rfl | ⟨1, _⟩ => rfl),
    broadcastInDim_apply _ _ _ (ix2 (0 : Fin 1) j) (ix1 j) (by intro a; match a with | ⟨0, _⟩ => rfl)]

theorem maskB (y : S1024x1024.Idx → α) (h : Fin 128) (i j : Fin 1024) :
    broadcastInDim S1x128x1024x1024 ![0, 1, 2, 3] bcast_S1x1x1024x1024_S1x128x1024x1024_0_1_2_3
      (broadcastInDim S1x1x1024x1024 ![2, 3] bcast_S1024x1024_S1x1x1024x1024_2_3 y) (ix4 (0 : Fin 1) h i j) = y (ix2 i j) := by
  rw [broadcastInDim_apply _ _ _ (ix4 (0 : Fin 1) h i j) (ix4 (0 : Fin 1) (0 : Fin 1) i j)
      (by intro a; match a with | ⟨0, _⟩ => rfl | ⟨1, _⟩ => rfl | ⟨2, _⟩ => rfl | ⟨3, _⟩ => rfl),
    broadcastInDim_apply _ _ _ (ix4 (0 : Fin 1) (0 : Fin 1) i j) (ix2 i j) (by intro a; match a with | ⟨0, _⟩ => rfl | ⟨1, _⟩ => rfl)]

theorem keepB (y : S1024.Idx → α) (h : Fin 128) (i j : Fin 1024) :
    broadcastInDim S1x128x1024x1024 ![0, 1, 2, 3] bcast_S1x1x1024x1_S1x128x1024x1024_0_1_2_3
      (broadcastInDim S1x1x1024x1 ![2] bcast_S1024_S1x1x1024x1_2 y) (ix4 (0 : Fin 1) h i j) = y (ix1 i) := by
  rw [broadcastInDim_apply _ _ _ (ix4 (0 : Fin 1) h i j) (ix4 (0 : Fin 1) (0 : Fin 1) i (0 : Fin 1))
      (by intro a; match a with | ⟨0, _⟩ => rfl | ⟨1, _⟩ => rfl | ⟨2, _⟩ => rfl | ⟨3, _⟩ => rfl),
    broadcastInDim_apply _ _ _ (ix4 (0 : Fin 1) (0 : Fin 1) i (0 : Fin 1)) (ix1 i) (by intro a; match a with | ⟨0, _⟩ => rfl)]

theorem keepB1 (y : S1024.Idx → α) (h : Fin 128) (i : Fin 1024) :
    broadcastInDim S1x128x1024x1 ![0, 1, 2, 3] bcast_S1x1x1024x1_S1x128x1024x1_0_1_2_3
      (broadcastInDim S1x1x1024x1 ![2] bcast_S1024_S1x1x1024x1_2 y) (ix4 (0 : Fin 1) h i (0 : Fin 1)) = y (ix1 i) := by
  rw [broadcastInDim_apply _ _ _ (ix4 (0 : Fin 1) h i (0 : Fin 1)) (ix4 (0 : Fin 1) (0 : Fin 1) i (0 : Fin 1))
      (by intro a; match a with | ⟨0, _⟩ => rfl | ⟨1, _⟩ => rfl | ⟨2, _⟩ => rfl | ⟨3, _⟩ => rfl),
    broadcastInDim_apply _ _ _ (ix4 (0 : Fin 1) (0 : Fin 1) i (0 : Fin 1)) (ix1 i) (by intro a; match a with | ⟨0, _⟩ => rfl)]

theorem unitB (y : S1x128x1024x1.Idx → α) (h : Fin 128) (i j : Fin 1024) :
    broadcastInDim S1x128x1024x1024 ![0, 1, 2, 3] bcast_S1x128x1024x1_S1x128x1024x1024_0_1_2_3 y (ix4 (0 : Fin 1) h i j)
      = y (ix4 (0 : Fin 1) h i (0 : Fin 1)) :=
  broadcastInDim_apply _ _ _ (ix4 (0 : Fin 1) h i j) (ix4 (0 : Fin 1) h i (0 : Fin 1))
    (by intro a; match a with | ⟨0, _⟩ => rfl | ⟨1, _⟩ => rfl | ⟨2, _⟩ => rfl | ⟨3, _⟩ => rfl)

theorem redB (y : S1x128x1024.Idx → α) (h : Fin 128) (i : Fin 1024) :
    broadcastInDim S1x128x1024x1 ![0, 1, 2] bcast_S1x128x1024_S1x128x1024x1_0_1_2 y (ix4 (0 : Fin 1) h i (0 : Fin 1)) = y (ix3 (0 : Fin 1) h i) :=
  broadcastInDim_apply _ _ _ (ix4 (0 : Fin 1) h i (0 : Fin 1)) (ix3 (0 : Fin 1) h i)
    (by intro a; match a with | ⟨0, _⟩ => rfl | ⟨1, _⟩ => rfl | ⟨2, _⟩ => rfl)
end

/-! ## The mask -/

theorem mask_apply (i j : Fin 1024) : maskV (ix2 i j) = if Kept i j then 1#1 else 0#1 := by
  have e : maskV (ix2 i j)
      = bitR (broadcastInDim S1024x1024 ![0, 1] bcast_S1024x1_S1024x1024_0_1 (broadcastInDim S1024x1 ![0] bcast_S1024_S1024x1_0 blkV) (ix2 i j))
          (broadcastInDim S1024x1024 ![0, 1] bcast_S1x1024_S1024x1024_0_1 (broadcastInDim S1x1024 ![1] bcast_S1024_S1x1024_1 blkV) (ix2 i j)) := rfl
  have b : ∀ r : Fin 1024, blkV (ix1 r) = blkR (BitVec.ofNat 32 r.val) := fun r => rfl
  rw [e, rowB, colB, b, b, bitR_kept]

/-- A bit folded by "or" over a set with a one in it is one. -/
theorem fold_or_one {n : ℕ} (f : Fin n → BitVec 1) (j : Fin n) (hj : f j = 1#1) : (Finset.univ : Finset (Fin n)).fold IntOp.ori 0#1 f = 1#1 := by
  rw [← Finset.insert_erase (Finset.mem_univ j), Finset.fold_insert (Finset.notMem_erase j _), hj]
  generalize Finset.fold IntOp.ori 0#1 f _ = z
  revert z; decide

theorem red2 : S1024x1024.Reduces [1] S1024 := by decide
theorem red4 : S1x128x1024x1024.Reduces [3] S1x128x1024 := by decide

theorem lift2 (i j : Fin 1024) : red2.lift (ix1 i) j = ix2 i j := by
  funext a; apply Fin.ext
  match a with
  | ⟨0, _⟩ => rfl
  | ⟨1, _⟩ => rfl

theorem lift4 (h : Fin 128) (i j : Fin 1024) : red4.lift (ix3 (0 : Fin 1) h i) j = ix4 (0 : Fin 1) h i j := by
  funext a; apply Fin.ext
  match a with
  | ⟨0, _⟩ => rfl
  | ⟨1, _⟩ => rfl
  | ⟨2, _⟩ => rfl
  | ⟨3, _⟩ => rfl

/-- Every row keeps its own key. -/
theorem keep_apply (i : Fin 1024) : keepV (ix1 i) = 1#1 := by
  unfold keepV
  rw [Host.reduce_eq_fold_single (a := 1) IntOp.ori maskV (constantI S_ 1 0#1) reducesTo_S1024x1024_S1024_d1 red2 h_S_ (ix1 i)]
  refine fold_or_one (n := 1024) _ i ?_
  show maskV (red2.lift (ix1 i) i) = 1#1
  rw [lift2, mask_apply, if_pos (kept_self i)]

/-! ## The products -/

theorem dotQ (x : FVec Ideal S1x1024x1024 .f32) (w : FVec Ideal S1024x16384 .f32) (i : Fin 1024) (u : Fin 16384) :
    Host.dotGeneral dot_S1x1024x1024_S1024x16384_S1x1024x16384_2_0_01_1_n_n none x w (ix3 (0 : Fin 1) i u)
      = @Finset.sum (Fin 1024) EReal _ Finset.univ fun t => x (ix3 (0 : Fin 1) i t) * w (ix2 t u) := by
  show FloatOps.dotGeneral _ none _ x w (ix3 (0 : Fin 1) i u) = _
  rw [Ideal.dotGeneral_apply, ← Equiv.sum_comp (contrEquiv1 dot_S1x1024x1024_S1024x16384_S1x1024x16384_2_0_01_1_n_n 1024 rfl rfl).symm]
  refine Finset.sum_congr rfl fun t _ => ?_
  have ht := contrEquiv1_symm_val dot_S1x1024x1024_S1024x16384_S1x1024x16384_2_0_01_1_n_n 1024 rfl rfl t
  refine congrArg₂ (· * ·) (congrArg x ?_) (congrArg w ?_) <;> funext a <;> apply Fin.ext
  · match a with
    | ⟨0, _⟩ => rfl
    | ⟨1, _⟩ => rfl
    | ⟨2, _⟩ => exact ht
  · match a with
    | ⟨0, _⟩ => exact ht
    | ⟨1, _⟩ => rfl

theorem dotS (q k : FVec Ideal S1x1024x128x128 .f32) (h : Fin 128) (i j : Fin 1024) :
    Host.dotGeneral dot_S1x1024x128x128_S1x1024x128x128_S1x128x1024x1024_3_3_1_1_02_02 none q k (ix4 (0 : Fin 1) h i j)
      = @Finset.sum (Fin 128) EReal _ Finset.univ fun d => q (ix4 (0 : Fin 1) i h d) * k (ix4 (0 : Fin 1) j h d) := by
  show FloatOps.dotGeneral _ none _ q k (ix4 (0 : Fin 1) h i j) = _
  rw [Ideal.dotGeneral_apply, ← Equiv.sum_comp (contrEquiv1 dot_S1x1024x128x128_S1x1024x128x128_S1x128x1024x1024_3_3_1_1_02_02 128 rfl rfl).symm]
  refine Finset.sum_congr rfl fun t _ => ?_
  have ht := contrEquiv1_symm_val dot_S1x1024x128x128_S1x1024x128x128_S1x128x1024x1024_3_3_1_1_02_02 128 rfl rfl t
  refine congrArg₂ (· * ·) (congrArg q ?_) (congrArg k ?_) <;> funext a <;> apply Fin.ext
  · match a with
    | ⟨0, _⟩ => rfl
    | ⟨1, _⟩ => rfl
    | ⟨2, _⟩ => rfl
    | ⟨3, _⟩ => exact ht
  · match a with
    | ⟨0, _⟩ => rfl
    | ⟨1, _⟩ => rfl
    | ⟨2, _⟩ => rfl
    | ⟨3, _⟩ => exact ht

theorem dotC (v : FVec Ideal S1x1024x128x128 .f32) (w : FVec Ideal S1x128x1024x1024 .f32) (h e : Fin 128) (i : Fin 1024) :
    Host.dotGeneral dot_S1x1024x128x128_S1x128x1024x1024_S1x128x128x1024_1_3_3_2_02_01 none v w (ix4 (0 : Fin 1) h e i)
      = @Finset.sum (Fin 1024) EReal _ Finset.univ fun j => v (ix4 (0 : Fin 1) j h e) * w (ix4 (0 : Fin 1) h i j) := by
  show FloatOps.dotGeneral _ none _ v w (ix4 (0 : Fin 1) h e i) = _
  rw [Ideal.dotGeneral_apply, ← Equiv.sum_comp (contrEquiv1 dot_S1x1024x128x128_S1x128x1024x1024_S1x128x128x1024_1_3_3_2_02_01 1024 rfl rfl).symm]
  refine Finset.sum_congr rfl fun t _ => ?_
  have ht := contrEquiv1_symm_val dot_S1x1024x128x128_S1x128x1024x1024_S1x128x128x1024_1_3_3_2_02_01 1024 rfl rfl t
  refine congrArg₂ (· * ·) (congrArg v ?_) (congrArg w ?_) <;> funext a <;> apply Fin.ext
  · match a with
    | ⟨0, _⟩ => rfl
    | ⟨1, _⟩ => exact ht
    | ⟨2, _⟩ => rfl
    | ⟨3, _⟩ => rfl
  · match a with
    | ⟨0, _⟩ => rfl
    | ⟨1, _⟩ => rfl
    | ⟨2, _⟩ => rfl
    | ⟨3, _⟩ => exact ht

theorem dotO (y : FVec Ideal S1x1024x16384 .f32) (w : FVec Ideal S16384x1024 .f32) (i o : Fin 1024) :
    Host.dotGeneral dot_S1x1024x16384_S16384x1024_S1x1024x1024_2_0_01_1_n_n none y w (ix3 (0 : Fin 1) i o)
      = @Finset.sum (Fin 16384) EReal _ Finset.univ fun u => y (ix3 (0 : Fin 1) i u) * w (ix2 u o) := by
  show FloatOps.dotGeneral _ none _ y w (ix3 (0 : Fin 1) i o) = _
  rw [Ideal.dotGeneral_apply, ← Equiv.sum_comp (contrEquiv1 dot_S1x1024x16384_S16384x1024_S1x1024x1024_2_0_01_1_n_n 16384 rfl rfl).symm]
  refine Finset.sum_congr rfl fun t _ => ?_
  have ht := contrEquiv1_symm_val dot_S1x1024x16384_S16384x1024_S1x1024x1024_2_0_01_1_n_n 16384 rfl rfl t
  refine congrArg₂ (· * ·) (congrArg y ?_) (congrArg w ?_) <;> funext a <;> apply Fin.ext
  · match a with
    | ⟨0, _⟩ => rfl
    | ⟨1, _⟩ => rfl
    | ⟨2, _⟩ => exact ht
  · match a with
    | ⟨0, _⟩ => exact ht
    | ⟨1, _⟩ => rfl

/-! ## The pieces -/

section
variable (x : FVec Ideal S1x1024x1024 .f32) (wq : FVec Ideal S1024x16384 .f32) (k v : FVec Ideal S1x1024x128x128 .f32) (wo : FVec Ideal S16384x1024 .f32)

/-- Head `h` of the queries. -/
def qR (h : Fin 128) (i : Fin 1024) (d : Fin 128) : EReal :=
  ∑ t : Fin 1024, x (ix3 (0 : Fin 1) i t) * wq (ix2 t (⟨128 * h.val + d.val, by omega⟩ : Fin 16384))

/-- Head `h` of the keys, of the values. -/
def kR (k : FVec Ideal S1x1024x128x128 .f32) (h : Fin 128) (j : Fin 1024) (d : Fin 128) : EReal := k (ix4 (0 : Fin 1) j h d)

theorem query_apply (i : Fin 1024) (h d : Fin 128) : queryV x wq (ix4 (0 : Fin 1) i h d) = qR x wq h i d := by
  refine (shapeCast_apply _ _ (ix4 (0 : Fin 1) i h d) (ix3 (0 : Fin 1) i (⟨128 * h.val + d.val, by omega⟩ : Fin 16384)) (by
    rw [Shape.rowMajor_val_three, Shape.rowMajor_val_four]
    show (0 * 1024 + i.val) * 16384 + (128 * h.val + d.val) = ((0 * 1024 + i.val) * 128 + h.val) * 128 + d.val
    omega)).trans ?_
  exact dotQ x wq i _

theorem score_apply (h : Fin 128) (i j : Fin 1024) : scoreV x wq k (ix4 (0 : Fin 1) h i j) = score (qR x wq h) (kR k h) i j := by
  have e : scoreV x wq k (ix4 (0 : Fin 1) h i j)
      = Scalar.select (broadcastInDim S1x128x1024x1024 ![0, 1, 2, 3] bcast_S1x1x1024x1024_S1x128x1024x1024_0_1_2_3
          (broadcastInDim S1x1x1024x1024 ![2, 3] bcast_S1024x1024_S1x1x1024x1024_2_3 maskV) (ix4 (0 : Fin 1) h i j))
        ((Host.dotGeneral dot_S1x1024x128x128_S1x1024x128x128_S1x128x1024x1024_3_3_1_1_02_02 none (queryV x wq) k (ix4 (0 : Fin 1) h i j) : EReal) * scaleC)
        (Ideal.ofBits .f32 0xFF800000#32) := rfl
  have hd : (Host.dotGeneral dot_S1x1024x128x128_S1x1024x128x128_S1x128x1024x1024_3_3_1_1_02_02 none (queryV x wq) k (ix4 (0 : Fin 1) h i j) : EReal)
      = ∑ d, qR x wq h i d * kR k h j d :=
    (dotS _ _ h i j).trans (Finset.sum_congr rfl fun d _ => congrArg₂ (· * ·) (query_apply x wq i h d) rfl)
  rw [e, maskB, mask_apply, hd]
  unfold score
  by_cases hk : Kept i j
  · rw [if_pos hk, if_pos hk]
    exact select_one _ _
  · rw [if_neg hk, if_neg hk]
    refine (select_zero _ _).trans ?_
    simp [Ideal.ofBits, Ideal.ieee]

/-- The row's greatest score. -/
theorem max_apply (h : Fin 128) (i : Fin 1024) :
    Host.reduce FloatOps.maximumf (scoreV x wq k) (constant S_ .f32 0xFF800000#32) reducesTo_S1x128x1024x1024_S1x128x1024_d3 h_S_ (ix3 (0 : Fin 1) h i)
      = (Finset.univ : Finset (Fin 1024)).fold max ⊥ (score (qR x wq h) (kR k h) i) := by
  rw [Host.reduce_eq_fold_single (a := 3) FloatOps.maximumf (scoreV x wq k) (constant S_ .f32 0xFF800000#32) reducesTo_S1x128x1024x1024_S1x128x1024_d3 red4 h_S_
    (ix3 (0 : Fin 1) h i)]
  have e0 : (constant (F := Ideal) S_ .f32 0xFF800000#32 (Shape.Idx.first h_S_) : EReal) = ⊥ := by
    rw [constant_apply]; simp [Ideal.ofBits, Ideal.ieee]
  have ef : (scoreV x wq k ∘ red4.lift (ix3 (0 : Fin 1) h i) : Fin 1024 → EReal) = score (qR x wq h) (kR k h) i := funext fun j => by
    show scoreV x wq k (red4.lift (ix3 (0 : Fin 1) h i) j) = _
    rw [lift4, score_apply]
  exact congrArg₂ (fun (z : EReal) (f : Fin 1024 → EReal) => (Finset.univ : Finset (Fin 1024)).fold max z f) e0 ef

theorem exp_apply (h : Fin 128) (i j : Fin 1024) : expV x wq k (ix4 (0 : Fin 1) h i j)
    = Ideal.exp (score (qR x wq h) (kR k h) i j - (Finset.univ : Finset (Fin 1024)).fold max ⊥ (score (qR x wq h) (kR k h) i)) := by
  refine congrArg Ideal.exp (congrArg₂ (fun a b : EReal => a - b) (score_apply x wq k h i j) ?_)
  rw [unitB, redB, max_apply]

theorem sum_apply (h : Fin 128) (i : Fin 1024) :
    Host.reduceAdd (expV x wq k) (constant S_ .f32 0x00000000#32) reducesTo_S1x128x1024x1024_S1x128x1024_d3 h_S_ (ix3 (0 : Fin 1) h i)
      = @Finset.sum (Fin 1024) EReal _ Finset.univ fun j => expV x wq k (ix4 (0 : Fin 1) h i j) := by
  rw [hostReduceAdd_apply, constant_apply, Ideal.ofBits_zero_f32]
  refine (Ideal.hostReduceAdd_single (a := 3) reducesTo_S1x128x1024x1024_S1x128x1024_d3 red4 _ _ _).trans ?_
  rw [zero_add]
  exact Finset.sum_congr rfl fun j _ => congrArg (expV x wq k) (lift4 h i j)

/-- The weights are the softmax's, wherever queries and keys are real. -/
theorem weight_apply (hq : ∀ h i d, IsReal (qR x wq h i d)) (hk : ∀ h j d, IsReal (kR k h j d)) (h : Fin 128) (i j : Fin 1024) :
    weightV x wq k (ix4 (0 : Fin 1) h i j) = weight (score (qR x wq h) (kR k h) i) j := by
  have hs := fun j => score_ne_top (hq h) (hk h) i j
  have hr : ∃ j, score (qR x wq h) (kR k h) i j ≠ ⊥ := ⟨i, score_self_ne_bot (hq h) (hk h) i⟩
  obtain ⟨m, hm⟩ := fold_max_real _ hs hr
  unfold weightV
  rw [select_apply, keepB, keep_apply]
  refine (select_one _ _).trans ?_
  rw [hostDivf_apply, unitB, select_apply, keepB1, keep_apply, redB, sum_apply]
  refine (congrArg (Ideal.div _) (select_one _ _)).trans ?_
  have ex : ∀ j', expV x wq k (ix4 (0 : Fin 1) h i j') = Ideal.exp (score (qR x wq h) (kR k h) i j' - (m : EReal)) := fun j' => by
    rw [exp_apply, hm]
  refine (congrArg₂ Ideal.div (ex j) (Finset.sum_congr rfl fun j' _ => ex j')).trans ?_
  exact weight_shift _ hs hr m j

theorem ctx_apply (hq : ∀ h i d, IsReal (qR x wq h i d)) (hk : ∀ h j d, IsReal (kR k h j d)) (i : Fin 1024) (u : Fin 16384) :
    ctxR x wq k v (ix3 (0 : Fin 1) i u)
      = headC (qR x wq ⟨u.val / 128, by omega⟩) (kR k ⟨u.val / 128, by omega⟩) (kR v ⟨u.val / 128, by omega⟩) i ⟨u.val % 128, Nat.mod_lt _ (by decide)⟩ := by
  refine (shapeCast_apply _ _ (ix3 (0 : Fin 1) i u)
    (ix4 (0 : Fin 1) i (⟨u.val / 128, by omega⟩ : Fin 128) (⟨u.val % 128, Nat.mod_lt _ (by decide)⟩ : Fin 128)) (by
      rw [Shape.rowMajor_val_three, Shape.rowMajor_val_four]
      show ((0 * 1024 + i.val) * 128 + u.val / 128) * 128 + u.val % 128 = (0 * 1024 + i.val) * 16384 + u.val
      omega)).trans ?_
  refine (transpose_apply _ _ _ _ (ix4 (0 : Fin 1) (⟨u.val / 128, by omega⟩ : Fin 128) (⟨u.val % 128, Nat.mod_lt _ (by decide)⟩ : Fin 128) i) (by
    intro b
    match b with
    | ⟨0, _⟩ => rfl
    | ⟨1, _⟩ => rfl
    | ⟨2, _⟩ => rfl
    | ⟨3, _⟩ => rfl)).trans ?_
  refine (dotC v (weightV x wq k) _ _ i).trans ?_
  unfold headC
  refine Finset.sum_congr rfl fun j _ => ?_
  rw [mul_comm]
  exact congrArg₂ (· * ·) (weight_apply x wq k hq hk _ i j) rfl

/-- The reference's result. -/
theorem out_apply (hq : ∀ h i d, IsReal (qR x wq h i d)) (hk : ∀ h j d, IsReal (kR k h j d)) (i o : Fin 1024) :
    outR x wq k v wo (ix3 (0 : Fin 1) i o) = @Finset.sum (Fin 16384) EReal _ Finset.univ fun u =>
      headC (qR x wq ⟨u.val / 128, by omega⟩) (kR k ⟨u.val / 128, by omega⟩) (kR v ⟨u.val / 128, by omega⟩) i ⟨u.val % 128, Nat.mod_lt _ (by decide)⟩
        * wo (ix2 u o) :=
  (dotO _ _ i o).trans (Finset.sum_congr rfl fun u _ => congrArg₂ (· * ·) (ctx_apply x wq k v hq hk i u) rfl)
end

end Cert.KR

end
-- ==== Proof.Combine.lean ====
/- The sum of the sixteen devices' parts is the reference's result: device `d` holds heads `8d … 8d+7`, the columns
   `1024d … 1024d+1023` of the query weights and the same rows of the output weights. -/
module

public import proofs.«01_k».proof.Proof.Heads
public import proofs.«01_k».proof.Proof.AllReduce
public import proofs.«01_k».proof.Proof.RefRead

@[expose] public section

set_option maxRecDepth 16384

noncomputable section

namespace Cert.KP

open Cert.KernelIdeal Cert.KR
open Idealize.ShloMosaic Idealize.ShloMosaic.ValueIdx
open scoped BigOperators

/-- A sum over the 16384 columns, device by device. -/
theorem sum_devs (f : Fin 16384 → EReal) :
    ∑ u, f u = ∑ d : Fin 16, ∑ u : Fin 1024, f ⟨1024 * d.val + u.val, by omega⟩ := by
  rw [← Fintype.sum_prod_type' (f := fun (d : Fin 16) (u : Fin 1024) => f ⟨1024 * d.val + u.val, by omega⟩)]
  refine (Fintype.sum_equiv ((finProdFinEquiv (m := 16) (n := 1024)).trans (finCongr (by norm_num))) _ _ fun p => ?_).symm
  refine congrArg f (Fin.ext ?_)
  simp [finProdFinEquiv]
  omega

/-- The devices hold their parts of the reference's arrays. -/
structure HoldParts (A : Ins Ideal) (x : FVec Ideal S1x1024x1024 .f32) (wq : FVec Ideal S1024x16384 .f32)
    (k v : FVec Ideal Cert.ReferenceIdeal.S1x1024x128x128 .f32) (wo : FVec Ideal S16384x1024 .f32) : Prop where
  hx : ∀ d, A.x d = x
  hwq : ∀ d, A.wq d = wq
  hk : ∀ (d : Dev nD) (j : Fin 1024) (n : Fin 8) (e : Fin 128),
    A.k d (ix4 (0 : Fin 1) j n e) = k (ix4 (0 : Fin 1) j (⟨8 * d.val + n.val, by have : d.val < 16 := d.isLt; omega⟩ : Fin 128) e)
  hv : ∀ (d : Dev nD) (j : Fin 1024) (n : Fin 8) (e : Fin 128),
    A.v d (ix4 (0 : Fin 1) j n e) = v (ix4 (0 : Fin 1) j (⟨8 * d.val + n.val, by have : d.val < 16 := d.isLt; omega⟩ : Fin 128) e)
  hwo : ∀ d, A.wo d = wo

section
variable {A : Ins Ideal} {x : FVec Ideal S1x1024x1024 .f32} {wq : FVec Ideal S1024x16384 .f32}
  {k v : FVec Ideal Cert.ReferenceIdeal.S1x1024x128x128 .f32} {wo : FVec Ideal S16384x1024 .f32}

theorem q_holds (H : HoldParts A x wq k v wo) (d : Dev nD) (n : Fin 8) (i : Fin 1024) (e : Fin 128) :
    qV A d (ix2 i (⟨128 * n.val + e.val, by omega⟩ : Fin 1024))
      = qR x wq (⟨8 * d.val + n.val, by have : d.val < 16 := d.isLt; omega⟩ : Fin 128) i e := by
  refine (qV_apply A d i _).trans ?_
  unfold qR
  refine Finset.sum_congr rfl fun t _ => ?_
  rw [H.hx, H.hwq]
  refine congrArg (fun z : Fin 16384 => x (ix3 (0 : Fin 1) i t) * wq (ix2 t z)) (Fin.ext ?_)
  show 1024 * d.val + (128 * n.val + e.val) = 128 * (8 * d.val + n.val) + e.val
  omega

theorem head_holds (H : HoldParts A x wq k v wo) (d : Dev nD) (n : Fin 8) (i : Fin 1024) (e : Fin 128) :
    hO A d n (ix2 i e) = headC (qR x wq (⟨8 * d.val + n.val, by have : d.val < 16 := d.isLt; omega⟩ : Fin 128))
      (kR k (⟨8 * d.val + n.val, by have : d.val < 16 := d.isLt; omega⟩ : Fin 128))
      (kR v (⟨8 * d.val + n.val, by have : d.val < 16 := d.isLt; omega⟩ : Fin 128)) i e := by
  rw [hO_apply, funext fun i => funext fun e => q_holds H d n i e, funext fun j => funext fun e => H.hk d j n e,
    funext fun j => funext fun e => H.hv d j n e]
  rfl

theorem qR_real (hx : ∀ i, IsReal (x i)) (hw : ∀ i, IsReal (wq i)) (h : Fin 128) (i : Fin 1024) (d : Fin 128) : IsReal (qR x wq h i d) := by
  unfold qR
  exact IsReal.sum _ _ fun t => (hx _).mul (hw _)

theorem kR_real (H : HoldParts A x wq k v wo) (hk : ∀ d i, IsReal (A.k d i)) (h : Fin 128) (j : Fin 1024) (e : Fin 128) : IsReal (kR k h j e) := by
  have hh := h.isLt
  have h8 := H.hk (⟨h.val / 8, by show h.val / 8 < 16; omega⟩ : Dev nD) j (⟨h.val % 8, Nat.mod_lt _ (by decide)⟩ : Fin 8) e
  have eh : (⟨8 * (h.val / 8) + h.val % 8, by omega⟩ : Fin 128) = h := Fin.ext (Nat.div_add_mod _ _)
  have h9 : kR k h j e = A.k (⟨h.val / 8, by show h.val / 8 < 16; omega⟩ : Dev nD) (ix4 (0 : Fin 1) j (⟨h.val % 8, Nat.mod_lt _ (by decide)⟩ : Fin 8) e) :=
    (congrArg (fun z : Fin 128 => k (ix4 (0 : Fin 1) j z e)) eh.symm).trans h8.symm
  rw [h9]
  exact hk _ _

/-- **Every device's result is the reference's.** -/
theorem out_holds (H : HoldParts A x wq k v wo) (hq : ∀ h i d, IsReal (qR x wq h i d)) (hk : ∀ h j d, IsReal (kR k h j d)) (c : Dev nD) :
    OC2 (PV A) c = outR x wq k v wo := by
  funext y
  obtain ⟨i, o, rfl⟩ : ∃ i o : Fin 1024, y = ix3 (0 : Fin 1) i o := ⟨y 1, y 2, by
    funext a; apply Fin.ext
    match a with
    | ⟨0, _⟩ => exact Nat.lt_one_iff.1 (y 0).isLt
    | ⟨1, _⟩ => rfl
    | ⟨2, _⟩ => rfl⟩
  refine (OC2_sum (PV A) c i o).trans (Eq.trans ?_ (((out_apply x wq k v wo hq hk i o).trans (sum_devs _)).symm))
  have e : ∀ d : Dev nD, PV A d (ix3 (0 : Fin 1) i o) = @Finset.sum (Fin 1024) EReal _ Finset.univ fun u =>
      headC (qR x wq ⟨(1024 * d.val + u.val) / 128, by have : d.val < 16 := d.isLt; omega⟩)
          (kR k ⟨(1024 * d.val + u.val) / 128, by have : d.val < 16 := d.isLt; omega⟩)
          (kR v ⟨(1024 * d.val + u.val) / 128, by have : d.val < 16 := d.isLt; omega⟩) i ⟨(1024 * d.val + u.val) % 128, Nat.mod_lt _ (by decide)⟩
        * wo (ix2 (⟨1024 * d.val + u.val, by have : d.val < 16 := d.isLt; omega⟩ : Fin 16384) o) := fun d => by
    refine (PV_apply A d i o).trans ?_
    refine @Finset.sum_congr (Fin 1024) EReal _ _ _ _ _ rfl fun u _ => ?_
    rw [H.hwo]
    refine congrArg₂ (· * ·) ?_ rfl
    refine (head_holds H d ⟨u.val / 128, by omega⟩ i _).trans ?_
    have hd : d.val < 16 := d.isLt
    have e1 : (⟨8 * d.val + u.val / 128, by omega⟩ : Fin 128) = ⟨(1024 * d.val + u.val) / 128, by omega⟩ := Fin.ext (by
      show 8 * d.val + u.val / 128 = (1024 * d.val + u.val) / 128
      omega)
    have e2 : (⟨u.val % 128, Nat.mod_lt _ (by decide)⟩ : Fin 128) = ⟨(1024 * d.val + u.val) % 128, Nat.mod_lt _ (by decide)⟩ := Fin.ext (by
      show u.val % 128 = (1024 * d.val + u.val) % 128
      omega)
    exact congrArg₂ (fun h e : Fin 128 => headC (qR x wq h) (kR k h) (kR v h) i e) e1 e2
  exact @Finset.sum_congr (Fin 16) EReal _ _ _ _ _ rfl fun d _ => e d
end

end Cert.KP

end
-- ==== Proof.Final.lean ====
/- The staged input is the argument, and the result's array ends at the computed result: both windows are one block, the
   whole array. -/
module

public import proofs.«01_k».proof.Proof.Run
public import Idealize.ShloMosaic.Lib.Pipeline.Value

@[expose] public section

set_option maxRecDepth 16384

noncomputable section

namespace Cert.KP

open Cert.KernelIdeal Cert.KernelIdeal.Gen
open Idealize.ShloMosaic Idealize.ShloMosaic.TcCoe

variable {F : FTy → Type} [FloatOps F] [Named F]
variable (m : (ℓ : Loc nD τ sig) → Buf (Elt F) ℓ)

theorem read_in (c : Dev nD) (f : Buf (Elt F) ((c : Thread nD τ).loc main_arg0)) : (win0_0.blk t0_0).view.read (Elt F) f = f :=
  Memref.read_access_unit_zero (Elt F) main_arg0
    (show (fun a => (win0_0.index t0_0) a * main_arg0.ty.shape.size a) = fun _ => 0 from
      funext fun a => by fin_cases a <;> decide) (fun a => by fin_cases a <;> decide) f

theorem read_out (c : Dev nD) (f : Buf (Elt F) ((c : Thread nD τ).loc main_v1)) : (win0_1.blk t0_0).view.read (Elt F) f = f :=
  Memref.read_access_unit_zero (Elt F) main_v1
    (show (fun a => (win0_1.index t0_0) a * main_v1.ty.shape.size a) = fun _ => 0 from
      funext fun a => by fin_cases a <;> decide) (fun a => by fin_cases a <;> decide) f

theorem xstg_eq (c : Dev nD) : xstg m c = m ((c : Thread nD τ).loc main_arg0) := read_in c _

theorem flushed_out (c : Dev nD) : (dats m 0 c).flushed (1 : Fin 2) t0_0 = out m c := by
  show (cfg0.win (1 : Fin 2)).cut _ ((dats m 0 c).after (1 : Fin 2) t0_0) = _
  rw [after1]
  exact funext fun _ => rfl

/-- The result's array after the run. -/
theorem finalA_out (c : Dev nD) : finalA m c (1 : Fin 2) = out m c := by
  have hw : ((cfg0.win (1 : Fin 2)).blk t0_0).view.read (Elt F) (finalA m c (1 : Fin 2)) = (dats m 0 c).flushed (1 : Fin 2) t0_0 := by
    unfold finalA
    rw [show cfg0.N = t0_0.val + 1 from rfl, (dats m 0 c).arrAt_succ (1 : Fin 2) t0_0, flush0_1, if_pos rfl]
    exact View.read_write_univ _ _
  rw [flushed_out] at hw
  exact (read_out c _).symm.trans hw

end Cert.KP

end
-- ==== Proof.Finite.lean ====
/- The precondition read: every entry of the input, of the query weights and of a device's keys is a real number. -/
module

public import proofs.«01_k».proof.Pre_finite_KernelIdeal
public import proofs.«01_k».proof.Pre_finite_ReferenceIdeal
public import proofs.«01_k».proof.Proof.Soft
public import Idealize.ShloMosaic.Lib.ReduceAll
public import Idealize.ShloMosaic.Lib.IdealHost
public import Idealize.ShloMosaic.Lib.ValueIdx

@[expose] public section

set_option maxRecDepth 16384

noncomputable section

namespace Cert.KP

open Cert.Pre_finite_KernelIdeal
open Idealize.ShloMosaic

theorem preK_facts : Cert.Pre_finite_KernelIdeal.Facts := ⟨by decide, by decide, by decide, by decide, by decide, by decide, by decide⟩
theorem preR_facts : Cert.Pre_finite_ReferenceIdeal.Facts := ⟨by decide, by decide, by decide, by decide, by decide, by decide, by decide⟩

/-- A value whose magnitude compares below the infinity's word is real. -/
theorem real_of_lt (a : EReal) (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  have hl : max a (-a) < ⊤ := by
    by_contra hn
    have : Ideal.cmp .olt (max a (-a)) ⊤ = 0#1 := by
      show BitVec.ofBool (decide (max a (-a) < ⊤)) = 0#1
      rw [decide_eq_false hn]; rfl
    rw [this] at h
    exact absurd h (by decide)
  refine isReal_of_ne (fun e => ?_) (fun e => ?_) <;> subst e
  · exact absurd hl (by simp)
  · exact absurd hl (by simp)

instance : Subsingleton S_.Idx := ⟨fun i j => funext fun a => a.elim0⟩

theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : IsReal (x i) :=
  real_of_lt (x i) (Host.reduce_andi_all _ _ hr hu j h i)

theorem finite_read [Cert.Pre_finite_KernelIdeal.Facts] (x : FVec Ideal S1x1024x1024 .f32) (wq : FVec Ideal S1024x16384 .f32) (k v : FVec Ideal S1x1024x8x128 .f32) (wo : FVec Ideal S16384x1024 .f32)
    (h : Cert.Pre_finite_KernelIdeal.fn (F := Ideal) x wq k v wo = fun _ => 1#1) :
    (∀ i, IsReal (x i)) ∧ (∀ i, IsReal (wq i)) ∧ ∀ i, IsReal (k i) := by
  have h0 := congrFun h (fun a => a.elim0)
  obtain ⟨h1, h2⟩ := IntOp.andi_eq_one.1 h0
  obtain ⟨h3, h4⟩ := IntOp.andi_eq_one.1 h1
  exact ⟨all_real x _ _ _ _ h3, all_real wq _ _ _ _ h4, all_real k _ _ _ _ h2⟩

end Cert.KP

end
-- ==== Proof.Value.lean ====
/- The value claim: every device's result is the reference's, and the arguments of both end unchanged. -/
module

public import proofs.«01_k».proof.Defs
public import proofs.«01_k».proof.Proof.Combine
public import proofs.«01_k».proof.Proof.Final
public import proofs.«01_k».proof.Proof.Finite

@[expose] public section

set_option maxRecDepth 16384

noncomputable section

namespace Cert.KP

open Cert.KernelIdeal Cert.KernelIdeal.Gen Cert.KR
open Idealize.ShloMosaic Idealize.ShloMosaic.TcCoe Idealize.ShloMosaic.ValueIdx Idealize.SL.Sem

/-- A device's block of an array cut along the heads, read at an entry. -/
theorem block_heads {α : Type} (f : Cert.ReferenceIdeal.S1x1024x128x128.Idx → α) (d : Dev nD) (j : Fin 1024) (n : Fin 8) (e : Fin 128) :
    Layout.block ⟨4, ![1, 1024, 8, 128]⟩ ⟨4, ![1, 1024, 128, 128]⟩ 2 16 d f (by decide) (ix4 (0 : Fin 1) j n e)
      = f (ix4 (0 : Fin 1) j (⟨8 * d.val + n.val, by have : d.val < 16 := d.isLt; omega⟩ : Fin 128) e) := by
  rw [Layout.block_apply]
  refine congrArg f (funext fun a => Fin.ext ?_)
  match a with
  | ⟨0, _⟩ => rfl
  | ⟨1, _⟩ => rfl
  | ⟨2, _⟩ =>
    show d.val * 8 + n.val = 8 * d.val + n.val
    omega
  | ⟨3, _⟩ => rfl

set_option maxHeartbeats 1000000 in
theorem valueClaim : Cert.algebraic_KernelIdeal_ReferenceIdeal_pre_finite_KernelIdeal (hKernelIdeal := Cert.KernelIdeal.Gen.facts)
    (hReferenceIdeal := Cert.ReferenceIdeal.Gen.facts) (hPre_finite_KernelIdeal := preK_facts) := by
  intro m g m' g' hp hm
  have hr := fun c => @finite_read preK_facts _ _ _ _ _ (hp c)
  have H : HoldParts (ins m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { hx := fun d => (xstg_eq m d).trans (hm d).1
      hwq := fun d => (hm d).2.1
      hk := fun d j n e => (congrFun (hm d).2.2.1 _).trans (block_heads _ d j n e)
      hv := fun d j n e => (congrFun (hm d).2.2.2.1 _).trans (block_heads _ d j n e)
      hwo := fun d => (hm d).2.2.2.2 }
  have hx : ∀ i, IsReal (m' (((0 : Dev Cert.ReferenceIdeal.nD).tc : Thread Cert.ReferenceIdeal.nD Cert.ReferenceIdeal.τ).loc Cert.ReferenceIdeal.main_arg0) i) := fun i =>
    (congrFun (hm 0).1 i) ▸ (hr 0).1 i
  have hw : ∀ i, IsReal (m' (((0 : Dev Cert.ReferenceIdeal.nD).tc : Thread Cert.ReferenceIdeal.nD Cert.ReferenceIdeal.τ).loc Cert.ReferenceIdeal.main_arg1) i) := fun i =>
    (congrFun (hm 0).2.1 i) ▸ (hr 0).2.1 i
  have hq := qR_real hx hw
  have hk := kR_real H fun d i => (hr d).2.2 i
  refine ⟨outR _ _ _ _ _, (θ_run _ _ _).mono (fun r h c => ⟨?_, ((h.1 c).1 (0 : Fin 2)).trans (finalA_x m c), (h.1 c).2.1⟩) (run_main m g),
    (θ_run _ _ _).mono (fun r h => ⟨((h 0).1).trans (res_eq m' 0), (h 0).2⟩) (Cert.ReferenceIdeal.Value.run (F := Ideal) m' g')⟩
  exact ((h.1 c).1 (1 : Fin 2)).trans ((finalA_out m c).trans ((out_eq m c).trans (out_holds H hq hk c)))

end Cert.KP

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: its run read at the arguments; it declares no semaphore. -/
theorem refFrame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts, KP.preK_facts, KP.preR_facts,
  fun m g _ => KP.frame_bits m g, fun m g _ => KP.frame m g, fun m g _ => KP.frame m g, refFrame, fun m g _ => refFrame m g trivial,
  Idealize.ShloMosaic.IdealRules.named_const.statement _ _ _ _ _ rfl, KP.valueClaim⟩

end Cert.Proof

end
